-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInIdeal_finite_inputs [hPre_finite_inputs : Cert.Pre_finite_inputs.Facts] (m : (ℓ : Loc Cert.GmlpInIdeal.nD Cert.GmlpInIdeal.τ Cert.GmlpInIdeal.sig) → Buf (Elt Ideal) ℓ) : Prop :=
  ∀ c : Dev Cert.GmlpInIdeal.nD,
    (Cert.Pre_finite_inputs.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1))).1 = (fun _ => 1#1)
    ∧ (Cert.Pre_finite_inputs.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1))).2 = (fun _ => 1#1)

def Pre_GmlpInReferenceIdeal (m : (ℓ : Loc Cert.GmlpInReferenceIdeal.nD Cert.GmlpInReferenceIdeal.τ Cert.GmlpInReferenceIdeal.sig) → Buf (Elt Ideal) ℓ) : Prop :=
  True

def Pre_GmlpInReferenceIdeal_finite_inputs [hPre_finite_inputs : Cert.Pre_finite_inputs.Facts] (m : (ℓ : Loc Cert.GmlpInReferenceIdeal.nD Cert.GmlpInReferenceIdeal.τ Cert.GmlpInReferenceIdeal.sig) → Buf (Elt Ideal) ℓ) : Prop :=
  ∀ c : Dev Cert.GmlpInReferenceIdeal.nD,
    (Cert.Pre_finite_inputs.fn (F := Ideal) (m ((c.tc : Thread Cert.GmlpInReferenceIdeal.nD Cert.GmlpInReferenceIdeal.τ).loc Cert.GmlpInReferenceIdeal.main_arg0)) (m ((c.tc : Thread Cert.GmlpInReferenceIdeal.nD Cert.GmlpInReferenceIdeal.τ).loc Cert.GmlpInReferenceIdeal.main_arg1))).1 = (fun _ => 1#1)
    ∧ (Cert.Pre_finite_inputs.fn (F := Ideal) (m ((c.tc : Thread Cert.GmlpInReferenceIdeal.nD Cert.GmlpInReferenceIdeal.τ).loc Cert.GmlpInReferenceIdeal.main_arg0)) (m ((c.tc : Thread Cert.GmlpInReferenceIdeal.nD Cert.GmlpInReferenceIdeal.τ).loc Cert.GmlpInReferenceIdeal.main_arg1))).2 = (fun _ => 1#1)

def Pre_ConvFfn (m : (ℓ : Loc Cert.ConvFfn.nD Cert.ConvFfn.τ Cert.ConvFfn.sig) → Buf (Elt Bits) ℓ) : Prop :=
  True

def Pre_ConvFfnIdeal (m : (ℓ : Loc Cert.ConvFfnIdeal.nD Cert.ConvFfnIdeal.τ Cert.ConvFfnIdeal.sig) → Buf (Elt Ideal) ℓ) : Prop :=
  True

def Pre_ConvFfnReferenceIdeal (m : (ℓ : Loc Cert.ConvFfnReferenceIdeal.nD Cert.ConvFfnReferenceIdeal.τ Cert.ConvFfnReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_SguOut (m : (ℓ : Loc Cert.SguOut.nD Cert.SguOut.τ Cert.SguOut.sig) → Buf (Elt Bits) ℓ) : Prop :=
  True

def Pre_SguOutIdeal (m : (ℓ : Loc Cert.SguOutIdeal.nD Cert.SguOutIdeal.τ Cert.SguOutIdeal.sig) → Buf (Elt Ideal) ℓ) : Prop :=
  True

def Pre_SguOutReferenceIdeal (m : (ℓ : Loc Cert.SguOutReferenceIdeal.nD Cert.SguOutReferenceIdeal.τ Cert.SguOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_GmlpInIdeal_pre_finite_inputs [hGmlpInIdeal : Cert.GmlpInIdeal.Facts] [hPre_finite_inputs : Cert.Pre_finite_inputs.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal_finite_inputs m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_GmlpInReferenceIdeal [hGmlpInReferenceIdeal : Cert.GmlpInReferenceIdeal.Facts] : Prop :=
  ∀ (m : (ℓ : Loc Cert.GmlpInReferenceIdeal.nD Cert.GmlpInReferenceIdeal.τ Cert.GmlpInReferenceIdeal.sig) → Buf (Elt Ideal) ℓ) (g : Dev Cert.GmlpInReferenceIdeal.nD → PrngReg), Pre_GmlpInReferenceIdeal m →
    θ_run (Cert.GmlpInReferenceIdeal.defs (F := Ideal)) (onTc (τ := Cert.GmlpInReferenceIdeal.τ) (Cert.GmlpInReferenceIdeal.main (F := Ideal))) ⟨m, fun _ => 0, g⟩ (fun r => (∀ c : Dev Cert.GmlpInReferenceIdeal.nD,
      r.2.mem ((c.tc : Thread Cert.GmlpInReferenceIdeal.nD Cert.GmlpInReferenceIdeal.τ).loc Cert.GmlpInReferenceIdeal.main_arg0) = m ((c.tc : Thread Cert.GmlpInReferenceIdeal.nD Cert.GmlpInReferenceIdeal.τ).loc Cert.GmlpInReferenceIdeal.main_arg0)
      ∧ r.2.mem ((c.tc : Thread Cert.GmlpInReferenceIdeal.nD Cert.GmlpInReferenceIdeal.τ).loc Cert.GmlpInReferenceIdeal.main_arg1) = m ((c.tc : Thread Cert.GmlpInReferenceIdeal.nD Cert.GmlpInReferenceIdeal.τ).loc Cert.GmlpInReferenceIdeal.main_arg1))
      ∧ r.2.sem = fun _ => 0)

def quiescent_GmlpInReferenceIdeal_pre_finite_inputs [hGmlpInReferenceIdeal : Cert.GmlpInReferenceIdeal.Facts] [hPre_finite_inputs : Cert.Pre_finite_inputs.Facts] : Prop :=
  ∀ (m : (ℓ : Loc Cert.GmlpInReferenceIdeal.nD Cert.GmlpInReferenceIdeal.τ Cert.GmlpInReferenceIdeal.sig) → Buf (Elt Ideal) ℓ) (g : Dev Cert.GmlpInReferenceIdeal.nD → PrngReg), Pre_GmlpInReferenceIdeal_finite_inputs m →
    θ_run (Cert.GmlpInReferenceIdeal.defs (F := Ideal)) (onTc (τ := Cert.GmlpInReferenceIdeal.τ) (Cert.GmlpInReferenceIdeal.main (F := Ideal))) ⟨m, fun _ => 0, g⟩ (fun r => (∀ c : Dev Cert.GmlpInReferenceIdeal.nD,
      r.2.mem ((c.tc : Thread Cert.GmlpInReferenceIdeal.nD Cert.GmlpInReferenceIdeal.τ).loc Cert.GmlpInReferenceIdeal.main_arg0) = m ((c.tc : Thread Cert.GmlpInReferenceIdeal.nD Cert.GmlpInReferenceIdeal.τ).loc Cert.GmlpInReferenceIdeal.main_arg0)
      ∧ r.2.mem ((c.tc : Thread Cert.GmlpInReferenceIdeal.nD Cert.GmlpInReferenceIdeal.τ).loc Cert.GmlpInReferenceIdeal.main_arg1) = m ((c.tc : Thread Cert.GmlpInReferenceIdeal.nD Cert.GmlpInReferenceIdeal.τ).loc Cert.GmlpInReferenceIdeal.main_arg1))
      ∧ r.2.sem = fun _ => 0)

def quiescent_ConvFfn [hConvFfn : Cert.ConvFfn.Facts] : Prop :=
  ∀ (m : (ℓ : Loc Cert.ConvFfn.nD Cert.ConvFfn.τ Cert.ConvFfn.sig) → Buf (Elt Bits) ℓ) (g : Dev Cert.ConvFfn.nD → PrngReg), Pre_ConvFfn m →
    θ_run (Cert.ConvFfn.defs (F := Bits)) (onTc (τ := Cert.ConvFfn.τ) (Cert.ConvFfn.main (F := Bits))) ⟨m, fun _ => 0, g⟩ (fun r => (∀ c : Dev Cert.ConvFfn.nD,
      r.2.mem ((c.tc : Thread Cert.ConvFfn.nD Cert.ConvFfn.τ).loc Cert.ConvFfn.main_arg0) = m ((c.tc : Thread Cert.ConvFfn.nD Cert.ConvFfn.τ).loc Cert.ConvFfn.main_arg0)
      ∧ r.2.mem ((c.tc : Thread Cert.ConvFfn.nD Cert.ConvFfn.τ).loc Cert.ConvFfn.main_arg1) = m ((c.tc : Thread Cert.ConvFfn.nD Cert.ConvFfn.τ).loc Cert.ConvFfn.main_arg1)
      ∧ r.2.mem ((c.tc : Thread Cert.ConvFfn.nD Cert.ConvFfn.τ).loc Cert.ConvFfn.main_arg2) = m ((c.tc : Thread Cert.ConvFfn.nD Cert.ConvFfn.τ).loc Cert.ConvFfn.main_arg2)
      ∧ r.2.mem ((c.tc : Thread Cert.ConvFfn.nD Cert.ConvFfn.τ).loc Cert.ConvFfn.main_arg3) = m ((c.tc : Thread Cert.ConvFfn.nD Cert.ConvFfn.τ).loc Cert.ConvFfn.main_arg3)
      ∧ r.2.mem ((c.tc : Thread Cert.ConvFfn.nD Cert.ConvFfn.τ).loc Cert.ConvFfn.main_arg4) = m ((c.tc : Thread Cert.ConvFfn.nD Cert.ConvFfn.τ).loc Cert.ConvFfn.main_arg4)
      ∧ r.2.mem ((c.tc : Thread Cert.ConvFfn.nD Cert.ConvFfn.τ).loc Cert.ConvFfn.main_arg5) = m ((c.tc : Thread Cert.ConvFfn.nD Cert.ConvFfn.τ).loc Cert.ConvFfn.main_arg5)
      ∧ r.2.mem ((c.tc : Thread Cert.ConvFfn.nD Cert.ConvFfn.τ).loc Cert.ConvFfn.main_arg6) = m ((c.tc : Thread Cert.ConvFfn.nD Cert.ConvFfn.τ).loc Cert.ConvFfn.main_arg6))
      ∧ r.2.sem = fun _ => 0)

def quiescent_ConvFfnIdeal [hConvFfnIdeal : Cert.ConvFfnIdeal.Facts] : Prop :=
  ∀ (m : (ℓ : Loc Cert.ConvFfnIdeal.nD Cert.ConvFfnIdeal.τ Cert.ConvFfnIdeal.sig) → Buf (Elt Ideal) ℓ) (g : Dev Cert.ConvFfnIdeal.nD → PrngReg), Pre_ConvFfnIdeal m →
    θ_run (Cert.ConvFfnIdeal.defs (F := Ideal)) (onTc (τ := Cert.ConvFfnIdeal.τ) (Cert.ConvFfnIdeal.main (F := Ideal))) ⟨m, fun _ => 0, g⟩ (fun r => (∀ c : Dev Cert.ConvFfnIdeal.nD,
      r.2.mem ((c.tc : Thread Cert.ConvFfnIdeal.nD Cert.ConvFfnIdeal.τ).loc Cert.ConvFfnIdeal.main_arg0) = m ((c.tc : Thread Cert.ConvFfnIdeal.nD Cert.ConvFfnIdeal.τ).loc Cert.ConvFfnIdeal.main_arg0)
      ∧ r.2.mem ((c.tc : Thread Cert.ConvFfnIdeal.nD Cert.ConvFfnIdeal.τ).loc Cert.ConvFfnIdeal.main_arg1) = m ((c.tc : Thread Cert.ConvFfnIdeal.nD Cert.ConvFfnIdeal.τ).loc Cert.ConvFfnIdeal.main_arg1)
      ∧ r.2.mem ((c.tc : Thread Cert.ConvFfnIdeal.nD Cert.ConvFfnIdeal.τ).loc Cert.ConvFfnIdeal.main_arg2) = m ((c.tc : Thread Cert.ConvFfnIdeal.nD Cert.ConvFfnIdeal.τ).loc Cert.ConvFfnIdeal.main_arg2)
      ∧ r.2.mem ((c.tc : Thread Cert.ConvFfnIdeal.nD Cert.ConvFfnIdeal.τ).loc Cert.ConvFfnIdeal.main_arg3) = m ((c.tc : Thread Cert.ConvFfnIdeal.nD Cert.ConvFfnIdeal.τ).loc Cert.ConvFfnIdeal.main_arg3)
      ∧ r.2.mem ((c.tc : Thread Cert.ConvFfnIdeal.nD Cert.ConvFfnIdeal.τ).loc Cert.ConvFfnIdeal.main_arg4) = m ((c.tc : Thread Cert.ConvFfnIdeal.nD Cert.ConvFfnIdeal.τ).loc Cert.ConvFfnIdeal.main_arg4)
      ∧ r.2.mem ((c.tc : Thread Cert.ConvFfnIdeal.nD Cert.ConvFfnIdeal.τ).loc Cert.ConvFfnIdeal.main_arg5) = m ((c.tc : Thread Cert.ConvFfnIdeal.nD Cert.ConvFfnIdeal.τ).loc Cert.ConvFfnIdeal.main_arg5)
      ∧ r.2.mem ((c.tc : Thread Cert.ConvFfnIdeal.nD Cert.ConvFfnIdeal.τ).loc Cert.ConvFfnIdeal.main_arg6) = m ((c.tc : Thread Cert.ConvFfnIdeal.nD Cert.ConvFfnIdeal.τ).loc Cert.ConvFfnIdeal.main_arg6))
      ∧ r.2.sem = fun _ => 0)

def quiescent_ConvFfnReferenceIdeal [hConvFfnReferenceIdeal : Cert.ConvFfnReferenceIdeal.Facts] : Prop :=
  ∀ (m : (ℓ : Loc Cert.ConvFfnReferenceIdeal.nD Cert.ConvFfnReferenceIdeal.τ Cert.ConvFfnReferenceIdeal.sig) → Buf (Elt Ideal) ℓ) (g : Dev Cert.ConvFfnReferenceIdeal.nD → PrngReg), Pre_ConvFfnReferenceIdeal m →
    θ_run (Cert.ConvFfnReferenceIdeal.defs (F := Ideal)) (onTc (τ := Cert.ConvFfnReferenceIdeal.τ) (Cert.ConvFfnReferenceIdeal.main (F := Ideal))) ⟨m, fun _ => 0, g⟩ (fun r => (∀ c : Dev Cert.ConvFfnReferenceIdeal.nD,
      r.2.mem ((c.tc : Thread Cert.ConvFfnReferenceIdeal.nD Cert.ConvFfnReferenceIdeal.τ).loc Cert.ConvFfnReferenceIdeal.main_arg0) = m ((c.tc : Thread Cert.ConvFfnReferenceIdeal.nD Cert.ConvFfnReferenceIdeal.τ).loc Cert.ConvFfnReferenceIdeal.main_arg0)
      ∧ r.2.mem ((c.tc : Thread Cert.ConvFfnReferenceIdeal.nD Cert.ConvFfnReferenceIdeal.τ).loc Cert.ConvFfnReferenceIdeal.main_arg1) = m ((c.tc : Thread Cert.ConvFfnReferenceIdeal.nD Cert.ConvFfnReferenceIdeal.τ).loc Cert.ConvFfnReferenceIdeal.main_arg1)
      ∧ r.2.mem ((c.tc : Thread Cert.ConvFfnReferenceIdeal.nD Cert.ConvFfnReferenceIdeal.τ).loc Cert.ConvFfnReferenceIdeal.main_arg2) = m ((c.tc : Thread Cert.ConvFfnReferenceIdeal.nD Cert.ConvFfnReferenceIdeal.τ).loc Cert.ConvFfnReferenceIdeal.main_arg2)
      ∧ r.2.mem ((c.tc : Thread Cert.ConvFfnReferenceIdeal.nD Cert.ConvFfnReferenceIdeal.τ).loc Cert.ConvFfnReferenceIdeal.main_arg3) = m ((c.tc : Thread Cert.ConvFfnReferenceIdeal.nD Cert.ConvFfnReferenceIdeal.τ).loc Cert.ConvFfnReferenceIdeal.main_arg3)
      ∧ r.2.mem ((c.tc : Thread Cert.ConvFfnReferenceIdeal.nD Cert.ConvFfnReferenceIdeal.τ).loc Cert.ConvFfnReferenceIdeal.main_arg4) = m ((c.tc : Thread Cert.ConvFfnReferenceIdeal.nD Cert.ConvFfnReferenceIdeal.τ).loc Cert.ConvFfnReferenceIdeal.main_arg4)
      ∧ r.2.mem ((c.tc : Thread Cert.ConvFfnReferenceIdeal.nD Cert.ConvFfnReferenceIdeal.τ).loc Cert.ConvFfnReferenceIdeal.main_arg5) = m ((c.tc : Thread Cert.ConvFfnReferenceIdeal.nD Cert.ConvFfnReferenceIdeal.τ).loc Cert.ConvFfnReferenceIdeal.main_arg5)
      ∧ r.2.mem ((c.tc : Thread Cert.ConvFfnReferenceIdeal.nD Cert.ConvFfnReferenceIdeal.τ).loc Cert.ConvFfnReferenceIdeal.main_arg6) = m ((c.tc : Thread Cert.ConvFfnReferenceIdeal.nD Cert.ConvFfnReferenceIdeal.τ).loc Cert.ConvFfnReferenceIdeal.main_arg6))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4))
      ∧ r.2.sem = fun _ => 0)

def quiescent_SguOut [hSguOut : Cert.SguOut.Facts] : Prop :=
  ∀ (m : (ℓ : Loc Cert.SguOut.nD Cert.SguOut.τ Cert.SguOut.sig) → Buf (Elt Bits) ℓ) (g : Dev Cert.SguOut.nD → PrngReg), Pre_SguOut m →
    θ_run (Cert.SguOut.defs (F := Bits)) (onTc (τ := Cert.SguOut.τ) (Cert.SguOut.main (F := Bits))) ⟨m, fun _ => 0, g⟩ (fun r => (∀ c : Dev Cert.SguOut.nD,
      r.2.mem ((c.tc : Thread Cert.SguOut.nD Cert.SguOut.τ).loc Cert.SguOut.main_arg0) = m ((c.tc : Thread Cert.SguOut.nD Cert.SguOut.τ).loc Cert.SguOut.main_arg0)
      ∧ r.2.mem ((c.tc : Thread Cert.SguOut.nD Cert.SguOut.τ).loc Cert.SguOut.main_arg1) = m ((c.tc : Thread Cert.SguOut.nD Cert.SguOut.τ).loc Cert.SguOut.main_arg1)
      ∧ r.2.mem ((c.tc : Thread Cert.SguOut.nD Cert.SguOut.τ).loc Cert.SguOut.main_arg2) = m ((c.tc : Thread Cert.SguOut.nD Cert.SguOut.τ).loc Cert.SguOut.main_arg2)
      ∧ r.2.mem ((c.tc : Thread Cert.SguOut.nD Cert.SguOut.τ).loc Cert.SguOut.main_arg3) = m ((c.tc : Thread Cert.SguOut.nD Cert.SguOut.τ).loc Cert.SguOut.main_arg3)
      ∧ r.2.mem ((c.tc : Thread Cert.SguOut.nD Cert.SguOut.τ).loc Cert.SguOut.main_arg4) = m ((c.tc : Thread Cert.SguOut.nD Cert.SguOut.τ).loc Cert.SguOut.main_arg4)
      ∧ r.2.mem ((c.tc : Thread Cert.SguOut.nD Cert.SguOut.τ).loc Cert.SguOut.main_arg5) = m ((c.tc : Thread Cert.SguOut.nD Cert.SguOut.τ).loc Cert.SguOut.main_arg5)
      ∧ r.2.mem ((c.tc : Thread Cert.SguOut.nD Cert.SguOut.τ).loc Cert.SguOut.main_arg6) = m ((c.tc : Thread Cert.SguOut.nD Cert.SguOut.τ).loc Cert.SguOut.main_arg6)
      ∧ r.2.mem ((c.tc : Thread Cert.SguOut.nD Cert.SguOut.τ).loc Cert.SguOut.main_arg7) = m ((c.tc : Thread Cert.SguOut.nD Cert.SguOut.τ).loc Cert.SguOut.main_arg7)
      ∧ r.2.mem ((c.tc : Thread Cert.SguOut.nD Cert.SguOut.τ).loc Cert.SguOut.main_arg8) = m ((c.tc : Thread Cert.SguOut.nD Cert.SguOut.τ).loc Cert.SguOut.main_arg8))
      ∧ r.2.sem = fun _ => 0)

def quiescent_SguOutIdeal [hSguOutIdeal : Cert.SguOutIdeal.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
      ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
      ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3)
      ∧ r.2.mem ((c.tc : Thread Cert.SguOutIdeal.nD Cert.SguOutIdeal.τ).loc Cert.SguOutIdeal.main_arg4) = m ((c.tc : Thread Cert.SguOutIdeal.nD Cert.SguOutIdeal.τ).loc Cert.SguOutIdeal.main_arg4)
      ∧ r.2.mem ((c.tc : Thread Cert.SguOutIdeal.nD Cert.SguOutIdeal.τ).loc Cert.SguOutIdeal.main_arg5) = m ((c.tc : Thread Cert.SguOutIdeal.nD Cert.SguOutIdeal.τ).loc Cert.SguOutIdeal.main_arg5)
      ∧ r.2.mem ((c.tc : Thread Cert.SguOutIdeal.nD Cert.SguOutIdeal.τ).loc Cert.SguOutIdeal.main_arg6) = m ((c.tc : Thread Cert.SguOutIdeal.nD Cert.SguOutIdeal.τ).loc Cert.SguOutIdeal.main_arg6)
      ∧ r.2.mem ((c.tc : Thread Cert.SguOutIdeal.nD Cert.SguOutIdeal.τ).loc Cert.SguOutIdeal.main_arg7) = m ((c.tc : Thread Cert.SguOutIdeal.nD Cert.SguOutIdeal.τ).loc Cert.SguOutIdeal.main_arg7)
      ∧ r.2.mem ((c.tc : Thread Cert.SguOutIdeal.nD Cert.SguOutIdeal.τ).loc Cert.SguOutIdeal.main_arg8) = m ((c.tc : Thread Cert.SguOutIdeal.nD Cert.SguOutIdeal.τ).loc Cert.SguOutIdeal.main_arg8))
      ∧ r.2.sem = fun _ => 0)

def quiescent_SguOutReferenceIdeal [hSguOutReferenceIdeal : Cert.SguOutReferenceIdeal.Facts] : Prop :=
  ∀ (m : (ℓ : Loc Cert.SguOutReferenceIdeal.nD Cert.SguOutReferenceIdeal.τ Cert.SguOutReferenceIdeal.sig) → Buf (Elt Ideal) ℓ) (g : Dev Cert.SguOutReferenceIdeal.nD → PrngReg), Pre_SguOutReferenceIdeal m →
    θ_run (Cert.SguOutReferenceIdeal.defs (F := Ideal)) (onTc (τ := Cert.SguOutReferenceIdeal.τ) (Cert.SguOutReferenceIdeal.main (F := Ideal))) ⟨m, fun _ => 0, g⟩ (fun r => (∀ c : Dev Cert.SguOutReferenceIdeal.nD,
      r.2.mem ((c.tc : Thread Cert.SguOutReferenceIdeal.nD Cert.SguOutReferenceIdeal.τ).loc Cert.SguOutReferenceIdeal.main_arg0) = m ((c.tc : Thread Cert.SguOutReferenceIdeal.nD Cert.SguOutReferenceIdeal.τ).loc Cert.SguOutReferenceIdeal.main_arg0)
      ∧ r.2.mem ((c.tc : Thread Cert.SguOutReferenceIdeal.nD Cert.SguOutReferenceIdeal.τ).loc Cert.SguOutReferenceIdeal.main_arg1) = m ((c.tc : Thread Cert.SguOutReferenceIdeal.nD Cert.SguOutReferenceIdeal.τ).loc Cert.SguOutReferenceIdeal.main_arg1)
      ∧ r.2.mem ((c.tc : Thread Cert.SguOutReferenceIdeal.nD Cert.SguOutReferenceIdeal.τ).loc Cert.SguOutReferenceIdeal.main_arg2) = m ((c.tc : Thread Cert.SguOutReferenceIdeal.nD Cert.SguOutReferenceIdeal.τ).loc Cert.SguOutReferenceIdeal.main_arg2)
      ∧ r.2.mem ((c.tc : Thread Cert.SguOutReferenceIdeal.nD Cert.SguOutReferenceIdeal.τ).loc Cert.SguOutReferenceIdeal.main_arg3) = m ((c.tc : Thread Cert.SguOutReferenceIdeal.nD Cert.SguOutReferenceIdeal.τ).loc Cert.SguOutReferenceIdeal.main_arg3)
      ∧ r.2.mem ((c.tc : Thread Cert.SguOutReferenceIdeal.nD Cert.SguOutReferenceIdeal.τ).loc Cert.SguOutReferenceIdeal.main_arg4) = m ((c.tc : Thread Cert.SguOutReferenceIdeal.nD Cert.SguOutReferenceIdeal.τ).loc Cert.SguOutReferenceIdeal.main_arg4)
      ∧ r.2.mem ((c.tc : Thread Cert.SguOutReferenceIdeal.nD Cert.SguOutReferenceIdeal.τ).loc Cert.SguOutReferenceIdeal.main_arg5) = m ((c.tc : Thread Cert.SguOutReferenceIdeal.nD Cert.SguOutReferenceIdeal.τ).loc Cert.SguOutReferenceIdeal.main_arg5)
      ∧ r.2.mem ((c.tc : Thread Cert.SguOutReferenceIdeal.nD Cert.SguOutReferenceIdeal.τ).loc Cert.SguOutReferenceIdeal.main_arg6) = m ((c.tc : Thread Cert.SguOutReferenceIdeal.nD Cert.SguOutReferenceIdeal.τ).loc Cert.SguOutReferenceIdeal.main_arg6)
      ∧ r.2.mem ((c.tc : Thread Cert.SguOutReferenceIdeal.nD Cert.SguOutReferenceIdeal.τ).loc Cert.SguOutReferenceIdeal.main_arg7) = m ((c.tc : Thread Cert.SguOutReferenceIdeal.nD Cert.SguOutReferenceIdeal.τ).loc Cert.SguOutReferenceIdeal.main_arg7)
      ∧ r.2.mem ((c.tc : Thread Cert.SguOutReferenceIdeal.nD Cert.SguOutReferenceIdeal.τ).loc Cert.SguOutReferenceIdeal.main_arg8) = m ((c.tc : Thread Cert.SguOutReferenceIdeal.nD Cert.SguOutReferenceIdeal.τ).loc Cert.SguOutReferenceIdeal.main_arg8))
      ∧ r.2.sem = fun _ => 0)

def preserves_Kernel_KernelIdeal : Prop :=
  IdealRules.named_const.Statement Cert.KernelIdeal.κ "sm_scale_log2e" .f32 0x3DD53B95#32 (((Real.sqrt 192)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GmlpIn_GmlpInIdeal : Prop :=
  IdealRules.named_const.Statement Cert.GmlpInIdeal.κ "gelu_cubic" .f32 0x3D122279#32 ((80338380498831 / 2251799813685248 : ℝ) : EReal)

def algebraic_GmlpInIdeal_GmlpInReferenceIdeal_pre_finite_inputs [hGmlpInIdeal : Cert.GmlpInIdeal.Facts] [hGmlpInReferenceIdeal : Cert.GmlpInReferenceIdeal.Facts] [hPre_finite_inputs : Cert.Pre_finite_inputs.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInReferenceIdeal.nD Cert.GmlpInReferenceIdeal.τ Cert.GmlpInReferenceIdeal.sig) → Buf (Elt Ideal) ℓ) (g' : Dev Cert.GmlpInReferenceIdeal.nD → PrngReg), Pre_GmlpInIdeal_finite_inputs m →
    (∀ c : Dev Cert.GmlpInIdeal.nD,
      m' ((c.tc : Thread Cert.GmlpInReferenceIdeal.nD Cert.GmlpInReferenceIdeal.τ).loc Cert.GmlpInReferenceIdeal.main_arg0) = m ((c.tc : Thread Cert.GmlpInIdeal.nD Cert.GmlpInIdeal.τ).loc Cert.GmlpInIdeal.main_arg0)
      ∧ m' ((c.tc : Thread Cert.GmlpInReferenceIdeal.nD Cert.GmlpInReferenceIdeal.τ).loc Cert.GmlpInReferenceIdeal.main_arg1) = m ((c.tc : Thread Cert.GmlpInIdeal.nD Cert.GmlpInIdeal.τ).loc Cert.GmlpInIdeal.main_arg1)) →
    ∃ (v0 : (c : Dev Cert.GmlpInIdeal.nD) → Buf (Elt Ideal) ((c.tc : Thread Cert.GmlpInIdeal.nD Cert.GmlpInIdeal.τ).loc Cert.GmlpInIdeal.main_v1)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v1) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ θ_run (Cert.GmlpInReferenceIdeal.defs (F := Ideal)) (onTc (τ := Cert.GmlpInReferenceIdeal.τ) (Cert.GmlpInReferenceIdeal.main (F := Ideal))) ⟨m', fun _ => 0, g'⟩ (fun r => ∀ c : Dev Cert.GmlpInReferenceIdeal.nD,
          r.2.mem ((c.tc : Thread Cert.GmlpInReferenceIdeal.nD Cert.GmlpInReferenceIdeal.τ).loc Cert.GmlpInReferenceIdeal.main_v16) = v0 c
          ∧ r.2.mem ((c.tc : Thread Cert.GmlpInReferenceIdeal.nD Cert.GmlpInReferenceIdeal.τ).loc Cert.GmlpInReferenceIdeal.main_arg0) = m' ((c.tc : Thread Cert.GmlpInReferenceIdeal.nD Cert.GmlpInReferenceIdeal.τ).loc Cert.GmlpInReferenceIdeal.main_arg0)
          ∧ r.2.mem ((c.tc : Thread Cert.GmlpInReferenceIdeal.nD Cert.GmlpInReferenceIdeal.τ).loc Cert.GmlpInReferenceIdeal.main_arg1) = m' ((c.tc : Thread Cert.GmlpInReferenceIdeal.nD Cert.GmlpInReferenceIdeal.τ).loc Cert.GmlpInReferenceIdeal.main_arg1))

def preserves_ConvFfn_ConvFfnIdeal : Prop :=
  IdealRules.named_const.Statement Cert.ConvFfnIdeal.κ "neg_log2e" .f32 0xBFB8AA3B#32 ((-((Real.log 2)⁻¹) : ℝ) : EReal)

def algebraic_ConvFfnIdeal_ConvFfnReferenceIdeal [hConvFfnIdeal : Cert.ConvFfnIdeal.Facts] [hConvFfnReferenceIdeal : Cert.ConvFfnReferenceIdeal.Facts] : Prop :=
  ∀ (m : (ℓ : Loc Cert.ConvFfnIdeal.nD Cert.ConvFfnIdeal.τ Cert.ConvFfnIdeal.sig) → Buf (Elt Ideal) ℓ) (g : Dev Cert.ConvFfnIdeal.nD → PrngReg)
    (m' : (ℓ : Loc Cert.ConvFfnReferenceIdeal.nD Cert.ConvFfnReferenceIdeal.τ Cert.ConvFfnReferenceIdeal.sig) → Buf (Elt Ideal) ℓ) (g' : Dev Cert.ConvFfnReferenceIdeal.nD → PrngReg), Pre_ConvFfnIdeal m →
    (∀ c : Dev Cert.ConvFfnIdeal.nD,
      m' ((c.tc : Thread Cert.ConvFfnReferenceIdeal.nD Cert.ConvFfnReferenceIdeal.τ).loc Cert.ConvFfnReferenceIdeal.main_arg0) = m ((c.tc : Thread Cert.ConvFfnIdeal.nD Cert.ConvFfnIdeal.τ).loc Cert.ConvFfnIdeal.main_arg0)
      ∧ m' ((c.tc : Thread Cert.ConvFfnReferenceIdeal.nD Cert.ConvFfnReferenceIdeal.τ).loc Cert.ConvFfnReferenceIdeal.main_arg1) = m ((c.tc : Thread Cert.ConvFfnIdeal.nD Cert.ConvFfnIdeal.τ).loc Cert.ConvFfnIdeal.main_arg1)
      ∧ m' ((c.tc : Thread Cert.ConvFfnReferenceIdeal.nD Cert.ConvFfnReferenceIdeal.τ).loc Cert.ConvFfnReferenceIdeal.main_arg2) = m ((c.tc : Thread Cert.ConvFfnIdeal.nD Cert.ConvFfnIdeal.τ).loc Cert.ConvFfnIdeal.main_arg2)
      ∧ m' ((c.tc : Thread Cert.ConvFfnReferenceIdeal.nD Cert.ConvFfnReferenceIdeal.τ).loc Cert.ConvFfnReferenceIdeal.main_arg3) = m ((c.tc : Thread Cert.ConvFfnIdeal.nD Cert.ConvFfnIdeal.τ).loc Cert.ConvFfnIdeal.main_arg3)
      ∧ m' ((c.tc : Thread Cert.ConvFfnReferenceIdeal.nD Cert.ConvFfnReferenceIdeal.τ).loc Cert.ConvFfnReferenceIdeal.main_arg4) = m ((c.tc : Thread Cert.ConvFfnIdeal.nD Cert.ConvFfnIdeal.τ).loc Cert.ConvFfnIdeal.main_arg4)
      ∧ m' ((c.tc : Thread Cert.ConvFfnReferenceIdeal.nD Cert.ConvFfnReferenceIdeal.τ).loc Cert.ConvFfnReferenceIdeal.main_arg5) = m ((c.tc : Thread Cert.ConvFfnIdeal.nD Cert.ConvFfnIdeal.τ).loc Cert.ConvFfnIdeal.main_arg5)
      ∧ m' ((c.tc : Thread Cert.ConvFfnReferenceIdeal.nD Cert.ConvFfnReferenceIdeal.τ).loc Cert.ConvFfnReferenceIdeal.main_arg6) = m ((c.tc : Thread Cert.ConvFfnIdeal.nD Cert.ConvFfnIdeal.τ).loc Cert.ConvFfnIdeal.main_arg6)) →
    ∃ (v0 : (c : Dev Cert.ConvFfnIdeal.nD) → Buf (Elt Ideal) ((c.tc : Thread Cert.ConvFfnIdeal.nD Cert.ConvFfnIdeal.τ).loc Cert.ConvFfnIdeal.main_v55_0)) (v1 : (c : Dev Cert.ConvFfnIdeal.nD) → Buf (Elt Ideal) ((c.tc : Thread Cert.ConvFfnIdeal.nD Cert.ConvFfnIdeal.τ).loc Cert.ConvFfnIdeal.main_v55_1)),
      θ_run (Cert.ConvFfnIdeal.defs (F := Ideal)) (onTc (τ := Cert.ConvFfnIdeal.τ) (Cert.ConvFfnIdeal.main (F := Ideal))) ⟨m, fun _ => 0, g⟩ (fun r => ∀ c : Dev Cert.ConvFfnIdeal.nD,
          r.2.mem ((c.tc : Thread Cert.ConvFfnIdeal.nD Cert.ConvFfnIdeal.τ).loc Cert.ConvFfnIdeal.main_v55_0) = v0 c
          ∧ r.2.mem ((c.tc : Thread Cert.ConvFfnIdeal.nD Cert.ConvFfnIdeal.τ).loc Cert.ConvFfnIdeal.main_v55_1) = v1 c
          ∧ r.2.mem ((c.tc : Thread Cert.ConvFfnIdeal.nD Cert.ConvFfnIdeal.τ).loc Cert.ConvFfnIdeal.main_arg0) = m ((c.tc : Thread Cert.ConvFfnIdeal.nD Cert.ConvFfnIdeal.τ).loc Cert.ConvFfnIdeal.main_arg0)
          ∧ r.2.mem ((c.tc : Thread Cert.ConvFfnIdeal.nD Cert.ConvFfnIdeal.τ).loc Cert.ConvFfnIdeal.main_arg1) = m ((c.tc : Thread Cert.ConvFfnIdeal.nD Cert.ConvFfnIdeal.τ).loc Cert.ConvFfnIdeal.main_arg1)
          ∧ r.2.mem ((c.tc : Thread Cert.ConvFfnIdeal.nD Cert.ConvFfnIdeal.τ).loc Cert.ConvFfnIdeal.main_arg2) = m ((c.tc : Thread Cert.ConvFfnIdeal.nD Cert.ConvFfnIdeal.τ).loc Cert.ConvFfnIdeal.main_arg2)
          ∧ r.2.mem ((c.tc : Thread Cert.ConvFfnIdeal.nD Cert.ConvFfnIdeal.τ).loc Cert.ConvFfnIdeal.main_arg3) = m ((c.tc : Thread Cert.ConvFfnIdeal.nD Cert.ConvFfnIdeal.τ).loc Cert.ConvFfnIdeal.main_arg3)
          ∧ r.2.mem ((c.tc : Thread Cert.ConvFfnIdeal.nD Cert.ConvFfnIdeal.τ).loc Cert.ConvFfnIdeal.main_arg4) = m ((c.tc : Thread Cert.ConvFfnIdeal.nD Cert.ConvFfnIdeal.τ).loc Cert.ConvFfnIdeal.main_arg4)
          ∧ r.2.mem ((c.tc : Thread Cert.ConvFfnIdeal.nD Cert.ConvFfnIdeal.τ).loc Cert.ConvFfnIdeal.main_arg5) = m ((c.tc : Thread Cert.ConvFfnIdeal.nD Cert.ConvFfnIdeal.τ).loc Cert.ConvFfnIdeal.main_arg5)
          ∧ r.2.mem ((c.tc : Thread Cert.ConvFfnIdeal.nD Cert.ConvFfnIdeal.τ).loc Cert.ConvFfnIdeal.main_arg6) = m ((c.tc : Thread Cert.ConvFfnIdeal.nD Cert.ConvFfnIdeal.τ).loc Cert.ConvFfnIdeal.main_arg6))
      ∧ θ_run (Cert.ConvFfnReferenceIdeal.defs (F := Ideal)) (onTc (τ := Cert.ConvFfnReferenceIdeal.τ) (Cert.ConvFfnReferenceIdeal.main (F := Ideal))) ⟨m', fun _ => 0, g'⟩ (fun r => ∀ c : Dev Cert.ConvFfnReferenceIdeal.nD,
          r.2.mem ((c.tc : Thread Cert.ConvFfnReferenceIdeal.nD Cert.ConvFfnReferenceIdeal.τ).loc Cert.ConvFfnReferenceIdeal.main_v70) = v0 c
          ∧ r.2.mem ((c.tc : Thread Cert.ConvFfnReferenceIdeal.nD Cert.ConvFfnReferenceIdeal.τ).loc Cert.ConvFfnReferenceIdeal.main_v71) = v1 c
          ∧ r.2.mem ((c.tc : Thread Cert.ConvFfnReferenceIdeal.nD Cert.ConvFfnReferenceIdeal.τ).loc Cert.ConvFfnReferenceIdeal.main_arg0) = m' ((c.tc : Thread Cert.ConvFfnReferenceIdeal.nD Cert.ConvFfnReferenceIdeal.τ).loc Cert.ConvFfnReferenceIdeal.main_arg0)
          ∧ r.2.mem ((c.tc : Thread Cert.ConvFfnReferenceIdeal.nD Cert.ConvFfnReferenceIdeal.τ).loc Cert.ConvFfnReferenceIdeal.main_arg1) = m' ((c.tc : Thread Cert.ConvFfnReferenceIdeal.nD Cert.ConvFfnReferenceIdeal.τ).loc Cert.ConvFfnReferenceIdeal.main_arg1)
          ∧ r.2.mem ((c.tc : Thread Cert.ConvFfnReferenceIdeal.nD Cert.ConvFfnReferenceIdeal.τ).loc Cert.ConvFfnReferenceIdeal.main_arg2) = m' ((c.tc : Thread Cert.ConvFfnReferenceIdeal.nD Cert.ConvFfnReferenceIdeal.τ).loc Cert.ConvFfnReferenceIdeal.main_arg2)
          ∧ r.2.mem ((c.tc : Thread Cert.ConvFfnReferenceIdeal.nD Cert.ConvFfnReferenceIdeal.τ).loc Cert.ConvFfnReferenceIdeal.main_arg3) = m' ((c.tc : Thread Cert.ConvFfnReferenceIdeal.nD Cert.ConvFfnReferenceIdeal.τ).loc Cert.ConvFfnReferenceIdeal.main_arg3)
          ∧ r.2.mem ((c.tc : Thread Cert.ConvFfnReferenceIdeal.nD Cert.ConvFfnReferenceIdeal.τ).loc Cert.ConvFfnReferenceIdeal.main_arg4) = m' ((c.tc : Thread Cert.ConvFfnReferenceIdeal.nD Cert.ConvFfnReferenceIdeal.τ).loc Cert.ConvFfnReferenceIdeal.main_arg4)
          ∧ r.2.mem ((c.tc : Thread Cert.ConvFfnReferenceIdeal.nD Cert.ConvFfnReferenceIdeal.τ).loc Cert.ConvFfnReferenceIdeal.main_arg5) = m' ((c.tc : Thread Cert.ConvFfnReferenceIdeal.nD Cert.ConvFfnReferenceIdeal.τ).loc Cert.ConvFfnReferenceIdeal.main_arg5)
          ∧ r.2.mem ((c.tc : Thread Cert.ConvFfnReferenceIdeal.nD Cert.ConvFfnReferenceIdeal.τ).loc Cert.ConvFfnReferenceIdeal.main_arg6) = m' ((c.tc : Thread Cert.ConvFfnReferenceIdeal.nD Cert.ConvFfnReferenceIdeal.τ).loc Cert.ConvFfnReferenceIdeal.main_arg6))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)
      ∧ m' ((c.tc : Thread Cert.AttnOutReferenceIdeal.nD Cert.AttnOutReferenceIdeal.τ).loc Cert.AttnOutReferenceIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v3_0)) (v1 : (c : Dev Cert.AttnOutIdeal.nD) → Buf (Elt Ideal) ((c.tc : Thread Cert.AttnOutIdeal.nD Cert.AttnOutIdeal.τ).loc Cert.AttnOutIdeal.main_v3_1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3_0) = v0 c
          ∧ r.2.mem ((c.tc : Thread Cert.AttnOutIdeal.nD Cert.AttnOutIdeal.τ).loc Cert.AttnOutIdeal.main_v3_1) = v1 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v34) = v0 c
          ∧ r.2.mem ((c.tc : Thread Cert.AttnOutReferenceIdeal.nD Cert.AttnOutReferenceIdeal.τ).loc Cert.AttnOutReferenceIdeal.main_v35) = v1 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3)
          ∧ r.2.mem ((c.tc : Thread Cert.AttnOutReferenceIdeal.nD Cert.AttnOutReferenceIdeal.τ).loc Cert.AttnOutReferenceIdeal.main_arg4) = m' ((c.tc : Thread Cert.AttnOutReferenceIdeal.nD Cert.AttnOutReferenceIdeal.τ).loc Cert.AttnOutReferenceIdeal.main_arg4))

def preserves_SguOut_SguOutIdeal : Prop :=
  True

def algebraic_SguOutIdeal_SguOutReferenceIdeal [hSguOutIdeal : Cert.SguOutIdeal.Facts] [hSguOutReferenceIdeal : Cert.SguOutReferenceIdeal.Facts] : Prop :=
  ∀ (m : (ℓ : Loc Cert.SguOutIdeal.nD Cert.SguOutIdeal.τ Cert.SguOutIdeal.sig) → Buf (Elt Ideal) ℓ) (g : Dev Cert.SguOutIdeal.nD → PrngReg)
    (m' : (ℓ : Loc Cert.SguOutReferenceIdeal.nD Cert.SguOutReferenceIdeal.τ Cert.SguOutReferenceIdeal.sig) → Buf (Elt Ideal) ℓ) (g' : Dev Cert.SguOutReferenceIdeal.nD → PrngReg), Pre_SguOutIdeal m →
    (∀ c : Dev Cert.SguOutIdeal.nD,
      m' ((c.tc : Thread Cert.SguOutReferenceIdeal.nD Cert.SguOutReferenceIdeal.τ).loc Cert.SguOutReferenceIdeal.main_arg0) = m ((c.tc : Thread Cert.SguOutIdeal.nD Cert.SguOutIdeal.τ).loc Cert.SguOutIdeal.main_arg0)
      ∧ m' ((c.tc : Thread Cert.SguOutReferenceIdeal.nD Cert.SguOutReferenceIdeal.τ).loc Cert.SguOutReferenceIdeal.main_arg1) = m ((c.tc : Thread Cert.SguOutIdeal.nD Cert.SguOutIdeal.τ).loc Cert.SguOutIdeal.main_arg1)
      ∧ m' ((c.tc : Thread Cert.SguOutReferenceIdeal.nD Cert.SguOutReferenceIdeal.τ).loc Cert.SguOutReferenceIdeal.main_arg2) = m ((c.tc : Thread Cert.SguOutIdeal.nD Cert.SguOutIdeal.τ).loc Cert.SguOutIdeal.main_arg2)
      ∧ m' ((c.tc : Thread Cert.SguOutReferenceIdeal.nD Cert.SguOutReferenceIdeal.τ).loc Cert.SguOutReferenceIdeal.main_arg3) = m ((c.tc : Thread Cert.SguOutIdeal.nD Cert.SguOutIdeal.τ).loc Cert.SguOutIdeal.main_arg3)
      ∧ m' ((c.tc : Thread Cert.SguOutReferenceIdeal.nD Cert.SguOutReferenceIdeal.τ).loc Cert.SguOutReferenceIdeal.main_arg4) = m ((c.tc : Thread Cert.SguOutIdeal.nD Cert.SguOutIdeal.τ).loc Cert.SguOutIdeal.main_arg4)
      ∧ m' ((c.tc : Thread Cert.SguOutReferenceIdeal.nD Cert.SguOutReferenceIdeal.τ).loc Cert.SguOutReferenceIdeal.main_arg5) = m ((c.tc : Thread Cert.SguOutIdeal.nD Cert.SguOutIdeal.τ).loc Cert.SguOutIdeal.main_arg5)
      ∧ m' ((c.tc : Thread Cert.SguOutReferenceIdeal.nD Cert.SguOutReferenceIdeal.τ).loc Cert.SguOutReferenceIdeal.main_arg6) = m ((c.tc : Thread Cert.SguOutIdeal.nD Cert.SguOutIdeal.τ).loc Cert.SguOutIdeal.main_arg6)
      ∧ m' ((c.tc : Thread Cert.SguOutReferenceIdeal.nD Cert.SguOutReferenceIdeal.τ).loc Cert.SguOutReferenceIdeal.main_arg7) = m ((c.tc : Thread Cert.SguOutIdeal.nD Cert.SguOutIdeal.τ).loc Cert.SguOutIdeal.main_arg7)
      ∧ m' ((c.tc : Thread Cert.SguOutReferenceIdeal.nD Cert.SguOutReferenceIdeal.τ).loc Cert.SguOutReferenceIdeal.main_arg8) = m ((c.tc : Thread Cert.SguOutIdeal.nD Cert.SguOutIdeal.τ).loc Cert.SguOutIdeal.main_arg8)) →
    ∃ (v0 : (c : Dev Cert.SguOutIdeal.nD) → Buf (Elt Ideal) ((c.tc : Thread Cert.SguOutIdeal.nD Cert.SguOutIdeal.τ).loc Cert.SguOutIdeal.main_v6_0)) (v1 : (c : Dev Cert.SguOutIdeal.nD) → Buf (Elt Ideal) ((c.tc : Thread Cert.SguOutIdeal.nD Cert.SguOutIdeal.τ).loc Cert.SguOutIdeal.main_v6_1)),
      θ_run (Cert.SguOutIdeal.defs (F := Ideal)) (onTc (τ := Cert.SguOutIdeal.τ) (Cert.SguOutIdeal.main (F := Ideal))) ⟨m, fun _ => 0, g⟩ (fun r => ∀ c : Dev Cert.SguOutIdeal.nD,
          r.2.mem ((c.tc : Thread Cert.SguOutIdeal.nD Cert.SguOutIdeal.τ).loc Cert.SguOutIdeal.main_v6_0) = v0 c
          ∧ r.2.mem ((c.tc : Thread Cert.SguOutIdeal.nD Cert.SguOutIdeal.τ).loc Cert.SguOutIdeal.main_v6_1) = v1 c
          ∧ r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
          ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
          ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
          ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3)
          ∧ r.2.mem ((c.tc : Thread Cert.SguOutIdeal.nD Cert.SguOutIdeal.τ).loc Cert.SguOutIdeal.main_arg4) = m ((c.tc : Thread Cert.SguOutIdeal.nD Cert.SguOutIdeal.τ).loc Cert.SguOutIdeal.main_arg4)
          ∧ r.2.mem ((c.tc : Thread Cert.SguOutIdeal.nD Cert.SguOutIdeal.τ).loc Cert.SguOutIdeal.main_arg5) = m ((c.tc : Thread Cert.SguOutIdeal.nD Cert.SguOutIdeal.τ).loc Cert.SguOutIdeal.main_arg5)
          ∧ r.2.mem ((c.tc : Thread Cert.SguOutIdeal.nD Cert.SguOutIdeal.τ).loc Cert.SguOutIdeal.main_arg6) = m ((c.tc : Thread Cert.SguOutIdeal.nD Cert.SguOutIdeal.τ).loc Cert.SguOutIdeal.main_arg6)
          ∧ r.2.mem ((c.tc : Thread Cert.SguOutIdeal.nD Cert.SguOutIdeal.τ).loc Cert.SguOutIdeal.main_arg7) = m ((c.tc : Thread Cert.SguOutIdeal.nD Cert.SguOutIdeal.τ).loc Cert.SguOutIdeal.main_arg7)
          ∧ r.2.mem ((c.tc : Thread Cert.SguOutIdeal.nD Cert.SguOutIdeal.τ).loc Cert.SguOutIdeal.main_arg8) = m ((c.tc : Thread Cert.SguOutIdeal.nD Cert.SguOutIdeal.τ).loc Cert.SguOutIdeal.main_arg8))
      ∧ θ_run (Cert.SguOutReferenceIdeal.defs (F := Ideal)) (onTc (τ := Cert.SguOutReferenceIdeal.τ) (Cert.SguOutReferenceIdeal.main (F := Ideal))) ⟨m', fun _ => 0, g'⟩ (fun r => ∀ c : Dev Cert.SguOutReferenceIdeal.nD,
          r.2.mem ((c.tc : Thread Cert.SguOutReferenceIdeal.nD Cert.SguOutReferenceIdeal.τ).loc Cert.SguOutReferenceIdeal.main_v88) = v0 c
          ∧ r.2.mem ((c.tc : Thread Cert.SguOutReferenceIdeal.nD Cert.SguOutReferenceIdeal.τ).loc Cert.SguOutReferenceIdeal.main_v89) = v1 c
          ∧ r.2.mem ((c.tc : Thread Cert.SguOutReferenceIdeal.nD Cert.SguOutReferenceIdeal.τ).loc Cert.SguOutReferenceIdeal.main_arg0) = m' ((c.tc : Thread Cert.SguOutReferenceIdeal.nD Cert.SguOutReferenceIdeal.τ).loc Cert.SguOutReferenceIdeal.main_arg0)
          ∧ r.2.mem ((c.tc : Thread Cert.SguOutReferenceIdeal.nD Cert.SguOutReferenceIdeal.τ).loc Cert.SguOutReferenceIdeal.main_arg1) = m' ((c.tc : Thread Cert.SguOutReferenceIdeal.nD Cert.SguOutReferenceIdeal.τ).loc Cert.SguOutReferenceIdeal.main_arg1)
          ∧ r.2.mem ((c.tc : Thread Cert.SguOutReferenceIdeal.nD Cert.SguOutReferenceIdeal.τ).loc Cert.SguOutReferenceIdeal.main_arg2) = m' ((c.tc : Thread Cert.SguOutReferenceIdeal.nD Cert.SguOutReferenceIdeal.τ).loc Cert.SguOutReferenceIdeal.main_arg2)
          ∧ r.2.mem ((c.tc : Thread Cert.SguOutReferenceIdeal.nD Cert.SguOutReferenceIdeal.τ).loc Cert.SguOutReferenceIdeal.main_arg3) = m' ((c.tc : Thread Cert.SguOutReferenceIdeal.nD Cert.SguOutReferenceIdeal.τ).loc Cert.SguOutReferenceIdeal.main_arg3)
          ∧ r.2.mem ((c.tc : Thread Cert.SguOutReferenceIdeal.nD Cert.SguOutReferenceIdeal.τ).loc Cert.SguOutReferenceIdeal.main_arg4) = m' ((c.tc : Thread Cert.SguOutReferenceIdeal.nD Cert.SguOutReferenceIdeal.τ).loc Cert.SguOutReferenceIdeal.main_arg4)
          ∧ r.2.mem ((c.tc : Thread Cert.SguOutReferenceIdeal.nD Cert.SguOutReferenceIdeal.τ).loc Cert.SguOutReferenceIdeal.main_arg5) = m' ((c.tc : Thread Cert.SguOutReferenceIdeal.nD Cert.SguOutReferenceIdeal.τ).loc Cert.SguOutReferenceIdeal.main_arg5)
          ∧ r.2.mem ((c.tc : Thread Cert.SguOutReferenceIdeal.nD Cert.SguOutReferenceIdeal.τ).loc Cert.SguOutReferenceIdeal.main_arg6) = m' ((c.tc : Thread Cert.SguOutReferenceIdeal.nD Cert.SguOutReferenceIdeal.τ).loc Cert.SguOutReferenceIdeal.main_arg6)
          ∧ r.2.mem ((c.tc : Thread Cert.SguOutReferenceIdeal.nD Cert.SguOutReferenceIdeal.τ).loc Cert.SguOutReferenceIdeal.main_arg7) = m' ((c.tc : Thread Cert.SguOutReferenceIdeal.nD Cert.SguOutReferenceIdeal.τ).loc Cert.SguOutReferenceIdeal.main_arg7)
          ∧ r.2.mem ((c.tc : Thread Cert.SguOutReferenceIdeal.nD Cert.SguOutReferenceIdeal.τ).loc Cert.SguOutReferenceIdeal.main_arg8) = m' ((c.tc : Thread Cert.SguOutReferenceIdeal.nD Cert.SguOutReferenceIdeal.τ).loc Cert.SguOutReferenceIdeal.main_arg8))

def Claim : Prop :=
  ∃ (hKernel : Cert.Kernel.Facts) (hKernelIdeal : Cert.KernelIdeal.Facts) (hReferenceIdeal : Cert.ReferenceIdeal.Facts) (hGmlpIn : Cert.GmlpIn.Facts) (hGmlpInIdeal : Cert.GmlpInIdeal.Facts) (hGmlpInReferenceIdeal : Cert.GmlpInReferenceIdeal.Facts) (hConvFfn : Cert.ConvFfn.Facts) (hConvFfnIdeal : Cert.ConvFfnIdeal.Facts) (hConvFfnReferenceIdeal : Cert.ConvFfnReferenceIdeal.Facts) (hAttnOut : Cert.AttnOut.Facts) (hAttnOutIdeal : Cert.AttnOutIdeal.Facts) (hAttnOutReferenceIdeal : Cert.AttnOutReferenceIdeal.Facts) (hSguOut : Cert.SguOut.Facts) (hSguOutIdeal : Cert.SguOutIdeal.Facts) (hSguOutReferenceIdeal : Cert.SguOutReferenceIdeal.Facts) (hPre_finite_scores : Cert.Pre_finite_scores.Facts) (hPre_finite_inputs : Cert.Pre_finite_inputs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_GmlpIn (hGmlpIn := hGmlpIn)
    ∧ quiescent_GmlpInIdeal (hGmlpInIdeal := hGmlpInIdeal)
    ∧ quiescent_GmlpInIdeal_pre_finite_inputs (hGmlpInIdeal := hGmlpInIdeal) (hPre_finite_inputs := hPre_finite_inputs)
    ∧ quiescent_GmlpInReferenceIdeal (hGmlpInReferenceIdeal := hGmlpInReferenceIdeal)
    ∧ quiescent_GmlpInReferenceIdeal_pre_finite_inputs (hGmlpInReferenceIdeal := hGmlpInReferenceIdeal) (hPre_finite_inputs := hPre_finite_inputs)
    ∧ quiescent_ConvFfn (hConvFfn := hConvFfn)
    ∧ quiescent_ConvFfnIdeal (hConvFfnIdeal := hConvFfnIdeal)
    ∧ quiescent_ConvFfnReferenceIdeal (hConvFfnReferenceIdeal := hConvFfnReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_SguOut (hSguOut := hSguOut)
    ∧ quiescent_SguOutIdeal (hSguOutIdeal := hSguOutIdeal)
    ∧ quiescent_SguOutReferenceIdeal (hSguOutReferenceIdeal := hSguOutReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_GmlpIn_GmlpInIdeal
    ∧ algebraic_GmlpInIdeal_GmlpInReferenceIdeal_pre_finite_inputs (hGmlpInIdeal := hGmlpInIdeal) (hGmlpInReferenceIdeal := hGmlpInReferenceIdeal) (hPre_finite_inputs := hPre_finite_inputs)
    ∧ preserves_ConvFfn_ConvFfnIdeal
    ∧ algebraic_ConvFfnIdeal_ConvFfnReferenceIdeal (hConvFfnIdeal := hConvFfnIdeal) (hConvFfnReferenceIdeal := hConvFfnReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_SguOut_SguOutIdeal
    ∧ algebraic_SguOutIdeal_SguOutReferenceIdeal (hSguOutIdeal := hSguOutIdeal) (hSguOutReferenceIdeal := hSguOutReferenceIdeal)
-- ==== Pre_finite_inputs.lean ====
abbrev S16384x2048 : Shape := ⟨2, ![16384, 2048]⟩
abbrev S2x2048x12288 : Shape := ⟨3, ![2, 2048, 12288]⟩
abbrev S_ : Shape := ⟨0, ![]⟩

class Facts : Prop where
  bcast_S_S16384x2048 : S_.BroadcastsInDim S16384x2048 (![] : Fin 0 → Fin S16384x2048.rank)
  bcast_S_S2x2048x12288 : S_.BroadcastsInDim S2x2048x12288 (![] : Fin 0 → Fin S2x2048x12288.rank)

variable [Facts]

def fn {F : FTy → Type} [FloatOps F] (main_arg0 : FVec F S16384x2048 .f32) (main_arg1 : FVec F S2x2048x12288 .f32) : IVec S16384x2048 1 × IVec S2x2048x12288 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S2x2048x12288 .f32 := Host.absf main_arg1
  let main_cst_0 : FVec F S_ .f32 := constant S_ .f32 0x7F800000#32
  let main_v4 : FVec F S2x2048x12288 .f32 := broadcastInDim S2x2048x12288 ![] bcast_S_S2x2048x12288 main_cst_0
  let main_v5 : IVec S2x2048x12288 1 := cmpf .olt main_v3 main_v4
  (main_v2, main_v5)
-- ==== Pre_finite_scores.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S_ : Shape := ⟨0, ![]⟩

class Facts : Prop where
  bcast_S_S4x4096x16x128 : S_.BroadcastsInDim S4x4096x16x128 (![] : Fin 0 → Fin S4x4096x16x128.rank)
  bcast_S_S4x4096x16x64 : S_.BroadcastsInDim S4x4096x16x64 (![] : Fin 0 → Fin S4x4096x16x64.rank)
  bcast_S_S4x4096x64 : S_.BroadcastsInDim S4x4096x64 (![] : Fin 0 → Fin S4x4096x64.rank)

variable [Facts]

def fn {F : FTy → Type} [FloatOps F] (main_arg0 : FVec F S4x4096x16x128 .f32) (main_arg1 : FVec F S4x4096x16x64 .f32) (main_arg2 : FVec F S4x4096x16x128 .f32) (main_arg3 : FVec F S4x4096x64 .f32) (main_arg4 : FVec F S4x4096x16x128 .f32) : IVec S4x4096x16x128 1 × IVec S4x4096x16x64 1 × IVec S4x4096x16x128 1 × IVec S4x4096x64 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_v3 : FVec F S4x4096x16x64 .f32 := Host.absf main_arg1
  let main_cst_0 : FVec F S_ .f32 := constant S_ .f32 0x7F800000#32
  let main_v4 : FVec F S4x4096x16x64 .f32 := broadcastInDim S4x4096x16x64 ![] bcast_S_S4x4096x16x64 main_cst_0
  let main_v5 : IVec S4x4096x16x64 1 := cmpf .olt main_v3 main_v4
  let main_v6 : FVec F S4x4096x16x128 .f32 := Host.absf main_arg2
  let main_cst_1 : FVec F S_ .f32 := constant S_ .f32 0x7F800000#32
  let main_v7 : FVec F S4x4096x16x128 .f32 := broadcastInDim S4x4096x16x128 ![] bcast_S_S4x4096x16x128 main_cst_1
  let main_v8 : IVec S4x4096x16x128 1 := cmpf .olt main_v6 main_v7
  let main_v9 : FVec F S4x4096x64 .f32 := Host.absf main_arg3
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  (main_v2, main_v5, main_v8, main_v11)
-- ==== Kernel.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S_ : Shape := ⟨0, ![]⟩
abbrev S4x4096x16x256 : Shape := ⟨4, ![4, 4096, 16, 256]⟩
abbrev S16384x4096 : Shape := ⟨2, ![16384, 4096]⟩
abbrev S4x4096x1x64 : Shape := ⟨4, ![4, 4096, 1, 64]⟩
abbrev S4x4096x16x1 : Shape := ⟨4, ![4, 4096, 16, 1]⟩
abbrev S4x4096x16x127 : Shape := ⟨4, ![4, 4096, 16, 127]⟩
abbrev S16384x2048 : Shape := ⟨2, ![16384, 2048]⟩
abbrev S512x1024 : Shape := ⟨2, ![512, 1024]⟩
abbrev S4096x1024 : Shape := ⟨2, ![4096, 1024]⟩
abbrev S512x512 : Shape := ⟨2, ![512, 512]⟩
abbrev S512x256 : Shape := ⟨2, ![512, 256]⟩
abbrev S512x1 : Shape := ⟨2, ![512, 1]⟩
abbrev S1024x256 : Shape := ⟨2, ![1024, 256]⟩
abbrev S512 : Shape := ⟨1, ![512]⟩
abbrev S512x128 : Shape := ⟨2, ![512, 128]⟩

abbrev nBuf : Space → Nat
  | .hbm => 23
  | .vmem => 8
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S_, .f32⟩
  | .hbm, ⟨6, _⟩ => ⟨S4x4096x16x64, .f32⟩
  | .hbm, ⟨7, _⟩ => ⟨S4x4096x16x256, .f32⟩
  | .hbm, ⟨8, _⟩ => ⟨S16384x4096, .f32⟩
  | .hbm, ⟨9, _⟩ => ⟨S16384x4096, .bf16⟩
  | .hbm, ⟨10, _⟩ => ⟨S4x4096x1x64, .f32⟩
  | .hbm, ⟨11, _⟩ => ⟨S4x4096x16x64, .f32⟩
  | .hbm, ⟨12, _⟩ => ⟨S4x4096x16x256, .f32⟩
  | .hbm, ⟨13, _⟩ => ⟨S16384x4096, .f32⟩
  | .hbm, ⟨14, _⟩ => ⟨S16384x4096, .bf16⟩
  | .hbm, ⟨15, _⟩ => ⟨S_, .f32⟩
  | .hbm, ⟨16, _⟩ => ⟨S4x4096x16x1, .f32⟩
  | .hbm, ⟨17, _⟩ => ⟨S_, .f32⟩
  | .hbm, ⟨18, _⟩ => ⟨S4x4096x16x127, .f32⟩
  | .hbm, ⟨19, _⟩ => ⟨S4x4096x16x256, .f32⟩
  | .hbm, ⟨20, _⟩ => ⟨S16384x4096, .f32⟩
  | .hbm, ⟨21, _⟩ => ⟨S16384x4096, .bf16⟩
  | .hbm, ⟨22, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S512x512, .bf16⟩
  | .local _ .vmem, ⟨7, _⟩ => ⟨S512x512, .bf16⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_15 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_11 : BitVec 32 := 0#32
  let v19 : BitVec 1 := Scalar.cmpi .slt arg2 c0_i32_11
  let v20 : BitVec 32 := Scalar.extui v19
  let v21 : BitVec 32 := Scalar.subi v18 v20
  let c2_i32 : BitVec 32 := 2#32
  let c0_i32_12 : BitVec 32 := 0#32
  let v22 : BitVec 1 := Scalar.cmpi .sgt c2_i32 c0_i32_12
  let v23 : BitVec 32 := Scalar.extui v22
  let c0_i32_13 : BitVec 32 := 0#32
  let v24 : BitVec 1 := Scalar.cmpi .slt c2_i32 c0_i32_13
  let v25 : BitVec 32 := Scalar.extui v24
  let v26 : BitVec 32 := Scalar.subi v23 v25
  let v27 : BitVec 1 := Scalar.cmpi .ne v21 v26
  let v28 : BitVec 32 := Scalar.remsi arg2 c2_i32
  let c0_i32_14 : BitVec 32 := 0#32
  let v29 : BitVec 1 := Scalar.cmpi .ne v28 c0_i32_14
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_17 : BitVec 32 := 1#32
  ⟨c0_i32_15, v37, c1_i32_17⟩
def k0_mult1 (i : grid0.Coords) (k0_t1 : Fin (k0_t1_loop i).trips) : BitVec 32 :=
  let c0_i32_15 : BitVec 32 := 0#32
  let c1_i32_17 : BitVec 32 := 1#32
  let arg7 : BitVec 32 := Scf.iv c0_i32_15 c1_i32_17 k0_t1
  let c1024_i32 : BitVec 32 := 1024#32
  let v391 : BitVec 32 := Scalar.muli arg7 c1024_i32
  v391
def k0_off1 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c1024_i32 : BitVec 32 := 1024#32
  let v391 : BitVec 32 := Scalar.muli arg7 c1024_i32
  let v392 : BitVec 32 := v391
  let v393 : Index := Scalar.indexCast v392
  let c0_122 : Index := 0#32
  ![v393.toNat, 0]
def k0_off2 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c1024_i32 : BitVec 32 := 1024#32
  let v391 : BitVec 32 := Scalar.muli arg7 c1024_i32
  let v392 : BitVec 32 := v391
  let v417 : Index := Scalar.indexCast v392
  let c256_129 : Index := 256#32
  ![v417.toNat, 256]
def k0_off3 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c1024_i32 : BitVec 32 := 1024#32
  let v391 : BitVec 32 := Scalar.muli arg7 c1024_i32
  let v392 : BitVec 32 := v391
  let v441 : Index := Scalar.indexCast v392
  let c512_136 : Index := 512#32
  ![v441.toNat, 512]
def k0_off4 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c1024_i32 : BitVec 32 := 1024#32
  let v391 : BitVec 32 := Scalar.muli arg7 c1024_i32
  let v392 : BitVec 32 := v391
  let v465 : Index := Scalar.indexCast v392
  let c768_143 : Index := 768#32
  ![v465.toNat, 768]
@[reducible] def k0_t2_loop (i : grid0.Coords) : Scf.Loop 32 :=
  let c0_i32_15 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_11 : BitVec 32 := 0#32
  let v19 : BitVec 1 := Scalar.cmpi .slt arg2 c0_i32_11
  let v20 : BitVec 32 := Scalar.extui v19
  let v21 : BitVec 32 := Scalar.subi v18 v20
  let c2_i32 : BitVec 32 := 2#32
  let c0_i32_12 : BitVec 32 := 0#32
  let v22 : BitVec 1 := Scalar.cmpi .sgt c2_i32 c0_i32_12
  let v23 : BitVec 32 := Scalar.extui v22
  let c0_i32_13 : BitVec 32 := 0#32
  let v24 : BitVec 1 := Scalar.cmpi .slt c2_i32 c0_i32_13
  let v25 : BitVec 32 := Scalar.extui v24
  let v26 : BitVec 32 := Scalar.subi v23 v25
  let v27 : BitVec 1 := Scalar.cmpi .ne v21 v26
  let v28 : BitVec 32 := Scalar.remsi arg2 c2_i32
  let c0_i32_14 : BitVec 32 := 0#32
  let v29 : BitVec 1 := Scalar.cmpi .ne v28 c0_i32_14
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let v34 : BitVec 32 := Scalar.addi c0_i32_15 v33
  let c1_i32_18 : BitVec 32 := 1#32
  ⟨v37, v34, c1_i32_18⟩
def k0_mult2 (i : grid0.Coords) (k0_t2 : Fin (k0_t2_loop i).trips) : BitVec 32 :=
  let c0_i32_15 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_11 : BitVec 32 := 0#32
  let v19 : BitVec 1 := Scalar.cmpi .slt arg2 c0_i32_11
  let v20 : BitVec 32 := Scalar.extui v19
  let v21 : BitVec 32 := Scalar.subi v18 v20
  let c2_i32 : BitVec 32 := 2#32
  let c0_i32_12 : BitVec 32 := 0#32
  let v22 : BitVec 1 := Scalar.cmpi .sgt c2_i32 c0_i32_12
  let v23 : BitVec 32 := Scalar.extui v22
  let c0_i32_13 : BitVec 32 := 0#32
  let v24 : BitVec 1 := Scalar.cmpi .slt c2_i32 c0_i32_13
  let v25 : BitVec 32 := Scalar.extui v24
  let v26 : BitVec 32 := Scalar.subi v23 v25
  let v27 : BitVec 1 := Scalar.cmpi .ne v21 v26
  let v28 : BitVec 32 := Scalar.remsi arg2 c2_i32
  let c0_i32_14 : BitVec 32 := 0#32
  let v29 : BitVec 1 := Scalar.cmpi .ne v28 c0_i32_14
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg7 : BitVec 32 := Scf.iv v37 c1_i32_18 k0_t2
  let c1024_i32 : BitVec 32 := 1024#32
  let v391 : BitVec 32 := Scalar.muli arg7 c1024_i32
  v391
def k0_off5 (i : grid0.Coords) (k0_t2 : Fin (k0_t2_loop i).trips) : Fin 2 → Nat :=
  let c0_i32_15 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_11 : BitVec 32 := 0#32
  let v19 : BitVec 1 := Scalar.cmpi .slt arg2 c0_i32_11
  let v20 : BitVec 32 := Scalar.extui v19
  let v21 : BitVec 32 := Scalar.subi v18 v20
  let c2_i32 : BitVec 32 := 2#32
  let c0_i32_12 : BitVec 32 := 0#32
  let v22 : BitVec 1 := Scalar.cmpi .sgt c2_i32 c0_i32_12
  let v23 : BitVec 32 := Scalar.extui v22
  let c0_i32_13 : BitVec 32 := 0#32
  let v24 : BitVec 1 := Scalar.cmpi .slt c2_i32 c0_i32_13
  let v25 : BitVec 32 := Scalar.extui v24
  let v26 : BitVec 32 := Scalar.subi v23 v25
  let v27 : BitVec 1 := Scalar.cmpi .ne v21 v26
  let v28 : BitVec 32 := Scalar.remsi arg2 c2_i32
  let c0_i32_14 : BitVec 32 := 0#32
  let v29 : BitVec 1 := Scalar.cmpi .ne v28 c0_i32_14
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg7 : BitVec 32 := Scf.iv v37 c1_i32_18 k0_t2
  let c1024_i32 : BitVec 32 := 1024#32
  let v391 : BitVec 32 := Scalar.muli arg7 c1024_i32
  let v392 : BitVec 32 := v391
  let v393 : Index := Scalar.indexCast v392
  let c0_122 : Index := 0#32
  ![v393.toNat, 0]
def k0_off6 (i : grid0.Coords) (k0_t2 : Fin (k0_t2_loop i).trips) : Fin 2 → Nat :=
  let c0_i32_15 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_11 : BitVec 32 := 0#32
  let v19 : BitVec 1 := Scalar.cmpi .slt arg2 c0_i32_11
  let v20 : BitVec 32 := Scalar.extui v19
  let v21 : BitVec 32 := Scalar.subi v18 v20
  let c2_i32 : BitVec 32 := 2#32
  let c0_i32_12 : BitVec 32 := 0#32
  let v22 : BitVec 1 := Scalar.cmpi .sgt c2_i32 c0_i32_12
  let v23 : BitVec 32 := Scalar.extui v22
  let c0_i32_13 : BitVec 32 := 0#32
  let v24 : BitVec 1 := Scalar.cmpi .slt c2_i32 c0_i32_13
  let v25 : BitVec 32 := Scalar.extui v24
  let v26 : BitVec 32 := Scalar.subi v23 v25
  let v27 : BitVec 1 := Scalar.cmpi .ne v21 v26
  let v28 : BitVec 32 := Scalar.remsi arg2 c2_i32
  let c0_i32_14 : BitVec 32 := 0#32
  let v29 : BitVec 1 := Scalar.cmpi .ne v28 c0_i32_14
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg7 : BitVec 32 := Scf.iv v37 c1_i32_18 k0_t2
  let c1024_i32 : BitVec 32 := 1024#32
  let v391 : BitVec 32 := Scalar.muli arg7 c1024_i32
  let v392 : BitVec 32 := v391
  let v417 : Index := Scalar.indexCast v392
  let c256_129 : Index := 256#32
  ![v417.toNat, 256]
def k0_off7 (i : grid0.Coords) (k0_t2 : Fin (k0_t2_loop i).trips) : Fin 2 → Nat :=
  let c0_i32_15 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_11 : BitVec 32 := 0#32
  let v19 : BitVec 1 := Scalar.cmpi .slt arg2 c0_i32_11
  let v20 : BitVec 32 := Scalar.extui v19
  let v21 : BitVec 32 := Scalar.subi v18 v20
  let c2_i32 : BitVec 32 := 2#32
  let c0_i32_12 : BitVec 32 := 0#32
  let v22 : BitVec 1 := Scalar.cmpi .sgt c2_i32 c0_i32_12
  let v23 : BitVec 32 := Scalar.extui v22
  let c0_i32_13 : BitVec 32 := 0#32
  let v24 : BitVec 1 := Scalar.cmpi .slt c2_i32 c0_i32_13
  let v25 : BitVec 32 := Scalar.extui v24
  let v26 : BitVec 32 := Scalar.subi v23 v25
  let v27 : BitVec 1 := Scalar.cmpi .ne v21 v26
  let v28 : BitVec 32 := Scalar.remsi arg2 c2_i32
  let c0_i32_14 : BitVec 32 := 0#32
  let v29 : BitVec 1 := Scalar.cmpi .ne v28 c0_i32_14
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg7 : BitVec 32 := Scf.iv v37 c1_i32_18 k0_t2
  let c1024_i32 : BitVec 32 := 1024#32
  let v391 : BitVec 32 := Scalar.muli arg7 c1024_i32
  let v392 : BitVec 32 := v391
  let v441 : Index := Scalar.indexCast v392
  let c512_136 : Index := 512#32
  ![v441.toNat, 512]
def k0_off8 (i : grid0.Coords) (k0_t2 : Fin (k0_t2_loop i).trips) : Fin 2 → Nat :=
  let c0_i32_15 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_11 : BitVec 32 := 0#32
  let v19 : BitVec 1 := Scalar.cmpi .slt arg2 c0_i32_11
  let v20 : BitVec 32 := Scalar.extui v19
  let v21 : BitVec 32 := Scalar.subi v18 v20
  let c2_i32 : BitVec 32 := 2#32
  let c0_i32_12 : BitVec 32 := 0#32
  let v22 : BitVec 1 := Scalar.cmpi .sgt c2_i32 c0_i32_12
  let v23 : BitVec 32 := Scalar.extui v22
  let c0_i32_13 : BitVec 32 := 0#32
  let v24 : BitVec 1 := Scalar.cmpi .slt c2_i32 c0_i32_13
  let v25 : BitVec 32 := Scalar.extui v24
  let v26 : BitVec 32 := Scalar.subi v23 v25
  let v27 : BitVec 1 := Scalar.cmpi .ne v21 v26
  let v28 : BitVec 32 := Scalar.remsi arg2 c2_i32
  let c0_i32_14 : BitVec 32 := 0#32
  let v29 : BitVec 1 := Scalar.cmpi .ne v28 c0_i32_14
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg7 : BitVec 32 := Scf.iv v37 c1_i32_18 k0_t2
  let c1024_i32 : BitVec 32 := 1024#32
  let v391 : BitVec 32 := Scalar.muli arg7 c1024_i32
  let v392 : BitVec 32 := v391
  let v465 : Index := Scalar.indexCast v392
  let c768_143 : Index := 768#32
  ![v465.toNat, 768]
@[reducible] def k0_t3_loop (i : grid0.Coords) : Scf.Loop 32 :=
  let c0_i32_25 : BitVec 32 := 0#32
  let arg2 : BitVec 32 := BitVec.ofNat 32 (i 2).val
  let c2_i32_19 : BitVec 32 := 2#32
  let c0_i32_20 : BitVec 32 := 0#32
  let v40 : BitVec 1 := Scalar.cmpi .eq c2_i32_19 c0_i32_20
  let c1_i32_21 : BitVec 32 := 1#32
  let v41 : BitVec 32 := Scalar.select v40 c1_i32_21 c2_i32_19
  let v42 : BitVec 32 := Scalar.remsi arg2 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_27 : BitVec 32 := 1#32
  ⟨c0_i32_25, v54, c1_i32_27⟩
def k0_mult3 (i : grid0.Coords) : BitVec 32 :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  v392
def k0_off9 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v394 : Index := Scalar.indexCast v393
  let c0_124 : Index := 0#32
  ![v394.toNat, 0]
def k0_off10 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v418 : Index := Scalar.indexCast v393
  let c256_131 : Index := 256#32
  ![v418.toNat, 256]
def k0_off11 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v442 : Index := Scalar.indexCast v393
  let c512_138 : Index := 512#32
  ![v442.toNat, 512]
def k0_off12 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v466 : Index := Scalar.indexCast v393
  let c768_145 : Index := 768#32
  ![v466.toNat, 768]
@[reducible] def k0_t4_loop (i : grid0.Coords) : Scf.Loop 32 :=
  let c0_i32_25 : BitVec 32 := 0#32
  let arg2 : BitVec 32 := BitVec.ofNat 32 (i 2).val
  let c2_i32_19 : BitVec 32 := 2#32
  let c0_i32_20 : BitVec 32 := 0#32
  let v40 : BitVec 1 := Scalar.cmpi .eq c2_i32_19 c0_i32_20
  let c1_i32_21 : BitVec 32 := 1#32
  let v41 : BitVec 32 := Scalar.select v40 c1_i32_21 c2_i32_19
  let v42 : BitVec 32 := Scalar.remsi arg2 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let v51 : BitVec 32 := Scalar.addi c0_i32_25 v50
  let c1_i32_28 : BitVec 32 := 1#32
  ⟨v54, v51, c1_i32_28⟩
def k0_mult4 (i : grid0.Coords) : BitVec 32 :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  v392
def k0_off13 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v394 : Index := Scalar.indexCast v393
  let c0_124 : Index := 0#32
  ![v394.toNat, 0]
def k0_off14 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v418 : Index := Scalar.indexCast v393
  let c256_131 : Index := 256#32
  ![v418.toNat, 256]
def k0_off15 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v442 : Index := Scalar.indexCast v393
  let c512_138 : Index := 512#32
  ![v442.toNat, 512]
def k0_off16 (i : grid0.Coords) : Fin 2 → Nat :=
  let arg2 : BitVec 32 := BitVec.ofNat 32 (i 2).val
  let c1_i32_122 : BitVec 32 := 1#32
  let v391 : BitVec 32 := Scalar.subi arg2 c1_i32_122
  let c512_i32_123 : BitVec 32 := 512#32
  let v392 : BitVec 32 := Scalar.muli v391 c512_i32_123
  let v393 : BitVec 32 := v392
  let v466 : Index := Scalar.indexCast v393
  let c768_145 : Index := 768#32
  ![v466.toNat, 768]
def k0_mult5 (i : grid0.Coords) : BitVec 32 :=
  let arg2 : BitVec 32 := BitVec.ofNat 32 (i 2).val
  let c512_i32 : BitVec 32 := 512#32
  let v57 : BitVec 32 := Scalar.muli arg2 c512_i32
  v57
def k0_off17 (i : grid0.Coords) : Fin 2 → Nat :=
  let arg2 : BitVec 32 := BitVec.ofNat 32 (i 2).val
  let c512_i32 : BitVec 32 := 512#32
  let v57 : BitVec 32 := Scalar.muli arg2 c512_i32
  let v58 : BitVec 32 := v57
  let v59 : Index := Scalar.indexCast v58
  let c0_29 : Index := 0#32
  ![v59.toNat, 0]
def k0_off18 (i : grid0.Coords) : Fin 2 → Nat :=
  let arg2 : BitVec 32 := BitVec.ofNat 32 (i 2).val
  let c512_i32 : BitVec 32 := 512#32
  let v57 : BitVec 32 := Scalar.muli arg2 c512_i32
  let v58 : BitVec 32 := v57
  let v136 : Index := Scalar.indexCast v58
  let c256_50 : Index := 256#32
  ![v136.toNat, 256]
def k0_off19 (i : grid0.Coords) : Fin 2 → Nat :=
  let arg2 : BitVec 32 := BitVec.ofNat 32 (i 2).val
  let c512_i32 : BitVec 32 := 512#32
  let v57 : BitVec 32 := Scalar.muli arg2 c512_i32
  let v58 : BitVec 32 := v57
  let v213 : Index := Scalar.indexCast v58
  let c512_72 : Index := 512#32
  ![v213.toNat, 512]
def k0_off20 (i : grid0.Coords) : Fin 2 → Nat :=
  let arg2 : BitVec 32 := BitVec.ofNat 32 (i 2).val
  let c512_i32 : BitVec 32 := 512#32
  let v57 : BitVec 32 := Scalar.muli arg2 c512_i32
  let v58 : BitVec 32 := v57
  let v290 : Index := Scalar.indexCast v58
  let c768_94 : Index := 768#32
  ![v290.toNat, 768]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "sm_scale_log2e" => some (((Real.sqrt 192)⁻¹ * (Real.log 2)⁻¹ : ℝ) : EReal)
  | _ => none
-- ==== ReferenceIdeal.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S4x16x4096x4096 : Shape := ⟨4, ![4, 16, 4096, 4096]⟩
abbrev S4x4096x4096x16 : Shape := ⟨4, ![4, 4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S4x16x4096x4096, .f32⟩
  | .hbm, ⟨6, _⟩ => ⟨S4x4096x4096x16, .f32⟩
  | .hbm, ⟨7, _⟩ => ⟨S4x16x4096x4096, .f32⟩
  | .hbm, ⟨8, _⟩ => ⟨S4x16x4096x4096, .f32⟩
  | .hbm, ⟨9, _⟩ => ⟨S_, .f32⟩
  | .hbm, ⟨10, _⟩ => ⟨S_, .f32⟩
  | .hbm, ⟨11, _⟩ => ⟨S4x16x4096x4096, .f32⟩
  | .hbm, ⟨12, _⟩ => ⟨S4x16x4096x4096, .f32⟩
  | .hbm, ⟨13, _⟩ => ⟨S4096, .i32⟩
  | .hbm, ⟨14, _⟩ => ⟨S1x4096, .i32⟩
  | .hbm, ⟨15, _⟩ => ⟨S_, .i32⟩
  | .hbm, ⟨16, _⟩ => ⟨S_, .i32⟩
  | .hbm, ⟨17, _⟩ => ⟨S1x4096, .i32⟩
  | .hbm, ⟨18, _⟩ => ⟨S1x4096, .i32⟩
  | .hbm, ⟨19, _⟩ => ⟨S1x4096, .i32⟩
  | .hbm, ⟨20, _⟩ => ⟨S_, .i32⟩
  | .hbm, ⟨21, _⟩ => ⟨S1x4096, .i32⟩
  | .hbm, ⟨22, _⟩ => ⟨S1x4096, .i1⟩
  | .hbm, ⟨23, _⟩ => ⟨S1x4096, .i32⟩
  | .hbm, ⟨24, _⟩ => ⟨S1x4096, .i32⟩
  | .hbm, ⟨25, _⟩ => ⟨S_, .i32⟩
  | .hbm, ⟨26, _⟩ => ⟨S1x4096, .i32⟩
  | .hbm, ⟨27, _⟩ => ⟨S1x4096, .i1⟩
  | .hbm, ⟨28, _⟩ => ⟨S1x4096, .i1⟩
  | .hbm, ⟨29, _⟩ => ⟨S_, .i32⟩
  | .hbm, ⟨30, _⟩ => ⟨S1x4096, .i32⟩
  | .hbm, ⟨31, _⟩ => ⟨S1x4096, .i32⟩
  | .hbm, ⟨32, _⟩ => ⟨S1x4096, .i32⟩
  | .hbm, ⟨33, _⟩ => ⟨S4096x1, .i32⟩
  | .hbm, ⟨34, _⟩ => ⟨S_, .i32⟩
  | .hbm, ⟨35, _⟩ => ⟨S_, .i32⟩
  | .hbm, ⟨36, _⟩ => ⟨S4096x1, .i32⟩
  | .hbm, ⟨37, _⟩ => ⟨S4096x1, .i32⟩
  | .hbm, ⟨38, _⟩ => ⟨S4096x1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S4096x1, .i32⟩
  | .hbm, ⟨43, _⟩ => ⟨S4096x1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S4096x1, .i1⟩
  | .hbm, ⟨48, _⟩ => ⟨S_, .i32⟩
  | .hbm, ⟨49, _⟩ => ⟨S4096x1, .i32⟩
  | .hbm, ⟨50, _⟩ => ⟨S4096x1, .i32⟩
  | .hbm, ⟨51, _⟩ => ⟨S4096x1, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S1x1x4096x4096, .i1⟩
  | .hbm, ⟨56, _⟩ => ⟨S_, .f32⟩
  | .hbm, ⟨57, _⟩ => ⟨S_, .f32⟩
  | .hbm, ⟨58, _⟩ => ⟨S4x16x4096x4096, .i1⟩
  | .hbm, ⟨59, _⟩ => ⟨S4x16x4096x4096, .f32⟩
  | .hbm, ⟨60, _⟩ => ⟨S4x16x4096x4096, .f32⟩
  | .hbm, ⟨61, _⟩ => ⟨S_, .f32⟩
  | .hbm, ⟨62, _⟩ => ⟨S4x16x4096, .f32⟩
  | .hbm, ⟨63, _⟩ => ⟨S_, .f32⟩
  | .hbm, ⟨64, _⟩ => ⟨S4x16x4096, .f32⟩
  | .hbm, ⟨65, _⟩ => ⟨S4x16x4096, .f32⟩
  | .hbm, ⟨66, _⟩ => ⟨S4x16x4096x1, .f32⟩
  | .hbm, ⟨67, _⟩ => ⟨S4x16x4096x4096, .f32⟩
  | .hbm, ⟨68, _⟩ => ⟨S4x16x4096x4096, .f32⟩
  | .hbm, ⟨69, _⟩ => ⟨S4x16x4096x4096, .f32⟩
  | .hbm, ⟨70, _⟩ => ⟨S_, .f32⟩
  | .hbm, ⟨71, _⟩ => ⟨S4x16x4096, .f32⟩
  | .hbm, ⟨72, _⟩ => ⟨S4x16x4096x1, .f32⟩
  | .hbm, ⟨73, _⟩ => ⟨S4x16x4096x4096, .f32⟩
  | .hbm, ⟨74, _⟩ => ⟨S4x16x4096x4096, .f32⟩
  | .hbm, ⟨75, _⟩ => ⟨S4x16x128x4096, .f32⟩
  | .hbm, ⟨76, _⟩ => ⟨S4x4096x16x128, .f32⟩
  | .hbm, ⟨77, _⟩ => ⟨S16384x2048, .f32⟩
  | .hbm, ⟨78, _⟩ => ⟨S16384x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v16 : Ref sig .tc := ⟨.hbm, 60, rfl⟩
abbrev main_cst_2 : Ref sig .tc := ⟨.hbm, 61, rfl⟩
abbrev main_v17 : Ref sig .tc := ⟨.hbm, 62, rfl⟩
abbrev main_cst_3 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_4 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩

abbrev nD : Nat := 1
abbrev τ : Topo := Topo.v7x

variable {F : FTy → Type} [FloatOps F]
-- ==== GmlpIn.lean ====
abbrev S16384x2048 : Shape := ⟨2, ![16384, 2048]⟩
abbrev S2x2048x12288 : Shape := ⟨3, ![2, 2048, 12288]⟩
abbrev S16384x12288 : Shape := ⟨2, ![16384, 12288]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S2x2048x12288, .bf16⟩
  | .hbm, ⟨3, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GmlpInIdeal.lean ====
variable {F : FTy → Type} [FloatOps F] [Named F]
def κ : String → Option EReal := fun
  | "gelu_cubic" => some ((80338380498831 / 2251799813685248 : ℝ) : EReal)
  | _ => none
-- ==== GmlpInReferenceIdeal.lean ====
abbrev S16384x2048 : Shape := ⟨2, ![16384, 2048]⟩
abbrev S2x2048x12288 : Shape := ⟨3, ![2, 2048, 12288]⟩
abbrev S1x2048x12288 : Shape := ⟨3, ![1, 2048, 12288]⟩
abbrev S2048x12288 : Shape := ⟨2, ![2048, 12288]⟩
abbrev S16384x12288 : Shape := ⟨2, ![16384, 12288]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S1x2048x12288, .f32⟩
  | .hbm, ⟨3, _⟩ => ⟨S2048x12288, .f32⟩
  | .hbm, ⟨4, _⟩ => ⟨S16384x12288, .f32⟩
  | .hbm, ⟨5, _⟩ => ⟨S16384x12288, .f32⟩
  | .hbm, ⟨6, _⟩ => ⟨S16384x12288, .f32⟩
  | .hbm, ⟨7, _⟩ => ⟨S_, .f32⟩
  | .hbm, ⟨8, _⟩ => ⟨S16384x12288, .f32⟩
  | .hbm, ⟨9, _⟩ => ⟨S16384x12288, .f32⟩
  | .hbm, ⟨10, _⟩ => ⟨S16384x12288, .f32⟩
  | .hbm, ⟨11, _⟩ => ⟨S_, .f32⟩
  | .hbm, ⟨12, _⟩ => ⟨S16384x12288, .f32⟩
  | .hbm, ⟨13, _⟩ => ⟨S16384x12288, .f32⟩
  | .hbm, ⟨14, _⟩ => ⟨S16384x12288, .f32⟩
  | .hbm, ⟨15, _⟩ => ⟨S_, .f32⟩
  | .hbm, ⟨16, _⟩ => ⟨S16384x12288, .f32⟩
  | .hbm, ⟨17, _⟩ => ⟨S16384x12288, .f32⟩
  | .hbm, ⟨18, _⟩ => ⟨S_, .f32⟩
  | .hbm, ⟨19, _⟩ => ⟨S16384x12288, .f32⟩
  | .hbm, ⟨20, _⟩ => ⟨S16384x12288, .f32⟩
  | .hbm, ⟨21, _⟩ => ⟨S16384x12288, .f32⟩
  | .hbm, ⟨22, _⟩ => ⟨S16384x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ConvFfn.lean ====
abbrev S16384x2048 : Shape := ⟨2, ![16384, 2048]⟩
abbrev S4x2048x11008 : Shape := ⟨3, ![4, 2048, 11008]⟩
abbrev S4x3x11008 : Shape := ⟨3, ![4, 3, 11008]⟩
abbrev S4x11008 : Shape := ⟨2, ![4, 11008]⟩
abbrev S4x5504x2048 : Shape := ⟨3, ![4, 5504, 2048]⟩
abbrev S4x2048 : Shape := ⟨2, ![4, 2048]⟩
abbrev S4x2048x1024 : Shape := ⟨3, ![4, 2048, 1024]⟩
abbrev S4x2048x384 : Shape := ⟨3, ![4, 2048, 384]⟩
abbrev S_ : Shape := ⟨0, ![]⟩
abbrev S4x2048x128 : Shape := ⟨3, ![4, 2048, 128]⟩
abbrev S4x2048x12288 : Shape := ⟨3, ![4, 2048, 12288]⟩
abbrev S4x6144x2048 : Shape := ⟨3, ![4, 6144, 2048]⟩
abbrev S4x3x1024 : Shape := ⟨3, ![4, 3, 1024]⟩
abbrev S4x3x384 : Shape := ⟨3, ![4, 3, 384]⟩
abbrev S4x3x128 : Shape := ⟨3, ![4, 3, 128]⟩
abbrev S4x3x12288 : Shape := ⟨3, ![4, 3, 12288]⟩
abbrev S4x1x11008 : Shape := ⟨3, ![4, 1, 11008]⟩
abbrev S4x1x1024 : Shape := ⟨3, ![4, 1, 1024]⟩
abbrev S4x1x384 : Shape := ⟨3, ![4, 1, 384]⟩
abbrev S4x1x128 : Shape := ⟨3, ![4, 1, 128]⟩
abbrev S4x1x12288 : Shape := ⟨3, ![4, 1, 12288]⟩
abbrev S4x1x2048 : Shape := ⟨3, ![4, 1, 2048]⟩
abbrev S512x2048 : Shape := ⟨2, ![512, 2048]⟩
abbrev S1x2048x2048 : Shape := ⟨3, ![1, 2048, 2048]⟩
abbrev S1x3x2048 : Shape := ⟨3, ![1, 3, 2048]⟩
abbrev S1x1x2048 : Shape := ⟨3, ![1, 1, 2048]⟩
abbrev S1x1024x2048 : Shape := ⟨3, ![1, 1024, 2048]⟩
abbrev S6x8x2048 : Shape := ⟨3, ![6, 8, 2048]⟩
abbrev S2048x2048 : Shape := ⟨2, ![2048, 2048]⟩
abbrev S1x8x2048 : Shape := ⟨3, ![1, 8, 2048]⟩
abbrev S8x2048 : Shape := ⟨2, ![8, 2048]⟩
abbrev S3x2048 : Shape := ⟨2, ![3, 2048]⟩
abbrev S1x2048 : Shape := ⟨2, ![1, 2048]⟩
abbrev S504x2048 : Shape := ⟨2, ![504, 2048]⟩
abbrev S512x1024 : Shape := ⟨2, ![512, 1024]⟩
abbrev S1024x2048 : Shape := ⟨2, ![1024, 2048]⟩
abbrev S1x2048x1024 : Shape := ⟨3, ![1, 2048, 1024]⟩
abbrev S2048x1024 : Shape := ⟨2, ![2048, 1024]⟩
abbrev S1x8x1024 : Shape := ⟨3, ![1, 8, 1024]⟩
abbrev S8x1024 : Shape := ⟨2, ![8, 1024]⟩
abbrev S1x3x1024 : Shape := ⟨3, ![1, 3, 1024]⟩
abbrev S3x1024 : Shape := ⟨2, ![3, 1024]⟩
abbrev S1x1024 : Shape := ⟨2, ![1, 1024]⟩
abbrev S1x1x1024 : Shape := ⟨3, ![1, 1, 1024]⟩
abbrev S504x1024 : Shape := ⟨2, ![504, 1024]⟩
abbrev S512x512 : Shape := ⟨2, ![512, 512]⟩
abbrev S1x512x2048 : Shape := ⟨3, ![1, 512, 2048]⟩
abbrev S512 : Shape := ⟨1, ![512]⟩
abbrev S512x1 : Shape := ⟨2, ![512, 1]⟩

abbrev nBuf : Space → Nat
  | .hbm => 75
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S4x2048x11008, .f32⟩
  | .hbm, ⟨2, _⟩ => ⟨S4x3x11008, .f32⟩
  | .hbm, ⟨3, _⟩ => ⟨S4x11008, .f32⟩
  | .hbm, ⟨4, _⟩ => ⟨S4x5504x2048, .f32⟩
  | .hbm, ⟨5, _⟩ => ⟨S4x2048, .f32⟩
  | .hbm, ⟨6, _⟩ => ⟨S4x2048, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x384, .f32⟩
  | .hbm, ⟨18, _⟩ => ⟨S_, .f32⟩
  | .hbm, ⟨19, _⟩ => ⟨S4x2048x128, .f32⟩
  | .hbm, ⟨20, _⟩ => ⟨S4x2048x384, .f32⟩
  | .hbm, ⟨21, _⟩ => ⟨S_, .f32⟩
  | .hbm, ⟨22, _⟩ => ⟨S4x2048x128, .f32⟩
  | .hbm, ⟨23, _⟩ => ⟨S_, .f32⟩
  | .hbm, ⟨24, _⟩ => ⟨S4x2048x1024, .f32⟩
  | .hbm, ⟨25, _⟩ => ⟨S4x2048x12288, .f32⟩
  | .hbm, ⟨26, _⟩ => ⟨S4x2048x12288, .bf16⟩
  | .hbm, ⟨27, _⟩ => ⟨S_, .i32⟩
  | .hbm, ⟨28, _⟩ => ⟨S_, .f32⟩
  | .hbm, ⟨29, _⟩ => ⟨S4x6144x2048, .f32⟩
  | .hbm, ⟨30, _⟩ => ⟨S4x6144x2048, .bf16⟩
  | .hbm, ⟨31, _⟩ => ⟨S4x3x1024, .f32⟩
  | .hbm, ⟨32, _⟩ => ⟨S4x3x1024, .f32⟩
  | .hbm, ⟨33, _⟩ => ⟨S4x3x1024, .f32⟩
  | .hbm, ⟨34, _⟩ => ⟨S4x3x1024, .f32⟩
  | .hbm, ⟨35, _⟩ => ⟨S4x3x1024, .f32⟩
  | .hbm, ⟨36, _⟩ => ⟨S4x3x1024, .f32⟩
  | .hbm, ⟨37, _⟩ => ⟨S4x3x1024, .f32⟩
  | .hbm, ⟨38, _⟩ => ⟨S4x3x1024, .f32⟩
  | .hbm, ⟨39, _⟩ => ⟨S4x3x1024, .f32⟩
  | .hbm, ⟨40, _⟩ => ⟨S4x3x1024, .f32⟩
  | .hbm, ⟨41, _⟩ => ⟨S4x3x384, .f32⟩
  | .hbm, ⟨42, _⟩ => ⟨S_, .f32⟩
  | .hbm, ⟨43, _⟩ => ⟨S4x3x128, .f32⟩
  | .hbm, ⟨44, _⟩ => ⟨S4x3x384, .f32⟩
  | .hbm, ⟨45, _⟩ => ⟨S_, .f32⟩
  | .hbm, ⟨46, _⟩ => ⟨S4x3x128, .f32⟩
  | .hbm, ⟨47, _⟩ => ⟨S_, .f32⟩
  | .hbm, ⟨48, _⟩ => ⟨S4x3x1024, .f32⟩
  | .hbm, ⟨49, _⟩ => ⟨S4x3x12288, .f32⟩
  | .hbm, ⟨50, _⟩ => ⟨S4x1x11008, .f32⟩
  | .hbm, ⟨51, _⟩ => ⟨S4x1x1024, .f32⟩
  | .hbm, ⟨52, _⟩ => ⟨S4x1x1024, .f32⟩
  | .hbm, ⟨53, _⟩ => ⟨S4x1x1024, .f32⟩
  | .hbm, ⟨54, _⟩ => ⟨S4x1x1024, .f32⟩
  | .hbm, ⟨55, _⟩ => ⟨S4x1x1024, .f32⟩
  | .hbm, ⟨56, _⟩ => ⟨S4x1x1024, .f32⟩
  | .hbm, ⟨57, _⟩ => ⟨S4x1x1024, .f32⟩
  | .hbm, ⟨58, _⟩ => ⟨S4x1x1024, .f32⟩
  | .hbm, ⟨59, _⟩ => ⟨S4x1x1024, .f32⟩
  | .hbm, ⟨60, _⟩ => ⟨S4x1x1024, .f32⟩
  | .hbm, ⟨61, _⟩ => ⟨S4x1x384, .f32⟩
  | .hbm, ⟨62, _⟩ => ⟨S_, .f32⟩
  | .hbm, ⟨63, _⟩ => ⟨S4x1x128, .f32⟩
  | .hbm, ⟨64, _⟩ => ⟨S4x1x384, .f32⟩
  | .hbm, ⟨65, _⟩ => ⟨S_, .f32⟩
  | .hbm, ⟨66, _⟩ => ⟨S4x1x128, .f32⟩
  | .hbm, ⟨67, _⟩ => ⟨S_, .f32⟩
  | .hbm, ⟨68, _⟩ => ⟨S4x1x1024, .f32⟩
  | .hbm, ⟨69, _⟩ => ⟨S4x1x12288, .f32⟩
  | .hbm, ⟨70, _⟩ => ⟨S16384x2048, .bf16⟩
  | .hbm, ⟨71, _⟩ => ⟨S4x1x2048, .f32⟩
  | .hbm, ⟨72, _⟩ => ⟨S4x1x2048, .f32⟩
  | .hbm, ⟨73, _⟩ => ⟨S16384x2048, .f32⟩
  | .hbm, ⟨74, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x3x2048, .f32⟩
  | .local _ .vmem, ⟨5, _⟩ => ⟨S1x3x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x2048, .bf16⟩
  | .local _ .vmem, ⟨9, _⟩ => ⟨S1x1024x2048, .bf16⟩
  | .local _ .vmem, ⟨10, _⟩ => ⟨S512x2048, .f32⟩
  | .local _ .vmem, ⟨11, _⟩ => ⟨S512x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S6x8x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_off1 (i : grid0.Coords) : Fin 3 → Nat :=
  let arg1 : BitVec 32 := BitVec.ofNat 32 (i 1).val
  let v27 : Index := Scalar.indexCast arg1
  let c0_14 : Index := 0#32
  let c0_15 : Index := 0#32
  ![v27.toNat, 0, 0]
def k0_cond2 (i : grid0.Coords) : BitVec 1 :=
  let arg1 : BitVec 32 := BitVec.ofNat 32 (i 1).val
  let c0_i32_6 : BitVec 32 := 0#32
  let v14 : BitVec 1 := Scalar.cmpi .sgt arg1 c0_i32_6
  let c5_i32 : BitVec 32 := 5#32
  let v15 : BitVec 1 := Scalar.cmpi .slt arg1 c5_i32
  let v16 : BitVec 1 := Scalar.andi v14 v15
  let v17 : BitVec 32 := Scalar.extui v16
  let c0_i32_7 : BitVec 32 := 0#32
  let v18 : BitVec 1 := Scalar.cmpi .ne v17 c0_i32_7
  v18

def k0_off2 (i : grid0.Coords) : Fin 3 → Nat :=
  let arg1 : BitVec 32 := BitVec.ofNat 32 (i 1).val
  let v27 : Index := Scalar.indexCast arg1
  let c0_14 : Index := 0#32
  let c0_15 : Index := 0#32
  ![v27.toNat, 0, 0]
def k0_cond3 (i : grid0.Coords) : BitVec 1 :=
  let arg1 : BitVec 32 := BitVec.ofNat 32 (i 1).val
  let c5_i32_8 : BitVec 32 := 5#32
  let v19 : BitVec 1 := Scalar.cmpi .eq arg1 c5_i32_8
  let v20 : BitVec 32 := Scalar.extui v19
  let c0_i32_9 : BitVec 32 := 0#32
  let v21 : BitVec 1 := Scalar.cmpi .ne v20 c0_i32_9
  v21

def k0_off3 (i : grid0.Coords) : Fin 3 → Nat :=
  let arg1 : BitVec 32 := BitVec.ofNat 32 (i 1).val
  let v27 : Index := Scalar.indexCast arg1
  let c0_14 : Index := 0#32
  let c0_15 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvFfnIdeal.lean ====
variable {F : FTy → Type} [FloatOps F] [Named F]
def κ : String → Option EReal := fun
  | "neg_log2e" => some ((-((Real.log 2)⁻¹) : ℝ) : EReal)
  | _ => none
-- ==== ConvFfnReferenceIdeal.lean ====
abbrev S16384x2048 : Shape := ⟨2, ![16384, 2048]⟩
abbrev S4x2048x11008 : Shape := ⟨3, ![4, 2048, 11008]⟩
abbrev S4x3x11008 : Shape := ⟨3, ![4, 3, 11008]⟩
abbrev S4x11008 : Shape := ⟨2, ![4, 11008]⟩
abbrev S4x5504x2048 : Shape := ⟨3, ![4, 5504, 2048]⟩
abbrev S4x2048 : Shape := ⟨2, ![4, 2048]⟩
abbrev S4x4096x2048 : Shape := ⟨3, ![4, 4096, 2048]⟩
abbrev S1x2048x11008 : Shape := ⟨3, ![1, 2048, 11008]⟩
abbrev S2048x11008 : Shape := ⟨2, ![2048, 11008]⟩
abbrev S4x4096x11008 : Shape := ⟨3, ![4, 4096, 11008]⟩
abbrev S_ : Shape := ⟨0, ![]⟩
abbrev S4x4098x11008 : Shape := ⟨3, ![4, 4098, 11008]⟩
abbrev S1x1x11008 : Shape := ⟨3, ![1, 1, 11008]⟩
abbrev S11008 : Shape := ⟨1, ![11008]⟩
abbrev S1x11008 : Shape := ⟨2, ![1, 11008]⟩
abbrev S4x4096x5504 : Shape := ⟨3, ![4, 4096, 5504]⟩
abbrev S1x5504x2048 : Shape := ⟨3, ![1, 5504, 2048]⟩
abbrev S5504x2048 : Shape := ⟨2, ![5504, 2048]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048x11008, .f32⟩
  | .hbm, ⟨2, _⟩ => ⟨S4x3x11008, .f32⟩
  | .hbm, ⟨3, _⟩ => ⟨S4x11008, .f32⟩
  | .hbm, ⟨4, _⟩ => ⟨S4x5504x2048, .f32⟩
  | .hbm, ⟨5, _⟩ => ⟨S4x2048, .f32⟩
  | .hbm, ⟨6, _⟩ => ⟨S4x2048, .f32⟩
  | .hbm, ⟨7, _⟩ => ⟨S4x4096x2048, .f32⟩
  | .hbm, ⟨8, _⟩ => ⟨S1x2048x11008, .f32⟩
  | .hbm, ⟨9, _⟩ => ⟨S2048x11008, .f32⟩
  | .hbm, ⟨10, _⟩ => ⟨S4x4096x11008, .f32⟩
  | .hbm, ⟨11, _⟩ => ⟨S_, .i32⟩
  | .hbm, ⟨12, _⟩ => ⟨S_, .f32⟩
  | .hbm, ⟨13, _⟩ => ⟨S4x4098x11008, .f32⟩
  | .hbm, ⟨14, _⟩ => ⟨S4x4096x11008, .f32⟩
  | .hbm, ⟨15, _⟩ => ⟨S1x1x11008, .f32⟩
  | .hbm, ⟨16, _⟩ => ⟨S11008, .f32⟩
  | .hbm, ⟨17, _⟩ => ⟨S1x1x11008, .f32⟩
  | .hbm, ⟨18, _⟩ => ⟨S4x4096x11008, .f32⟩
  | .hbm, ⟨19, _⟩ => ⟨S4x4096x11008, .f32⟩
  | .hbm, ⟨20, _⟩ => ⟨S_, .f32⟩
  | .hbm, ⟨21, _⟩ => ⟨S4x4096x11008, .f32⟩
  | .hbm, ⟨22, _⟩ => ⟨S4x4096x11008, .f32⟩
  | .hbm, ⟨23, _⟩ => ⟨S4x4096x11008, .f32⟩
  | .hbm, ⟨24, _⟩ => ⟨S1x1x11008, .f32⟩
  | .hbm, ⟨25, _⟩ => ⟨S11008, .f32⟩
  | .hbm, ⟨26, _⟩ => ⟨S1x1x11008, .f32⟩
  | .hbm, ⟨27, _⟩ => ⟨S4x4096x11008, .f32⟩
  | .hbm, ⟨28, _⟩ => ⟨S4x4096x11008, .f32⟩
  | .hbm, ⟨29, _⟩ => ⟨S4x4096x11008, .f32⟩
  | .hbm, ⟨30, _⟩ => ⟨S4x4096x11008, .f32⟩
  | .hbm, ⟨31, _⟩ => ⟨S1x1x11008, .f32⟩
  | .hbm, ⟨32, _⟩ => ⟨S11008, .f32⟩
  | .hbm, ⟨33, _⟩ => ⟨S1x1x11008, .f32⟩
  | .hbm, ⟨34, _⟩ => ⟨S4x4096x11008, .f32⟩
  | .hbm, ⟨35, _⟩ => ⟨S4x4096x11008, .f32⟩
  | .hbm, ⟨36, _⟩ => ⟨S4x4096x11008, .f32⟩
  | .hbm, ⟨37, _⟩ => ⟨S1x11008, .f32⟩
  | .hbm, ⟨38, _⟩ => ⟨S11008, .f32⟩
  | .hbm, ⟨39, _⟩ => ⟨S1x1x11008, .f32⟩
  | .hbm, ⟨40, _⟩ => ⟨S4x4096x11008, .f32⟩
  | .hbm, ⟨41, _⟩ => ⟨S4x4096x11008, .f32⟩
  | .hbm, ⟨42, _⟩ => ⟨S4x4096x5504, .f32⟩
  | .hbm, ⟨43, _⟩ => ⟨S4x4096x5504, .f32⟩
  | .hbm, ⟨44, _⟩ => ⟨S4x4096x5504, .f32⟩
  | .hbm, ⟨45, _⟩ => ⟨S4x4096x5504, .f32⟩
  | .hbm, ⟨46, _⟩ => ⟨S_, .f32⟩
  | .hbm, ⟨47, _⟩ => ⟨S4x4096x5504, .f32⟩
  | .hbm, ⟨48, _⟩ => ⟨S4x4096x5504, .f32⟩
  | .hbm, ⟨49, _⟩ => ⟨S_, .f32⟩
  | .hbm, ⟨50, _⟩ => ⟨S4x4096x5504, .f32⟩
  | .hbm, ⟨51, _⟩ => ⟨S4x4096x5504, .f32⟩
  | .hbm, ⟨52, _⟩ => ⟨S4x4096x5504, .f32⟩
  | .hbm, ⟨53, _⟩ => ⟨S4x4096x5504, .f32⟩
  | .hbm, ⟨54, _⟩ => ⟨S1x5504x2048, .f32⟩
  | .hbm, ⟨55, _⟩ => ⟨S5504x2048, .f32⟩
  | .hbm, ⟨56, _⟩ => ⟨S4x4096x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x2048, .f32⟩
  | .hbm, ⟨78, _⟩ => ⟨S16384x2048, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x2048, .f32⟩
  | .hbm, ⟨84, _⟩ => ⟨S16384x2048, .f32⟩
  | .hbm, ⟨85, _⟩ => ⟨S1x2048, .f32⟩
  | .hbm, ⟨86, _⟩ => ⟨S2048, .f32⟩
  | .hbm, ⟨87, _⟩ => ⟨S1x2048, .f32⟩
  | .hbm, ⟨88, _⟩ => ⟨S16384x2048, .f32⟩
  | .hbm, ⟨89, _⟩ => ⟨S16384x2048, .f32⟩
  | .hbm, ⟨90, _⟩ => ⟨S1x2048, .f32⟩
  | .hbm, ⟨91, _⟩ => ⟨S2048, .f32⟩
  | .hbm, ⟨92, _⟩ => ⟨S1x2048, .f32⟩
  | .hbm, ⟨93, _⟩ => ⟨S16384x2048, .f32⟩
  | .hbm, ⟨94, _⟩ => ⟨S16384x2048, .f32⟩
  | .hbm, ⟨95, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_1 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== AttnOut.lean ====
abbrev S16384x2048 : Shape := ⟨2, ![16384, 2048]⟩
abbrev S2x2048x2048 : Shape := ⟨3, ![2, 2048, 2048]⟩
abbrev S4x2048 : Shape := ⟨2, ![4, 2048]⟩
abbrev S4x1x2048 : Shape := ⟨3, ![4, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S2x2048x2048, .bf16⟩
  | .hbm, ⟨6, _⟩ => ⟨S4x1x2048, .f32⟩
  | .hbm, ⟨7, _⟩ => ⟨S4x1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnOutReferenceIdeal.lean ====
abbrev S16384x2048 : Shape := ⟨2, ![16384, 2048]⟩
abbrev S2x2048x2048 : Shape := ⟨3, ![2, 2048, 2048]⟩
abbrev S4x2048 : Shape := ⟨2, ![4, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S1x2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== SguOut.lean ====
abbrev S16384x12288 : Shape := ⟨2, ![16384, 12288]⟩
abbrev S2x6144 : Shape := ⟨2, ![2, 6144]⟩
abbrev S2x8x128x128 : Shape := ⟨4, ![2, 8, 128, 128]⟩
abbrev S2x8x128 : Shape := ⟨3, ![2, 8, 128]⟩
abbrev S2x6144x2048 : Shape := ⟨3, ![2, 6144, 2048]⟩
abbrev S16384x2048 : Shape := ⟨2, ![16384, 2048]⟩
abbrev S4x2048 : Shape := ⟨2, ![4, 2048]⟩
abbrev S2x1x6144 : Shape := ⟨3, ![2, 1, 6144]⟩
abbrev S2x8x128x1 : Shape := ⟨4, ![2, 8, 128, 1]⟩
abbrev S4x1x2048 : Shape := ⟨3, ![4, 1, 2048]⟩
abbrev S512x1536 : Shape := ⟨2, ![512, 1536]⟩
abbrev S512x6144 : Shape := ⟨2, ![512, 6144]⟩
abbrev S1x1x1536 : Shape := ⟨3, ![1, 1, 1536]⟩
abbrev S1x2x128x128 : Shape := ⟨4, ![1, 2, 128, 128]⟩
abbrev S1x2x128x1 : Shape := ⟨4, ![1, 2, 128, 1]⟩
abbrev S1x1536x2048 : Shape := ⟨3, ![1, 1536, 2048]⟩
abbrev S512x2048 : Shape := ⟨2, ![512, 2048]⟩
abbrev S1x1x2048 : Shape := ⟨3, ![1, 1, 2048]⟩
abbrev S512x1 : Shape := ⟨2, ![512, 1]⟩
abbrev S512 : Shape := ⟨1, ![512]⟩
abbrev S128x128 : Shape := ⟨2, ![128, 128]⟩
abbrev S512x768 : Shape := ⟨2, ![512, 768]⟩
abbrev S1x1x768 : Shape := ⟨3, ![1, 1, 768]⟩
abbrev S1x768 : Shape := ⟨2, ![1, 768]⟩
abbrev S1x1x128x128 : Shape := ⟨4, ![1, 1, 128, 128]⟩
abbrev S1x1x128x1 : Shape := ⟨4, ![1, 1, 128, 1]⟩
abbrev S128x1 : Shape := ⟨2, ![128, 1]⟩
abbrev S128x768 : Shape := ⟨2, ![128, 768]⟩
abbrev S1536x2048 : Shape := ⟨2, ![1536, 2048]⟩
abbrev S1x2048 : Shape := ⟨2, ![1, 2048]⟩

abbrev nBuf : Space → Nat
  | .hbm => 17
  | .vmem => 25
  | .smem => 0
  | _ => 0

abbrev bufTy : (tb : Table) → Fin (tcTables nBuf tb) → BufTy
  | .hbm, ⟨0, _⟩ => ⟨S16384x12288, .bf16⟩
  | .hbm, ⟨1, _⟩ => ⟨S2x6144, .f32⟩
  | .hbm, ⟨2, _⟩ => ⟨S2x6144, .f32⟩
  | .hbm, ⟨3, _⟩ => ⟨S2x8x128x128, .f32⟩
  | .hbm, ⟨4, _⟩ => ⟨S2x8x128, .f32⟩
  | .hbm, ⟨5, _⟩ => ⟨S2x6144x2048, .f32⟩
  | .hbm, ⟨6, _⟩ => ⟨S16384x2048, .f32⟩
  | .hbm, ⟨7, _⟩ => ⟨S4x2048, .f32⟩
  | .hbm, ⟨8, _⟩ => ⟨S4x2048, .f32⟩
  | .hbm, ⟨9, _⟩ => ⟨S2x1x6144, .f32⟩
  | .hbm, ⟨10, _⟩ => ⟨S2x1x6144, .f32⟩
  | .hbm, ⟨11, _⟩ => ⟨S2x8x128x1, .f32⟩
  | .hbm, ⟨12, _⟩ => ⟨S2x6144x2048, .bf16⟩
  | .hbm, ⟨13, _⟩ => ⟨S4x1x2048, .f32⟩
  | .hbm, ⟨14, _⟩ => ⟨S4x1x2048, .f32⟩
  | .hbm, ⟨15, _⟩ => ⟨S16384x2048, .f32⟩
  | .hbm, ⟨16, _⟩ => ⟨S16384x2048, .bf16⟩
  | .local _ .vmem, ⟨0, _⟩ => ⟨S512x1536, .bf16⟩
  | .local _ .vmem, ⟨1, _⟩ => ⟨S512x1536, .bf16⟩
  | .local _ .vmem, ⟨2, _⟩ => ⟨S512x6144, .bf16⟩
  | .local _ .vmem, ⟨3, _⟩ => ⟨S512x6144, .bf16⟩
  | .local _ .vmem, ⟨4, _⟩ => ⟨S1x1x1536, .f32⟩
  | .local _ .vmem, ⟨5, _⟩ => ⟨S1x1x1536, .f32⟩
  | .local _ .vmem, ⟨6, _⟩ => ⟨S1x1x1536, .f32⟩
  | .local _ .vmem, ⟨7, _⟩ => ⟨S1x1x1536, .f32⟩
  | .local _ .vmem, ⟨8, _⟩ => ⟨S1x2x128x128, .f32⟩
  | .local _ .vmem, ⟨9, _⟩ => ⟨S1x2x128x128, .f32⟩
  | .local _ .vmem, ⟨10, _⟩ => ⟨S1x2x128x1, .f32⟩
  | .local _ .vmem, ⟨11, _⟩ => ⟨S1x2x128x1, .f32⟩
  | .local _ .vmem, ⟨12, _⟩ => ⟨S1x1536x2048, .bf16⟩
  | .local _ .vmem, ⟨13, _⟩ => ⟨S1x1536x2048, .bf16⟩
  | .local _ .vmem, ⟨14, _⟩ => ⟨S512x2048, .f32⟩
  | .local _ .vmem, ⟨15, _⟩ => ⟨S512x2048, .f32⟩
  | .local _ .vmem, ⟨16, _⟩ => ⟨S1x1x2048, .f32⟩
  | .local _ .vmem, ⟨17, _⟩ => ⟨S1x1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S512x1536, .bf16⟩
  | .local _ .vmem, ⟨23, _⟩ => ⟨S512x1, .f32⟩
  | .local _ .vmem, ⟨24, _⟩ => ⟨S512x1, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c2_i32 : BitVec 32 := 2#32
  let v53 : BitVec 32 := Scalar.muli arg1 c2_i32
  let c0_i32_13 : BitVec 32 := 0#32
  let v54 : BitVec 32 := Scalar.addi v53 c0_i32_13
  let c768_i32 : BitVec 32 := 768#32
  let v55 : BitVec 32 := Scalar.muli v54 c768_i32
  v55
def k0_off1 (i : grid0.Coords) (c0_i32_13 : BitVec 32) : Fin 2 → Nat :=
  let c0 : Index := 0#32
  let arg1 : BitVec 32 := BitVec.ofNat 32 (i 1).val
  let c2_i32 : BitVec 32 := 2#32
  let v53 : BitVec 32 := Scalar.muli arg1 c2_i32
  let v54 : BitVec 32 := Scalar.addi v53 c0_i32_13
  let c768_i32 : BitVec 32 := 768#32
  let v55 : BitVec 32 := Scalar.muli v54 c768_i32
  let v56 : BitVec 32 := v55
  let v57 : Index := Scalar.indexCast v56
  ![0, v57.toNat]
def k0_mult2 (i : grid0.Coords) : BitVec 32 :=
  let arg1 : BitVec 32 := BitVec.ofNat 32 (i 1).val
  let c2_i32_49 : BitVec 32 := 2#32
  let v127 : BitVec 32 := Scalar.muli arg1 c2_i32_49
  let c1_i32_50 : BitVec 32 := 1#32
  let v128 : BitVec 32 := Scalar.addi v127 c1_i32_50
  let c768_i32_51 : BitVec 32 := 768#32
  let v129 : BitVec 32 := Scalar.muli v128 c768_i32_51
  v129
def k0_cond2 (i : grid0.Coords) : BitVec 1 :=
  let arg1 : BitVec 32 := BitVec.ofNat 32 (i 1).val
  let c3_i32 : BitVec 32 := 3#32
  let v209 : BitVec 1 := Scalar.cmpi .eq arg1 c3_i32
  let v210 : BitVec 32 := Scalar.extui v209
  let c0_i32_100 : BitVec 32 := 0#32
  let v211 : BitVec 1 := Scalar.cmpi .ne v210 c0_i32_100
  v211

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1536x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== SguOutReferenceIdeal.lean ====
abbrev S16384x12288 : Shape := ⟨2, ![16384, 12288]⟩
abbrev S2x6144 : Shape := ⟨2, ![2, 6144]⟩
abbrev S2x8x128x128 : Shape := ⟨4, ![2, 8, 128, 128]⟩
abbrev S2x8x128 : Shape := ⟨3, ![2, 8, 128]⟩
abbrev S2x6144x2048 : Shape := ⟨3, ![2, 6144, 2048]⟩
abbrev S16384x2048 : Shape := ⟨2, ![16384, 2048]⟩
abbrev S4x2048 : Shape := ⟨2, ![4, 2048]⟩
abbrev S16384x6144 : Shape := ⟨2, ![16384, 6144]⟩
abbrev S1x6144 : Shape := ⟨2, ![1, 6144]⟩
abbrev S6144 : Shape := ⟨1, ![6144]⟩
abbrev S_ : Shape := ⟨0, ![]⟩
abbrev S16384 : Shape := ⟨1, ![16384]⟩
abbrev S16384x1 : Shape := ⟨2, ![16384, 1]⟩
abbrev S128x128x8x768 : Shape := ⟨4, ![128, 128, 8, 768]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x8x128x128 : Shape := ⟨4, ![1, 8, 128, 128]⟩
abbrev S8x128x128 : Shape := ⟨3, ![8, 128, 128]⟩
abbrev S1x128x128 : Shape := ⟨3, ![1, 128, 128]⟩
abbrev S8x128x768x128 : Shape := ⟨4, ![8, 128, 768, 128]⟩
abbrev S1x8x128 : Shape := ⟨3, ![1, 8, 128]⟩
abbrev S8x128 : Shape := ⟨2, ![8, 128]⟩
abbrev S128x8 : Shape := ⟨2, ![128, 8]⟩
abbrev S1x128x8x1 : Shape := ⟨4, ![1, 128, 8, 1]⟩
abbrev S1x6144x2048 : Shape := ⟨3, ![1, 6144, 2048]⟩
abbrev S6144x2048 : Shape := ⟨2, ![6144, 2048]⟩
abbrev S1x2048 : Shape := ⟨2, ![1, 2048]⟩
abbrev S2048 : Shape := ⟨1, ![2048]⟩

abbrev nBuf : Space → Nat
  | .hbm => 127
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S2x6144, .f32⟩
  | .hbm, ⟨2, _⟩ => ⟨S2x6144, .f32⟩
  | .hbm, ⟨3, _⟩ => ⟨S2x8x128x128, .f32⟩
  | .hbm, ⟨4, _⟩ => ⟨S2x8x128, .f32⟩
  | .hbm, ⟨5, _⟩ => ⟨S2x6144x2048, .f32⟩
  | .hbm, ⟨6, _⟩ => ⟨S16384x2048, .f32⟩
  | .hbm, ⟨7, _⟩ => ⟨S4x2048, .f32⟩
  | .hbm, ⟨8, _⟩ => ⟨S4x2048, .f32⟩
  | .hbm, ⟨9, _⟩ => ⟨S16384x12288, .f32⟩
  | .hbm, ⟨10, _⟩ => ⟨S16384x6144, .f32⟩
  | .hbm, ⟨11, _⟩ => ⟨S16384x6144, .f32⟩
  | .hbm, ⟨12, _⟩ => ⟨S1x6144, .f32⟩
  | .hbm, ⟨13, _⟩ => ⟨S6144, .f32⟩
  | .hbm, ⟨14, _⟩ => ⟨S1x6144, .f32⟩
  | .hbm, ⟨15, _⟩ => ⟨S6144, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x6144, .f32⟩
  | .hbm, ⟨23, _⟩ => ⟨S16384x6144, .f32⟩
  | .hbm, ⟨24, _⟩ => ⟨S16384x6144, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x6144, .f32⟩
  | .hbm, ⟨32, _⟩ => ⟨S16384x6144, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x6144, .f32⟩
  | .hbm, ⟨38, _⟩ => ⟨S16384x6144, .f32⟩
  | .hbm, ⟨39, _⟩ => ⟨S1x6144, .f32⟩
  | .hbm, ⟨40, _⟩ => ⟨S16384x6144, .f32⟩
  | .hbm, ⟨41, _⟩ => ⟨S16384x6144, .f32⟩
  | .hbm, ⟨42, _⟩ => ⟨S1x6144, .f32⟩
  | .hbm, ⟨43, _⟩ => ⟨S16384x6144, .f32⟩
  | .hbm, ⟨44, _⟩ => ⟨S16384x6144, .f32⟩
  | .hbm, ⟨45, _⟩ => ⟨S128x128x8x768, .f32⟩
  | .hbm, ⟨46, _⟩ => ⟨S128, .i32⟩
  | .hbm, ⟨47, _⟩ => ⟨S_, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S1x128, .i32⟩
  | .hbm, ⟨66, _⟩ => ⟨S128x1, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S128x128, .f32⟩
  | .hbm, ⟨71, _⟩ => ⟨S1x8x128x128, .f32⟩
  | .hbm, ⟨72, _⟩ => ⟨S8x128x128, .f32⟩
  | .hbm, ⟨73, _⟩ => ⟨S1x128x128, .f32⟩
  | .hbm, ⟨74, _⟩ => ⟨S8x128x128, .f32⟩
  | .hbm, ⟨75, _⟩ => ⟨S8x128x128, .f32⟩
  | .hbm, ⟨76, _⟩ => ⟨S8x128x768x128, .f32⟩
  | .hbm, ⟨77, _⟩ => ⟨S128x128x8x768, .f32⟩
  | .hbm, ⟨78, _⟩ => ⟨S1x8x128, .f32⟩
  | .hbm, ⟨79, _⟩ => ⟨S8x128, .f32⟩
  | .hbm, ⟨80, _⟩ => ⟨S128x8, .f32⟩
  | .hbm, ⟨81, _⟩ => ⟨S1x128x8x1, .f32⟩
  | .hbm, ⟨82, _⟩ => ⟨S128x128x8x768, .f32⟩
  | .hbm, ⟨83, _⟩ => ⟨S128x128x8x768, .f32⟩
  | .hbm, ⟨84, _⟩ => ⟨S_, .f32⟩
  | .hbm, ⟨85, _⟩ => ⟨S16384x2048, .f32⟩
  | .hbm, ⟨86, _⟩ => ⟨S16384x2048, .f32⟩
  | .hbm, ⟨87, _⟩ => ⟨S16384x6144, .f32⟩
  | .hbm, ⟨88, _⟩ => ⟨S16384x6144, .f32⟩
  | .hbm, ⟨89, _⟩ => ⟨S1x6144x2048, .f32⟩
  | .hbm, ⟨90, _⟩ => ⟨S6144x2048, .f32⟩
  | .hbm, ⟨91, _⟩ => ⟨S16384x2048, .f32⟩
  | .hbm, ⟨92, _⟩ => ⟨S16384x2048, .f32⟩
  | .hbm, ⟨93, _⟩ => ⟨S1x2048, .f32⟩
  | .hbm, ⟨94, _⟩ => ⟨S2048, .f32⟩
  | .hbm, ⟨95, _⟩ => ⟨S1x2048, .f32⟩
  | .hbm, ⟨96, _⟩ => ⟨S2048, .f32⟩
  | .hbm, ⟨97, _⟩ => ⟨S_, .f32⟩
  | .hbm, ⟨98, _⟩ => ⟨S16384, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x2048, .f32⟩
  | .hbm, ⟨104, _⟩ => ⟨S16384x2048, .f32⟩
  | .hbm, ⟨105, _⟩ => ⟨S16384x2048, .f32⟩
  | .hbm, ⟨106, _⟩ => ⟨S_, .f32⟩
  | .hbm, ⟨107, _⟩ => ⟨S16384, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x2048, .f32⟩
  | .hbm, ⟨113, _⟩ => ⟨S16384x2048, .f32⟩
  | .hbm, ⟨114, _⟩ => ⟨S_, .f32⟩
  | .hbm, ⟨115, _⟩ => ⟨S16384x1, .f32⟩
  | .hbm, ⟨116, _⟩ => ⟨S16384x1, .f32⟩
  | .hbm, ⟨117, _⟩ => ⟨S16384x1, .f32⟩
  | .hbm, ⟨118, _⟩ => ⟨S16384x2048, .f32⟩
  | .hbm, ⟨119, _⟩ => ⟨S16384x2048, .f32⟩
  | .hbm, ⟨120, _⟩ => ⟨S1x2048, .f32⟩
  | .hbm, ⟨121, _⟩ => ⟨S16384x2048, .f32⟩
  | .hbm, ⟨122, _⟩ => ⟨S16384x2048, .f32⟩
  | .hbm, ⟨123, _⟩ => ⟨S1x2048, .f32⟩
  | .hbm, ⟨124, _⟩ => ⟨S16384x2048, .f32⟩
  | .hbm, ⟨125, _⟩ => ⟨S16384x2048, .f32⟩
  | .hbm, ⟨126, _⟩ => ⟨S16384x2048, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_4 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_v66 : Ref sig .tc := ⟨.hbm, 99, rfl⟩
abbrev main_cst_6 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_7 : Ref sig .tc := ⟨.hbm, 106, rfl⟩
abbrev main_v72 : Ref sig .tc := ⟨.hbm, 107, rfl⟩
abbrev main_v73 : Ref sig .tc := ⟨.hbm, 108, rfl⟩
abbrev main_cst_8 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_9 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩

abbrev nD : Nat := 1
abbrev τ : Topo := Topo.v7x

variable {F : FTy → Type} [FloatOps F]
-- ==== Proof.FfnRun.lean ====
/- One grid point of the convolutional feed-forward kernel, by the branch the point takes: what its body leaves in its
   output blocks and in the carried rows, as functions of what it found. -/
module

public import proofs.«01_k».proof.Proof.Gen.ConvFfnIdeal.Skeleton
public import proofs.«01_k».proof.Proof.Gen.ConvFfnIdeal.Frame
public import Idealize.ShloMosaic.Lib.VecWindow

@[expose] public section

set_option maxRecDepth 16384

noncomputable section

namespace Cert.ConvFfnIdeal.Ffn

open Cert.ConvFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether the point's row of blocks is the first of its sequence. -/
def firstBit (i : grid0.Coords) : BitVec 1 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32

/-- The rows of a block's product that the next row of blocks needs. -/
def tail (x0 : Vec F S512x2048 .bf16) (x1 : Vec F S1x2048x2048 .bf16) : Vec F S1x8x2048 .f32 := k0_pay7 x0 x1

/-- The half-width block's columns of the weights. -/
def halfUp (x1 : Vec F S1x2048x2048 .bf16) : Vec F S1x2048x1024 .bf16 :=
  VecWindow.window x1 ![0, 0, 0] S1x2048x1024.size inb_S1x2048x2048_S1x2048x1024_0_0_0

/-- The same rows of the half-width block. -/
def tailHalf (x0 : Vec F S512x2048 .bf16) (x1 : Vec F S1x2048x2048 .bf16) : Vec F S1x8x1024 .f32 := k0_pay19 x0 (halfUp x1)

/-- The first block's share of the sum. -/
def opening (b : BitVec 1) (x0 : Vec F S512x2048 .bf16) (x1 : Vec F S1x2048x2048 .bf16) (x2 : Vec F S1x3x2048 .f32) (x3 : Vec F S1x1x2048 .f32)
    (x4 : Vec F S1x1024x2048 .bf16) (r : Vec F S1x8x2048 .f32) : Vec F S512x2048 .f32 :=
  k0_pay1 (k0_pay6 b r) (iota .tc S8x2048 32 [0] iota_S8x2048_d0_w32) (k0_pay8 x2) (k0_pay9 b x0 x1 r x2 x3) (k0_pay10 x0 x1) x4

/-- The sum with a middle block's share added. -/
def adding (b : BitVec 1) (x0 : Vec F S512x2048 .bf16) (x1 : Vec F S1x2048x2048 .bf16) (x2 : Vec F S1x3x2048 .f32) (x3 : Vec F S1x1x2048 .f32)
    (x4 : Vec F S1x1024x2048 .bf16) (r : Vec F S1x8x2048 .f32) (o : Vec F S512x2048 .f32) : Vec F S512x2048 .f32 :=
  k0_pay2 (k0_pay12 b r) (iota .tc S8x2048 32 [0] iota_S8x2048_d0_w32) (k0_pay14 x2) (k0_pay15 b x0 x1 r x2 x3) (k0_pay16 x0 x1) x4 o

/-- The sum with the half-width block's share added. -/
def closing (b : BitVec 1) (x0 : Vec F S512x2048 .bf16) (x1 : Vec F S1x2048x2048 .bf16) (x2 : Vec F S1x3x2048 .f32) (x3 : Vec F S1x1x2048 .f32)
    (x4 : Vec F S1x1024x2048 .bf16) (r : Vec F S1x8x1024 .f32) (o : Vec F S512x2048 .f32) : Vec F S512x2048 .f32 :=
  k0_pay23 (k0_pay18 b r) (iota .tc S8x1024 32 [0] iota_S8x1024_d0_w32)
    (k0_pay20 (VecWindow.window x2 ![0, 0, 0] S1x3x1024.size inb_S1x3x2048_S1x3x1024_0_0_0))
    (k0_pay21 b x0 (halfUp x1) r (VecWindow.window x2 ![0, 0, 0] S1x3x1024.size inb_S1x3x2048_S1x3x1024_0_0_0)
      (VecWindow.window x3 ![0, 0, 0] S1x1x1024.size inb_S1x1x2048_S1x1x1024_0_0_0))
    (k0_pay22 x0 (halfUp x1)) (VecWindow.window x4 ![0, 0, 0] S1x512x2048.size inb_S1x1024x2048_S1x512x2048_0_0_0) o

/-- The finished sum, joined to the residual input and normalised. -/
def normed (o : Vec F S512x2048 .f32) (x5 : Vec F S512x2048 .f32) (x6 x7 : Vec F S1x1x2048 .f32) : Vec F S512x2048 .f32 :=
  k0_pay3 (k0_pay24 o x5) (k0_pay25 x6) x7

/-- The same in the narrow format. -/
def normedNarrow (o : Vec F S512x2048 .f32) (x5 : Vec F S512x2048 .f32) (x6 x7 : Vec F S1x1x2048 .f32) : Vec F S512x2048 .bf16 :=
  k0_pay4 (k0_pay24 o x5) (k0_pay25 x6) x7

/-- A load of a whole block reads the block. -/
theorem full_read {S : Shape} {e : EltTy} {m : Memref sig .tc .vmem S e} (h : m.IsWhole) (X : Vec F S e) {off : Fin S.rank → ℕ}
    (inb : ∀ a, off a + S.size a ≤ S.size a) : m.view.readAt (Elt F) (Rect.unit off S.size inb).toLoadRect (h.unread X) = X :=
  (View.readAt_full _ _ inb).trans (h.read_unread X)

/-- A load of part of a block reads that window. -/
theorem part_read {S : Shape} {e : EltTy} {m : Memref sig .tc .vmem S e} (h : m.IsWhole) (X : Vec F S e) {off q size : Fin S.rank → ℕ}
    (inb : ∀ a, off a + size a ≤ S.size a) (hq : off = q) (inbq : ∀ a, q a + size a ≤ S.size a) :
    m.view.readAt (Elt F) (Rect.unit off size inb).toLoadRect (h.unread X) = VecWindow.window X q size inbq :=
  (View.readAt_unit _ _ inb hq inbq).trans (by rw [h.read_unread X])

/-- A store of part of a block puts its payload there. -/
theorem part_put {S : Shape} {e : EltTy} {m : Memref sig .tc .vmem S e} (h : m.IsWhole) (X : Vec F S e) {off q size : Fin S.rank → ℕ}
    (inb : ∀ a, off a + size a ≤ S.size a) (hq : off = q) {w w' : (Rect.unit off size inb).shape.Idx → Elt F e} (hw : w = w') :
    m.view.read (Elt F) (m.view.writes (Elt F) (h.unread X) [⟨Rect.unit off size inb, w⟩]) = VecWindow.put X q size w' := by
  subst hw
  refine (View.read_writes_cons_put _ _ _ _ _ hq).trans ?_
  rw [View.writes_nil, h.read_unread X]

theorem opening_of {b : BitVec 1} {x0 y0 : Vec F S512x2048 .bf16} {x1 y1 : Vec F S1x2048x2048 .bf16} {x2 y2 : Vec F S1x3x2048 .f32} {x3 y3 : Vec F S1x1x2048 .f32}
    {x4 y4 : Vec F S1x1024x2048 .bf16} {r r' : Vec F S1x8x2048 .f32} (h0 : y0 = x0) (h1 : y1 = x1) (h2 : y2 = x2) (h3 : y3 = x3) (h4 : y4 = x4) (hr : r' = r) :
    k0_pay1 (k0_pay6 b r') (iota .tc S8x2048 32 [0] iota_S8x2048_d0_w32) (k0_pay8 y2) (k0_pay9 b y0 y1 r' y2 y3) (k0_pay10 y0 y1) y4 = opening b x0 x1 x2 x3 x4 r := by
  subst h0 h1 h2 h3 h4 hr; rfl

theorem adding_of {b : BitVec 1} {x0 y0 : Vec F S512x2048 .bf16} {x1 y1 : Vec F S1x2048x2048 .bf16} {x2 y2 : Vec F S1x3x2048 .f32} {x3 y3 : Vec F S1x1x2048 .f32}
    {x4 y4 : Vec F S1x1024x2048 .bf16} {r r' : Vec F S1x8x2048 .f32} {o o' : Vec F S512x2048 .f32} (h0 : y0 = x0) (h1 : y1 = x1) (h2 : y2 = x2) (h3 : y3 = x3) (h4 : y4 = x4) (hr : r' = r) (ho : o' = o) :
    k0_pay2 (k0_pay12 b r') (iota .tc S8x2048 32 [0] iota_S8x2048_d0_w32) (k0_pay14 y2) (k0_pay15 b y0 y1 r' y2 y3) (k0_pay16 y0 y1) y4 o' = adding b x0 x1 x2 x3 x4 r o := by
  subst h0 h1 h2 h3 h4 hr ho; rfl

theorem closing_of {b : BitVec 1} {x0 y0 : Vec F S512x2048 .bf16} {x1 : Vec F S1x2048x2048 .bf16} {y1 : Vec F S1x2048x1024 .bf16} {x2 : Vec F S1x3x2048 .f32} {y2 : Vec F S1x3x1024 .f32}
    {x3 : Vec F S1x1x2048 .f32} {y3 : Vec F S1x1x1024 .f32} {x4 : Vec F S1x1024x2048 .bf16} {y4 : Vec F S1x512x2048 .bf16} {r r' : Vec F S1x8x1024 .f32} {o o' : Vec F S512x2048 .f32}
    (h0 : y0 = x0) (h1 : y1 = halfUp x1) (h2 : y2 = VecWindow.window x2 ![0, 0, 0] S1x3x1024.size inb_S1x3x2048_S1x3x1024_0_0_0)
    (h3 : y3 = VecWindow.window x3 ![0, 0, 0] S1x1x1024.size inb_S1x1x2048_S1x1x1024_0_0_0)
    (h4 : y4 = VecWindow.window x4 ![0, 0, 0] S1x512x2048.size inb_S1x1024x2048_S1x512x2048_0_0_0) (hr : r' = r) (ho : o' = o) :
    k0_pay23 (k0_pay18 b r') (iota .tc S8x1024 32 [0] iota_S8x1024_d0_w32) (k0_pay20 y2) (k0_pay21 b y0 y1 r' y2 y3) (k0_pay22 y0 y1) y4 o' = closing b x0 x1 x2 x3 x4 r o := by
  subst h0 h1 h2 h3 h4 hr ho; rfl

theorem normed_of {o o' x5 y5 : Vec F S512x2048 .f32} {x6 y6 x7 y7 : Vec F S1x1x2048 .f32} (ho : o' = o) (h5 : y5 = x5) (h6 : y6 = x6) (h7 : y7 = x7) :
    k0_pay3 (k0_pay24 o' y5) (k0_pay25 y6) y7 = normed o x5 x6 x7 := by subst ho h5 h6 h7; rfl

theorem normedNarrow_of {o o' x5 y5 : Vec F S512x2048 .f32} {x6 y6 x7 y7 : Vec F S1x1x2048 .f32} (ho : o' = o) (h5 : y5 = x5) (h6 : y6 = x6) (h7 : y7 = x7) :
    k0_pay4 (k0_pay24 o' y5) (k0_pay25 y6) y7 = normedNarrow o x5 x6 x7 := by subst ho h5 h6 h7; rfl

set_option maxHeartbeats 1600000 in
/-- The first block of a row of blocks: the output block starts at the block's share of the sum. -/
theorem run_first (c : Dev nD) (i : grid0.Coords)
    (arg2 : Memref sig .tc .vmem S512x2048 .bf16) (harg2 : arg2.IsWhole)
    (arg3 : Memref sig .tc .vmem S1x2048x2048 .bf16) (harg3 : arg3.IsWhole)
    (arg4 : Memref sig .tc .vmem S1x3x2048 .f32) (harg4 : arg4.IsWhole)
    (arg5 : Memref sig .tc .vmem S1x1x2048 .f32) (harg5 : arg5.IsWhole)
    (arg6 : Memref sig .tc .vmem S1x1024x2048 .bf16) (harg6 : arg6.IsWhole)
    (arg7 : Memref sig .tc .vmem S512x2048 .f32) (harg7 : arg7.IsWhole)
    (arg8 : Memref sig .tc .vmem S1x1x2048 .f32) (harg8 : arg8.IsWhole)
    (arg9 : Memref sig .tc .vmem S1x1x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S6x8x2048 .f32) (harg12 : arg12.IsWhole)
    (hc1 : k0_cond1 i = 1#1) (hc2 : ¬k0_cond2 i = 1#1) (hc3 : ¬k0_cond3 i = 1#1)
    (q : Fin 3 → ℕ) (hq : k0_off1 i = q) (inbq : ∀ a, q a + S1x8x2048.size a ≤ S6x8x2048.size a)
    (x0 : Vec F S512x2048 .bf16) (x1 : Vec F S1x2048x2048 .bf16) (x2 : Vec F S1x3x2048 .f32) (x3 : Vec F S1x1x2048 .f32) (x4 : Vec F S1x1024x2048 .bf16) (o : Vec F S512x2048 .f32) (s : Vec F S6x8x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare o ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (opening (firstBit i) x0 x1 x2 x3 x4 (VecWindow.window s q S1x8x2048.size inbq)) ∗ owns (c : Thread nD τ) arg12 fullShare (VecWindow.put s q S1x8x2048.size (tail x0 x1))) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12) K := by
  simp only [cc0_conv_ffn_eq_skeleton]; unfold cc0_conv_ffn_skel
  simp only [k0_part1_eq_skeleton]
  unfold owns
  iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg10, %hf_arg10, H_arg10⟩, ⟨%f_arg12, %hf_arg12, H_arg12⟩, Hk⟩
  obtain rfl := harg2.eq_unread hf_arg2
  obtain rfl := harg3.eq_unread hf_arg3
  obtain rfl := harg4.eq_unread hf_arg4
  obtain rfl := harg5.eq_unread hf_arg5
  obtain rfl := harg6.eq_unread hf_arg6
  obtain rfl := harg10.eq_unread hf_arg10
  obtain rfl := harg12.eq_unread hf_arg12
  sl_exec (disch := first | sl_exact hc1 | sl_exact hc2 | sl_exact hc3)
  sl_step
  iapply Hk
  isplitl [H_arg2]
  · iexists _; isplitr; · ipureintro; exact harg2.read_unread _
    iexact H_arg2
  isplitl [H_arg3]
  · iexists _; isplitr; · ipureintro; exact harg3.read_unread _
    iexact H_arg3
  isplitl [H_arg4]
  · iexists _; isplitr; · ipureintro; exact harg4.read_unread _
    iexact H_arg4
  isplitl [H_arg5]
  · iexists _; isplitr; · ipureintro; exact harg5.read_unread _
    iexact H_arg5
  isplitl [H_arg6]
  · iexists _; isplitr; · ipureintro; exact harg6.read_unread _
    iexact H_arg6
  isplitl [H_arg10]
  · iexists _; isplitr; swap; · iexact H_arg10
    ipureintro
    refine (View.read_writes_full _ _ _ _ _).trans ?_
    exact opening_of (full_read harg2 x0 _) (full_read harg3 x1 _) (full_read harg4 x2 _) (full_read harg5 x3 _) (full_read harg6 x4 _) (part_read harg12 s _ hq inbq)
  iexists _; isplitr; swap; · iexact H_arg12
  ipureintro
  exact part_put harg12 s _ hq (congrArg₂ tail (full_read harg2 x0 _) (full_read harg3 x1 _))

set_option maxHeartbeats 1600000 in
/-- A block between the first and the last: its share of the sum is added to the output block. -/
theorem run_mid (c : Dev nD) (i : grid0.Coords)
    (arg2 : Memref sig .tc .vmem S512x2048 .bf16) (harg2 : arg2.IsWhole)
    (arg3 : Memref sig .tc .vmem S1x2048x2048 .bf16) (harg3 : arg3.IsWhole)
    (arg4 : Memref sig .tc .vmem S1x3x2048 .f32) (harg4 : arg4.IsWhole)
    (arg5 : Memref sig .tc .vmem S1x1x2048 .f32) (harg5 : arg5.IsWhole)
    (arg6 : Memref sig .tc .vmem S1x1024x2048 .bf16) (harg6 : arg6.IsWhole)
    (arg7 : Memref sig .tc .vmem S512x2048 .f32) (harg7 : arg7.IsWhole)
    (arg8 : Memref sig .tc .vmem S1x1x2048 .f32) (harg8 : arg8.IsWhole)
    (arg9 : Memref sig .tc .vmem S1x1x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S6x8x2048 .f32) (harg12 : arg12.IsWhole)
    (hc1 : ¬k0_cond1 i = 1#1) (hc2 : k0_cond2 i = 1#1) (hc3 : ¬k0_cond3 i = 1#1)
    (q : Fin 3 → ℕ) (hq : k0_off2 i = q) (inbq : ∀ a, q a + S1x8x2048.size a ≤ S6x8x2048.size a)
    (x0 : Vec F S512x2048 .bf16) (x1 : Vec F S1x2048x2048 .bf16) (x2 : Vec F S1x3x2048 .f32) (x3 : Vec F S1x1x2048 .f32) (x4 : Vec F S1x1024x2048 .bf16) (o : Vec F S512x2048 .f32) (s : Vec F S6x8x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare o ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (adding (firstBit i) x0 x1 x2 x3 x4 (VecWindow.window s q S1x8x2048.size inbq) o) ∗ owns (c : Thread nD τ) arg12 fullShare (VecWindow.put s q S1x8x2048.size (tail x0 x1))) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12) K := by
  simp only [cc0_conv_ffn_eq_skeleton]; unfold cc0_conv_ffn_skel
  simp only [k0_part2_eq_skeleton]
  unfold owns
  iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg10, %hf_arg10, H_arg10⟩, ⟨%f_arg12, %hf_arg12, H_arg12⟩, Hk⟩
  obtain rfl := harg2.eq_unread hf_arg2
  obtain rfl := harg3.eq_unread hf_arg3
  obtain rfl := harg4.eq_unread hf_arg4
  obtain rfl := harg5.eq_unread hf_arg5
  obtain rfl := harg6.eq_unread hf_arg6
  obtain rfl := harg10.eq_unread hf_arg10
  obtain rfl := harg12.eq_unread hf_arg12
  sl_exec (disch := first | sl_exact hc1 | sl_exact hc2 | sl_exact hc3)
  sl_step
  iapply Hk
  isplitl [H_arg2]
  · iexists _; isplitr; · ipureintro; exact harg2.read_unread _
    iexact H_arg2
  isplitl [H_arg3]
  · iexists _; isplitr; · ipureintro; exact harg3.read_unread _
    iexact H_arg3
  isplitl [H_arg4]
  · iexists _; isplitr; · ipureintro; exact harg4.read_unread _
    iexact H_arg4
  isplitl [H_arg5]
  · iexists _; isplitr; · ipureintro; exact harg5.read_unread _
    iexact H_arg5
  isplitl [H_arg6]
  · iexists _; isplitr; · ipureintro; exact harg6.read_unread _
    iexact H_arg6
  isplitl [H_arg10]
  · iexists _; isplitr; swap; · iexact H_arg10
    ipureintro
    refine (View.read_writes_full _ _ _ _ _).trans ?_
    exact adding_of (full_read harg2 x0 _) (full_read harg3 x1 _) (full_read harg4 x2 _) (full_read harg5 x3 _) (full_read harg6 x4 _) (part_read harg12 s _ hq inbq) (full_read harg10 o _)
  iexists _; isplitr; swap; · iexact H_arg12
  ipureintro
  exact part_put harg12 s _ hq (congrArg₂ tail (full_read harg2 x0 _) (full_read harg3 x1 _))

set_option maxHeartbeats 1600000 in
/-- The last block of a row of blocks, half as wide: its share is added and the row is normalised. -/
theorem run_last (c : Dev nD) (i : grid0.Coords)
    (arg2 : Memref sig .tc .vmem S512x2048 .bf16) (harg2 : arg2.IsWhole)
    (arg3 : Memref sig .tc .vmem S1x2048x2048 .bf16) (harg3 : arg3.IsWhole)
    (arg4 : Memref sig .tc .vmem S1x3x2048 .f32) (harg4 : arg4.IsWhole)
    (arg5 : Memref sig .tc .vmem S1x1x2048 .f32) (harg5 : arg5.IsWhole)
    (arg6 : Memref sig .tc .vmem S1x1024x2048 .bf16) (harg6 : arg6.IsWhole)
    (arg7 : Memref sig .tc .vmem S512x2048 .f32) (harg7 : arg7.IsWhole)
    (arg8 : Memref sig .tc .vmem S1x1x2048 .f32) (harg8 : arg8.IsWhole)
    (arg9 : Memref sig .tc .vmem S1x1x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S6x8x2048 .f32) (harg12 : arg12.IsWhole)
    (hc1 : ¬k0_cond1 i = 1#1) (hc2 : ¬k0_cond2 i = 1#1) (hc3 : k0_cond3 i = 1#1)
    (q : Fin 3 → ℕ) (hq : k0_off3 i = q) (inbq : ∀ a, q a + S1x8x1024.size a ≤ S6x8x2048.size a)
    (x0 : Vec F S512x2048 .bf16) (x1 : Vec F S1x2048x2048 .bf16) (x2 : Vec F S1x3x2048 .f32) (x3 : Vec F S1x1x2048 .f32) (x4 : Vec F S1x1024x2048 .bf16) (x5 : Vec F S512x2048 .f32) (x6 : Vec F S1x1x2048 .f32) (x7 : Vec F S1x1x2048 .f32) (o : Vec F S512x2048 .f32) (o' : Vec F S512x2048 .bf16) (s : Vec F S6x8x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare o' ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (normed (closing (firstBit i) x0 x1 x2 x3 x4 (VecWindow.window s q S1x8x1024.size inbq) o) x5 x6 x7) ∗ owns (c : Thread nD τ) arg11 fullShare (normedNarrow (closing (firstBit i) x0 x1 x2 x3 x4 (VecWindow.window s q S1x8x1024.size inbq) o) x5 x6 x7) ∗ owns (c : Thread nD τ) arg12 fullShare (VecWindow.put s q S1x8x1024.size (tailHalf x0 x1))) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12) K := by
  simp only [cc0_conv_ffn_eq_skeleton]; unfold cc0_conv_ffn_skel
  simp only [k0_part3_eq_skeleton, k0_part4_eq_skeleton]
  unfold owns
  iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, ⟨%f_arg12, %hf_arg12, H_arg12⟩, Hk⟩
  obtain rfl := harg2.eq_unread hf_arg2
  obtain rfl := harg3.eq_unread hf_arg3
  obtain rfl := harg4.eq_unread hf_arg4
  obtain rfl := harg5.eq_unread hf_arg5
  obtain rfl := harg6.eq_unread hf_arg6
  obtain rfl := harg7.eq_unread hf_arg7
  obtain rfl := harg8.eq_unread hf_arg8
  obtain rfl := harg9.eq_unread hf_arg9
  obtain rfl := harg10.eq_unread hf_arg10
  obtain rfl := harg11.eq_unread hf_arg11
  obtain rfl := harg12.eq_unread hf_arg12
  sl_exec (disch := first | sl_exact hc1 | sl_exact hc2 | sl_exact hc3)
  sl_step
  iapply Hk
  isplitl [H_arg2]
  · iexists _; isplitr; · ipureintro; exact harg2.read_unread _
    iexact H_arg2
  isplitl [H_arg3]
  · iexists _; isplitr; · ipureintro; exact harg3.read_unread _
    iexact H_arg3
  isplitl [H_arg4]
  · iexists _; isplitr; · ipureintro; exact harg4.read_unread _
    iexact H_arg4
  isplitl [H_arg5]
  · iexists _; isplitr; · ipureintro; exact harg5.read_unread _
    iexact H_arg5
  isplitl [H_arg6]
  · iexists _; isplitr; · ipureintro; exact harg6.read_unread _
    iexact H_arg6
  isplitl [H_arg7]
  · iexists _; isplitr; · ipureintro; exact harg7.read_unread _
    iexact H_arg7
  isplitl [H_arg8]
  · iexists _; isplitr; · ipureintro; exact harg8.read_unread _
    iexact H_arg8
  isplitl [H_arg9]
  · iexists _; isplitr; · ipureintro; exact harg9.read_unread _
    iexact H_arg9
  isplitl [H_arg10]
  · iexists _; isplitr; swap; · iexact H_arg10
    ipureintro
    refine (View.read_writes_full _ _ _ _ _).trans ?_
    exact normed_of ((View.readAt_writes_full _ _ _ _ _ _).trans (closing_of (full_read harg2 x0 _) (part_read harg3 x1 _ rfl _) (part_read harg4 x2 _ rfl _) (part_read harg5 x3 _ rfl _) (part_read harg6 x4 _ rfl _) (part_read harg12 s _ hq inbq) (full_read harg10 o _))) (full_read harg7 x5 _) (full_read harg8 x6 _) (full_read harg9 x7 _)
  isplitl [H_arg11]
  · iexists _; isplitr; swap; · iexact H_arg11
    ipureintro
    refine (View.read_writes_full _ _ _ _ _).trans ?_
    exact normedNarrow_of ((View.readAt_writes_full _ _ _ _ _ _).trans (closing_of (full_read harg2 x0 _) (part_read harg3 x1 _ rfl _) (part_read harg4 x2 _ rfl _) (part_read harg5 x3 _ rfl _) (part_read harg6 x4 _ rfl _) (part_read harg12 s _ hq inbq) (full_read harg10 o _))) (full_read harg7 x5 _) (full_read harg8 x6 _) (full_read harg9 x7 _)
  iexists _; isplitr; swap; · iexact H_arg12
  ipureintro
  exact part_put harg12 s _ hq (congrArg₂ k0_pay19 (full_read harg2 x0 _) (part_read harg3 x1 _ rfl _))

end Cert.ConvFfnIdeal.Ffn

end
-- ==== Proof.FfnFrame.lean ====
/- The convolutional feed-forward kernel's run over its grid: what every output block holds after each point, what the
   carried rows hold between points, and the run's end. The carried rows are never set before the first point; no point
   whose result they could reach reads a row that an earlier point has not stored. -/
module

public import proofs.«01_k».proof.Proof.FfnRun
public import Idealize.ShloMosaic.Lib.Claim

@[expose] public section

set_option maxRecDepth 16384

noncomputable section

namespace Cert.ConvFfnIdeal.Ffn

open Cert.ConvFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

theorem cond1_iff : ∀ t : Fin grid0.N, k0_cond1 (grid0.coords t) = 1#1 ↔ t.val % 6 = 0 := by decide +kernel
theorem cond2_iff : ∀ t : Fin grid0.N, k0_cond2 (grid0.coords t) = 1#1 ↔ (t.val % 6 ≠ 0 ∧ t.val % 6 ≠ 5) := by decide +kernel
theorem cond3_iff : ∀ t : Fin grid0.N, k0_cond3 (grid0.coords t) = 1#1 ↔ t.val % 6 = 5 := by decide +kernel
theorem first_or : ∀ t : Fin grid0.N, firstBit (grid0.coords t) = 1#1 ∨ 6 ≤ t.val := by decide +kernel
theorem off1_val : ∀ t : Fin grid0.N, t.val % 6 = 0 → k0_off1 (grid0.coords t) = ![t.val % 6, 0, 0] := by decide +kernel
theorem off2_val : ∀ t : Fin grid0.N, t.val % 6 ≠ 0 → t.val % 6 ≠ 5 → k0_off2 (grid0.coords t) = ![t.val % 6, 0, 0] := by decide +kernel
theorem off3_val : ∀ t : Fin grid0.N, t.val % 6 = 5 → k0_off3 (grid0.coords t) = ![5, 0, 0] := by decide +kernel
theorem live8 : ∀ t : Fin cfg0.N, cfg0.idle 8 (grid0.coords t) = false := by decide +kernel
theorem live9 : ∀ t : Fin cfg0.N, t.val % 6 = 5 → cfg0.idle 9 (grid0.coords t) = false := by decide +kernel
theorem idle9 : ∀ t : Fin cfg0.N, t.val % 6 ≠ 5 → cfg0.idle 9 (grid0.coords t) = true := by decide +kernel
theorem held9 : ∀ t : Fin cfg0.N, t.val % 6 ≠ 5 → (cfg0.win 9).flush t = false := by decide +kernel
theorem held8 : ∀ t : Fin cfg0.N, t.val % 6 ≠ 5 → (cfg0.win 8).flush t = false := by decide +kernel
theorem fetch8 : ∀ t : Fin cfg0.N, (cfg0.win 8).fetch t = false := by decide +kernel

theorem slot_inb (n : ℕ) : ∀ a, (![n % 6, 0, 0] : Fin 3 → ℕ) a + S1x8x2048.size a ≤ S6x8x2048.size a := by
  have h := Nat.mod_lt n (show 0 < 6 by decide)
  intro a
  match a with
  | ⟨0, _⟩ => show n % 6 + 1 ≤ 6; omega
  | ⟨1, _⟩ => exact Nat.le_refl 8
  | ⟨2, _⟩ => exact Nat.le_refl 2048

theorem slot5_inb : ∀ a, (![5, 0, 0] : Fin 3 → ℕ) a + S1x8x1024.size a ≤ S6x8x2048.size a := by decide

/-- The point six before, in the row of blocks above. -/
def above (t : Fin cfg0.N) : Fin cfg0.N := ⟨t.val - 6, Nat.lt_of_le_of_lt (Nat.sub_le _ _) t.isLt⟩

/-! ## The carried rows -/

def tailAt (c : Dev nD) (u : Fin cfg0.N) : Vec F S1x8x2048 .f32 := tail (iblk m c 0 u) (iblk m c 1 u)
def tailHalfAt (c : Dev nD) (u : Fin cfg0.N) : Vec F S1x8x1024 .f32 := tailHalf (iblk m c 0 u) (iblk m c 1 u)

/-- Before point `n` every slot written in the last six points holds what was written there. -/
def Holds (c : Dev nD) (n : ℕ) (S : Vec F S6x8x2048 .f32) : Prop :=
  (∀ u : Fin cfg0.N, u.val < n → n ≤ u.val + 6 → u.val % 6 ≠ 5 → VecWindow.window S ![u.val % 6, 0, 0] S1x8x2048.size (slot_inb u.val) = tailAt m c u)
  ∧ (∀ u : Fin cfg0.N, u.val < n → n ≤ u.val + 6 → u.val % 6 = 5 → VecWindow.window S ![5, 0, 0] S1x8x1024.size slot5_inb = tailHalfAt m c u)

theorem holds_zero (c : Dev nD) (S : Vec F S6x8x2048 .f32) : Holds m c 0 S :=
  ⟨fun _ h => absurd h (Nat.not_lt_zero _), fun _ h => absurd h (Nat.not_lt_zero _)⟩

theorem holds_put (c : Dev nD) (t : Fin cfg0.N) (S : Vec F S6x8x2048 .f32) (h5 : t.val % 6 ≠ 5) (h : Holds m c t.val S) :
    Holds m c (t.val + 1) (VecWindow.put S ![t.val % 6, 0, 0] S1x8x2048.size (tailAt m c t)) := by
  refine ⟨fun u h1 h2 h3 => ?_, fun u h1 h2 h3 => ?_⟩
  · by_cases e : u = t
    · subst e; exact VecWindow.window_put_same _ _ _ _ _
    · have e' : u.val ≠ t.val := fun q => e (Fin.ext q)
      refine (VecWindow.window_put_of_disjoint S _ _ _ _ _ _ (0 : Fin 3) ?_).trans (h.1 u (by omega) (by omega) h3)
      show u.val % 6 + 1 ≤ t.val % 6 ∨ t.val % 6 + 1 ≤ u.val % 6
      omega
  · refine (VecWindow.window_put_of_disjoint S _ _ _ _ _ _ (0 : Fin 3) ?_).trans (h.2 u (Nat.lt_of_le_of_ne (by omega) fun q => h5 (by rw [← q]; exact h3)) (by omega) h3)
    show 5 + 1 ≤ t.val % 6 ∨ t.val % 6 + 1 ≤ 5
    omega

theorem holds_put5 (c : Dev nD) (t : Fin cfg0.N) (S : Vec F S6x8x2048 .f32) (h5 : t.val % 6 = 5) (h : Holds m c t.val S) :
    Holds m c (t.val + 1) (VecWindow.put S ![5, 0, 0] S1x8x1024.size (tailHalfAt m c t)) := by
  refine ⟨fun u h1 h2 h3 => ?_, fun u h1 h2 h3 => ?_⟩
  · refine (VecWindow.window_put_of_disjoint S _ _ _ _ _ _ (0 : Fin 3) ?_).trans (h.1 u (Nat.lt_of_le_of_ne (by omega) fun q => h3 (by rw [q]; exact h5)) (by omega) h3)
    show u.val % 6 + 1 ≤ 5 ∨ 5 + 1 ≤ u.val % 6
    omega
  · have e : u = t := Fin.ext (by omega)
    subst e; exact VecWindow.window_put_same _ _ _ _ _

/-! ## What a point leaves does not depend on rows no point has stored -/

theorem pick_one {S : Shape} (x y z : Vec F S .f32) : Scalar.select (1#1 : BitVec 1) x y = Scalar.select (1#1 : BitVec 1) x z := rfl

theorem opening_one (x0 : Vec F S512x2048 .bf16) (x1 : Vec F S1x2048x2048 .bf16) (x2 : Vec F S1x3x2048 .f32) (x3 : Vec F S1x1x2048 .f32) (x4 : Vec F S1x1024x2048 .bf16)
    (r r' : Vec F S1x8x2048 .f32) : opening 1#1 x0 x1 x2 x3 x4 r = opening 1#1 x0 x1 x2 x3 x4 r' := rfl

theorem adding_one (x0 : Vec F S512x2048 .bf16) (x1 : Vec F S1x2048x2048 .bf16) (x2 : Vec F S1x3x2048 .f32) (x3 : Vec F S1x1x2048 .f32) (x4 : Vec F S1x1024x2048 .bf16)
    (r r' : Vec F S1x8x2048 .f32) (o : Vec F S512x2048 .f32) : adding 1#1 x0 x1 x2 x3 x4 r o = adding 1#1 x0 x1 x2 x3 x4 r' o := rfl

theorem closing_one (x0 : Vec F S512x2048 .bf16) (x1 : Vec F S1x2048x2048 .bf16) (x2 : Vec F S1x3x2048 .f32) (x3 : Vec F S1x1x2048 .f32) (x4 : Vec F S1x1024x2048 .bf16)
    (r r' : Vec F S1x8x1024 .f32) (o : Vec F S512x2048 .f32) : closing 1#1 x0 x1 x2 x3 x4 r o = closing 1#1 x0 x1 x2 x3 x4 r' o := rfl

/-- The sum's share at each kind of point, from the rows the point above left. -/
def openingAt (c : Dev nD) (t : Fin cfg0.N) (r : Vec F S1x8x2048 .f32) : Vec F S512x2048 .f32 :=
  opening (firstBit (grid0.coords t)) (iblk m c 0 t) (iblk m c 1 t) (iblk m c 2 t) (iblk m c 3 t) (iblk m c 4 t) r
def addingAt (c : Dev nD) (t : Fin cfg0.N) (r : Vec F S1x8x2048 .f32) (o : Vec F S512x2048 .f32) : Vec F S512x2048 .f32 :=
  adding (firstBit (grid0.coords t)) (iblk m c 0 t) (iblk m c 1 t) (iblk m c 2 t) (iblk m c 3 t) (iblk m c 4 t) r o
def closingAt (c : Dev nD) (t : Fin cfg0.N) (r : Vec F S1x8x1024 .f32) (o : Vec F S512x2048 .f32) : Vec F S512x2048 .f32 :=
  closing (firstBit (grid0.coords t)) (iblk m c 0 t) (iblk m c 1 t) (iblk m c 2 t) (iblk m c 3 t) (iblk m c 4 t) r o

theorem slot_above (c : Dev nD) (t : Fin cfg0.N) (S : Vec F S6x8x2048 .f32) (h6 : 6 ≤ t.val) (h5 : t.val % 6 ≠ 5) (h : Holds m c t.val S) :
    VecWindow.window S ![t.val % 6, 0, 0] S1x8x2048.size (slot_inb t.val) = tailAt m c (above t) := by
  have e : (above t).val = t.val - 6 := rfl
  have q := h.1 (above t) (by omega) (by omega) (by omega)
  have e6 : (above t).val % 6 = t.val % 6 := by omega
  have key : ∀ k (_ : k = (above t).val % 6) inb, VecWindow.window S ![k, 0, 0] S1x8x2048.size inb = tailAt m c (above t) := by
    intro k hk inb; subst hk; exact q
  exact key _ e6.symm _

theorem slot5_above (c : Dev nD) (t : Fin cfg0.N) (S : Vec F S6x8x2048 .f32) (h6 : 6 ≤ t.val) (h5 : t.val % 6 = 5) (h : Holds m c t.val S) :
    VecWindow.window S ![5, 0, 0] S1x8x1024.size slot5_inb = tailHalfAt m c (above t) :=
  have e : (above t).val = t.val - 6 := rfl
  h.2 (above t) (by omega) (by omega) (by omega)

theorem openingAt_slot (c : Dev nD) (t : Fin cfg0.N) (S : Vec F S6x8x2048 .f32) (h5 : t.val % 6 ≠ 5) (h : Holds m c t.val S) :
    openingAt m c t (VecWindow.window S ![t.val % 6, 0, 0] S1x8x2048.size (slot_inb t.val)) = openingAt m c t (tailAt m c (above t)) := by
  rcases first_or t with h1 | h6
  · unfold openingAt; rw [h1]; exact opening_one _ _ _ _ _ _ _
  · rw [slot_above m c t S h6 h5 h]

theorem addingAt_slot (c : Dev nD) (t : Fin cfg0.N) (S : Vec F S6x8x2048 .f32) (o : Vec F S512x2048 .f32) (h5 : t.val % 6 ≠ 5) (h : Holds m c t.val S) :
    addingAt m c t (VecWindow.window S ![t.val % 6, 0, 0] S1x8x2048.size (slot_inb t.val)) o = addingAt m c t (tailAt m c (above t)) o := by
  rcases first_or t with h1 | h6
  · unfold addingAt; rw [h1]; exact adding_one _ _ _ _ _ _ _ _
  · rw [slot_above m c t S h6 h5 h]

theorem closingAt_slot (c : Dev nD) (t : Fin cfg0.N) (S : Vec F S6x8x2048 .f32) (o : Vec F S512x2048 .f32) (h5 : t.val % 6 = 5) (h : Holds m c t.val S) :
    closingAt m c t (VecWindow.window S ![5, 0, 0] S1x8x1024.size slot5_inb) o = closingAt m c t (tailHalfAt m c (above t)) o := by
  rcases first_or t with h1 | h6
  · unfold closingAt; rw [h1]; exact closing_one _ _ _ _ _ _ _ _
  · rw [slot5_above m c t S h6 h5 h]

/-! ## The sum, point by point -/

/-- The running sum of a row of blocks after point `n`. -/
def sumAt (c : Dev nD) : (n : ℕ) → n < cfg0.N → Vec F S512x2048 .f32
  | 0, h => openingAt m c ⟨0, h⟩ (tailAt m c (above ⟨0, h⟩))
  | n + 1, h => if (n + 1) % 6 = 0 then openingAt m c ⟨n + 1, h⟩ (tailAt m c (above ⟨n + 1, h⟩))
      else if (n + 1) % 6 = 5 then closingAt m c ⟨n + 1, h⟩ (tailHalfAt m c (above ⟨n + 1, h⟩)) (sumAt c n (Nat.lt_of_succ_lt h))
      else addingAt m c ⟨n + 1, h⟩ (tailAt m c (above ⟨n + 1, h⟩)) (sumAt c n (Nat.lt_of_succ_lt h))

/-- The point before. -/
def back (t : Fin cfg0.N) : Fin cfg0.N := ⟨t.val - 1, Nat.lt_of_le_of_lt (Nat.sub_le _ _) t.isLt⟩

theorem sumAt_first (c : Dev nD) (t : Fin cfg0.N) (h : t.val % 6 = 0) : sumAt m c t.val t.isLt = openingAt m c t (tailAt m c (above t)) := by
  obtain ⟨n, hn⟩ := t
  cases n with
  | zero => rfl
  | succ n => exact if_pos h

theorem sumAt_mid (c : Dev nD) (t : Fin cfg0.N) (h0 : t.val % 6 ≠ 0) (h5 : t.val % 6 ≠ 5) :
    sumAt m c t.val t.isLt = addingAt m c t (tailAt m c (above t)) (sumAt m c (back t).val (back t).isLt) := by
  obtain ⟨n, hn⟩ := t
  cases n with
  | zero => exact absurd rfl h0
  | succ n => exact (if_neg h0).trans (if_neg h5)

theorem sumAt_last (c : Dev nD) (t : Fin cfg0.N) (h5 : t.val % 6 = 5) :
    sumAt m c t.val t.isLt = closingAt m c t (tailHalfAt m c (above t)) (sumAt m c (back t).val (back t).isLt) := by
  obtain ⟨n, hn⟩ := t
  cases n with
  | zero => exact absurd h5 (by decide : ¬ 0 % 6 = 5)
  | succ n => exact (if_neg (by have : (n + 1) % 6 = 5 := h5; omega)).trans (if_pos h5)

/-- The two results' blocks. -/
def wideAt (c : Dev nD) (t : Fin cfg0.N) : Vec F S512x2048 .f32 := normed (sumAt m c t.val t.isLt) (iblk m c 5 t) (iblk m c 6 t) (iblk m c 7 t)
def narrowAt (c : Dev nD) (t : Fin cfg0.N) : Vec F S512x2048 .bf16 := normedNarrow (sumAt m c t.val t.isLt) (iblk m c 5 t) (iblk m c 6 t) (iblk m c 7 t)

/-- What the wide output block holds after a point: the running sum, and the result at the end of a row of blocks. -/
def blockAt (c : Dev nD) (t : Fin cfg0.N) : Vec F S512x2048 .f32 := if t.val % 6 = 5 then wideAt m c t else sumAt m c t.val t.isLt

/-! ## The proof data -/

abbrev carry : Memref sig .tc .vmem S6x8x2048 .f32 := Memref.whole cc0_scratch0

def kept (c : Dev nD) (n : ℕ) : sProp 𝕄 :=
  iprop((∃ S, ⌜Holds m c n S⌝ ∗ owns (c : Thread nD τ) carry fullShare S) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockAt m c t
    | ⟨9, _⟩ => narrowAt m c t
  Φ t := kept m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = blockAt m c t := by dsimp only [dats]
theorem after_9 (c : Dev nD) (t : Fin cfg0.N) : (dats m 0 c).after 9 t = narrowAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-- Inside a row of blocks the wide output block still holds the running sum of the point before. -/
theorem before_8 (c : Dev nD) (t : Fin cfg0.N) (h0 : t.val % 6 ≠ 0) (d) : (dats m 0 c).before 8 t d = sumAt m c (back t).val (back t).isLt := by
  have h5 : (back t).val % 6 ≠ 5 := by show (t.val - 1) % 6 ≠ 5; omega
  rw [Dat.before_of_pos (dats m 0 c) 8 t (fun e => h0 (by rw [e])) (fetch8 t) d]
  rw [show (cfg0.win 8).flush ⟨t.val - 1, Nat.lt_of_le_of_lt (Nat.sub_le _ _) t.isLt⟩ = false from held8 (back t) h5, if_neg Bool.false_ne_true]
  unfold Dat.left
  rw [show cfg0.idle 8 (cfg0.grid.coords ⟨t.val - 1, Nat.lt_of_le_of_lt (Nat.sub_le _ _) t.isLt⟩) = false from live8 (back t)]
  first
    | exact (after_8 m c (back t)).trans (if_neg h5)
    | (rw [if_neg Bool.false_ne_true]; exact (after_8 m c (back t)).trans (if_neg h5))

abbrev st_0 (t : Fin cfg0.N) : Memref sig .tc .vmem S512x2048 .bf16 := win0_0.stage (cfg0.slots t 0)
abbrev st_1 (t : Fin cfg0.N) : Memref sig .tc .vmem S1x2048x2048 .bf16 := win0_1.stage (cfg0.slots t 1)
abbrev st_2 (t : Fin cfg0.N) : Memref sig .tc .vmem S1x3x2048 .f32 := win0_2.stage (cfg0.slots t 2)
abbrev st_3 (t : Fin cfg0.N) : Memref sig .tc .vmem S1x1x2048 .f32 := win0_3.stage (cfg0.slots t 3)
abbrev st_4 (t : Fin cfg0.N) : Memref sig .tc .vmem S1x1024x2048 .bf16 := win0_4.stage (cfg0.slots t 4)
abbrev st_5 (t : Fin cfg0.N) : Memref sig .tc .vmem S512x2048 .f32 := win0_5.stage (cfg0.slots t 5)
abbrev st_6 (t : Fin cfg0.N) : Memref sig .tc .vmem S1x1x2048 .f32 := win0_6.stage (cfg0.slots t 6)
abbrev st_7 (t : Fin cfg0.N) : Memref sig .tc .vmem S1x1x2048 .f32 := win0_7.stage (cfg0.slots t 7)
abbrev st_8 (t : Fin cfg0.N) : Memref sig .tc .vmem S512x2048 .f32 := win0_8.stage (cfg0.slots t 8)
abbrev st_9 (t : Fin cfg0.N) : Memref sig .tc .vmem S512x2048 .bf16 := win0_9.stage (cfg0.slots t 9)

/-- What a point's body is handed, and what it hands back. -/
def handed (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d))
    ∗ (∃ d, owns (c : Thread nD τ) (st_6 t) fullShare ((dats m 0 c).before 6 t d))
    ∗ (∃ d, owns (c : Thread nD τ) (st_7 t) fullShare ((dats m 0 c).before 7 t d))
    ∗ (∃ d, owns (c : Thread nD τ) (st_8 t) fullShare ((dats m 0 c).before 8 t d))
    ∗ (∃ d, owns (c : Thread nD τ) (st_9 t) fullShare ((dats m 0 c).before 9 t d)))

def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (st_0 t) fullShare ((dats m 0 c).after 0 t) := by
  unfold Dat.leavesExact; rw [(show cfg0.idle 0 (grid0.coords t) = false from rfl)]
theorem leaves_1 (c : Dev nD) (t : Fin cfg0.N) : (dats m 0 c).leavesExact 1 t = owns (c : Thread nD τ) (st_1 t) fullShare ((dats m 0 c).after 1 t) := by
  unfold Dat.leavesExact; rw [(show cfg0.idle 1 (grid0.coords t) = false from rfl)]
theorem leaves_2 (c : Dev nD) (t : Fin cfg0.N) : (dats m 0 c).leavesExact 2 t = owns (c : Thread nD τ) (st_2 t) fullShare ((dats m 0 c).after 2 t) := by
  unfold Dat.leavesExact; rw [(show cfg0.idle 2 (grid0.coords t) = false from rfl)]
theorem leaves_3 (c : Dev nD) (t : Fin cfg0.N) : (dats m 0 c).leavesExact 3 t = owns (c : Thread nD τ) (st_3 t) fullShare ((dats m 0 c).after 3 t) := by
  unfold Dat.leavesExact; rw [(show cfg0.idle 3 (grid0.coords t) = false from rfl)]
theorem leaves_4 (c : Dev nD) (t : Fin cfg0.N) : (dats m 0 c).leavesExact 4 t = owns (c : Thread nD τ) (st_4 t) fullShare ((dats m 0 c).after 4 t) := by
  unfold Dat.leavesExact; rw [(show cfg0.idle 4 (grid0.coords t) = false from rfl)]
theorem leaves_5 (c : Dev nD) (t : Fin cfg0.N) : (dats m 0 c).leavesExact 5 t = owns (c : Thread nD τ) (st_5 t) fullShare ((dats m 0 c).after 5 t) := by
  unfold Dat.leavesExact; rw [(show cfg0.idle 5 (grid0.coords t) = false from rfl)]
theorem leaves_6 (c : Dev nD) (t : Fin cfg0.N) : (dats m 0 c).leavesExact 6 t = owns (c : Thread nD τ) (st_6 t) fullShare ((dats m 0 c).after 6 t) := by
  unfold Dat.leavesExact; rw [(show cfg0.idle 6 (grid0.coords t) = false from rfl)]
theorem leaves_7 (c : Dev nD) (t : Fin cfg0.N) : (dats m 0 c).leavesExact 7 t = owns (c : Thread nD τ) (st_7 t) fullShare ((dats m 0 c).after 7 t) := by
  unfold Dat.leavesExact; rw [(show cfg0.idle 7 (grid0.coords t) = false from rfl)]
theorem leaves_8 (c : Dev nD) (t : Fin cfg0.N) : (dats m 0 c).leavesExact 8 t = owns (c : Thread nD τ) (st_8 t) fullShare ((dats m 0 c).after 8 t) := by
  unfold Dat.leavesExact; rw [live8 t]
theorem leaves_9 (c : Dev nD) (t : Fin cfg0.N) (h5 : t.val % 6 = 5) : (dats m 0 c).leavesExact 9 t = owns (c : Thread nD τ) (st_9 t) fullShare ((dats m 0 c).after 9 t) := by
  unfold Dat.leavesExact; rw [live9 t h5]

set_option maxHeartbeats 3200000 in
theorem point_first (c : Dev nD) (t : Fin cfg0.N) (h0 : t.val % 6 = 0) (h5 : t.val % 6 ≠ 5) :
    handed m c t ⊢ wp frame (wpE (defs₀ (F := F)) Variants.none c none) Set.univ (bodyAt0 t) (fun _ => returned m c t) := by
  unfold handed returned bodyAt0
  simp only [before_0, before_1, before_2, before_3, before_4, before_5, before_6, before_7]
  rw [show (dats m 0 c).owesAt () t.succ = (dats m 0 c).owesAt () t.castSucc from rfl,
    show (dats m 0 c).Φ t.succ = kept m c (t.val + 1) from rfl, show (dats m 0 c).Φ t.castSucc = kept m c t.val from rfl]
  rw [leaves_0, after_0, leaves_1, after_1, leaves_2, after_2, leaves_3, after_3, leaves_4, after_4, leaves_5, after_5, leaves_6, after_6, leaves_7, after_7, leaves_8, after_8]
  rw [Dat.leavesExact_idle (dats m 0 c) 9 t (idle9 t h5) (held9 t h5)]
  rw [show blockAt m c t = sumAt m c t.val t.isLt from if_neg h5, sumAt_first m c t h0]
  unfold kept
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← openingAt_slot m c t S (by omega) hS]
  iapply run_first c (grid0.coords t) _ _ _ _ _ _ _ _ _ _ _ _ _ _ _ _ _ _ _ _ _ _ ((cond1_iff t).mpr h0) (fun h => ((cond2_iff t).mp h).1 h0) (fun h => h5 ((cond3_iff t).mp h)) ![t.val % 6, 0, 0] (off1_val t h0) (slot_inb t.val) (iblk m c 0 t) (iblk m c 1 t) (iblk m c 2 t) (iblk m c 3 t) (iblk m c 4 t) _ _ Set.univ
  isplitl [H0]; · iexact H0
  isplitl [H1]; · iexact H1
  isplitl [H2]; · iexact H2
  isplitl [H3]; · iexact H3
  isplitl [H4]; · iexact H4
  isplitl [H8]; · iexact H8
  isplitl [HS]; · iexact HS
  iintro ⟨H0, H1, H2, H3, H4, H8, HS⟩
  isplitl [HS Hg]
  · isplitl [HS]
    · iexists _; isplitr; swap; · iexact HS
      ipureintro; exact holds_put m c t S (by omega) hS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 3200000 in
theorem point_mid (c : Dev nD) (t : Fin cfg0.N) (h0 : t.val % 6 ≠ 0) (h5 : t.val % 6 ≠ 5) :
    handed m c t ⊢ wp frame (wpE (defs₀ (F := F)) Variants.none c none) Set.univ (bodyAt0 t) (fun _ => returned m c t) := by
  unfold handed returned bodyAt0
  simp only [before_0, before_1, before_2, before_3, before_4, before_5, before_6, before_7]
  rw [show (dats m 0 c).owesAt () t.succ = (dats m 0 c).owesAt () t.castSucc from rfl,
    show (dats m 0 c).Φ t.succ = kept m c (t.val + 1) from rfl, show (dats m 0 c).Φ t.castSucc = kept m c t.val from rfl]
  rw [leaves_0, after_0, leaves_1, after_1, leaves_2, after_2, leaves_3, after_3, leaves_4, after_4, leaves_5, after_5, leaves_6, after_6, leaves_7, after_7, leaves_8, after_8]
  rw [Dat.leavesExact_idle (dats m 0 c) 9 t (idle9 t h5) (held9 t h5)]
  rw [show blockAt m c t = sumAt m c t.val t.isLt from if_neg h5, sumAt_mid m c t h0 h5]
  simp only [before_8 m c t (by exact h0)]
  unfold kept
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← addingAt_slot m c t S (sumAt m c (back t).val (back t).isLt) h5 hS]
  iapply run_mid c (grid0.coords t) _ _ _ _ _ _ _ _ _ _ _ _ _ _ _ _ _ _ _ _ _ _ (fun h => h0 ((cond1_iff t).mp h)) ((cond2_iff t).mpr ⟨h0, h5⟩) (fun h => h5 ((cond3_iff t).mp h)) ![t.val % 6, 0, 0] (off2_val t h0 h5) (slot_inb t.val) (iblk m c 0 t) (iblk m c 1 t) (iblk m c 2 t) (iblk m c 3 t) (iblk m c 4 t) _ _ Set.univ
  isplitl [H0]; · iexact H0
  isplitl [H1]; · iexact H1
  isplitl [H2]; · iexact H2
  isplitl [H3]; · iexact H3
  isplitl [H4]; · iexact H4
  isplitl [H8]; · iexact H8
  isplitl [HS]; · iexact HS
  iintro ⟨H0, H1, H2, H3, H4, H8, HS⟩
  isplitl [HS Hg]
  · isplitl [HS]
    · iexists _; isplitr; swap; · iexact HS
      ipureintro; exact holds_put m c t S (by omega) hS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 3200000 in
theorem point_last (c : Dev nD) (t : Fin cfg0.N) (h5 : t.val % 6 = 5) :
    handed m c t ⊢ wp frame (wpE (defs₀ (F := F)) Variants.none c none) Set.univ (bodyAt0 t) (fun _ => returned m c t) := by
  unfold handed returned bodyAt0
  simp only [before_0, before_1, before_2, before_3, before_4, before_5, before_6, before_7]
  rw [show (dats m 0 c).owesAt () t.succ = (dats m 0 c).owesAt () t.castSucc from rfl,
    show (dats m 0 c).Φ t.succ = kept m c (t.val + 1) from rfl, show (dats m 0 c).Φ t.castSucc = kept m c t.val from rfl]
  rw [leaves_0, after_0, leaves_1, after_1, leaves_2, after_2, leaves_3, after_3, leaves_4, after_4, leaves_5, after_5, leaves_6, after_6, leaves_7, after_7, leaves_8, after_8]
  rw [leaves_9 m c t h5, after_9]
  rw [show blockAt m c t = normed (closingAt m c t (tailHalfAt m c (above t)) (sumAt m c (back t).val (back t).isLt)) (iblk m c 5 t) (iblk m c 6 t) (iblk m c 7 t) from (if_pos h5).trans (by unfold wideAt; rw [sumAt_last m c t h5]),
    show narrowAt m c t = normedNarrow (closingAt m c t (tailHalfAt m c (above t)) (sumAt m c (back t).val (back t).isLt)) (iblk m c 5 t) (iblk m c 6 t) (iblk m c 7 t) from by unfold narrowAt; rw [sumAt_last m c t h5]]
  simp only [before_8 m c t (by omega)]
  unfold kept
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← closingAt_slot m c t S (sumAt m c (back t).val (back t).isLt) h5 hS]
  iapply run_last c (grid0.coords t) _ _ _ _ _ _ _ _ _ _ _ _ _ _ _ _ _ _ _ _ _ _ (fun h => by have := (cond1_iff t).mp h; omega) (fun h => ((cond2_iff t).mp h).2 h5) ((cond3_iff t).mpr h5) ![5, 0, 0] (off3_val t h5) slot5_inb (iblk m c 0 t) (iblk m c 1 t) (iblk m c 2 t) (iblk m c 3 t) (iblk m c 4 t) (iblk m c 5 t) (iblk m c 6 t) (iblk m c 7 t) _ _ _ Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]
    · iexists _; isplitr; swap; · iexact HS
      ipureintro; exact holds_put5 m c t S h5 hS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem point_body (c : Dev nD) (t : Fin cfg0.N) :
    handed m c t ⊢ wp frame (wpE (defs₀ (F := F)) Variants.none c none) Set.univ (bodyAt0 t) (fun _ => returned m c t) := by
  by_cases h5 : t.val % 6 = 5
  · exact point_last m c t h5
  · by_cases h0 : t.val % 6 = 0
    · exact point_first m c t h0 h5
    · exact point_mid m c t h0 h5

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (point_body m c t) rfl .rfl fun _ => .rfl

theorem rest_eq (c : Dev nD) : (Pipeline.ΦA spec0 c : sProp 𝕄) = iprop(iprop((∃ d, owns (c : Thread nD τ) carry fullShare d)) ∗ (∃ r, prngReg c r)) := by
  unfold Pipeline.ΦA; rw [scopedRest0_eq]; simp only [carry, owns_whole]; try rfl

theorem enter (c : Dev nD) : Pipeline.ΦA spec0 c ⊢ (dats m 0 c).Φ 0 := by
  rw [show (dats m 0 c).Φ 0 = kept m c 0 from rfl, rest_eq]
  unfold kept
  iintro ⟨⟨%S, HS⟩, Hg⟩
  isplitl [HS]
  · iexists S; isplitr; · ipureintro; exact holds_zero m c S
    iexact HS
  iexact Hg

theorem leave (c : Dev nD) : (dats m 0 c).Φ (Fin.last cfg0.N) ⊢ Pipeline.ΦA spec0 c := by
  rw [show (dats m 0 c).Φ (Fin.last cfg0.N) = kept m c (Fin.last cfg0.N).val from rfl, rest_eq]
  unfold kept
  iintro ⟨⟨%S, %hS, HS⟩, Hg⟩
  isplitl [HS]
  · iexists S; iexact HS
  iexact Hg

/-! ## The run -/

set_option backward.isDefEq.respectTransparency.types false in
theorem run_still : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_post : θ_run defs (onTc (τ := τ) (main (F := F))) (s₀ m ρ) (Pipeline.FramePost cfgs (dats m) 0 (V m)) :=
  (θ_run defs _ _).mono (fun _ h => h.1) (run_still m ρ)

/-- The run ends with every argument unchanged and every counter at zero. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_post m ρ)) ((θ_run defs _ _).mono (fun _ h => h.2) (run_still m ρ))

end Cert.ConvFfnIdeal.Ffn

end
-- ==== Proof.FfnHost.lean ====
/- What the host operations before the convolutional feed-forward kernel leave in the arrays its windows read. -/
module

public import proofs.«01_k».proof.Proof.Gen.ConvFfnIdeal.Frame
public import Idealize.ShloMosaic.Lib.StableHlo.RunRead
public import Idealize.ShloMosaic.Lib.Pipeline.Value
public import Idealize.ShloMosaic.Lib.Pointwise

@[expose] public section

set_option maxRecDepth 16384

noncomputable section

namespace Cert.Ffn

open Idealize.ShloMosaic Idealize.ShloMosaic.TcCoe Cert.ConvFfnIdeal.Gen Cert.ConvFfnIdeal Pointwise

/-- The first weights with the two halves of the columns interleaved by blocks. -/
def weaveUp (w : FVec Ideal S4x2048x11008 .f32) : FVec Ideal S4x2048x12288 .f32 :=
  concatenate S4x2048x12288 2 [⟨S4x2048x1024, extractStridedSlice S4x2048x1024 ![0, 0, 0] w slices_S4x2048x11008_S4x2048x1024_0_0_0⟩,
    ⟨S4x2048x1024, extractStridedSlice S4x2048x1024 ![0, 0, 5504] w slices_S4x2048x11008_S4x2048x1024_0_0_5504⟩,
    ⟨S4x2048x1024, extractStridedSlice S4x2048x1024 ![0, 0, 1024] w slices_S4x2048x11008_S4x2048x1024_0_0_1024⟩,
    ⟨S4x2048x1024, extractStridedSlice S4x2048x1024 ![0, 0, 6528] w slices_S4x2048x11008_S4x2048x1024_0_0_6528⟩,
    ⟨S4x2048x1024, extractStridedSlice S4x2048x1024 ![0, 0, 2048] w slices_S4x2048x11008_S4x2048x1024_0_0_2048⟩,
    ⟨S4x2048x1024, extractStridedSlice S4x2048x1024 ![0, 0, 7552] w slices_S4x2048x11008_S4x2048x1024_0_0_7552⟩,
    ⟨S4x2048x1024, extractStridedSlice S4x2048x1024 ![0, 0, 3072] w slices_S4x2048x11008_S4x2048x1024_0_0_3072⟩,
    ⟨S4x2048x1024, extractStridedSlice S4x2048x1024 ![0, 0, 8576] w slices_S4x2048x11008_S4x2048x1024_0_0_8576⟩,
    ⟨S4x2048x1024, extractStridedSlice S4x2048x1024 ![0, 0, 4096] w slices_S4x2048x11008_S4x2048x1024_0_0_4096⟩,
    ⟨S4x2048x1024, extractStridedSlice S4x2048x1024 ![0, 0, 9600] w slices_S4x2048x11008_S4x2048x1024_0_0_9600⟩,
    ⟨S4x2048x384, extractStridedSlice S4x2048x384 ![0, 0, 5120] w slices_S4x2048x11008_S4x2048x384_0_0_5120⟩,
    ⟨S4x2048x128, broadcastInDim S4x2048x128 ![] bcast_S_S4x2048x128 (constant S_ .f32 0x00000000#32)⟩,
    ⟨S4x2048x384, extractStridedSlice S4x2048x384 ![0, 0, 10624] w slices_S4x2048x11008_S4x2048x384_0_0_10624⟩,
    ⟨S4x2048x128, broadcastInDim S4x2048x128 ![] bcast_S_S4x2048x128 (constant S_ .f32 0x00000000#32)⟩,
    ⟨S4x2048x1024, broadcastInDim S4x2048x1024 ![] bcast_S_S4x2048x1024 (constant S_ .f32 0x00000000#32)⟩]
    concatenates_S4x2048x1024_S4x2048x1024_S4x2048x1024_S4x2048x1024_S4x2048x1024_S4x2048x1024_S4x2048x1024_S4x2048x1024_S4x2048x1024_S4x2048x1024_S4x2048x384_S4x2048x128_S4x2048x384_S4x2048x128_S4x2048x1024_S4x2048x12288_d2

theorem weaveUp_0 (w : FVec Ideal S4x2048x11008 .f32) (a : Fin 4) (k : Fin 2048) (d : Fin 1024) :
    weaveUp w (ix3 a k ⟨0 + d.val, by omega⟩) = w (ix3 a k ⟨0 + d.val, by omega⟩) := by
  unfold weaveUp
  refine Eq.trans (concatenate_apply_piece 2 _ _ (ix3 a k ⟨0 + d.val, by omega⟩) 0 (by show 0 < 15; omega) S4x2048x1024
    (extractStridedSlice S4x2048x1024 ![0, 0, 0] w slices_S4x2048x11008_S4x2048x1024_0_0_0) (by rfl) (by rfl) 0
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_1 (w : FVec Ideal S4x2048x11008 .f32) (a : Fin 4) (k : Fin 2048) (d : Fin 1024) :
    weaveUp w (ix3 a k ⟨1024 + d.val, by omega⟩) = w (ix3 a k ⟨5504 + d.val, by omega⟩) := by
  unfold weaveUp
  refine Eq.trans (concatenate_apply_piece 2 _ _ (ix3 a k ⟨1024 + d.val, by omega⟩) 1 (by show 1 < 15; omega) S4x2048x1024
    (extractStridedSlice S4x2048x1024 ![0, 0, 5504] w slices_S4x2048x11008_S4x2048x1024_0_0_5504) (by rfl) (by rfl) 1024
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_2 (w : FVec Ideal S4x2048x11008 .f32) (a : Fin 4) (k : Fin 2048) (d : Fin 1024) :
    weaveUp w (ix3 a k ⟨2048 + d.val, by omega⟩) = w (ix3 a k ⟨1024 + d.val, by omega⟩) := by
  unfold weaveUp
  refine Eq.trans (concatenate_apply_piece 2 _ _ (ix3 a k ⟨2048 + d.val, by omega⟩) 2 (by show 2 < 15; omega) S4x2048x1024
    (extractStridedSlice S4x2048x1024 ![0, 0, 1024] w slices_S4x2048x11008_S4x2048x1024_0_0_1024) (by rfl) (by rfl) 2048
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_3 (w : FVec Ideal S4x2048x11008 .f32) (a : Fin 4) (k : Fin 2048) (d : Fin 1024) :
    weaveUp w (ix3 a k ⟨3072 + d.val, by omega⟩) = w (ix3 a k ⟨6528 + d.val, by omega⟩) := by
  unfold weaveUp
  refine Eq.trans (concatenate_apply_piece 2 _ _ (ix3 a k ⟨3072 + d.val, by omega⟩) 3 (by show 3 < 15; omega) S4x2048x1024
    (extractStridedSlice S4x2048x1024 ![0, 0, 6528] w slices_S4x2048x11008_S4x2048x1024_0_0_6528) (by rfl) (by rfl) 3072
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_4 (w : FVec Ideal S4x2048x11008 .f32) (a : Fin 4) (k : Fin 2048) (d : Fin 1024) :
    weaveUp w (ix3 a k ⟨4096 + d.val, by omega⟩) = w (ix3 a k ⟨2048 + d.val, by omega⟩) := by
  unfold weaveUp
  refine Eq.trans (concatenate_apply_piece 2 _ _ (ix3 a k ⟨4096 + d.val, by omega⟩) 4 (by show 4 < 15; omega) S4x2048x1024
    (extractStridedSlice S4x2048x1024 ![0, 0, 2048] w slices_S4x2048x11008_S4x2048x1024_0_0_2048) (by rfl) (by rfl) 4096
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_5 (w : FVec Ideal S4x2048x11008 .f32) (a : Fin 4) (k : Fin 2048) (d : Fin 1024) :
    weaveUp w (ix3 a k ⟨5120 + d.val, by omega⟩) = w (ix3 a k ⟨7552 + d.val, by omega⟩) := by
  unfold weaveUp
  refine Eq.trans (concatenate_apply_piece 2 _ _ (ix3 a k ⟨5120 + d.val, by omega⟩) 5 (by show 5 < 15; omega) S4x2048x1024
    (extractStridedSlice S4x2048x1024 ![0, 0, 7552] w slices_S4x2048x11008_S4x2048x1024_0_0_7552) (by rfl) (by rfl) 5120
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_6 (w : FVec Ideal S4x2048x11008 .f32) (a : Fin 4) (k : Fin 2048) (d : Fin 1024) :
    weaveUp w (ix3 a k ⟨6144 + d.val, by omega⟩) = w (ix3 a k ⟨3072 + d.val, by omega⟩) := by
  unfold weaveUp
  refine Eq.trans (concatenate_apply_piece 2 _ _ (ix3 a k ⟨6144 + d.val, by omega⟩) 6 (by show 6 < 15; omega) S4x2048x1024
    (extractStridedSlice S4x2048x1024 ![0, 0, 3072] w slices_S4x2048x11008_S4x2048x1024_0_0_3072) (by rfl) (by rfl) 6144
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_7 (w : FVec Ideal S4x2048x11008 .f32) (a : Fin 4) (k : Fin 2048) (d : Fin 1024) :
    weaveUp w (ix3 a k ⟨7168 + d.val, by omega⟩) = w (ix3 a k ⟨8576 + d.val, by omega⟩) := by
  unfold weaveUp
  refine Eq.trans (concatenate_apply_piece 2 _ _ (ix3 a k ⟨7168 + d.val, by omega⟩) 7 (by show 7 < 15; omega) S4x2048x1024
    (extractStridedSlice S4x2048x1024 ![0, 0, 8576] w slices_S4x2048x11008_S4x2048x1024_0_0_8576) (by rfl) (by rfl) 7168
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_8 (w : FVec Ideal S4x2048x11008 .f32) (a : Fin 4) (k : Fin 2048) (d : Fin 1024) :
    weaveUp w (ix3 a k ⟨8192 + d.val, by omega⟩) = w (ix3 a k ⟨4096 + d.val, by omega⟩) := by
  unfold weaveUp
  refine Eq.trans (concatenate_apply_piece 2 _ _ (ix3 a k ⟨8192 + d.val, by omega⟩) 8 (by show 8 < 15; omega) S4x2048x1024
    (extractStridedSlice S4x2048x1024 ![0, 0, 4096] w slices_S4x2048x11008_S4x2048x1024_0_0_4096) (by rfl) (by rfl) 8192
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_9 (w : FVec Ideal S4x2048x11008 .f32) (a : Fin 4) (k : Fin 2048) (d : Fin 1024) :
    weaveUp w (ix3 a k ⟨9216 + d.val, by omega⟩) = w (ix3 a k ⟨9600 + d.val, by omega⟩) := by
  unfold weaveUp
  refine Eq.trans (concatenate_apply_piece 2 _ _ (ix3 a k ⟨9216 + d.val, by omega⟩) 9 (by show 9 < 15; omega) S4x2048x1024
    (extractStridedSlice S4x2048x1024 ![0, 0, 9600] w slices_S4x2048x11008_S4x2048x1024_0_0_9600) (by rfl) (by rfl) 9216
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_10 (w : FVec Ideal S4x2048x11008 .f32) (a : Fin 4) (k : Fin 2048) (d : Fin 384) :
    weaveUp w (ix3 a k ⟨10240 + d.val, by omega⟩) = w (ix3 a k ⟨5120 + d.val, by omega⟩) := by
  unfold weaveUp
  refine Eq.trans (concatenate_apply_piece 2 _ _ (ix3 a k ⟨10240 + d.val, by omega⟩) 10 (by show 10 < 15; omega) S4x2048x384
    (extractStridedSlice S4x2048x384 ![0, 0, 5120] w slices_S4x2048x11008_S4x2048x384_0_0_5120) (by rfl) (by rfl) 10240
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_12 (w : FVec Ideal S4x2048x11008 .f32) (a : Fin 4) (k : Fin 2048) (d : Fin 384) :
    weaveUp w (ix3 a k ⟨10752 + d.val, by omega⟩) = w (ix3 a k ⟨10624 + d.val, by omega⟩) := by
  unfold weaveUp
  refine Eq.trans (concatenate_apply_piece 2 _ _ (ix3 a k ⟨10752 + d.val, by omega⟩) 12 (by show 12 < 15; omega) S4x2048x384
    (extractStridedSlice S4x2048x384 ![0, 0, 10624] w slices_S4x2048x11008_S4x2048x384_0_0_10624) (by rfl) (by rfl) 10752
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveUp_apply (w : FVec Ideal S4x2048x11008 .f32) (a : Fin 4) (k : Fin 2048) (n : Fin 12288) (c : Fin 11008)
    (h : (n.val < 10240 ∧ n.val % 2048 < 1024 ∧ c.val = 1024 * (n.val / 2048) + n.val % 2048)
      ∨ (n.val < 10240 ∧ 1024 ≤ n.val % 2048 ∧ c.val = 5504 + 1024 * (n.val / 2048) + (n.val % 2048 - 1024))
      ∨ (10240 ≤ n.val ∧ n.val < 10624 ∧ c.val = 5120 + (n.val - 10240))
      ∨ (10752 ≤ n.val ∧ n.val < 11136 ∧ c.val = 10624 + (n.val - 10752))) :
    weaveUp w (ix3 a k n) = w (ix3 a k c) := by
  rcases h with ⟨h1, h2, h3⟩ | ⟨h1, h2, h3⟩ | ⟨h1, h2, h3⟩ | ⟨h1, h2, h3⟩
  · have hj : n.val / 2048 = 0 ∨ n.val / 2048 = 1 ∨ n.val / 2048 = 2 ∨ n.val / 2048 = 3 ∨ n.val / 2048 = 4 := by omega
    rcases hj with e | e | e | e | e
    · exact (congrArg (fun z => weaveUp w (ix3 a k z)) (Fin.ext (by show n.val = 0 + (n.val - 0); omega))).trans
        ((weaveUp_0 w a k ⟨n.val - 0, by omega⟩).trans (congrArg (fun z => w (ix3 a k z)) (Fin.ext (by show 0 + (n.val - 0) = c.val; omega))))
    · exact (congrArg (fun z => weaveUp w (ix3 a k z)) (Fin.ext (by show n.val = 2048 + (n.val - 2048); omega))).trans
        ((weaveUp_2 w a k ⟨n.val - 2048, by omega⟩).trans (congrArg (fun z => w (ix3 a k z)) (Fin.ext (by show 1024 + (n.val - 2048) = c.val; omega))))
    · exact (congrArg (fun z => weaveUp w (ix3 a k z)) (Fin.ext (by show n.val = 4096 + (n.val - 4096); omega))).trans
        ((weaveUp_4 w a k ⟨n.val - 4096, by omega⟩).trans (congrArg (fun z => w (ix3 a k z)) (Fin.ext (by show 2048 + (n.val - 4096) = c.val; omega))))
    · exact (congrArg (fun z => weaveUp w (ix3 a k z)) (Fin.ext (by show n.val = 6144 + (n.val - 6144); omega))).trans
        ((weaveUp_6 w a k ⟨n.val - 6144, by omega⟩).trans (congrArg (fun z => w (ix3 a k z)) (Fin.ext (by show 3072 + (n.val - 6144) = c.val; omega))))
    · exact (congrArg (fun z => weaveUp w (ix3 a k z)) (Fin.ext (by show n.val = 8192 + (n.val - 8192); omega))).trans
        ((weaveUp_8 w a k ⟨n.val - 8192, by omega⟩).trans (congrArg (fun z => w (ix3 a k z)) (Fin.ext (by show 4096 + (n.val - 8192) = c.val; omega))))
  · have hj : n.val / 2048 = 0 ∨ n.val / 2048 = 1 ∨ n.val / 2048 = 2 ∨ n.val / 2048 = 3 ∨ n.val / 2048 = 4 := by omega
    rcases hj with e | e | e | e | e
    · exact (congrArg (fun z => weaveUp w (ix3 a k z)) (Fin.ext (by show n.val = 1024 + (n.val - 1024); omega))).trans
        ((weaveUp_1 w a k ⟨n.val - 1024, by omega⟩).trans (congrArg (fun z => w (ix3 a k z)) (Fin.ext (by show 5504 + (n.val - 1024) = c.val; omega))))
    · exact (congrArg (fun z => weaveUp w (ix3 a k z)) (Fin.ext (by show n.val = 3072 + (n.val - 3072); omega))).trans
        ((weaveUp_3 w a k ⟨n.val - 3072, by omega⟩).trans (congrArg (fun z => w (ix3 a k z)) (Fin.ext (by show 6528 + (n.val - 3072) = c.val; omega))))
    · exact (congrArg (fun z => weaveUp w (ix3 a k z)) (Fin.ext (by show n.val = 5120 + (n.val - 5120); omega))).trans
        ((weaveUp_5 w a k ⟨n.val - 5120, by omega⟩).trans (congrArg (fun z => w (ix3 a k z)) (Fin.ext (by show 7552 + (n.val - 5120) = c.val; omega))))
    · exact (congrArg (fun z => weaveUp w (ix3 a k z)) (Fin.ext (by show n.val = 7168 + (n.val - 7168); omega))).trans
        ((weaveUp_7 w a k ⟨n.val - 7168, by omega⟩).trans (congrArg (fun z => w (ix3 a k z)) (Fin.ext (by show 8576 + (n.val - 7168) = c.val; omega))))
    · exact (congrArg (fun z => weaveUp w (ix3 a k z)) (Fin.ext (by show n.val = 9216 + (n.val - 9216); omega))).trans
        ((weaveUp_9 w a k ⟨n.val - 9216, by omega⟩).trans (congrArg (fun z => w (ix3 a k z)) (Fin.ext (by show 9600 + (n.val - 9216) = c.val; omega))))
  · exact (congrArg (fun z => weaveUp w (ix3 a k z)) (Fin.ext (by show n.val = 10240 + (n.val - 10240); omega))).trans
        ((weaveUp_10 w a k ⟨n.val - 10240, by omega⟩).trans (congrArg (fun z => w (ix3 a k z)) (Fin.ext (by show 5120 + (n.val - 10240) = c.val; omega))))
  · exact (congrArg (fun z => weaveUp w (ix3 a k z)) (Fin.ext (by show n.val = 10752 + (n.val - 10752); omega))).trans
        ((weaveUp_12 w a k ⟨n.val - 10752, by omega⟩).trans (congrArg (fun z => w (ix3 a k z)) (Fin.ext (by show 10624 + (n.val - 10752) = c.val; omega))))

/-- The taps interleaved the same way. -/
def weaveTaps (w : FVec Ideal S4x3x11008 .f32) : FVec Ideal S4x3x12288 .f32 :=
  concatenate S4x3x12288 2 [⟨S4x3x1024, extractStridedSlice S4x3x1024 ![0, 0, 0] w slices_S4x3x11008_S4x3x1024_0_0_0⟩,
    ⟨S4x3x1024, extractStridedSlice S4x3x1024 ![0, 0, 5504] w slices_S4x3x11008_S4x3x1024_0_0_5504⟩,
    ⟨S4x3x1024, extractStridedSlice S4x3x1024 ![0, 0, 1024] w slices_S4x3x11008_S4x3x1024_0_0_1024⟩,
    ⟨S4x3x1024, extractStridedSlice S4x3x1024 ![0, 0, 6528] w slices_S4x3x11008_S4x3x1024_0_0_6528⟩,
    ⟨S4x3x1024, extractStridedSlice S4x3x1024 ![0, 0, 2048] w slices_S4x3x11008_S4x3x1024_0_0_2048⟩,
    ⟨S4x3x1024, extractStridedSlice S4x3x1024 ![0, 0, 7552] w slices_S4x3x11008_S4x3x1024_0_0_7552⟩,
    ⟨S4x3x1024, extractStridedSlice S4x3x1024 ![0, 0, 3072] w slices_S4x3x11008_S4x3x1024_0_0_3072⟩,
    ⟨S4x3x1024, extractStridedSlice S4x3x1024 ![0, 0, 8576] w slices_S4x3x11008_S4x3x1024_0_0_8576⟩,
    ⟨S4x3x1024, extractStridedSlice S4x3x1024 ![0, 0, 4096] w slices_S4x3x11008_S4x3x1024_0_0_4096⟩,
    ⟨S4x3x1024, extractStridedSlice S4x3x1024 ![0, 0, 9600] w slices_S4x3x11008_S4x3x1024_0_0_9600⟩,
    ⟨S4x3x384, extractStridedSlice S4x3x384 ![0, 0, 5120] w slices_S4x3x11008_S4x3x384_0_0_5120⟩,
    ⟨S4x3x128, broadcastInDim S4x3x128 ![] bcast_S_S4x3x128 (constant S_ .f32 0x00000000#32)⟩,
    ⟨S4x3x384, extractStridedSlice S4x3x384 ![0, 0, 10624] w slices_S4x3x11008_S4x3x384_0_0_10624⟩,
    ⟨S4x3x128, broadcastInDim S4x3x128 ![] bcast_S_S4x3x128 (constant S_ .f32 0x00000000#32)⟩,
    ⟨S4x3x1024, broadcastInDim S4x3x1024 ![] bcast_S_S4x3x1024 (constant S_ .f32 0x00000000#32)⟩]
    concatenates_S4x3x1024_S4x3x1024_S4x3x1024_S4x3x1024_S4x3x1024_S4x3x1024_S4x3x1024_S4x3x1024_S4x3x1024_S4x3x1024_S4x3x384_S4x3x128_S4x3x384_S4x3x128_S4x3x1024_S4x3x12288_d2

theorem weaveTaps_0 (w : FVec Ideal S4x3x11008 .f32) (a : Fin 4) (k : Fin 3) (d : Fin 1024) :
    weaveTaps w (ix3 a k ⟨0 + d.val, by omega⟩) = w (ix3 a k ⟨0 + d.val, by omega⟩) := by
  unfold weaveTaps
  refine Eq.trans (concatenate_apply_piece 2 _ _ (ix3 a k ⟨0 + d.val, by omega⟩) 0 (by show 0 < 15; omega) S4x3x1024
    (extractStridedSlice S4x3x1024 ![0, 0, 0] w slices_S4x3x11008_S4x3x1024_0_0_0) (by rfl) (by rfl) 0
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_1 (w : FVec Ideal S4x3x11008 .f32) (a : Fin 4) (k : Fin 3) (d : Fin 1024) :
    weaveTaps w (ix3 a k ⟨1024 + d.val, by omega⟩) = w (ix3 a k ⟨5504 + d.val, by omega⟩) := by
  unfold weaveTaps
  refine Eq.trans (concatenate_apply_piece 2 _ _ (ix3 a k ⟨1024 + d.val, by omega⟩) 1 (by show 1 < 15; omega) S4x3x1024
    (extractStridedSlice S4x3x1024 ![0, 0, 5504] w slices_S4x3x11008_S4x3x1024_0_0_5504) (by rfl) (by rfl) 1024
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_2 (w : FVec Ideal S4x3x11008 .f32) (a : Fin 4) (k : Fin 3) (d : Fin 1024) :
    weaveTaps w (ix3 a k ⟨2048 + d.val, by omega⟩) = w (ix3 a k ⟨1024 + d.val, by omega⟩) := by
  unfold weaveTaps
  refine Eq.trans (concatenate_apply_piece 2 _ _ (ix3 a k ⟨2048 + d.val, by omega⟩) 2 (by show 2 < 15; omega) S4x3x1024
    (extractStridedSlice S4x3x1024 ![0, 0, 1024] w slices_S4x3x11008_S4x3x1024_0_0_1024) (by rfl) (by rfl) 2048
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_3 (w : FVec Ideal S4x3x11008 .f32) (a : Fin 4) (k : Fin 3) (d : Fin 1024) :
    weaveTaps w (ix3 a k ⟨3072 + d.val, by omega⟩) = w (ix3 a k ⟨6528 + d.val, by omega⟩) := by
  unfold weaveTaps
  refine Eq.trans (concatenate_apply_piece 2 _ _ (ix3 a k ⟨3072 + d.val, by omega⟩) 3 (by show 3 < 15; omega) S4x3x1024
    (extractStridedSlice S4x3x1024 ![0, 0, 6528] w slices_S4x3x11008_S4x3x1024_0_0_6528) (by rfl) (by rfl) 3072
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_4 (w : FVec Ideal S4x3x11008 .f32) (a : Fin 4) (k : Fin 3) (d : Fin 1024) :
    weaveTaps w (ix3 a k ⟨4096 + d.val, by omega⟩) = w (ix3 a k ⟨2048 + d.val, by omega⟩) := by
  unfold weaveTaps
  refine Eq.trans (concatenate_apply_piece 2 _ _ (ix3 a k ⟨4096 + d.val, by omega⟩) 4 (by show 4 < 15; omega) S4x3x1024
    (extractStridedSlice S4x3x1024 ![0, 0, 2048] w slices_S4x3x11008_S4x3x1024_0_0_2048) (by rfl) (by rfl) 4096
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_5 (w : FVec Ideal S4x3x11008 .f32) (a : Fin 4) (k : Fin 3) (d : Fin 1024) :
    weaveTaps w (ix3 a k ⟨5120 + d.val, by omega⟩) = w (ix3 a k ⟨7552 + d.val, by omega⟩) := by
  unfold weaveTaps
  refine Eq.trans (concatenate_apply_piece 2 _ _ (ix3 a k ⟨5120 + d.val, by omega⟩) 5 (by show 5 < 15; omega) S4x3x1024
    (extractStridedSlice S4x3x1024 ![0, 0, 7552] w slices_S4x3x11008_S4x3x1024_0_0_7552) (by rfl) (by rfl) 5120
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_6 (w : FVec Ideal S4x3x11008 .f32) (a : Fin 4) (k : Fin 3) (d : Fin 1024) :
    weaveTaps w (ix3 a k ⟨6144 + d.val, by omega⟩) = w (ix3 a k ⟨3072 + d.val, by omega⟩) := by
  unfold weaveTaps
  refine Eq.trans (concatenate_apply_piece 2 _ _ (ix3 a k ⟨6144 + d.val, by omega⟩) 6 (by show 6 < 15; omega) S4x3x1024
    (extractStridedSlice S4x3x1024 ![0, 0, 3072] w slices_S4x3x11008_S4x3x1024_0_0_3072) (by rfl) (by rfl) 6144
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_7 (w : FVec Ideal S4x3x11008 .f32) (a : Fin 4) (k : Fin 3) (d : Fin 1024) :
    weaveTaps w (ix3 a k ⟨7168 + d.val, by omega⟩) = w (ix3 a k ⟨8576 + d.val, by omega⟩) := by
  unfold weaveTaps
  refine Eq.trans (concatenate_apply_piece 2 _ _ (ix3 a k ⟨7168 + d.val, by omega⟩) 7 (by show 7 < 15; omega) S4x3x1024
    (extractStridedSlice S4x3x1024 ![0, 0, 8576] w slices_S4x3x11008_S4x3x1024_0_0_8576) (by rfl) (by rfl) 7168
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_8 (w : FVec Ideal S4x3x11008 .f32) (a : Fin 4) (k : Fin 3) (d : Fin 1024) :
    weaveTaps w (ix3 a k ⟨8192 + d.val, by omega⟩) = w (ix3 a k ⟨4096 + d.val, by omega⟩) := by
  unfold weaveTaps
  refine Eq.trans (concatenate_apply_piece 2 _ _ (ix3 a k ⟨8192 + d.val, by omega⟩) 8 (by show 8 < 15; omega) S4x3x1024
    (extractStridedSlice S4x3x1024 ![0, 0, 4096] w slices_S4x3x11008_S4x3x1024_0_0_4096) (by rfl) (by rfl) 8192
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_9 (w : FVec Ideal S4x3x11008 .f32) (a : Fin 4) (k : Fin 3) (d : Fin 1024) :
    weaveTaps w (ix3 a k ⟨9216 + d.val, by omega⟩) = w (ix3 a k ⟨9600 + d.val, by omega⟩) := by
  unfold weaveTaps
  refine Eq.trans (concatenate_apply_piece 2 _ _ (ix3 a k ⟨9216 + d.val, by omega⟩) 9 (by show 9 < 15; omega) S4x3x1024
    (extractStridedSlice S4x3x1024 ![0, 0, 9600] w slices_S4x3x11008_S4x3x1024_0_0_9600) (by rfl) (by rfl) 9216
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_10 (w : FVec Ideal S4x3x11008 .f32) (a : Fin 4) (k : Fin 3) (d : Fin 384) :
    weaveTaps w (ix3 a k ⟨10240 + d.val, by omega⟩) = w (ix3 a k ⟨5120 + d.val, by omega⟩) := by
  unfold weaveTaps
  refine Eq.trans (concatenate_apply_piece 2 _ _ (ix3 a k ⟨10240 + d.val, by omega⟩) 10 (by show 10 < 15; omega) S4x3x384
    (extractStridedSlice S4x3x384 ![0, 0, 5120] w slices_S4x3x11008_S4x3x384_0_0_5120) (by rfl) (by rfl) 10240
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_12 (w : FVec Ideal S4x3x11008 .f32) (a : Fin 4) (k : Fin 3) (d : Fin 384) :
    weaveTaps w (ix3 a k ⟨10752 + d.val, by omega⟩) = w (ix3 a k ⟨10624 + d.val, by omega⟩) := by
  unfold weaveTaps
  refine Eq.trans (concatenate_apply_piece 2 _ _ (ix3 a k ⟨10752 + d.val, by omega⟩) 12 (by show 12 < 15; omega) S4x3x384
    (extractStridedSlice S4x3x384 ![0, 0, 10624] w slices_S4x3x11008_S4x3x384_0_0_10624) (by rfl) (by rfl) 10752
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  pointwise []

theorem weaveTaps_apply (w : FVec Ideal S4x3x11008 .f32) (a : Fin 4) (k : Fin 3) (n : Fin 12288) (c : Fin 11008)
    (h : (n.val < 10240 ∧ n.val % 2048 < 1024 ∧ c.val = 1024 * (n.val / 2048) + n.val % 2048)
      ∨ (n.val < 10240 ∧ 1024 ≤ n.val % 2048 ∧ c.val = 5504 + 1024 * (n.val / 2048) + (n.val % 2048 - 1024))
      ∨ (10240 ≤ n.val ∧ n.val < 10624 ∧ c.val = 5120 + (n.val - 10240))
      ∨ (10752 ≤ n.val ∧ n.val < 11136 ∧ c.val = 10624 + (n.val - 10752))) :
    weaveTaps w (ix3 a k n) = w (ix3 a k c) := by
  rcases h with ⟨h1, h2, h3⟩ | ⟨h1, h2, h3⟩ | ⟨h1, h2, h3⟩ | ⟨h1, h2, h3⟩
  · have hj : n.val / 2048 = 0 ∨ n.val / 2048 = 1 ∨ n.val / 2048 = 2 ∨ n.val / 2048 = 3 ∨ n.val / 2048 = 4 := by omega
    rcases hj with e | e | e | e | e
    · exact (congrArg (fun z => weaveTaps w (ix3 a k z)) (Fin.ext (by show n.val = 0 + (n.val - 0); omega))).trans
        ((weaveTaps_0 w a k ⟨n.val - 0, by omega⟩).trans (congrArg (fun z => w (ix3 a k z)) (Fin.ext (by show 0 + (n.val - 0) = c.val; omega))))
    · exact (congrArg (fun z => weaveTaps w (ix3 a k z)) (Fin.ext (by show n.val = 2048 + (n.val - 2048); omega))).trans
        ((weaveTaps_2 w a k ⟨n.val - 2048, by omega⟩).trans (congrArg (fun z => w (ix3 a k z)) (Fin.ext (by show 1024 + (n.val - 2048) = c.val; omega))))
    · exact (congrArg (fun z => weaveTaps w (ix3 a k z)) (Fin.ext (by show n.val = 4096 + (n.val - 4096); omega))).trans
        ((weaveTaps_4 w a k ⟨n.val - 4096, by omega⟩).trans (congrArg (fun z => w (ix3 a k z)) (Fin.ext (by show 2048 + (n.val - 4096) = c.val; omega))))
    · exact (congrArg (fun z => weaveTaps w (ix3 a k z)) (Fin.ext (by show n.val = 6144 + (n.val - 6144); omega))).trans
        ((weaveTaps_6 w a k ⟨n.val - 6144, by omega⟩).trans (congrArg (fun z => w (ix3 a k z)) (Fin.ext (by show 3072 + (n.val - 6144) = c.val; omega))))
    · exact (congrArg (fun z => weaveTaps w (ix3 a k z)) (Fin.ext (by show n.val = 8192 + (n.val - 8192); omega))).trans
        ((weaveTaps_8 w a k ⟨n.val - 8192, by omega⟩).trans (congrArg (fun z => w (ix3 a k z)) (Fin.ext (by show 4096 + (n.val - 8192) = c.val; omega))))
  · have hj : n.val / 2048 = 0 ∨ n.val / 2048 = 1 ∨ n.val / 2048 = 2 ∨ n.val / 2048 = 3 ∨ n.val / 2048 = 4 := by omega
    rcases hj with e | e | e | e | e
    · exact (congrArg (fun z => weaveTaps w (ix3 a k z)) (Fin.ext (by show n.val = 1024 + (n.val - 1024); omega))).trans
        ((weaveTaps_1 w a k ⟨n.val - 1024, by omega⟩).trans (congrArg (fun z => w (ix3 a k z)) (Fin.ext (by show 5504 + (n.val - 1024) = c.val; omega))))
    · exact (congrArg (fun z => weaveTaps w (ix3 a k z)) (Fin.ext (by show n.val = 3072 + (n.val - 3072); omega))).trans
        ((weaveTaps_3 w a k ⟨n.val - 3072, by omega⟩).trans (congrArg (fun z => w (ix3 a k z)) (Fin.ext (by show 6528 + (n.val - 3072) = c.val; omega))))
    · exact (congrArg (fun z => weaveTaps w (ix3 a k z)) (Fin.ext (by show n.val = 5120 + (n.val - 5120); omega))).trans
        ((weaveTaps_5 w a k ⟨n.val - 5120, by omega⟩).trans (congrArg (fun z => w (ix3 a k z)) (Fin.ext (by show 7552 + (n.val - 5120) = c.val; omega))))
    · exact (congrArg (fun z => weaveTaps w (ix3 a k z)) (Fin.ext (by show n.val = 7168 + (n.val - 7168); omega))).trans
        ((weaveTaps_7 w a k ⟨n.val - 7168, by omega⟩).trans (congrArg (fun z => w (ix3 a k z)) (Fin.ext (by show 8576 + (n.val - 7168) = c.val; omega))))
    · exact (congrArg (fun z => weaveTaps w (ix3 a k z)) (Fin.ext (by show n.val = 9216 + (n.val - 9216); omega))).trans
        ((weaveTaps_9 w a k ⟨n.val - 9216, by omega⟩).trans (congrArg (fun z => w (ix3 a k z)) (Fin.ext (by show 9600 + (n.val - 9216) = c.val; omega))))
  · exact (congrArg (fun z => weaveTaps w (ix3 a k z)) (Fin.ext (by show n.val = 10240 + (n.val - 10240); omega))).trans
        ((weaveTaps_10 w a k ⟨n.val - 10240, by omega⟩).trans (congrArg (fun z => w (ix3 a k z)) (Fin.ext (by show 5120 + (n.val - 10240) = c.val; omega))))
  · exact (congrArg (fun z => weaveTaps w (ix3 a k z)) (Fin.ext (by show n.val = 10752 + (n.val - 10752); omega))).trans
        ((weaveTaps_12 w a k ⟨n.val - 10752, by omega⟩).trans (congrArg (fun z => w (ix3 a k z)) (Fin.ext (by show 10624 + (n.val - 10752) = c.val; omega))))

/-- The bias interleaved the same way. -/
def weaveBias (w : FVec Ideal S4x1x11008 .f32) : FVec Ideal S4x1x12288 .f32 :=
  concatenate S4x1x12288 2 [⟨S4x1x1024, extractStridedSlice S4x1x1024 ![0, 0, 0] w slices_S4x1x11008_S4x1x1024_0_0_0⟩,
    ⟨S4x1x1024, extractStridedSlice S4x1x1024 ![0, 0, 5504] w slices_S4x1x11008_S4x1x1024_0_0_5504⟩,
    ⟨S4x1x1024, extractStridedSlice S4x1x1024 ![0, 0, 1024] w slices_S4x1x11008_S4x1x1024_0_0_1024⟩,
    ⟨S4x1x1024, extractStridedSlice S4x1x1024 ![0, 0, 6528] w slices_S4x1x11008_S4x1x1024_0_0_6528⟩,
    ⟨S4x1x1024, extractStridedSlice S4x1x1024 ![0, 0, 2048] w slices_S4x1x11008_S4x1x1024_0_0_2048⟩,
    ⟨S4x1x1024, extractStridedSlice S4x1x1024 ![0, 0, 7552] w slices_S4x1x11008_S4x1x1024_0_0_7552⟩,
    ⟨S4x1x1024, extractStridedSlice S4x1x1024 ![0, 0, 3072] w slices_S4x1x11008_S4x1x1024_0_0_3072⟩,
    ⟨S4x1x1024, extractStridedSlice S4x1x1024 ![0, 0, 8576] w slices_S4x1x11008_S4x1x1024_0_0_8576⟩,
    ⟨S4x1x1024, extractStridedSlice S4x1x1024 ![0, 0, 4096] w slices_S4x1x11008_S4x1x1024_0_0_4096⟩,
    ⟨S4x1x1024, extractStridedSlice S4x1x1024 ![0, 0, 9600] w slices_S4x1x11008_S4x1x1024_0_0_9600⟩,
    ⟨S4x1x384, extractStridedSlice S4x1x384 ![0, 0, 5120] w slices_S4x1x11008_S4x1x384_0_0_5120⟩,
    ⟨S4x1x128, broadcastInDim S4x1x128 ![] bcast_S_S4x1x128 (constant S_ .f32 0x00000000#32)⟩,
    ⟨S4x1x384, extractStridedSlice S4x1x384 ![0, 0, 10624] w slices_S4x1x11008_S4x1x384_0_0_10624⟩,
    ⟨S4x1x128, broadcastInDim S4x1x128 ![] bcast_S_S4x1x128 (constant S_ .f32 0x00000000#32)⟩,
    ⟨S4x1x1024, broadcastInDim S4x1x1024 ![] bcast_S_S4x1x1024 (constant S_ .f32 0x00000000#32)⟩]
    concatenates_S4x1x1024_S4x1x1024_S4x1x1024_S4x1x1024_S4x1x1024_S4x1x1024_S4x1x1024_S4x1x1024_S4x1x1024_S4x1x1024_S4x1x384_S4x1x128_S4x1x384_S4x1x128_S4x1x1024_S4x1x12288_d2

theorem weaveBias_0 (w : FVec Ideal S4x1x11008 .f32) (a : Fin 4) (k : Fin 1) (d : Fin 1024) :
    weaveBias w (ix3 a k ⟨0 + d.val, by omega⟩) = w (ix3 a k ⟨0 + d.val, by omega⟩) := by
  unfold weaveBias
  refine Eq.trans (concatenate_apply_piece 2 _ _ (ix3 a k ⟨0 + d.val, by omega⟩) 0 (by show 0 < 15; omega) S4x1x1024
    (extractStridedSlice S4x1x1024 ![0, 0, 0] w slices_S4x1x11008_S4x1x1024_0_0_0) (by rfl) (by rfl) 0
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_1 (w : FVec Ideal S4x1x11008 .f32) (a : Fin 4) (k : Fin 1) (d : Fin 1024) :
    weaveBias w (ix3 a k ⟨1024 + d.val, by omega⟩) = w (ix3 a k ⟨5504 + d.val, by omega⟩) := by
  unfold weaveBias
  refine Eq.trans (concatenate_apply_piece 2 _ _ (ix3 a k ⟨1024 + d.val, by omega⟩) 1 (by show 1 < 15; omega) S4x1x1024
    (extractStridedSlice S4x1x1024 ![0, 0, 5504] w slices_S4x1x11008_S4x1x1024_0_0_5504) (by rfl) (by rfl) 1024
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_2 (w : FVec Ideal S4x1x11008 .f32) (a : Fin 4) (k : Fin 1) (d : Fin 1024) :
    weaveBias w (ix3 a k ⟨2048 + d.val, by omega⟩) = w (ix3 a k ⟨1024 + d.val, by omega⟩) := by
  unfold weaveBias
  refine Eq.trans (concatenate_apply_piece 2 _ _ (ix3 a k ⟨2048 + d.val, by omega⟩) 2 (by show 2 < 15; omega) S4x1x1024
    (extractStridedSlice S4x1x1024 ![0, 0, 1024] w slices_S4x1x11008_S4x1x1024_0_0_1024) (by rfl) (by rfl) 2048
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_3 (w : FVec Ideal S4x1x11008 .f32) (a : Fin 4) (k : Fin 1) (d : Fin 1024) :
    weaveBias w (ix3 a k ⟨3072 + d.val, by omega⟩) = w (ix3 a k ⟨6528 + d.val, by omega⟩) := by
  unfold weaveBias
  refine Eq.trans (concatenate_apply_piece 2 _ _ (ix3 a k ⟨3072 + d.val, by omega⟩) 3 (by show 3 < 15; omega) S4x1x1024
    (extractStridedSlice S4x1x1024 ![0, 0, 6528] w slices_S4x1x11008_S4x1x1024_0_0_6528) (by rfl) (by rfl) 3072
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_4 (w : FVec Ideal S4x1x11008 .f32) (a : Fin 4) (k : Fin 1) (d : Fin 1024) :
    weaveBias w (ix3 a k ⟨4096 + d.val, by omega⟩) = w (ix3 a k ⟨2048 + d.val, by omega⟩) := by
  unfold weaveBias
  refine Eq.trans (concatenate_apply_piece 2 _ _ (ix3 a k ⟨4096 + d.val, by omega⟩) 4 (by show 4 < 15; omega) S4x1x1024
    (extractStridedSlice S4x1x1024 ![0, 0, 2048] w slices_S4x1x11008_S4x1x1024_0_0_2048) (by rfl) (by rfl) 4096
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_5 (w : FVec Ideal S4x1x11008 .f32) (a : Fin 4) (k : Fin 1) (d : Fin 1024) :
    weaveBias w (ix3 a k ⟨5120 + d.val, by omega⟩) = w (ix3 a k ⟨7552 + d.val, by omega⟩) := by
  unfold weaveBias
  refine Eq.trans (concatenate_apply_piece 2 _ _ (ix3 a k ⟨5120 + d.val, by omega⟩) 5 (by show 5 < 15; omega) S4x1x1024
    (extractStridedSlice S4x1x1024 ![0, 0, 7552] w slices_S4x1x11008_S4x1x1024_0_0_7552) (by rfl) (by rfl) 5120
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_6 (w : FVec Ideal S4x1x11008 .f32) (a : Fin 4) (k : Fin 1) (d : Fin 1024) :
    weaveBias w (ix3 a k ⟨6144 + d.val, by omega⟩) = w (ix3 a k ⟨3072 + d.val, by omega⟩) := by
  unfold weaveBias
  refine Eq.trans (concatenate_apply_piece 2 _ _ (ix3 a k ⟨6144 + d.val, by omega⟩) 6 (by show 6 < 15; omega) S4x1x1024
    (extractStridedSlice S4x1x1024 ![0, 0, 3072] w slices_S4x1x11008_S4x1x1024_0_0_3072) (by rfl) (by rfl) 6144
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_7 (w : FVec Ideal S4x1x11008 .f32) (a : Fin 4) (k : Fin 1) (d : Fin 1024) :
    weaveBias w (ix3 a k ⟨7168 + d.val, by omega⟩) = w (ix3 a k ⟨8576 + d.val, by omega⟩) := by
  unfold weaveBias
  refine Eq.trans (concatenate_apply_piece 2 _ _ (ix3 a k ⟨7168 + d.val, by omega⟩) 7 (by show 7 < 15; omega) S4x1x1024
    (extractStridedSlice S4x1x1024 ![0, 0, 8576] w slices_S4x1x11008_S4x1x1024_0_0_8576) (by rfl) (by rfl) 7168
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_8 (w : FVec Ideal S4x1x11008 .f32) (a : Fin 4) (k : Fin 1) (d : Fin 1024) :
    weaveBias w (ix3 a k ⟨8192 + d.val, by omega⟩) = w (ix3 a k ⟨4096 + d.val, by omega⟩) := by
  unfold weaveBias
  refine Eq.trans (concatenate_apply_piece 2 _ _ (ix3 a k ⟨8192 + d.val, by omega⟩) 8 (by show 8 < 15; omega) S4x1x1024
    (extractStridedSlice S4x1x1024 ![0, 0, 4096] w slices_S4x1x11008_S4x1x1024_0_0_4096) (by rfl) (by rfl) 8192
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_9 (w : FVec Ideal S4x1x11008 .f32) (a : Fin 4) (k : Fin 1) (d : Fin 1024) :
    weaveBias w (ix3 a k ⟨9216 + d.val, by omega⟩) = w (ix3 a k ⟨9600 + d.val, by omega⟩) := by
  unfold weaveBias
  refine Eq.trans (concatenate_apply_piece 2 _ _ (ix3 a k ⟨9216 + d.val, by omega⟩) 9 (by show 9 < 15; omega) S4x1x1024
    (extractStridedSlice S4x1x1024 ![0, 0, 9600] w slices_S4x1x11008_S4x1x1024_0_0_9600) (by rfl) (by rfl) 9216
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_10 (w : FVec Ideal S4x1x11008 .f32) (a : Fin 4) (k : Fin 1) (d : Fin 384) :
    weaveBias w (ix3 a k ⟨10240 + d.val, by omega⟩) = w (ix3 a k ⟨5120 + d.val, by omega⟩) := by
  unfold weaveBias
  refine Eq.trans (concatenate_apply_piece 2 _ _ (ix3 a k ⟨10240 + d.val, by omega⟩) 10 (by show 10 < 15; omega) S4x1x384
    (extractStridedSlice S4x1x384 ![0, 0, 5120] w slices_S4x1x11008_S4x1x384_0_0_5120) (by rfl) (by rfl) 10240
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_12 (w : FVec Ideal S4x1x11008 .f32) (a : Fin 4) (k : Fin 1) (d : Fin 384) :
    weaveBias w (ix3 a k ⟨10752 + d.val, by omega⟩) = w (ix3 a k ⟨10624 + d.val, by omega⟩) := by
  unfold weaveBias
  refine Eq.trans (concatenate_apply_piece 2 _ _ (ix3 a k ⟨10752 + d.val, by omega⟩) 12 (by show 12 < 15; omega) S4x1x384
    (extractStridedSlice S4x1x384 ![0, 0, 10624] w slices_S4x1x11008_S4x1x384_0_0_10624) (by rfl) (by rfl) 10752
    (by simp only [List.take_succ_cons, List.take_zero, List.map_cons, List.map_nil]; decide +kernel) (ix3 a k d)
    (by
      intro b hb
      match b with
      | ⟨0, _⟩ => rfl
      | ⟨1, _⟩ => rfl
      | ⟨2, _⟩ => exact absurd rfl hb) (by rfl)) ?_
  obtain rfl : k = 0 := Subsingleton.elim _ _
  pointwise []

theorem weaveBias_apply (w : FVec Ideal S4x1x11008 .f32) (a : Fin 4) (k : Fin 1) (n : Fin 12288) (c : Fin 11008)
    (h : (n.val < 10240 ∧ n.val % 2048 < 1024 ∧ c.val = 1024 * (n.val / 2048) + n.val % 2048)
      ∨ (n.val < 10240 ∧ 1024 ≤ n.val % 2048 ∧ c.val = 5504 + 1024 * (n.val / 2048) + (n.val % 2048 - 1024))
      ∨ (10240 ≤ n.val ∧ n.val < 10624 ∧ c.val = 5120 + (n.val - 10240))
      ∨ (10752 ≤ n.val ∧ n.val < 11136 ∧ c.val = 10624 + (n.val - 10752))) :
    weaveBias w (ix3 a k n) = w (ix3 a k c) := by
  rcases h with ⟨h1, h2, h3⟩ | ⟨h1, h2, h3⟩ | ⟨h1, h2, h3⟩ | ⟨h1, h2, h3⟩
  · have hj : n.val / 2048 = 0 ∨ n.val / 2048 = 1 ∨ n.val / 2048 = 2 ∨ n.val / 2048 = 3 ∨ n.val / 2048 = 4 := by omega
    rcases hj with e | e | e | e | e
    · exact (congrArg (fun z => weaveBias w (ix3 a k z)) (Fin.ext (by show n.val = 0 + (n.val - 0); omega))).trans
        ((weaveBias_0 w a k ⟨n.val - 0, by omega⟩).trans (congrArg (fun z => w (ix3 a k z)) (Fin.ext (by show 0 + (n.val - 0) = c.val; omega))))
    · exact (congrArg (fun z => weaveBias w (ix3 a k z)) (Fin.ext (by show n.val = 2048 + (n.val - 2048); omega))).trans
        ((weaveBias_2 w a k ⟨n.val - 2048, by omega⟩).trans (congrArg (fun z => w (ix3 a k z)) (Fin.ext (by show 1024 + (n.val - 2048) = c.val; omega))))
    · exact (congrArg (fun z => weaveBias w (ix3 a k z)) (Fin.ext (by show n.val = 4096 + (n.val - 4096); omega))).trans
        ((weaveBias_4 w a k ⟨n.val - 4096, by omega⟩).trans (congrArg (fun z => w (ix3 a k z)) (Fin.ext (by show 2048 + (n.val - 4096) = c.val; omega))))
    · exact (congrArg (fun z => weaveBias w (ix3 a k z)) (Fin.ext (by show n.val = 6144 + (n.val - 6144); omega))).trans
        ((weaveBias_6 w a k ⟨n.val - 6144, by omega⟩).trans (congrArg (fun z => w (ix3 a k z)) (Fin.ext (by show 3072 + (n.val - 6144) = c.val; omega))))
    · exact (congrArg (fun z => weaveBias w (ix3 a k z)) (Fin.ext (by show n.val = 8192 + (n.val - 8192); omega))).trans
        ((weaveBias_8 w a k ⟨n.val - 8192, by omega⟩).trans (congrArg (fun z => w (ix3 a k z)) (Fin.ext (by show 4096 + (n.val - 8192) = c.val; omega))))
  · have hj : n.val / 2048 = 0 ∨ n.val / 2048 = 1 ∨ n.val / 2048 = 2 ∨ n.val / 2048 = 3 ∨ n.val / 2048 = 4 := by omega
    rcases hj with e | e | e | e | e
    · exact (congrArg (fun z => weaveBias w (ix3 a k z)) (Fin.ext (by show n.val = 1024 + (n.val - 1024); omega))).trans
        ((weaveBias_1 w a k ⟨n.val - 1024, by omega⟩).trans (congrArg (fun z => w (ix3 a k z)) (Fin.ext (by show 5504 + (n.val - 1024) = c.val; omega))))
    · exact (congrArg (fun z => weaveBias w (ix3 a k z)) (Fin.ext (by show n.val = 3072 + (n.val - 3072); omega))).trans
        ((weaveBias_3 w a k ⟨n.val - 3072, by omega⟩).trans (congrArg (fun z => w (ix3 a k z)) (Fin.ext (by show 6528 + (n.val - 3072) = c.val; omega))))
    · exact (congrArg (fun z => weaveBias w (ix3 a k z)) (Fin.ext (by show n.val = 5120 + (n.val - 5120); omega))).trans
        ((weaveBias_5 w a k ⟨n.val - 5120, by omega⟩).trans (congrArg (fun z => w (ix3 a k z)) (Fin.ext (by show 7552 + (n.val - 5120) = c.val; omega))))
    · exact (congrArg (fun z => weaveBias w (ix3 a k z)) (Fin.ext (by show n.val = 7168 + (n.val - 7168); omega))).trans
        ((weaveBias_7 w a k ⟨n.val - 7168, by omega⟩).trans (congrArg (fun z => w (ix3 a k z)) (Fin.ext (by show 8576 + (n.val - 7168) = c.val; omega))))
    · exact (congrArg (fun z => weaveBias w (ix3 a k z)) (Fin.ext (by show n.val = 9216 + (n.val - 9216); omega))).trans
        ((weaveBias_9 w a k ⟨n.val - 9216, by omega⟩).trans (congrArg (fun z => w (ix3 a k z)) (Fin.ext (by show 9600 + (n.val - 9216) = c.val; omega))))
  · exact (congrArg (fun z => weaveBias w (ix3 a k z)) (Fin.ext (by show n.val = 10240 + (n.val - 10240); omega))).trans
        ((weaveBias_10 w a k ⟨n.val - 10240, by omega⟩).trans (congrArg (fun z => w (ix3 a k z)) (Fin.ext (by show 5120 + (n.val - 10240) = c.val; omega))))
  · exact (congrArg (fun z => weaveBias w (ix3 a k z)) (Fin.ext (by show n.val = 10752 + (n.val - 10752); omega))).trans
        ((weaveBias_12 w a k ⟨n.val - 10752, by omega⟩).trans (congrArg (fun z => w (ix3 a k z)) (Fin.ext (by show 10624 + (n.val - 10752) = c.val; omega))))

/-- The second weights with rows of zeros below. -/
def padDown (w : FVec Ideal S4x5504x2048 .f32) : FVec Ideal S4x6144x2048 .f32 :=
  pad S4x6144x2048 ![0, 0, 0] ![0, 640, 0] ![0, 0, 0] w (sitofp .f32 (constantI S_ 32 0#32)) pads_S4x5504x2048_S4x6144x2048_000_06400_000 h_S_

theorem padDown_apply (w : FVec Ideal S4x5504x2048 .f32) (a : Fin 4) (e : Fin 6144) (n : Fin 2048) :
    padDown w (ix3 a e n) = if h : e.val < 5504 then w (ix3 a ⟨e.val, h⟩ n) else 0 := by
  have zero : FloatOps.sitofp (F := Ideal) FTy.f32 0#32 = (0 : EReal) := by
    show ((((0#32 : BitVec 32).toInt : ℝ)) : EReal) = 0
    simp
  pointwise [padDown]
  rw [zero]

section

variable (m : (ℓ : Loc nD τ sig) → Buf (Elt Ideal) ℓ) (c : Dev nD)

/-- The activations, the weights, the taps, the biases, the second weights, the scales and the shifts. -/
def inX : FVec Ideal S16384x2048 .f32 := m ((c : Thread nD τ).loc main_arg0)
def inUp : FVec Ideal S4x2048x11008 .f32 := m ((c : Thread nD τ).loc main_arg1)
def inTaps : FVec Ideal S4x3x11008 .f32 := m ((c : Thread nD τ).loc main_arg2)
def inBias : FVec Ideal S4x11008 .f32 := m ((c : Thread nD τ).loc main_arg3)
def inDown : FVec Ideal S4x5504x2048 .f32 := m ((c : Thread nD τ).loc main_arg4)
def inScale : FVec Ideal S4x2048 .f32 := m ((c : Thread nD τ).loc main_arg5)
def inShift : FVec Ideal S4x2048 .f32 := m ((c : Thread nD τ).loc main_arg6)

theorem flat : (List.flatten [hostOps0, hostOps0_1, hostOps0_2] : List (HloOp τ sig (Elt Ideal))) = hostOps0 ++ (hostOps0_1 ++ hostOps0_2) := by
  simp only [List.flatten_cons, List.flatten_nil, List.append_nil]

theorem V_v52 : V m c main_v52 = truncf .bf16 (inX m c) bitsLt_bf16_f32 := by
  show StableHlo.after (List.flatten [hostOps0, hostOps0_1, hostOps0_2]) _ (Proc.devRef .tc main_v52) = _
  rw [flat]
  after_reads_simp
  rfl

theorem V_v16 : V m c main_v16 = truncf .bf16 (weaveUp (inUp m c)) bitsLt_bf16_f32 := by
  show StableHlo.after (List.flatten [hostOps0, hostOps0_1, hostOps0_2]) _ (Proc.devRef .tc main_v16) = _
  rw [flat]
  after_reads_simp
  rfl

theorem V_v34 : V m c main_v34 = weaveTaps (inTaps m c) := by
  show StableHlo.after (List.flatten [hostOps0, hostOps0_1, hostOps0_2]) _ (Proc.devRef .tc main_v34) = _
  rw [flat]
  after_reads_simp
  rfl

theorem V_v51 : V m c main_v51 = weaveBias (broadcastInDim S4x1x11008 ![0, 2] bcast_S4x11008_S4x1x11008_0_2 (inBias m c)) := by
  show StableHlo.after (List.flatten [hostOps0, hostOps0_1, hostOps0_2]) _ (Proc.devRef .tc main_v51) = _
  rw [flat]
  after_reads_simp
  rfl

theorem V_v18 : V m c main_v18 = truncf .bf16 (padDown (inDown m c)) bitsLt_bf16_f32 := by
  show StableHlo.after (List.flatten [hostOps0, hostOps0_1, hostOps0_2]) _ (Proc.devRef .tc main_v18) = _
  rw [flat]
  after_reads_simp
  rfl

theorem V_v53 : V m c main_v53 = broadcastInDim S4x1x2048 ![0, 2] bcast_S4x2048_S4x1x2048_0_2 (inScale m c) := by
  show StableHlo.after (List.flatten [hostOps0, hostOps0_1, hostOps0_2]) _ (Proc.devRef .tc main_v53) = _
  rw [flat]
  after_reads_simp
  rfl

theorem V_v54 : V m c main_v54 = broadcastInDim S4x1x2048 ![0, 2] bcast_S4x2048_S4x1x2048_0_2 (inShift m c) := by
  show StableHlo.after (List.flatten [hostOps0, hostOps0_1, hostOps0_2]) _ (Proc.devRef .tc main_v54) = _
  rw [flat]
  after_reads_simp
  rfl

end

end Cert.Ffn

end
-- ==== Proof.FfnPay.lean ====
/- The arithmetic of one grid point of the convolutional feed-forward kernel, element by element. -/
module

public import proofs.«01_k».proof.Proof.FfnRun
public import Idealize.ShloMosaic.Lib.Pointwise

@[expose] public section

set_option maxRecDepth 16384

noncomputable section

namespace Cert.Ffn

open Idealize.ShloMosaic Idealize.ShloMosaic.TcCoe Cert.ConvFfnIdeal.Gen Cert.ConvFfnIdeal Cert.ConvFfnIdeal.Ffn Pointwise

/-- The row `k` above a row of a block, from the carried rows when it lies in the block above. -/
def up (k : ℕ) (h : Fin 512 → EReal) (p : Fin 8 → EReal) (r : Fin 512) : EReal :=
  if r.val < k then p ⟨(r.val + 8 - k) % 8, by omega⟩ else h ⟨(r.val + 512 - k) % 512, by omega⟩

/-- The three taps of the filter and the bias. -/
def mix (w0 w1 w2 b h h1 h2 : EReal) : EReal := w2 * h + b + w1 * h1 + w0 * h2

/-- The gate of the kernel: the silu of the second value times the first. -/
def act (a g : EReal) : EReal :=
  g * Ideal.div 1 (1 + Ideal.exp2 (g * ((-(Real.log 2)⁻¹ : ℝ) : EReal))) * a

theorem below_one (r : ℕ) (h : r < 8) : IntOp.cmpi .slt (BitVec.ofNat 32 r) 1#32 = if r < 1 then 1#1 else 0#1 :=
  (by decide : ∀ r : Fin 8, IntOp.cmpi .slt (BitVec.ofNat 32 r.val) 1#32 = if r.val < 1 then 1#1 else 0#1) ⟨r, h⟩

theorem below_two (r : ℕ) (h : r < 8) : IntOp.cmpi .slt (BitVec.ofNat 32 r) 2#32 = if r < 2 then 1#1 else 0#1 :=
  (by decide : ∀ r : Fin 8, IntOp.cmpi .slt (BitVec.ofNat 32 r.val) 2#32 = if r.val < 2 then 1#1 else 0#1) ⟨r, h⟩

theorem pick_one (p : Fin 8 → EReal) (h : Fin 512 → EReal) (r : Fin 512) :
    (if q : r.val < 8 then Scalar.select (IntOp.cmpi .slt (BitVec.ofNat 32 r.val) 1#32) (p ⟨(r.val + 8 - 1) % 8, by omega⟩)
      (h ⟨(r.val + 512 - 1) % 512, by omega⟩) else h ⟨(8 + (r.val - 8) + 512 - 1) % 512, by omega⟩) = up 1 h p r := by
  unfold up
  by_cases q : r.val < 8
  · rw [dif_pos q, below_one _ q]
    by_cases s : r.val < 1
    · rw [if_pos s, if_pos s]; rfl
    · rw [if_neg s, if_neg s]; rfl
  · rw [dif_neg q, if_neg (by omega)]
    exact congrArg h (Fin.ext (by show _ % _ = _ % _; congr 1; omega))

theorem pick_two (p : Fin 8 → EReal) (h : Fin 512 → EReal) (r : Fin 512) :
    (if q : r.val < 8 then Scalar.select (IntOp.cmpi .slt (BitVec.ofNat 32 r.val) 2#32) (p ⟨(r.val + 8 - 2) % 8, by omega⟩)
      (h ⟨(r.val + 512 - 2) % 512, by omega⟩) else h ⟨(8 + (r.val - 8) + 512 - 2) % 512, by omega⟩) = up 2 h p r := by
  unfold up
  by_cases q : r.val < 8
  · rw [dif_pos q, below_two _ q]
    by_cases s : r.val < 2
    · rw [if_pos s, if_pos s]; rfl
    · rw [if_neg s, if_neg s]; rfl
  · rw [dif_neg q, if_neg (by omega)]
    exact congrArg h (Fin.ext (by show _ % _ = _ % _; congr 1; omega))

/-- The carried rows: none above the first block of a sequence. -/
def carried (b : BitVec 1) (p : EReal) : EReal := if b = 1#1 then 0 else p

theorem pay5_apply (x : Vec Ideal S512x2048 .bf16) (w : Vec Ideal S1x2048x2048 .bf16) (r : Fin 512) (d : Fin 2048) :
    k0_pay5 (F := Ideal) x w (ix2 r d) = ∑ k : Fin 2048, x (ix2 r k) * w (ix3 0 k d) := by
  pointwise [k0_pay5]

theorem pay6_apply (b : BitVec 1) (p : Vec Ideal S1x8x2048 .f32) (r : Fin 8) (d : Fin 2048) :
    k0_pay6 (F := Ideal) b p (ix2 r d) = carried b (p (ix3 0 r d)) := by
  unfold k0_pay6 Scalar.select carried
  by_cases h : b = 1#1
  · rw [if_pos (show b = 1 from h), if_pos h]
    pointwise []
  · rw [if_neg (show ¬ b = 1 from h), if_neg h]
    pointwise []

theorem pay7_apply (x : Vec Ideal S512x2048 .bf16) (w : Vec Ideal S1x2048x2048 .bf16) (r : Fin 8) (d : Fin 2048) :
    k0_pay7 (F := Ideal) x w (ix3 0 r d) = ∑ k : Fin 2048, x (ix2 ⟨504 + r.val, by omega⟩ k) * w (ix3 0 k d) := by
  pointwise [k0_pay7]
  exact pay5_apply x w _ d

/-- The convolution of one block at a row and a column. -/
def mix2048At (b : BitVec 1) (x : Vec Ideal S512x2048 .bf16) (w : Vec Ideal S1x2048x2048 .bf16) (cw : Vec Ideal S1x3x2048 .f32)
    (cb : Vec Ideal S1x1x2048 .f32) (p : Vec Ideal S1x8x2048 .f32) (r : Fin 512) (d : Fin 2048) : EReal :=
  mix (cw (ix3 0 0 d)) (cw (ix3 0 1 d)) (cw (ix3 0 2 d)) (cb (ix3 0 0 d)) (∑ k : Fin 2048, x (ix2 r k) * w (ix3 0 k d))
    (up 1 (fun q => ∑ k : Fin 2048, x (ix2 q k) * w (ix3 0 k d)) (fun q => carried b (p (ix3 0 q d))) r)
    (up 2 (fun q => ∑ k : Fin 2048, x (ix2 q k) * w (ix3 0 k d)) (fun q => carried b (p (ix3 0 q d))) r)

theorem pay9_apply (b : BitVec 1) (x : Vec Ideal S512x2048 .bf16) (w : Vec Ideal S1x2048x2048 .bf16) (cw : Vec Ideal S1x3x2048 .f32)
    (cb : Vec Ideal S1x1x2048 .f32) (p : Vec Ideal S1x8x2048 .f32) (r : Fin 512) (d : Fin 2048) :
    k0_pay9 (F := Ideal) b x w p cw cb (ix2 r d) = cw (ix3 0 2 d) * (∑ k : Fin 2048, x (ix2 r k) * w (ix3 0 k d)) + cb (ix3 0 0 d)
      + cw (ix3 0 1 d) * up 1 (fun q => ∑ k : Fin 2048, x (ix2 q k) * w (ix3 0 k d)) (fun q => carried b (p (ix3 0 q d))) r := by
  have e := pick_one (fun q => carried b (p (ix3 0 q d))) (fun q => ∑ k : Fin 2048, x (ix2 q k) * w (ix3 0 k d)) r
  rw [← e]
  pointwise [k0_pay9, k0_pay8]
  simp only [pay5_apply, pay6_apply]

/-- The convolution's last tap. -/
def taps2048 (v31 : FVec Ideal S8x2048 .f32) (v39 : FVec Ideal S3x2048 .f32) (v58 : FVec Ideal S512x2048 .f32) (v59 : FVec Ideal S512x2048 .f32) :
    FVec Ideal S512x2048 .f32 :=
  addf v58 (mulf (broadcastTo S512x2048 (extractStridedSlice S1x2048 ![0, 0] v39 slices_S3x2048_o0_0_S1x2048) broadcasts_S1x2048_S512x2048)
    (concatenate S512x2048 0 [⟨S8x2048, select (cmpi .slt (iota .tc S8x2048 32 [0] iota_S8x2048_d0_w32) (broadcast S8x2048 2#32))
      (dynamicRotate 0 2#32 none v31 rotates_S8x2048_d0) (extractStridedSlice S8x2048 ![0, 0] v59 slices_S512x2048_o0_0_S8x2048)⟩,
      ⟨S504x2048, extractStridedSlice S504x2048 ![8, 0] v59 slices_S512x2048_o8_0_S504x2048⟩] concatenates_S8x2048_S504x2048_S512x2048_d0))

/-- The gate and the product with the second weights. -/
def gated2048 (y : FVec Ideal S512x2048 .f32) (wd : Vec Ideal S1x1024x2048 .bf16) : FVec Ideal S512x2048 .f32 :=
  have v71 : FVec Ideal S512x1024 .f32 := extractStridedSlice S512x1024 ![0, 0] y slices_S512x2048_o0_0_S512x1024
  have v72 : FVec Ideal S512x1024 .f32 := extractStridedSlice S512x1024 ![0, 1024] y slices_S512x2048_o0_1024_S512x1024
  have v73 : FVec Ideal S512x1024 .f32 := broadcast S512x1024 (Named.named κ "neg_log2e" 0xBFB8AA3B#32)
  have v76 : FVec Ideal S512x1024 .f32 := broadcast S512x1024 (Scalar.ofBits .f32 0x3F800000#32)
  have v81 : FVec Ideal S512x1024 .f32 := mulf (mulf v72 (divf v76 (addf v76 (exp2 (mulf v72 v73))))) v71
  have v84 : FVec Ideal S1024x2048 .bf16 := shapeCast S1024x2048 wd shapeCasts_S1x1024x2048_S1024x2048
  matmul dot_S512x1024_S1024x2048_S512x2048_1_0_0_1_n_n none (truncf .bf16 v81 bitsLt_bf16_f32)
    v84 (constant S512x2048 .f32 0x00000000#32)

theorem taps2048_apply (v31 : FVec Ideal S8x2048 .f32) (v39 : FVec Ideal S3x2048 .f32) (v58 : FVec Ideal S512x2048 .f32)
    (h : FVec Ideal S512x2048 .f32) (r : Fin 512) (d : Fin 2048) :
    taps2048 v31 v39 v58 (dynamicRotate 0 2#32 none h rotates_S512x2048_d0) (ix2 r d)
      = v58 (ix2 r d) + v39 (ix2 0 d) * up 2 (fun q => h (ix2 q d)) (fun q => v31 (ix2 q d)) r := by
  rw [← pick_two]
  pointwise [taps2048]

theorem gated2048_apply (y : FVec Ideal S512x2048 .f32) (wd : Vec Ideal S1x1024x2048 .bf16) (r : Fin 512) (n : Fin 2048) :
    gated2048 y wd (ix2 r n) = ∑ d : Fin 1024, act (y (ix2 r ⟨d.val, by omega⟩)) (y (ix2 r ⟨1024 + d.val, by omega⟩)) * wd (ix3 0 d n) := by
  pointwise [gated2048, act]
  rfl

theorem mix2048At_eq (b : BitVec 1) (x : Vec Ideal S512x2048 .bf16) (w : Vec Ideal S1x2048x2048 .bf16) (cw : Vec Ideal S1x3x2048 .f32)
    (cb : Vec Ideal S1x1x2048 .f32) (p : Vec Ideal S1x8x2048 .f32) (r : Fin 512) (d : Fin 2048) :
    taps2048 (k0_pay6 b p) (k0_pay8 cw) (k0_pay9 b x w p cw cb) (dynamicRotate 0 2#32 none (k0_pay5 x w) rotates_S512x2048_d0) (ix2 r d)
      = mix2048At b x w cw cb p r d := by
  rw [taps2048_apply, pay9_apply]
  simp only [pay5_apply, pay6_apply]
  rw [show k0_pay8 (F := Ideal) cw (ix2 0 d) = cw (ix3 0 0 d) from by pointwise [k0_pay8]]
  rfl

theorem opening_apply (b : BitVec 1) (x : Vec Ideal S512x2048 .bf16) (w : Vec Ideal S1x2048x2048 .bf16) (cw : Vec Ideal S1x3x2048 .f32)
    (cb : Vec Ideal S1x1x2048 .f32) (wd : Vec Ideal S1x1024x2048 .bf16) (p : Vec Ideal S1x8x2048 .f32) (r : Fin 512) (n : Fin 2048) :
    opening b x w cw cb wd p (ix2 r n) = ∑ d : Fin 1024,
      act (mix2048At b x w cw cb p r ⟨d.val, by omega⟩) (mix2048At b x w cw cb p r ⟨1024 + d.val, by omega⟩) * wd (ix3 0 d n) := by
  have e : opening b x w cw cb wd p = gated2048 (taps2048 (k0_pay6 b p) (k0_pay8 cw) (k0_pay9 b x w p cw cb)
    (dynamicRotate 0 2#32 none (k0_pay5 x w) rotates_S512x2048_d0)) wd := rfl
  rw [e, gated2048_apply]
  exact Finset.sum_congr rfl fun d _ => congrArg₂ (fun a g : EReal => act a g * wd (ix3 0 d n)) (mix2048At_eq b x w cw cb p r _)
    (mix2048At_eq b x w cw cb p r _)

theorem adding_apply (b : BitVec 1) (x : Vec Ideal S512x2048 .bf16) (w : Vec Ideal S1x2048x2048 .bf16) (cw : Vec Ideal S1x3x2048 .f32)
    (cb : Vec Ideal S1x1x2048 .f32) (wd : Vec Ideal S1x1024x2048 .bf16) (p : Vec Ideal S1x8x2048 .f32) (o : Vec Ideal S512x2048 .f32)
    (r : Fin 512) (n : Fin 2048) :
    adding b x w cw cb wd p o (ix2 r n) = o (ix2 r n) + opening b x w cw cb wd p (ix2 r n) := by
  have e : adding b x w cw cb wd p o = addf (shapeCast S512x2048 o shapeCasts_S512x2048_S512x2048) (opening b x w cw cb wd p) := rfl
  rw [e]
  pointwise []

theorem tail_apply (x : Vec Ideal S512x2048 .bf16) (w : Vec Ideal S1x2048x2048 .bf16) (r : Fin 8) (d : Fin 2048) :
    tail x w (ix3 0 r d) = ∑ k : Fin 2048, x (ix2 ⟨504 + r.val, by omega⟩ k) * w (ix3 0 k d) := pay7_apply x w r d

theorem pay17_apply (x : Vec Ideal S512x2048 .bf16) (w : Vec Ideal S1x2048x1024 .bf16) (r : Fin 512) (d : Fin 1024) :
    k0_pay17 (F := Ideal) x w (ix2 r d) = ∑ k : Fin 2048, x (ix2 r k) * w (ix3 0 k d) := by
  pointwise [k0_pay17]

theorem pay18_apply (b : BitVec 1) (p : Vec Ideal S1x8x1024 .f32) (r : Fin 8) (d : Fin 1024) :
    k0_pay18 (F := Ideal) b p (ix2 r d) = carried b (p (ix3 0 r d)) := by
  unfold k0_pay18 Scalar.select carried
  by_cases h : b = 1#1
  · rw [if_pos (show b = 1 from h), if_pos h]
    pointwise []
  · rw [if_neg (show ¬ b = 1 from h), if_neg h]
    pointwise []

theorem pay19_apply (x : Vec Ideal S512x2048 .bf16) (w : Vec Ideal S1x2048x1024 .bf16) (r : Fin 8) (d : Fin 1024) :
    k0_pay19 (F := Ideal) x w (ix3 0 r d) = ∑ k : Fin 2048, x (ix2 ⟨504 + r.val, by omega⟩ k) * w (ix3 0 k d) := by
  pointwise [k0_pay19]
  exact pay17_apply x w _ d

/-- The convolution of one block at a row and a column. -/
def mix1024At (b : BitVec 1) (x : Vec Ideal S512x2048 .bf16) (w : Vec Ideal S1x2048x1024 .bf16) (cw : Vec Ideal S1x3x1024 .f32)
    (cb : Vec Ideal S1x1x1024 .f32) (p : Vec Ideal S1x8x1024 .f32) (r : Fin 512) (d : Fin 1024) : EReal :=
  mix (cw (ix3 0 0 d)) (cw (ix3 0 1 d)) (cw (ix3 0 2 d)) (cb (ix3 0 0 d)) (∑ k : Fin 2048, x (ix2 r k) * w (ix3 0 k d))
    (up 1 (fun q => ∑ k : Fin 2048, x (ix2 q k) * w (ix3 0 k d)) (fun q => carried b (p (ix3 0 q d))) r)
    (up 2 (fun q => ∑ k : Fin 2048, x (ix2 q k) * w (ix3 0 k d)) (fun q => carried b (p (ix3 0 q d))) r)

theorem pay21_apply (b : BitVec 1) (x : Vec Ideal S512x2048 .bf16) (w : Vec Ideal S1x2048x1024 .bf16) (cw : Vec Ideal S1x3x1024 .f32)
    (cb : Vec Ideal S1x1x1024 .f32) (p : Vec Ideal S1x8x1024 .f32) (r : Fin 512) (d : Fin 1024) :
    k0_pay21 (F := Ideal) b x w p cw cb (ix2 r d) = cw (ix3 0 2 d) * (∑ k : Fin 2048, x (ix2 r k) * w (ix3 0 k d)) + cb (ix3 0 0 d)
      + cw (ix3 0 1 d) * up 1 (fun q => ∑ k : Fin 2048, x (ix2 q k) * w (ix3 0 k d)) (fun q => carried b (p (ix3 0 q d))) r := by
  have e := pick_one (fun q => carried b (p (ix3 0 q d))) (fun q => ∑ k : Fin 2048, x (ix2 q k) * w (ix3 0 k d)) r
  rw [← e]
  pointwise [k0_pay21, k0_pay20]
  simp only [pay17_apply, pay18_apply]

/-- The convolution's last tap. -/
def taps1024 (v31 : FVec Ideal S8x1024 .f32) (v39 : FVec Ideal S3x1024 .f32) (v58 : FVec Ideal S512x1024 .f32) (v59 : FVec Ideal S512x1024 .f32) :
    FVec Ideal S512x1024 .f32 :=
  addf v58 (mulf (broadcastTo S512x1024 (extractStridedSlice S1x1024 ![0, 0] v39 slices_S3x1024_o0_0_S1x1024) broadcasts_S1x1024_S512x1024)
    (concatenate S512x1024 0 [⟨S8x1024, select (cmpi .slt (iota .tc S8x1024 32 [0] iota_S8x1024_d0_w32) (broadcast S8x1024 2#32))
      (dynamicRotate 0 2#32 none v31 rotates_S8x1024_d0) (extractStridedSlice S8x1024 ![0, 0] v59 slices_S512x1024_o0_0_S8x1024)⟩,
      ⟨S504x1024, extractStridedSlice S504x1024 ![8, 0] v59 slices_S512x1024_o8_0_S504x1024⟩] concatenates_S8x1024_S504x1024_S512x1024_d0))

/-- The gate and the product with the second weights. -/
def gated1024 (y : FVec Ideal S512x1024 .f32) (wd : Vec Ideal S1x512x2048 .bf16) : FVec Ideal S512x2048 .f32 :=
  have v71 : FVec Ideal S512x512 .f32 := extractStridedSlice S512x512 ![0, 0] y slices_S512x1024_o0_0_S512x512
  have v72 : FVec Ideal S512x512 .f32 := extractStridedSlice S512x512 ![0, 512] y slices_S512x1024_o0_512_S512x512
  have v73 : FVec Ideal S512x512 .f32 := broadcast S512x512 (Named.named κ "neg_log2e" 0xBFB8AA3B#32)
  have v76 : FVec Ideal S512x512 .f32 := broadcast S512x512 (Scalar.ofBits .f32 0x3F800000#32)
  have v81 : FVec Ideal S512x512 .f32 := mulf (mulf v72 (divf v76 (addf v76 (exp2 (mulf v72 v73))))) v71
  have v84 : FVec Ideal S512x2048 .bf16 := shapeCast S512x2048 wd shapeCasts_S1x512x2048_S512x2048
  matmul dot_S512x512_S512x2048_S512x2048_1_0_0_1_n_n none (truncf .bf16 v81 bitsLt_bf16_f32)
    v84 (constant S512x2048 .f32 0x00000000#32)

theorem taps1024_apply (v31 : FVec Ideal S8x1024 .f32) (v39 : FVec Ideal S3x1024 .f32) (v58 : FVec Ideal S512x1024 .f32)
    (h : FVec Ideal S512x1024 .f32) (r : Fin 512) (d : Fin 1024) :
    taps1024 v31 v39 v58 (dynamicRotate 0 2#32 none h rotates_S512x1024_d0) (ix2 r d)
      = v58 (ix2 r d) + v39 (ix2 0 d) * up 2 (fun q => h (ix2 q d)) (fun q => v31 (ix2 q d)) r := by
  rw [← pick_two]
  pointwise [taps1024]

theorem gated1024_apply (y : FVec Ideal S512x1024 .f32) (wd : Vec Ideal S1x512x2048 .bf16) (r : Fin 512) (n : Fin 2048) :
    gated1024 y wd (ix2 r n) = ∑ d : Fin 512, act (y (ix2 r ⟨d.val, by omega⟩)) (y (ix2 r ⟨512 + d.val, by omega⟩)) * wd (ix3 0 d n) := by
  pointwise [gated1024, act]
  rfl

theorem mix1024At_eq (b : BitVec 1) (x : Vec Ideal S512x2048 .bf16) (w : Vec Ideal S1x2048x1024 .bf16) (cw : Vec Ideal S1x3x1024 .f32)
    (cb : Vec Ideal S1x1x1024 .f32) (p : Vec Ideal S1x8x1024 .f32) (r : Fin 512) (d : Fin 1024) :
    taps1024 (k0_pay18 b p) (k0_pay20 cw) (k0_pay21 b x w p cw cb) (dynamicRotate 0 2#32 none (k0_pay17 x w) rotates_S512x1024_d0) (ix2 r d)
      = mix1024At b x w cw cb p r d := by
  rw [taps1024_apply, pay21_apply]
  simp only [pay17_apply, pay18_apply]
  rw [show k0_pay20 (F := Ideal) cw (ix2 0 d) = cw (ix3 0 0 d) from by pointwise [k0_pay20]]
  rfl

theorem closing_apply (b : BitVec 1) (x : Vec Ideal S512x2048 .bf16) (w : Vec Ideal S1x2048x2048 .bf16) (cw : Vec Ideal S1x3x2048 .f32)
    (cb : Vec Ideal S1x1x2048 .f32) (wd : Vec Ideal S1x1024x2048 .bf16) (p : Vec Ideal S1x8x1024 .f32) (o : Vec Ideal S512x2048 .f32)
    (r : Fin 512) (n : Fin 2048) :
    closing b x w cw cb wd p o (ix2 r n) = o (ix2 r n) + ∑ d : Fin 512,
      act (mix1024At b x (halfUp w) (VecWindow.window cw ![0, 0, 0] S1x3x1024.size inb_S1x3x2048_S1x3x1024_0_0_0)
          (VecWindow.window cb ![0, 0, 0] S1x1x1024.size inb_S1x1x2048_S1x1x1024_0_0_0) p r ⟨d.val, by omega⟩)
        (mix1024At b x (halfUp w) (VecWindow.window cw ![0, 0, 0] S1x3x1024.size inb_S1x3x2048_S1x3x1024_0_0_0)
          (VecWindow.window cb ![0, 0, 0] S1x1x1024.size inb_S1x1x2048_S1x1x1024_0_0_0) p r ⟨512 + d.val, by omega⟩)
        * VecWindow.window wd ![0, 0, 0] S1x512x2048.size inb_S1x1024x2048_S1x512x2048_0_0_0 (ix3 0 d n) := by
  have e : closing b x w cw cb wd p o = addf (shapeCast S512x2048 o shapeCasts_S512x2048_S512x2048)
    (gated1024 (taps1024 (k0_pay18 b p) (k0_pay20 (VecWindow.window cw ![0, 0, 0] S1x3x1024.size inb_S1x3x2048_S1x3x1024_0_0_0))
      (k0_pay21 b x (halfUp w) p (VecWindow.window cw ![0, 0, 0] S1x3x1024.size inb_S1x3x2048_S1x3x1024_0_0_0)
        (VecWindow.window cb ![0, 0, 0] S1x1x1024.size inb_S1x1x2048_S1x1x1024_0_0_0))
    (dynamicRotate 0 2#32 none (k0_pay17 x (halfUp w)) rotates_S512x1024_d0))
      (VecWindow.window wd ![0, 0, 0] S1x512x2048.size inb_S1x1024x2048_S1x512x2048_0_0_0)) := rfl
  have q : ∀ z : FVec Ideal S512x2048 .f32, addf (shapeCast S512x2048 o shapeCasts_S512x2048_S512x2048) z (ix2 r n)
      = o (ix2 r n) + z (ix2 r n) := fun z => by pointwise []
  rw [e, q, gated1024_apply]
  refine congrArg (fun z : EReal => o (ix2 r n) + z) ?_
  exact Finset.sum_congr rfl fun d _ => congrArg₂
    (fun a g : EReal => act a g * VecWindow.window wd ![0, 0, 0] S1x512x2048.size inb_S1x1024x2048_S1x512x2048_0_0_0 (ix3 0 d n))
    (mix1024At_eq b x (halfUp w) _ _ p r _) (mix1024At_eq b x (halfUp w) _ _ p r _)

theorem tailHalf_apply (x : Vec Ideal S512x2048 .bf16) (w : Vec Ideal S1x2048x2048 .bf16) (r : Fin 8) (d : Fin 1024) :
    tailHalf x w (ix3 0 r d) = ∑ k : Fin 2048, x (ix2 ⟨504 + r.val, by omega⟩ k) * halfUp w (ix3 0 k d) := pay19_apply x _ r d

theorem pay24_apply (o x : Vec Ideal S512x2048 .f32) (r : Fin 512) (d : Fin 2048) :
    k0_pay24 (F := Ideal) o x (ix2 r d) = Ideal.ofBits .f32 1071072509#32 * x (ix2 r d) + o (ix2 r d) := by
  pointwise [k0_pay24]

/-- The layer normalisation of a row. -/
def norm (y : Fin 2048 → EReal) (g b : EReal) (d : Fin 2048) : EReal :=
  (y d - Ideal.div (∑ x, y x) (Ideal.ofBits .f32 1157627904#32))
    * Ideal.rsqrt (Ideal.div (∑ x, (y x - Ideal.div (∑ x, y x) (Ideal.ofBits .f32 1157627904#32))
        * (y x - Ideal.div (∑ x, y x) (Ideal.ofBits .f32 1157627904#32))) (Ideal.ofBits .f32 1157627904#32)
      + Ideal.ofBits .f32 925353388#32) * g + b

theorem normed_apply (o x : Vec Ideal S512x2048 .f32) (g b : Vec Ideal S1x1x2048 .f32) (r : Fin 512) (d : Fin 2048) :
    normed (F := Ideal) o x g b (ix2 r d)
      = norm (fun k => Ideal.ofBits .f32 1071072509#32 * x (ix2 r k) + o (ix2 r k)) (g (ix3 0 0 d)) (b (ix3 0 0 d)) d := by
  pointwise [normed, k0_pay3, k0_pay25, norm, k0_pay24]

theorem normedNarrow_apply (o x : Vec Ideal S512x2048 .f32) (g b : Vec Ideal S1x1x2048 .f32) (r : Fin 512) (d : Fin 2048) :
    normedNarrow (F := Ideal) o x g b (ix2 r d) = normed (F := Ideal) o x g b (ix2 r d) := by
  pointwise [normedNarrow, k0_pay4, normed]

end Cert.Ffn
-- ==== Proof.FfnMath.lean ====
/- The convolutional feed-forward block as a function of a row and a column, in the two spellings of the kernel and of the
   reference. -/
module

public import proofs.«01_k».proof.Proof.FfnPay

@[expose] public section

noncomputable section

namespace Cert.Ffn

open Idealize.ShloMosaic

/-! ## The gate -/

/-- The reference's gate. -/
def silu (a g : EReal) : EReal := g * Ideal.div 1 (1 + Ideal.exp (-g)) * a

theorem exp2_scaled (x : EReal) : Ideal.exp2 (x * ((-(Real.log 2)⁻¹ : ℝ) : EReal)) = Ideal.exp (-x) := by
  have hl : 0 < Real.log 2 := Real.log_pos (by norm_num)
  have hn : -(Real.log 2)⁻¹ < 0 := neg_lt_zero.mpr (inv_pos.mpr hl)
  induction x using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg, Ideal.exp2_coe, Ideal.exp_coe]
    refine congrArg _ ?_
    rw [Real.rpow_eq_pow, Real.rpow_def_of_pos (by norm_num)]
    refine congrArg _ ?_
    field_simp

theorem act_eq (a g : EReal) : act a g = silu a g := by
  unfold act silu
  rw [exp2_scaled]

/-! ## The block -/

variable (x : Fin 16384 → Fin 2048 → EReal) (w : Fin 2048 → Fin 11008 → EReal) (cw : Fin 3 → Fin 11008 → EReal)
  (cb : Fin 11008 → EReal) (wd : Fin 5504 → Fin 2048 → EReal)

/-- The first product. -/
def lin (c : Fin 11008) (R : Fin 16384) : EReal := ∑ k : Fin 2048, x R k * w k c

/-- The value `k` rows above in the same sequence, zero before its start. -/
def past (k : ℕ) (h : Fin 16384 → EReal) (R : Fin 16384) : EReal :=
  if k ≤ R.val % 4096 then h ⟨R.val - k, by omega⟩ else 0

/-- The filtered value. -/
def conv (c : Fin 11008) (R : Fin 16384) : EReal :=
  mix (cw 0 c) (cw 1 c) (cw 2 c) (cb c) (lin x w c R) (past 1 (lin x w c) R) (past 2 (lin x w c) R)

/-- One gated channel's share of the second product. -/
def term (R : Fin 16384) (n : Fin 2048) (e : ℕ) : EReal :=
  if h : e < 5504 then act (conv x w cw cb ⟨e, by omega⟩ R) (conv x w cw cb ⟨5504 + e, by omega⟩ R) * wd ⟨e, h⟩ n else 0

theorem sum_term (R : Fin 16384) (n : Fin 2048) : ∑ e ∈ Finset.range 5632, term x w cw cb wd R n e
    = ∑ e : Fin 5504, silu (conv x w cw cb ⟨e.val, by omega⟩ R) (conv x w cw cb ⟨5504 + e.val, by omega⟩ R) * wd e n := by
  rw [show (5632 : ℕ) = 5504 + 128 from rfl, Finset.sum_range_add,
    Finset.sum_eq_zero (s := Finset.range 128) (fun e _ => dif_neg (by omega)), add_zero, Finset.sum_range]
  refine Finset.sum_congr rfl fun e _ => ?_
  rw [term, dif_pos e.isLt, act_eq]

theorem mix_comm (w0 w1 w2 b h h1 h2 : EReal) : h2 * w0 + h1 * w1 + h * w2 + b = mix w0 w1 w2 b h h1 h2 := by
  unfold mix
  rw [mul_comm h2, mul_comm h1, mul_comm h]
  abel

/-! ## Rows of blocks -/

/-- A row of a block of rows. -/
def row (i : Fin 32) (r : Fin 512) : Fin 16384 := ⟨512 * i.val + r.val, by omega⟩

/-- Looking up `k` rows in a block and its carried rows is looking up `k` rows in the sequence. -/
theorem up_past (k : ℕ) (hk : 0 < k ∧ k ≤ 8) (b : BitVec 1) (i : Fin 32) (r : Fin 512) (p : Fin 8 → EReal) (h : Fin 16384 → EReal)
    (hb : b = 1#1 ↔ i.val % 8 = 0)
    (hp : ∀ q : Fin 8, 0 < i.val → p q = h ⟨512 * (i.val - 1) + (504 + q.val), by omega⟩) :
    up k (fun q => h (row i q)) (fun q => carried b (p q)) r = past k h (row i r) := by
  obtain ⟨hk0, hk8⟩ := hk
  unfold up past carried row
  by_cases q : r.val < k
  · rw [if_pos q]
    beta_reduce
    by_cases z : i.val % 8 = 0
    · rw [if_pos (hb.mpr z), if_neg]
      show ¬ k ≤ (512 * i.val + r.val) % 4096
      omega
    · rw [if_neg (fun e => z (hb.mp e)), if_pos (show k ≤ (512 * i.val + r.val) % 4096 by omega), hp _ (by omega)]
      refine congrArg h (Fin.ext ?_)
      show 512 * (i.val - 1) + (504 + (r.val + 8 - k) % 8) = 512 * i.val + r.val - k
      omega
  · rw [if_neg q, if_pos (show k ≤ (512 * i.val + r.val) % 4096 by omega)]
    refine congrArg h (Fin.ext ?_)
    show 512 * i.val + (r.val + 512 - k) % 512 = 512 * i.val + r.val - k
    omega

end Cert.Ffn

end
-- ==== Proof.FfnTerms.lean ====
/- The convolutional feed-forward kernel's running sum, element by element, for any blocks of rows and channels. -/
module

public import proofs.«01_k».proof.Proof.FfnPay
public import proofs.«01_k».proof.Proof.FfnMath

@[expose] public section

set_option maxRecDepth 16384

noncomputable section

namespace Cert.Ffn

open Idealize.ShloMosaic Cert.ConvFfnIdeal.Gen Cert.ConvFfnIdeal Cert.ConvFfnIdeal.Ffn Pointwise

/-- An interleaved column of a block of columns. -/
def column (j : Fin 6) (d : Fin 2048) : Fin 12288 := ⟨2048 * j.val + d.val, by omega⟩

/-- The channel that an interleaved column holds. -/
def Keeps (n : Fin 12288) (e : Fin 11008) : Prop :=
  (n.val < 10240 ∧ n.val % 2048 < 1024 ∧ e.val = 1024 * (n.val / 2048) + n.val % 2048)
    ∨ (n.val < 10240 ∧ 1024 ≤ n.val % 2048 ∧ e.val = 5504 + 1024 * (n.val / 2048) + (n.val % 2048 - 1024))
    ∨ (10240 ≤ n.val ∧ n.val < 10624 ∧ e.val = 5120 + (n.val - 10240))
    ∨ (10752 ≤ n.val ∧ n.val < 11136 ∧ e.val = 10624 + (n.val - 10752))

variable (X : Fin 16384 → Fin 2048 → EReal) (W : Fin 2048 → Fin 11008 → EReal) (CW : Fin 3 → Fin 11008 → EReal) (CB : Fin 11008 → EReal)
  (WD : Fin 5504 → Fin 2048 → EReal)

theorem from_zero (n : ℕ) : 0 + 1 * n = n := by omega

theorem halfUp_apply (w : Vec Ideal S1x2048x2048 .bf16) (k : Fin 2048) (d : Fin 1024) :
    halfUp w (ix3 0 k d) = w (ix3 0 k ⟨d.val, by omega⟩) := congrArg w (funext fun a => Fin.ext (match a with
      | ⟨0, _⟩ => rfl
      | ⟨1, _⟩ => from_zero _
      | ⟨2, _⟩ => from_zero _))

/-- The blocks of a grid point hold the arguments' rows and channels. -/
structure Loaded (i : Fin 32) (j : Fin 6) (b : BitVec 1) (x : Vec Ideal S512x2048 .bf16) (w : Vec Ideal S1x2048x2048 .bf16)
    (cw : Vec Ideal S1x3x2048 .f32) (cb : Vec Ideal S1x1x2048 .f32) (wd : Vec Ideal S1x1024x2048 .bf16) : Prop where
  start : b = 1#1 ↔ i.val % 8 = 0
  rows : ∀ (q : Fin 512) (k : Fin 2048), x (ix2 q k) = X (row i q) k
  ups : ∀ (k d : Fin 2048) (e : Fin 11008), Keeps (column j d) e → w (ix3 0 k d) = W k e
  taps : ∀ (t : Fin 3) (d : Fin 2048) (e : Fin 11008), Keeps (column j d) e → cw (ix3 0 t d) = CW t e
  bias : ∀ (d : Fin 2048) (e : Fin 11008), Keeps (column j d) e → cb (ix3 0 0 d) = CB e
  downs : ∀ (d : Fin 1024) (n : Fin 2048), wd (ix3 0 d n) = if h : 1024 * j.val + d.val < 5504 then WD ⟨1024 * j.val + d.val, h⟩ n else 0

/-- The carried rows are the last rows of the block above. -/
def Carries (i : Fin 32) (j : Fin 6) (p : Vec Ideal S1x8x2048 .f32) : Prop :=
  ∀ (q : Fin 8) (d : Fin 2048) (e : Fin 11008), Keeps (column j d) e → 0 < i.val →
    p (ix3 0 q d) = lin X W e ⟨512 * (i.val - 1) + (504 + q.val), by omega⟩

/-- The same for a half-width block. -/
def CarriesHalf (i : Fin 32) (j : Fin 6) (p : Vec Ideal S1x8x1024 .f32) : Prop :=
  ∀ (q : Fin 8) (d : Fin 1024) (e : Fin 11008), Keeps (column j ⟨d.val, by omega⟩) e → 0 < i.val →
    p (ix3 0 q d) = lin X W e ⟨512 * (i.val - 1) + (504 + q.val), by omega⟩

variable {X W CW CB WD} {i : Fin 32} {j : Fin 6} {b : BitVec 1} {x : Vec Ideal S512x2048 .bf16} {w : Vec Ideal S1x2048x2048 .bf16}
    {cw : Vec Ideal S1x3x2048 .f32} {cb : Vec Ideal S1x1x2048 .f32} {wd : Vec Ideal S1x1024x2048 .bf16}
    {p : Vec Ideal S1x8x2048 .f32} {p' : Vec Ideal S1x8x1024 .f32}

theorem Loaded.product (L : Loaded X W CW CB WD i j b x w cw cb wd) (d : Fin 2048) (e : Fin 11008) (h : Keeps (column j d) e)
    (q : Fin 512) : ∑ k : Fin 2048, x (ix2 q k) * w (ix3 0 k d) = lin X W e (row i q) :=
  Finset.sum_congr rfl fun k _ => congrArg₂ (fun a b : EReal => a * b) (L.rows q k) (L.ups k d e h)

/-- The convolution of a block is the convolution of its channels. -/
theorem Loaded.mix_eq (L : Loaded X W CW CB WD i j b x w cw cb wd) (C : Carries X W i j p) (r : Fin 512) (d : Fin 2048) (e : Fin 11008)
    (h : Keeps (column j d) e) : mix2048At b x w cw cb p r d = conv X W CW CB e (row i r) := by
  have one := up_past 1 (by omega) b i r (fun q => p (ix3 0 q d)) (lin X W e) L.start (fun q hi => C q d e h hi)
  have two := up_past 2 (by omega) b i r (fun q => p (ix3 0 q d)) (lin X W e) L.start (fun q hi => C q d e h hi)
  unfold mix2048At conv
  rw [← one, ← two, funext (L.product d e h), L.product d e h r, L.taps 0 d e h, L.taps 1 d e h, L.taps 2 d e h, L.bias d e h]

theorem Loaded.mixHalf_eq (L : Loaded X W CW CB WD i j b x w cw cb wd) (C : CarriesHalf X W i j p') (r : Fin 512) (d : Fin 1024)
    (e : Fin 11008) (h : Keeps (column j ⟨d.val, by omega⟩) e) :
    mix1024At b x (halfUp w) (VecWindow.window cw ![0, 0, 0] S1x3x1024.size inb_S1x3x2048_S1x3x1024_0_0_0)
      (VecWindow.window cb ![0, 0, 0] S1x1x1024.size inb_S1x1x2048_S1x1x1024_0_0_0) p' r d = conv X W CW CB e (row i r) := by
  have one := up_past 1 (by omega) b i r (fun q => p' (ix3 0 q d)) (lin X W e) L.start (fun q hi => C q d e h hi)
  have two := up_past 2 (by omega) b i r (fun q => p' (ix3 0 q d)) (lin X W e) L.start (fun q hi => C q d e h hi)
  have ht : ∀ t : Fin 3, VecWindow.window cw ![0, 0, 0] S1x3x1024.size inb_S1x3x2048_S1x3x1024_0_0_0 (ix3 0 t d)
      = cw (ix3 0 t ⟨d.val, by omega⟩) := fun t => congrArg cw (funext fun a => Fin.ext (match a with
      | ⟨0, _⟩ => rfl
      | ⟨1, _⟩ => from_zero _
      | ⟨2, _⟩ => from_zero _))
  have hb : VecWindow.window cb ![0, 0, 0] S1x1x1024.size inb_S1x1x2048_S1x1x1024_0_0_0 (ix3 0 0 d)
      = cb (ix3 0 0 ⟨d.val, by omega⟩) := congrArg cb (funext fun a => Fin.ext (match a with
      | ⟨0, _⟩ => rfl
      | ⟨1, _⟩ => from_zero _
      | ⟨2, _⟩ => from_zero _))
  have hl : ∀ q : Fin 512, ∑ k : Fin 2048, x (ix2 q k) * halfUp w (ix3 0 k d) = lin X W e (row i q) := fun q =>
    (Finset.sum_congr rfl fun k _ => congrArg (fun a : EReal => x (ix2 q k) * a) (halfUp_apply w k d)).trans (L.product ⟨d.val, by omega⟩ e h q)
  unfold mix1024At conv
  rw [← one, ← two, funext hl, hl r, ht 0, ht 1, ht 2, hb, L.taps 0 _ e h, L.taps 1 _ e h, L.taps 2 _ e h, L.bias _ e h]

/-- A full-width block's share of the sum. -/
theorem Loaded.opening_eq (L : Loaded X W CW CB WD i j b x w cw cb wd) (C : Carries X W i j p) (hj : j.val < 5) (r : Fin 512)
    (n : Fin 2048) : opening b x w cw cb wd p (ix2 r n)
      = ∑ d ∈ Finset.range 1024, term X W CW CB WD (row i r) n (1024 * j.val + d) := by
  rw [opening_apply, Finset.sum_range]
  refine Finset.sum_congr rfl fun d _ => ?_
  have hd : 1024 * j.val + d.val < 5504 := by omega
  unfold term
  rw [dif_pos hd, L.mix_eq C r ⟨d.val, by omega⟩ ⟨1024 * j.val + d.val, by omega⟩
      (Or.inl (by simp only [column]; omega)),
    L.mix_eq C r ⟨1024 + d.val, by omega⟩ ⟨5504 + (1024 * j.val + d.val), by omega⟩
      (Or.inr (Or.inl (by simp only [column]; omega))), L.downs d n, dif_pos hd]

/-- The half-width block's share of the sum. -/
theorem Loaded.closing_eq (L : Loaded X W CW CB WD i j b x w cw cb wd) (C : CarriesHalf X W i j p') (hj : j.val = 5) (r : Fin 512)
    (n : Fin 2048) (o : Vec Ideal S512x2048 .f32) : closing b x w cw cb wd p' o (ix2 r n)
      = o (ix2 r n) + ∑ d ∈ Finset.range 512, term X W CW CB WD (row i r) n (5120 + d) := by
  rw [closing_apply, Finset.sum_range]
  refine congrArg (fun a : EReal => o (ix2 r n) + a) (Finset.sum_congr rfl fun d _ => ?_)
  have hwd : VecWindow.window wd ![0, 0, 0] S1x512x2048.size inb_S1x1024x2048_S1x512x2048_0_0_0 (ix3 0 d n)
      = wd (ix3 0 ⟨d.val, by omega⟩ n) := congrArg wd (funext fun a => Fin.ext (match a with
      | ⟨0, _⟩ => rfl
      | ⟨1, _⟩ => from_zero _
      | ⟨2, _⟩ => from_zero _))
  have down := L.downs ⟨d.val, by omega⟩ n
  rw [hwd, down]
  unfold term
  by_cases hd : 5120 + d.val < 5504
  · have hd' : 1024 * j.val + d.val < 5504 := by omega
    have same : (⟨1024 * j.val + d.val, hd'⟩ : Fin 5504) = ⟨5120 + d.val, hd⟩ := Fin.ext (by show 1024 * j.val + d.val = 5120 + d.val; omega)
    rw [dif_pos hd, dif_pos hd', same, L.mixHalf_eq C r ⟨d.val, by omega⟩ ⟨5120 + d.val, by omega⟩
        (Or.inr (Or.inr (Or.inl (by simp only [column]; omega)))),
      L.mixHalf_eq C r ⟨512 + d.val, by omega⟩ ⟨5504 + (5120 + d.val), by omega⟩
        (Or.inr (Or.inr (Or.inr (by simp only [column]; omega))))]
  · have hd' : ¬ 1024 * j.val + d.val < 5504 := by omega
    rw [dif_neg hd, dif_neg hd']
    exact mul_zero _

theorem Loaded.carries (L : Loaded X W CW CB WD i j b x w cw cb wd) (i' : Fin 32) (hi : 0 < i'.val → i.val = i'.val - 1) :
    Carries X W i' j (tail x w) := fun q d e h h0 =>
  ((tail_apply x w q d).trans (L.product d e h ⟨504 + q.val, by omega⟩)).trans
    (congrArg (lin X W e) (Fin.ext (by show 512 * i.val + (504 + q.val) = 512 * (i'.val - 1) + (504 + q.val); rw [hi h0])))

theorem Loaded.carriesHalf (L : Loaded X W CW CB WD i j b x w cw cb wd) (i' : Fin 32) (hi : 0 < i'.val → i.val = i'.val - 1) :
    CarriesHalf X W i' j (tailHalf x w) := fun q d e h h0 => by
  have same : ∑ k : Fin 2048, x (ix2 ⟨504 + q.val, by omega⟩ k) * halfUp w (ix3 0 k d)
      = ∑ k : Fin 2048, x (ix2 ⟨504 + q.val, by omega⟩ k) * w (ix3 0 k ⟨d.val, by omega⟩) :=
    Finset.sum_congr rfl fun k _ => congrArg (fun a : EReal => x (ix2 ⟨504 + q.val, by omega⟩ k) * a) (halfUp_apply w k d)
  rw [tailHalf_apply, same]
  exact (L.product ⟨d.val, by omega⟩ e h ⟨504 + q.val, by omega⟩).trans
    (congrArg (lin X W e) (Fin.ext (by show 512 * i.val + (504 + q.val) = 512 * (i'.val - 1) + (504 + q.val); rw [hi h0])))

end Cert.Ffn

end
-- ==== Proof.FfnBlocks.lean ====
/- The blocks that the convolutional feed-forward kernel loads at each grid point, element by element. -/
module

public import proofs.«01_k».proof.Proof.FfnFrame
public import proofs.«01_k».proof.Proof.FfnHost
public import proofs.«01_k».proof.Proof.FfnTerms
public import Idealize.ShloMosaic.Lib.Pipeline.Value
public import Idealize.ShloMosaic.Lib.Pipeline.ValueKit.Acc

@[expose] public section

set_option maxRecDepth 16384

noncomputable section

namespace Cert.Ffn

open Idealize.ShloMosaic Idealize.ShloMosaic.TcCoe Cert.ConvFfnIdeal.Gen Cert.ConvFfnIdeal Cert.ConvFfnIdeal.Ffn Pointwise

/-- The grid point of a block of rows and a block of columns. -/
def point (i : Fin 32) (j : Fin 6) : Fin cfg0.N := ⟨6 * i.val + j.val, by
  show _ < 192
  omega⟩

theorem coords_point (i : Fin 32) (j : Fin 6) :
    (grid0.coords (point i j) 0).val = i.val ∧ (grid0.coords (point i j) 1).val = j.val :=
  (by decide +kernel : ∀ (i : Fin 32) (j : Fin 6),
    (grid0.coords (point i j) 0).val = i.val ∧ (grid0.coords (point i j) 1).val = j.val) i j

theorem first_point (i : Fin 32) (j : Fin 6) : firstBit (grid0.coords (point i j)) = 1#1 ↔ i.val % 8 = 0 :=
  (by decide +kernel : ∀ (i : Fin 32) (j : Fin 6), firstBit (grid0.coords (point i j)) = 1#1 ↔ i.val % 8 = 0) i j

/-- Where each window's block begins, over the grid. -/
theorem starts_in : ∀ t : Fin cfg0.N, win0_0.index t 0 = (grid0.coords t 0).val ∧ win0_0.index t 1 = 0
    ∧ win0_1.index t 0 = 0 ∧ win0_1.index t 1 = 0 ∧ win0_1.index t 2 = (grid0.coords t 1).val
    ∧ win0_2.index t 0 = 0 ∧ win0_2.index t 1 = 0 ∧ win0_2.index t 2 = (grid0.coords t 1).val
    ∧ win0_3.index t 0 = 0 ∧ win0_3.index t 1 = 0 ∧ win0_3.index t 2 = (grid0.coords t 1).val
    ∧ win0_4.index t 0 = 0 ∧ win0_4.index t 1 = (grid0.coords t 1).val ∧ win0_4.index t 2 = 0 :=
  (by decide +kernel : ∀ t : Fin grid0.N, win0_0.index t 0 = (grid0.coords t 0).val ∧ win0_0.index t 1 = 0
    ∧ win0_1.index t 0 = 0 ∧ win0_1.index t 1 = 0 ∧ win0_1.index t 2 = (grid0.coords t 1).val
    ∧ win0_2.index t 0 = 0 ∧ win0_2.index t 1 = 0 ∧ win0_2.index t 2 = (grid0.coords t 1).val
    ∧ win0_3.index t 0 = 0 ∧ win0_3.index t 1 = 0 ∧ win0_3.index t 2 = (grid0.coords t 1).val
    ∧ win0_4.index t 0 = 0 ∧ win0_4.index t 1 = (grid0.coords t 1).val ∧ win0_4.index t 2 = 0)

theorem starts_out : ∀ t : Fin cfg0.N, win0_5.index t 0 = (grid0.coords t 0).val ∧ win0_5.index t 1 = 0
    ∧ win0_6.index t 0 = 0 ∧ win0_6.index t 1 = 0 ∧ win0_6.index t 2 = 0
    ∧ win0_7.index t 0 = 0 ∧ win0_7.index t 1 = 0 ∧ win0_7.index t 2 = 0
    ∧ win0_8.index t 0 = (grid0.coords t 0).val ∧ win0_8.index t 1 = 0
    ∧ win0_9.index t 0 = (grid0.coords t 0).val ∧ win0_9.index t 1 = 0 :=
  (by decide +kernel : ∀ t : Fin grid0.N, win0_5.index t 0 = (grid0.coords t 0).val ∧ win0_5.index t 1 = 0
    ∧ win0_6.index t 0 = 0 ∧ win0_6.index t 1 = 0 ∧ win0_6.index t 2 = 0
    ∧ win0_7.index t 0 = 0 ∧ win0_7.index t 1 = 0 ∧ win0_7.index t 2 = 0
    ∧ win0_8.index t 0 = (grid0.coords t 0).val ∧ win0_8.index t 1 = 0
    ∧ win0_9.index t 0 = (grid0.coords t 0).val ∧ win0_9.index t 1 = 0)

variable (m : (ℓ : Loc nD τ sig) → Buf (Elt Ideal) ℓ) (c : Dev nD)

/-- A row of a block of the second weights. -/
def channel (j : Fin 6) (d : Fin 1024) : Fin 6144 := ⟨1024 * j.val + d.val, by omega⟩

theorem iblk_x (i : Fin 32) (j : Fin 6) (r : Fin 512) (k : Fin 2048) :
    iblk m c 0 (point i j) (ix2 r k) = inX m c (ix2 (row i r) k) := by
  obtain ⟨e0, e1⟩ := coords_point i j
  obtain ⟨s0, s1, -⟩ := starts_in (point i j)
  unfold iblk
  rw [View.read_apply, cast_eq]
  refine (congrArg (V m c main_v52) (funext fun a => Fin.ext ?_)).trans (congrFun (V_v52 m c) _)
  refine (Pipeline.Window.rect_emb_val win0_0 (point i j) _ a).trans ?_
  match a with
  | ⟨0, _⟩ =>
    show win0_0.index (point i j) 0 * 512 + r.val = 512 * i.val + r.val
    omega
  | ⟨1, _⟩ =>
    show win0_0.index (point i j) 1 * 2048 + k.val = k.val
    omega

theorem iblk_up (i : Fin 32) (j : Fin 6) (k d : Fin 2048) :
    iblk m c 1 (point i j) (ix3 0 k d) = weaveUp (inUp m c) (ix3 0 k (column j d)) := by
  obtain ⟨e0, e1⟩ := coords_point i j
  obtain ⟨-, -, s0, s1, s2, -⟩ := starts_in (point i j)
  unfold iblk
  rw [View.read_apply, cast_eq]
  refine (congrArg (V m c main_v16) (funext fun a => Fin.ext ?_)).trans (congrFun (V_v16 m c) _)
  refine (Pipeline.Window.rect_emb_val win0_1 (point i j) _ a).trans ?_
  match a with
  | ⟨0, _⟩ =>
    show win0_1.index (point i j) 0 * 1 + 0 = 0
    omega
  | ⟨1, _⟩ =>
    show win0_1.index (point i j) 1 * 2048 + k.val = k.val
    omega
  | ⟨2, _⟩ =>
    show win0_1.index (point i j) 2 * 2048 + d.val = 2048 * j.val + d.val
    omega

theorem iblk_taps (i : Fin 32) (j : Fin 6) (k : Fin 3) (d : Fin 2048) :
    iblk m c 2 (point i j) (ix3 0 k d) = weaveTaps (inTaps m c) (ix3 0 k (column j d)) := by
  obtain ⟨e0, e1⟩ := coords_point i j
  obtain ⟨-, -, -, -, -, s0, s1, s2, -⟩ := starts_in (point i j)
  unfold iblk
  rw [View.read_apply, cast_eq]
  refine (congrArg (V m c main_v34) (funext fun a => Fin.ext ?_)).trans (congrFun (V_v34 m c) _)
  refine (Pipeline.Window.rect_emb_val win0_2 (point i j) _ a).trans ?_
  match a with
  | ⟨0, _⟩ =>
    show win0_2.index (point i j) 0 * 1 + 0 = 0
    omega
  | ⟨1, _⟩ =>
    show win0_2.index (point i j) 1 * 3 + k.val = k.val
    omega
  | ⟨2, _⟩ =>
    show win0_2.index (point i j) 2 * 2048 + d.val = 2048 * j.val + d.val
    omega

theorem iblk_bias (i : Fin 32) (j : Fin 6) (d : Fin 2048) :
    iblk m c 3 (point i j) (ix3 0 0 d)
      = weaveBias (broadcastInDim S4x1x11008 ![0, 2] bcast_S4x11008_S4x1x11008_0_2 (inBias m c)) (ix3 0 0 (column j d)) := by
  obtain ⟨e0, e1⟩ := coords_point i j
  obtain ⟨-, -, -, -, -, -, -, -, s0, s1, s2, -⟩ := starts_in (point i j)
  unfold iblk
  rw [View.read_apply, cast_eq]
  refine (congrArg (V m c main_v51) (funext fun a => Fin.ext ?_)).trans (congrFun (V_v51 m c) _)
  refine (Pipeline.Window.rect_emb_val win0_3 (point i j) _ a).trans ?_
  match a with
  | ⟨0, _⟩ =>
    show win0_3.index (point i j) 0 * 1 + 0 = 0
    omega
  | ⟨1, _⟩ =>
    show win0_3.index (point i j) 1 * 1 + 0 = 0
    omega
  | ⟨2, _⟩ =>
    show win0_3.index (point i j) 2 * 2048 + d.val = 2048 * j.val + d.val
    omega

theorem iblk_down (i : Fin 32) (j : Fin 6) (d : Fin 1024) (n : Fin 2048) :
    iblk m c 4 (point i j) (ix3 0 d n) = padDown (inDown m c) (ix3 0 (channel j d) n) := by
  obtain ⟨e0, e1⟩ := coords_point i j
  obtain ⟨-, -, -, -, -, -, -, -, -, -, -, s0, s1, s2⟩ := starts_in (point i j)
  unfold iblk
  rw [View.read_apply, cast_eq]
  refine (congrArg (V m c main_v18) (funext fun a => Fin.ext ?_)).trans (congrFun (V_v18 m c) _)
  refine (Pipeline.Window.rect_emb_val win0_4 (point i j) _ a).trans ?_
  match a with
  | ⟨0, _⟩ =>
    show win0_4.index (point i j) 0 * 1 + 0 = 0
    omega
  | ⟨1, _⟩ =>
    show win0_4.index (point i j) 1 * 1024 + d.val = 1024 * j.val + d.val
    omega
  | ⟨2, _⟩ =>
    show win0_4.index (point i j) 2 * 2048 + n.val = n.val
    omega

theorem iblk_res (i : Fin 32) (j : Fin 6) (r : Fin 512) (k : Fin 2048) :
    iblk m c 5 (point i j) (ix2 r k) = inX m c (ix2 (row i r) k) := by
  obtain ⟨e0, e1⟩ := coords_point i j
  obtain ⟨s0, s1, -⟩ := starts_out (point i j)
  unfold iblk
  rw [View.read_apply, cast_eq]
  refine (congrArg (V m c main_arg0) (funext fun a => Fin.ext ?_)).trans (congrFun (V_main_arg0 m c) _)
  refine (Pipeline.Window.rect_emb_val win0_5 (point i j) _ a).trans ?_
  match a with
  | ⟨0, _⟩ =>
    show win0_5.index (point i j) 0 * 512 + r.val = 512 * i.val + r.val
    omega
  | ⟨1, _⟩ =>
    show win0_5.index (point i j) 1 * 2048 + k.val = k.val
    omega

theorem iblk_scale (i : Fin 32) (j : Fin 6) (d : Fin 2048) : iblk m c 6 (point i j) (ix3 0 0 d) = inScale m c (ix2 0 d) := by
  obtain ⟨e0, e1⟩ := coords_point i j
  obtain ⟨-, -, s0, s1, s2, -⟩ := starts_out (point i j)
  unfold iblk
  rw [View.read_apply, cast_eq]
  refine ((congrArg (V m c main_v53) (a₂ := ix3 0 0 d) (funext fun a => Fin.ext ?_)).trans (congrFun (V_v53 m c) _)).trans (by pointwise [])
  refine (Pipeline.Window.rect_emb_val win0_6 (point i j) _ a).trans ?_
  match a with
  | ⟨0, _⟩ =>
    show win0_6.index (point i j) 0 * 1 + 0 = 0
    omega
  | ⟨1, _⟩ =>
    show win0_6.index (point i j) 1 * 1 + 0 = 0
    omega
  | ⟨2, _⟩ =>
    show win0_6.index (point i j) 2 * 2048 + d.val = d.val
    omega

theorem iblk_shift (i : Fin 32) (j : Fin 6) (d : Fin 2048) : iblk m c 7 (point i j) (ix3 0 0 d) = inShift m c (ix2 0 d) := by
  obtain ⟨e0, e1⟩ := coords_point i j
  obtain ⟨-, -, -, -, -, s0, s1, s2, -⟩ := starts_out (point i j)
  unfold iblk
  rw [View.read_apply, cast_eq]
  refine ((congrArg (V m c main_v54) (a₂ := ix3 0 0 d) (funext fun a => Fin.ext ?_)).trans (congrFun (V_v54 m c) _)).trans (by pointwise [])
  refine (Pipeline.Window.rect_emb_val win0_7 (point i j) _ a).trans ?_
  match a with
  | ⟨0, _⟩ =>
    show win0_7.index (point i j) 0 * 1 + 0 = 0
    omega
  | ⟨1, _⟩ =>
    show win0_7.index (point i j) 1 * 1 + 0 = 0
    omega
  | ⟨2, _⟩ =>
    show win0_7.index (point i j) 2 * 2048 + d.val = d.val
    omega

end Cert.Ffn

end
-- ==== Proof.FfnRef.lean ====
/- The reference's convolutional feed-forward block, element by element. -/
module

public import proofs.«01_k».proof.Proof.Gen.ConvFfnReferenceIdeal.Run
public import proofs.«01_k».proof.Proof.FfnMath
public import Idealize.ShloMosaic.Lib.Pointwise

@[expose] public section

set_option maxRecDepth 16384

noncomputable section

namespace Cert.FfnRef

open Idealize.ShloMosaic Idealize.ShloMosaic.TcCoe Cert.ConvFfnReferenceIdeal Cert.ConvFfnReferenceIdeal.Facts
  Cert.ConvFfnReferenceIdeal.Facts₀ Cert.Ffn Pointwise

variable [hRef : Cert.ConvFfnReferenceIdeal.Facts]

/-- The product with the first weights. -/
def lifted (a0 : FVec Ideal S16384x2048 .f32) (a1 : FVec Ideal S4x2048x11008 .f32) : FVec Ideal S4x4096x11008 .f32 :=
  Host.dotGeneral dot_S4x4096x2048_S2048x11008_S4x4096x11008_2_0_01_1_n_n none (shapeCast _ a0 shapeCasts_S16384x2048_S4x4096x2048)
    (shapeCast _ (extractStridedSlice S1x2048x11008 ![0, 0, 0] a1 slices_S4x2048x11008_S1x2048x11008_0_0_0)
    shapeCasts_S1x2048x11008_S2048x11008)

/-- The filter along each sequence. -/
def filtered (h : FVec Ideal S4x4096x11008 .f32) (a2 : FVec Ideal S4x3x11008 .f32) (a3 : FVec Ideal S4x11008 .f32) : FVec Ideal S4x4096x11008 .f32 :=
  addf (addf (addf (addf (broadcastInDim S4x4096x11008 ![] bcast_S_S4x4096x11008 (constant S_ .f32 0x00000000#32)) (mulf
    (extractStridedSlice S4x4096x11008 ![0, 0, 0] (pad S4x4098x11008 ![0, 2, 0] ![0, 0, 0] ![0, 0, 0] h (sitofp .f32 (constantI S_ 32
    0#32)) pads_S4x4096x11008_S4x4098x11008_000_200_000 h_S_) slices_S4x4098x11008_S4x4096x11008_0_0_0) (broadcastInDim S4x4096x11008
    ![0, 1, 2] bcast_S1x1x11008_S4x4096x11008_0_1_2 (broadcastInDim S1x1x11008 ![2] bcast_S11008_S1x1x11008_2 (shapeCast _
    (extractStridedSlice S1x1x11008 ![0, 0, 0] a2 slices_S4x3x11008_S1x1x11008_0_0_0) shapeCasts_S1x1x11008_S11008))))) (mulf
    (extractStridedSlice S4x4096x11008 ![0, 1, 0] (pad S4x4098x11008 ![0, 2, 0] ![0, 0, 0] ![0, 0, 0] h (sitofp .f32 (constantI S_ 32
    0#32)) pads_S4x4096x11008_S4x4098x11008_000_200_000 h_S_) slices_S4x4098x11008_S4x4096x11008_0_1_0) (broadcastInDim S4x4096x11008
    ![0, 1, 2] bcast_S1x1x11008_S4x4096x11008_0_1_2 (broadcastInDim S1x1x11008 ![2] bcast_S11008_S1x1x11008_2 (shapeCast _
    (extractStridedSlice S1x1x11008 ![0, 1, 0] a2 slices_S4x3x11008_S1x1x11008_0_1_0) shapeCasts_S1x1x11008_S11008))))) (mulf
    (extractStridedSlice S4x4096x11008 ![0, 2, 0] (pad S4x4098x11008 ![0, 2, 0] ![0, 0, 0] ![0, 0, 0] h (sitofp .f32 (constantI S_ 32
    0#32)) pads_S4x4096x11008_S4x4098x11008_000_200_000 h_S_) slices_S4x4098x11008_S4x4096x11008_0_2_0) (broadcastInDim S4x4096x11008
    ![0, 1, 2] bcast_S1x1x11008_S4x4096x11008_0_1_2 (broadcastInDim S1x1x11008 ![2] bcast_S11008_S1x1x11008_2 (shapeCast _
    (extractStridedSlice S1x1x11008 ![0, 2, 0] a2 slices_S4x3x11008_S1x1x11008_0_2_0) shapeCasts_S1x1x11008_S11008))))) (broadcastInDim
    S4x4096x11008 ![0, 1, 2] bcast_S1x1x11008_S4x4096x11008_0_1_2 (broadcastInDim S1x1x11008 ![2] bcast_S11008_S1x1x11008_2 (shapeCast
    _ (extractStridedSlice S1x11008 ![0, 0] a3 slices_S4x11008_S1x11008_0_0) shapeCasts_S1x11008_S11008)))

/-- The gate. -/
def gatedAll (v : FVec Ideal S4x4096x11008 .f32) : FVec Ideal S4x4096x5504 .f32 :=
  mulf (mulf (extractStridedSlice S4x4096x5504 ![0, 0, 5504] v slices_S4x4096x11008_S4x4096x5504_0_0_5504) (Host.divf (broadcastInDim
    S4x4096x5504 ![] bcast_S_S4x4096x5504 (constant S_ .f32 0x3F800000#32)) (addf (broadcastInDim S4x4096x5504 ![] bcast_S_S4x4096x5504
    (constant S_ .f32 0x3F800000#32)) (Host.exp (Host.negf (extractStridedSlice S4x4096x5504 ![0, 0, 5504] v
    slices_S4x4096x11008_S4x4096x5504_0_0_5504)))))) (extractStridedSlice S4x4096x5504 ![0, 0, 0] v
    slices_S4x4096x11008_S4x4096x5504_0_0_0)

/-- The residual sum. -/
def summed (v : FVec Ideal S4x4096x5504 .f32) (a0 : FVec Ideal S16384x2048 .f32) (a4 : FVec Ideal S4x5504x2048 .f32) : FVec Ideal S16384x2048 .f32 :=
  addf (mulf (broadcastInDim S16384x2048 ![] bcast_S_S16384x2048 (constant S_ .f32 0x3FD744FD#32)) a0) (shapeCast _ (Host.dotGeneral
    dot_S4x4096x5504_S5504x2048_S4x4096x2048_2_0_01_1_n_n none v (shapeCast _ (extractStridedSlice S1x5504x2048 ![0, 0, 0] a4
    slices_S4x5504x2048_S1x5504x2048_0_0_0) shapeCasts_S1x5504x2048_S5504x2048)) shapeCasts_S4x4096x2048_S16384x2048)

/-- The layer normalisation of the rows. -/
def layered (y : FVec Ideal S16384x2048 .f32) (a5 a6 : FVec Ideal S4x2048 .f32) : FVec Ideal S16384x2048 .f32 :=
  addf (mulf (mulf (subf y (broadcastInDim S16384x2048 ![0, 1] bcast_S16384x1_S16384x2048_0_1 (Host.divf (broadcastInDim S16384x1 ![0]
    bcast_S16384_S16384x1_0 (Host.reduceAdd y (constant S_ .f32 0x00000000#32) reducesTo_S16384x2048_S16384_d1 h_S_)) (broadcastInDim
    S16384x1 ![] bcast_S_S16384x1 (constant S_ .f32 0x45000000#32))))) (broadcastInDim S16384x2048 ![0, 1]
    bcast_S16384x1_S16384x2048_0_1 (Host.rsqrt (addf (Host.divf (broadcastInDim S16384x1 ![0] bcast_S16384_S16384x1_0 (Host.reduceAdd
    (mulf (subf y (broadcastInDim S16384x2048 ![0, 1] bcast_S16384x1_S16384x2048_0_1 (Host.divf (broadcastInDim S16384x1 ![0]
    bcast_S16384_S16384x1_0 (Host.reduceAdd y (constant S_ .f32 0x00000000#32) reducesTo_S16384x2048_S16384_d1 h_S_)) (broadcastInDim
    S16384x1 ![] bcast_S_S16384x1 (constant S_ .f32 0x45000000#32))))) (subf y (broadcastInDim S16384x2048 ![0, 1]
    bcast_S16384x1_S16384x2048_0_1 (Host.divf (broadcastInDim S16384x1 ![0] bcast_S16384_S16384x1_0 (Host.reduceAdd y (constant S_ .f32
    0x00000000#32) reducesTo_S16384x2048_S16384_d1 h_S_)) (broadcastInDim S16384x1 ![] bcast_S_S16384x1 (constant S_ .f32
    0x45000000#32)))))) (constant S_ .f32 0x00000000#32) reducesTo_S16384x2048_S16384_d1 h_S_)) (broadcastInDim S16384x1 ![]
    bcast_S_S16384x1 (constant S_ .f32 0x45000000#32))) (broadcastInDim S16384x1 ![] bcast_S_S16384x1 (constant S_ .f32
    0x3727C5AC#32)))))) (broadcastInDim S16384x2048 ![0, 1] bcast_S1x2048_S16384x2048_0_1 (broadcastInDim S1x2048 ![1]
    bcast_S2048_S1x2048_1 (shapeCast _ (extractStridedSlice S1x2048 ![0, 0] a5 slices_S4x2048_S1x2048_0_0) shapeCasts_S1x2048_S2048))))
    (broadcastInDim S16384x2048 ![0, 1] bcast_S1x2048_S16384x2048_0_1 (broadcastInDim S1x2048 ![1] bcast_S2048_S1x2048_1 (shapeCast _
    (extractStridedSlice S1x2048 ![0, 0] a6 slices_S4x2048_S1x2048_0_0) shapeCasts_S1x2048_S2048)))

theorem lifted_apply (a0 : FVec Ideal S16384x2048 .f32) (a1 : FVec Ideal S4x2048x11008 .f32) (s : Fin 4) (p : Fin 4096) (d : Fin 11008) :
    lifted a0 a1 (ix3 s p d) = lin (fun R k => a0 (ix2 R k)) (fun k c => a1 (ix3 0 k c)) d ⟨s.val * 4096 + p.val, by omega⟩ := by
  pointwise [lifted]
  rfl

theorem filtered_apply (h : FVec Ideal S4x4096x11008 .f32) (a2 : FVec Ideal S4x3x11008 .f32) (a3 : FVec Ideal S4x11008 .f32)
    (s : Fin 4) (p : Fin 4096) (d : Fin 11008) (f : Fin 16384 → EReal)
    (hf : ∀ q : Fin 4096, h (ix3 s q d) = f ⟨s.val * 4096 + q.val, by omega⟩) :
    filtered h a2 a3 (ix3 s p d) = mix (a2 (ix3 0 0 d)) (a2 (ix3 0 1 d)) (a2 (ix3 0 2 d)) (a3 (ix2 0 d))
      (f ⟨s.val * 4096 + p.val, by omega⟩) (past 1 f ⟨s.val * 4096 + p.val, by omega⟩) (past 2 f ⟨s.val * 4096 + p.val, by omega⟩) := by
  have zero : FloatOps.sitofp (F := Ideal) FTy.f32 0#32 = (0 : EReal) := by
    show ((((0#32 : BitVec 32).toInt : ℝ)) : EReal) = 0
    simp
  have one : past 1 f ⟨s.val * 4096 + p.val, by omega⟩
      = if q : 2 ≤ 1 + p.val ∧ 1 + p.val - 2 < 4096 then h (ix3 s ⟨1 + p.val - 2, q.2⟩ d) else FloatOps.sitofp (F := Ideal) FTy.f32 0#32 := by
    unfold past
    by_cases q : 1 ≤ p.val
    · rw [if_pos (by show 1 ≤ (s.val * 4096 + p.val) % 4096; omega), dif_pos (by omega), hf]
      refine congrArg f (Fin.ext ?_)
      show s.val * 4096 + p.val - 1 = s.val * 4096 + (1 + p.val - 2)
      omega
    · rw [if_neg (by show ¬ 1 ≤ (s.val * 4096 + p.val) % 4096; omega), dif_neg (by omega), zero]
  have two : past 2 f ⟨s.val * 4096 + p.val, by omega⟩
      = if q : 2 ≤ p.val ∧ p.val - 2 < 4096 then h (ix3 s ⟨p.val - 2, q.2⟩ d) else FloatOps.sitofp (F := Ideal) FTy.f32 0#32 := by
    unfold past
    by_cases q : 2 ≤ p.val
    · rw [if_pos (by show 2 ≤ (s.val * 4096 + p.val) % 4096; omega), dif_pos (by omega), hf]
      refine congrArg f (Fin.ext ?_)
      show s.val * 4096 + p.val - 2 = s.val * 4096 + (p.val - 2)
      omega
    · rw [if_neg (by show ¬ 2 ≤ (s.val * 4096 + p.val) % 4096; omega), dif_neg (by omega), zero]
  rw [← mix_comm, one, two, ← hf p]
  pointwise [filtered]

theorem gatedAll_apply (v : FVec Ideal S4x4096x11008 .f32) (s : Fin 4) (p : Fin 4096) (d : Fin 5504) :
    gatedAll v (ix3 s p d) = silu (v (ix3 s p ⟨d.val, by omega⟩)) (v (ix3 s p ⟨5504 + d.val, by omega⟩)) := by
  pointwise [gatedAll]
  rfl

theorem summed_apply (v : FVec Ideal S4x4096x5504 .f32) (a0 : FVec Ideal S16384x2048 .f32) (a4 : FVec Ideal S4x5504x2048 .f32)
    (R : Fin 16384) (n : Fin 2048) : summed v a0 a4 (ix2 R n) = Ideal.ofBits .f32 1071072509#32 * a0 (ix2 R n)
      + ∑ e : Fin 5504, v (ix3 ⟨R.val / 4096, by omega⟩ ⟨R.val % 4096, by omega⟩ e) * a4 (ix3 0 e n) := by
  pointwise [summed]

theorem layered_apply (y : FVec Ideal S16384x2048 .f32) (a5 a6 : FVec Ideal S4x2048 .f32) (R : Fin 16384) (n : Fin 2048) :
    layered y a5 a6 (ix2 R n) = norm (fun k => y (ix2 R k)) (a5 (ix2 0 n)) (a6 (ix2 0 n)) n := by
  pointwise [layered]
  rfl

/-- The reference's result at an index. -/
theorem layered_eq (a0 : FVec Ideal S16384x2048 .f32) (a1 : FVec Ideal S4x2048x11008 .f32) (a2 : FVec Ideal S4x3x11008 .f32)
    (a3 : FVec Ideal S4x11008 .f32) (a4 : FVec Ideal S4x5504x2048 .f32) (a5 a6 : FVec Ideal S4x2048 .f32) (R : Fin 16384) (n : Fin 2048) :
    layered (summed (gatedAll (filtered (lifted a0 a1) a2 a3)) a0 a4) a5 a6 (ix2 R n)
      = norm (fun k => Ideal.ofBits .f32 1071072509#32 * a0 (ix2 R k)
          + ∑ e ∈ Finset.range 5632, term (fun R k => a0 (ix2 R k)) (fun k c => a1 (ix3 0 k c)) (fun t c => a2 (ix3 0 t c))
            (fun c => a3 (ix2 0 c)) (fun e n => a4 (ix3 0 e n)) R k e) (a5 (ix2 0 n)) (a6 (ix2 0 n)) n := by
  rw [layered_apply]
  refine congrArg (fun f : Fin 2048 → EReal => norm f (a5 (ix2 0 n)) (a6 (ix2 0 n)) n) (funext fun k => ?_)
  rw [summed_apply, sum_term]
  refine congrArg (fun z : EReal => Ideal.ofBits .f32 1071072509#32 * a0 (ix2 R k) + z) (Finset.sum_congr rfl fun e _ => ?_)
  have hR : (⟨R.val / 4096 * 4096 + R.val % 4096, by omega⟩ : Fin 16384) = R := Fin.ext (by show _ / _ * _ + _ = _; omega)
  rw [gatedAll_apply, filtered_apply _ _ _ _ _ _ _ (fun q => lifted_apply a0 a1 _ q _),
    filtered_apply _ _ _ _ _ _ _ (fun q => lifted_apply a0 a1 _ q _)]
  simp only [hR]
  rfl

variable (m : (ℓ : Loc nD τ sig) → Buf (Elt Ideal) ℓ) (c : Dev nD)

theorem res_eq : Cert.ConvFfnReferenceIdeal.Value.res_main_v70 m c
    = layered (summed (gatedAll (filtered (lifted (m ((c.tc : Thread nD τ).loc main_arg0)) (m ((c.tc : Thread nD τ).loc main_arg1)))
        (m ((c.tc : Thread nD τ).loc main_arg2)) (m ((c.tc : Thread nD τ).loc main_arg3)))) (m ((c.tc : Thread nD τ).loc main_arg0))
        (m ((c.tc : Thread nD τ).loc main_arg4))) (m ((c.tc : Thread nD τ).loc main_arg5)) (m ((c.tc : Thread nD τ).loc main_arg6)) := rfl

/-- The narrow copy. -/
def narrowed (y : FVec Ideal S16384x2048 .f32) : FVec Ideal S16384x2048 .bf16 := truncf .bf16 y Facts₀.bitsLt_bf16_f32

theorem res_narrow : Cert.ConvFfnReferenceIdeal.Value.res_main_v71 m c
    = narrowed (layered (summed (gatedAll (filtered (lifted (m ((c.tc : Thread nD τ).loc main_arg0)) (m ((c.tc : Thread nD τ).loc main_arg1)))
        (m ((c.tc : Thread nD τ).loc main_arg2)) (m ((c.tc : Thread nD τ).loc main_arg3)))) (m ((c.tc : Thread nD τ).loc main_arg0))
        (m ((c.tc : Thread nD τ).loc main_arg4))) (m ((c.tc : Thread nD τ).loc main_arg5)) (m ((c.tc : Thread nD τ).loc main_arg6))) := rfl

theorem narrowed_apply (y : FVec Ideal S16384x2048 .f32) (R : Fin 16384) (n : Fin 2048) : narrowed y (ix2 R n) = y (ix2 R n) := by
  pointwise [narrowed]

end Cert.FfnRef

end
-- ==== Proof.Ffn.lean ====
/- The convolutional feed-forward kernel's running sum and its results. -/
module

public import proofs.«01_k».proof.Proof.FfnBlocks
public import proofs.«01_k».proof.Proof.FfnRef

@[expose] public section

set_option maxRecDepth 16384

noncomputable section

namespace Cert.Ffn

open Idealize.ShloMosaic Idealize.ShloMosaic.TcCoe Cert.ConvFfnIdeal.Gen Cert.ConvFfnIdeal Cert.ConvFfnIdeal.Ffn Pointwise

variable (m : (ℓ : Loc nD τ sig) → Buf (Elt Ideal) ℓ) (c : Dev nD)

/-! ## The arguments as functions -/

def actX (R : Fin 16384) (k : Fin 2048) : EReal := inX m c (ix2 R k)
def matUp (k : Fin 2048) (e : Fin 11008) : EReal := inUp m c (ix3 0 k e)
def tapsOf (t : Fin 3) (e : Fin 11008) : EReal := inTaps m c (ix3 0 t e)
def biasOf (e : Fin 11008) : EReal := inBias m c (ix2 0 e)
def matDown (e : Fin 5504) (n : Fin 2048) : EReal := inDown m c (ix3 0 e n)

/-- One gated channel's share of the result. -/
def termAt (R : Fin 16384) (n : Fin 2048) (e : ℕ) : EReal := term (actX m c) (matUp m c) (tapsOf m c) (biasOf m c) (matDown m c) R n e

theorem bias_spread (e : Fin 11008) :
    broadcastInDim S4x1x11008 ![0, 2] bcast_S4x11008_S4x1x11008_0_2 (inBias m c) (ix3 0 0 e) = inBias m c (ix2 0 e) := by
  pointwise []

/-- The blocks loaded at a grid point hold the arguments' rows and channels. -/
theorem loaded (i : Fin 32) (j : Fin 6) : Loaded (actX m c) (matUp m c) (tapsOf m c) (biasOf m c) (matDown m c) i j
    (firstBit (grid0.coords (point i j))) (iblk m c 0 (point i j)) (iblk m c 1 (point i j)) (iblk m c 2 (point i j))
    (iblk m c 3 (point i j)) (iblk m c 4 (point i j)) where
  start := first_point i j
  rows q k := iblk_x m c i j q k
  ups k d e h := (iblk_up m c i j k d).trans (weaveUp_apply _ 0 k _ e h)
  taps t d e h := (iblk_taps m c i j t d).trans (weaveTaps_apply _ 0 t _ e h)
  bias d e h := ((iblk_bias m c i j d).trans (weaveBias_apply _ 0 0 _ e h)).trans (bias_spread m c e)
  downs d n := (iblk_down m c i j d n).trans (padDown_apply _ 0 _ n)

/-- The point a row of blocks above. -/
def over (i : Fin 32) : Fin 32 := ⟨i.val - 1, by omega⟩

theorem carries (i : Fin 32) (j : Fin 6) : Carries (actX m c) (matUp m c) i j (tailAt m c (above (point i j))) := by
  by_cases hi : 0 < i.val
  · have e : above (point i j) = point (over i) j :=
      Fin.ext (by show 6 * i.val + j.val - 6 = 6 * (i.val - 1) + j.val; omega)
    rw [e]
    exact (loaded m c (over i) j).carries i fun _ => rfl
  · exact fun _ _ _ _ h => absurd h hi

theorem carriesHalf (i : Fin 32) (j : Fin 6) : CarriesHalf (actX m c) (matUp m c) i j (tailHalfAt m c (above (point i j))) := by
  by_cases hi : 0 < i.val
  · have e : above (point i j) = point (over i) j :=
      Fin.ext (by show 6 * i.val + j.val - 6 = 6 * (i.val - 1) + j.val; omega)
    rw [e]
    exact (loaded m c (over i) j).carriesHalf i fun _ => rfl
  · exact fun _ _ _ _ h => absurd h hi

/-! ## The running sum -/

def sumOf (t : Fin cfg0.N) : Vec Ideal S512x2048 .f32 := sumAt m c t.val t.isLt

theorem back_point (i : Fin 32) (j : ℕ) (hj : j + 1 < 6) : back (point i ⟨j + 1, hj⟩) = point i ⟨j, by omega⟩ :=
  Fin.ext (by show 6 * i.val + (j + 1) - 1 = 6 * i.val + j; omega)

theorem sum_full (i : Fin 32) (r : Fin 512) (n : Fin 2048) : ∀ (j : ℕ) (hj : j < 5),
    sumOf m c (point i ⟨j, by omega⟩) (ix2 r n) = ∑ e ∈ Finset.range (1024 * (j + 1)), termAt m c (row i r) n e
  | 0, _ => by
    have h : (point i ⟨0, by omega⟩).val % 6 = 0 := by show (6 * i.val + 0) % 6 = 0; omega
    unfold sumOf
    rw [sumAt_first m c _ h]
    refine ((loaded m c i ⟨0, by omega⟩).opening_eq (carries m c i ⟨0, by omega⟩) (by show 0 < 5; omega) r n).trans ?_
    refine Finset.sum_congr rfl fun d _ => congrArg (termAt m c (row i r) n) ?_
    show 1024 * 0 + d = d
    omega
  | j + 1, hj => by
    have h0 : (point i ⟨j + 1, by omega⟩).val % 6 ≠ 0 := by show (6 * i.val + (j + 1)) % 6 ≠ 0; omega
    have h5 : (point i ⟨j + 1, by omega⟩).val % 6 ≠ 5 := by show (6 * i.val + (j + 1)) % 6 ≠ 5; omega
    have before := sum_full i r n j (by omega)
    unfold sumOf at before ⊢
    rw [sumAt_mid m c _ h0 h5, back_point i j (by omega), show 1024 * (j + 1 + 1) = 1024 * (j + 1) + 1024 by omega,
      Finset.sum_range_add, ← before]
    refine (adding_apply _ _ _ _ _ _ _ _ r n).trans ?_
    exact congrArg (fun a : EReal => sumAt m c (point i ⟨j, by omega⟩).val (point i ⟨j, by omega⟩).isLt (ix2 r n) + a)
      ((loaded m c i ⟨j + 1, by omega⟩).opening_eq (carries m c i ⟨j + 1, by omega⟩) hj r n)

theorem sum_whole (i : Fin 32) (r : Fin 512) (n : Fin 2048) :
    sumOf m c (point i 5) (ix2 r n) = ∑ e ∈ Finset.range 5632, termAt m c (row i r) n e := by
  have h5 : (point i 5).val % 6 = 5 := by show (6 * i.val + 5) % 6 = 5; omega
  have before := sum_full m c i r n 4 (by omega)
  have hb : back (point i 5) = point i ⟨4, by omega⟩ := back_point i 4 (by omega)
  unfold sumOf at before ⊢
  rw [sumAt_last m c _ h5, hb, show 5632 = 1024 * (4 + 1) + 512 by omega, Finset.sum_range_add, ← before]
  exact (loaded m c i 5).closing_eq (carriesHalf m c i 5) rfl r n _

/-! ## The results -/

/-- The value of the result at an index. -/
def resultAt (R : Fin 16384) (d : Fin 2048) : EReal :=
  norm (fun k => Ideal.ofBits .f32 1071072509#32 * inX m c (ix2 R k) + ∑ e ∈ Finset.range 5632, termAt m c R k e)
    (inScale m c (ix2 0 d)) (inShift m c (ix2 0 d)) d

theorem wide_apply (i : Fin 32) (r : Fin 512) (d : Fin 2048) : wideAt m c (point i 5) (ix2 r d) = resultAt m c (row i r) d := by
  refine (normed_apply _ _ _ _ r d).trans ?_
  unfold resultAt
  rw [iblk_scale m c i 5 d, iblk_shift m c i 5 d]
  refine congrArg (fun f : Fin 2048 → EReal => norm f (inScale m c (ix2 0 d)) (inShift m c (ix2 0 d)) d) (funext fun k => ?_)
  exact congrArg₂ (fun a b : EReal => Ideal.ofBits .f32 1071072509#32 * a + b) (iblk_res m c i 5 r k) (sum_whole m c i r k)

theorem narrow_apply (i : Fin 32) (r : Fin 512) (d : Fin 2048) : narrowAt m c (point i 5) (ix2 r d) = resultAt m c (row i r) d :=
  (normedNarrow_apply _ _ _ _ r d).trans (wide_apply m c i r d)

/-! ## The result arrays -/

theorem coord_row : ∀ t : Fin cfg0.N, (grid0.coords t 0).val = t.val / 6 :=
  (by decide +kernel : ∀ t : Fin grid0.N, (grid0.coords t 0).val = t.val / 6)

theorem start_8 (t : Fin cfg0.N) : win0_8.index t 0 = (grid0.coords t 0).val := (starts_out t).2.2.2.2.2.2.2.2.1
theorem start_9 (t : Fin cfg0.N) : win0_9.index t 0 = (grid0.coords t 0).val := (starts_out t).2.2.2.2.2.2.2.2.2.2.1

theorem same_point (t t' : Fin cfg0.N) (h : t.val % 6 = 5) (h' : t'.val % 6 = 5)
    (e : (grid0.coords t 0).val = (grid0.coords t' 0).val) : t = t' := by
  rw [coord_row, coord_row] at e
  exact Fin.ext (by omega)

theorem block_apply (i : Fin 32) (r : Fin 512) (d : Fin 2048) : blockAt m c (point i 5) (ix2 r d) = resultAt m c (row i r) d := by
  have hp : (point i 5).val % 6 = 5 := by show (6 * i.val + 5) % 6 = 5; omega
  unfold blockAt
  rw [if_pos hp]
  exact wide_apply m c i r d

theorem flushed_8 (t : Fin cfg0.N) : (dats m 0 c).flushed 8 t = (cfg0.win 8).cut (grid0.coords t) (blockAt m c t) := by
  show (cfg0.win 8).cut (grid0.coords t) ((dats m 0 c).after 8 t) = _
  rw [after_8]

theorem apart_8 (t t' : Fin cfg0.N) (h : (cfg0.win 8).flush t = true) (h' : (cfg0.win 8).flush t' = true) (hne : t ≠ t') :
    Disjoint ((cfg0.win 8).blk t).view.set ((cfg0.win 8).blk t').view.set :=
  (cfg0.win 8).disjoint_blk fun e => hne (same_point t t' ((flush0_8 t).mp h) ((flush0_8 t').mp h') (by
    rw [← start_8 t, ← start_8 t']
    exact congrFun e 0))

theorem out_8 (i : Fin 32) (r : Fin 512) (d : Fin 2048) :
    (dats m 0 c).arrAt 8 cfg0.N (ix2 (row i r) d) = resultAt m c (row i r) d := by
  obtain ⟨e0, e1⟩ := coords_point i 5
  obtain ⟨-, -, -, -, -, -, -, -, s0, s1, -, -⟩ := starts_out (point i 5)
  have hp : (point i 5).val % 6 = 5 := by show (6 * i.val + 5) % 6 = 5; omega
  have e := (dats m 0 c).arrAt_emb_eq_flushed 8 (apart_8) (point i 5) ((flush0_8 _).mpr hp) (ix2 r d)
  have hemb : ((cfg0.win 8).blk (point i 5)).view.emb (ix2 r d) = ix2 (row i r) d := by
    refine funext fun a => Fin.ext ?_
    refine (Pipeline.Window.rect_emb_val win0_8 (point i 5) _ a).trans ?_
    match a with
    | ⟨0, _⟩ =>
      show win0_8.index (point i 5) 0 * 512 + r.val = 512 * i.val + r.val
      omega
    | ⟨1, _⟩ =>
      show win0_8.index (point i 5) 1 * 2048 + d.val = d.val
      omega
  rw [hemb, cast_eq, flushed_8] at e
  refine e.trans (block_apply m c i r d)

theorem flushed_9 (t : Fin cfg0.N) : (dats m 0 c).flushed 9 t = (cfg0.win 9).cut (grid0.coords t) (narrowAt m c t) := by
  show (cfg0.win 9).cut (grid0.coords t) ((dats m 0 c).after 9 t) = _
  rw [after_9]

theorem apart_9 (t t' : Fin cfg0.N) (h : (cfg0.win 9).flush t = true) (h' : (cfg0.win 9).flush t' = true) (hne : t ≠ t') :
    Disjoint ((cfg0.win 9).blk t).view.set ((cfg0.win 9).blk t').view.set :=
  (cfg0.win 9).disjoint_blk fun e => hne (same_point t t' ((flush0_9 t).mp h) ((flush0_9 t').mp h') (by
    rw [← start_9 t, ← start_9 t']
    exact congrFun e 0))

theorem out_9 (i : Fin 32) (r : Fin 512) (d : Fin 2048) :
    (dats m 0 c).arrAt 9 cfg0.N (ix2 (row i r) d) = resultAt m c (row i r) d := by
  obtain ⟨e0, e1⟩ := coords_point i 5
  obtain ⟨-, -, -, -, -, -, -, -, -, -, s0, s1⟩ := starts_out (point i 5)
  have hp : (point i 5).val % 6 = 5 := by show (6 * i.val + 5) % 6 = 5; omega
  have e := (dats m 0 c).arrAt_emb_eq_flushed 9 (apart_9) (point i 5) ((flush0_9 _).mpr hp) (ix2 r d)
  have hemb : ((cfg0.win 9).blk (point i 5)).view.emb (ix2 r d) = ix2 (row i r) d := by
    refine funext fun a => Fin.ext ?_
    refine (Pipeline.Window.rect_emb_val win0_9 (point i 5) _ a).trans ?_
    match a with
    | ⟨0, _⟩ =>
      show win0_9.index (point i 5) 0 * 512 + r.val = 512 * i.val + r.val
      omega
    | ⟨1, _⟩ =>
      show win0_9.index (point i 5) 1 * 2048 + d.val = d.val
      omega
  rw [hemb, cast_eq, flushed_9] at e
  refine e.trans (narrow_apply m c i r d)

/-- Every row lies in a block. -/
theorem row_split (R : Fin 16384) : ∃ (i : Fin 32) (r : Fin 512), row i r = R :=
  ⟨⟨R.val / 512, by omega⟩, ⟨R.val % 512, by omega⟩, Fin.ext (by show 512 * (R.val / 512) + R.val % 512 = R.val; omega)⟩

variable [hRef : Cert.ConvFfnReferenceIdeal.Facts]

theorem wide_result : (dats m 0 c).arrAt 8 cfg0.N = Cert.FfnRef.layered (Cert.FfnRef.summed (Cert.FfnRef.gatedAll
    (Cert.FfnRef.filtered (Cert.FfnRef.lifted (inX m c) (inUp m c)) (inTaps m c) (inBias m c))) (inX m c) (inDown m c))
    (inScale m c) (inShift m c) := by
  funext y
  obtain ⟨i, r, hr⟩ := row_split (y 0)
  have hy : y = ix2 (row i r) (y 1) := (eq_ix2 y).trans (congrArg (fun z => ix2 z (y 1)) hr.symm)
  rw [hy]
  exact (out_8 m c i r (y 1)).trans (Cert.FfnRef.layered_eq _ _ _ _ _ _ _ (row i r) (y 1)).symm

theorem narrow_result : (dats m 0 c).arrAt 9 cfg0.N = Cert.FfnRef.narrowed (Cert.FfnRef.layered (Cert.FfnRef.summed (Cert.FfnRef.gatedAll
    (Cert.FfnRef.filtered (Cert.FfnRef.lifted (inX m c) (inUp m c)) (inTaps m c) (inBias m c))) (inX m c) (inDown m c))
    (inScale m c) (inShift m c)) := by
  funext y
  obtain ⟨i, r, hr⟩ := row_split (y 0)
  have hy : y = ix2 (row i r) (y 1) := (eq_ix2 y).trans (congrArg (fun z => ix2 z (y 1)) hr.symm)
  rw [hy]
  exact (out_9 m c i r (y 1)).trans ((Cert.FfnRef.narrowed_apply _ (row i r) (y 1)).trans
    (Cert.FfnRef.layered_eq _ _ _ _ _ _ _ (row i r) (y 1))).symm

end Cert.Ffn

end
-- ==== Proof.AttnOut.lean ====
/- The attention's output projection with its residual and layer norm: the kernel's blocks, the reference, and their equation. -/
module

public import proofs.«01_k».proof.Proof.Gen.AttnOutIdeal.Value
public import proofs.«01_k».proof.Proof.Gen.AttnOutReferenceIdeal.Run
public import proofs.«01_k».proof.Proof.FfnTerms
public import Idealize.ShloMosaic.Lib.Pipeline.Value
public import Idealize.ShloMosaic.Lib.Pipeline.ValueKit.Acc
public import Idealize.ShloMosaic.Lib.StableHlo.RunRead
public import Idealize.ShloMosaic.Lib.Pointwise

@[expose] public section

set_option maxRecDepth 16384

noncomputable section

/-! ## The reference -/

namespace Cert.AttnOutRef

open Idealize.ShloMosaic Idealize.ShloMosaic.TcCoe Cert.AttnOutReferenceIdeal Cert.AttnOutReferenceIdeal.Facts
  Cert.AttnOutReferenceIdeal.Facts₀ Cert.Ffn Pointwise

variable [hRef : Cert.AttnOutReferenceIdeal.Facts]

/-- The residual sum. -/
def summed (a0 : FVec Ideal S16384x2048 .bf16) (a1 : FVec Ideal S2x2048x2048 .f32) (a2 : FVec Ideal S16384x2048 .f32) :
    FVec Ideal S16384x2048 .f32 :=
  addf (mulf (broadcastInDim S16384x2048 ![] bcast_S_S16384x2048 (constant S_ .f32 0x3FD744FD#32)) a2)
    (Host.dotGeneral dot_S16384x2048_S2048x2048_S16384x2048_1_0_0_1_n_n none (extf .f32 a0 bitsLt_bf16_f32)
      (shapeCast _ (extractStridedSlice S1x2048x2048 ![0, 0, 0] a1 slices_S2x2048x2048_S1x2048x2048_0_0_0)
        shapeCasts_S1x2048x2048_S2048x2048))

/-- The layer normalisation of the rows. -/
def layered (y : FVec Ideal S16384x2048 .f32) (a5 a6 : FVec Ideal S4x2048 .f32) : FVec Ideal S16384x2048 .f32 :=
  addf (mulf (mulf (subf y (broadcastInDim S16384x2048 ![0, 1] bcast_S16384x1_S16384x2048_0_1 (Host.divf (broadcastInDim S16384x1 ![0]
    bcast_S16384_S16384x1_0 (Host.reduceAdd y (constant S_ .f32 0x00000000#32) reducesTo_S16384x2048_S16384_d1 h_S_)) (broadcastInDim
    S16384x1 ![] bcast_S_S16384x1 (constant S_ .f32 0x45000000#32))))) (broadcastInDim S16384x2048 ![0, 1]
    bcast_S16384x1_S16384x2048_0_1 (Host.rsqrt (addf (Host.divf (broadcastInDim S16384x1 ![0] bcast_S16384_S16384x1_0 (Host.reduceAdd
    (mulf (subf y (broadcastInDim S16384x2048 ![0, 1] bcast_S16384x1_S16384x2048_0_1 (Host.divf (broadcastInDim S16384x1 ![0]
    bcast_S16384_S16384x1_0 (Host.reduceAdd y (constant S_ .f32 0x00000000#32) reducesTo_S16384x2048_S16384_d1 h_S_)) (broadcastInDim
    S16384x1 ![] bcast_S_S16384x1 (constant S_ .f32 0x45000000#32))))) (subf y (broadcastInDim S16384x2048 ![0, 1]
    bcast_S16384x1_S16384x2048_0_1 (Host.divf (broadcastInDim S16384x1 ![0] bcast_S16384_S16384x1_0 (Host.reduceAdd y (constant S_ .f32
    0x00000000#32) reducesTo_S16384x2048_S16384_d1 h_S_)) (broadcastInDim S16384x1 ![] bcast_S_S16384x1 (constant S_ .f32
    0x45000000#32)))))) (constant S_ .f32 0x00000000#32) reducesTo_S16384x2048_S16384_d1 h_S_)) (broadcastInDim S16384x1 ![]
    bcast_S_S16384x1 (constant S_ .f32 0x45000000#32))) (broadcastInDim S16384x1 ![] bcast_S_S16384x1 (constant S_ .f32
    0x3727C5AC#32)))))) (broadcastInDim S16384x2048 ![0, 1] bcast_S1x2048_S16384x2048_0_1 (broadcastInDim S1x2048 ![1]
    bcast_S2048_S1x2048_1 (shapeCast _ (extractStridedSlice S1x2048 ![1, 0] a5 slices_S4x2048_S1x2048_1_0) shapeCasts_S1x2048_S2048))))
    (broadcastInDim S16384x2048 ![0, 1] bcast_S1x2048_S16384x2048_0_1 (broadcastInDim S1x2048 ![1] bcast_S2048_S1x2048_1 (shapeCast _
    (extractStridedSlice S1x2048 ![1, 0] a6 slices_S4x2048_S1x2048_1_0) shapeCasts_S1x2048_S2048)))

/-- The narrow copy of the result. -/
def narrowed (y : FVec Ideal S16384x2048 .f32) : FVec Ideal S16384x2048 .bf16 := truncf .bf16 y bitsLt_bf16_f32

theorem summed_apply (a0 : FVec Ideal S16384x2048 .bf16) (a1 : FVec Ideal S2x2048x2048 .f32) (a2 : FVec Ideal S16384x2048 .f32)
    (R : Fin 16384) (n : Fin 2048) : summed a0 a1 a2 (ix2 R n)
      = Ideal.ofBits .f32 1071072509#32 * a2 (ix2 R n) + ∑ e : Fin 2048, a0 (ix2 R e) * a1 (ix3 0 e n) := by
  pointwise [summed]

theorem layered_apply (y : FVec Ideal S16384x2048 .f32) (a5 a6 : FVec Ideal S4x2048 .f32) (R : Fin 16384) (n : Fin 2048) :
    layered y a5 a6 (ix2 R n) = norm (fun k => y (ix2 R k)) (a5 (ix2 1 n)) (a6 (ix2 1 n)) n := by
  pointwise [layered]
  rfl

theorem narrowed_apply (y : FVec Ideal S16384x2048 .f32) (R : Fin 16384) (n : Fin 2048) : narrowed y (ix2 R n) = y (ix2 R n) := by
  pointwise [narrowed]

variable (m : (ℓ : Loc nD τ sig) → Buf (Elt Ideal) ℓ) (c : Dev nD)

theorem res_eq : Value.res_main_v34 m c = layered (summed (m ((c.tc : Thread nD τ).loc main_arg0)) (m ((c.tc : Thread nD τ).loc main_arg1))
    (m ((c.tc : Thread nD τ).loc main_arg2))) (m ((c.tc : Thread nD τ).loc main_arg3)) (m ((c.tc : Thread nD τ).loc main_arg4)) := rfl

theorem res_narrow : Value.res_main_v35 m c = narrowed (layered (summed (m ((c.tc : Thread nD τ).loc main_arg0))
    (m ((c.tc : Thread nD τ).loc main_arg1)) (m ((c.tc : Thread nD τ).loc main_arg2))) (m ((c.tc : Thread nD τ).loc main_arg3))
    (m ((c.tc : Thread nD τ).loc main_arg4))) := rfl

end Cert.AttnOutRef

/-! ## The kernel -/

namespace Cert.AttnOut

open Idealize.ShloMosaic Idealize.ShloMosaic.TcCoe Cert.AttnOutIdeal.Gen Cert.AttnOutIdeal Cert.Ffn Pointwise

variable (m : (ℓ : Loc nD τ sig) → Buf (Elt Ideal) ℓ) (c : Dev nD)

def inO : FVec Ideal S16384x2048 .bf16 := m ((c : Thread nD τ).loc main_arg0)
def inW : FVec Ideal S2x2048x2048 .f32 := m ((c : Thread nD τ).loc main_arg1)
def inX : FVec Ideal S16384x2048 .f32 := m ((c : Thread nD τ).loc main_arg2)
def inScale : FVec Ideal S4x2048 .f32 := m ((c : Thread nD τ).loc main_arg3)
def inShift : FVec Ideal S4x2048 .f32 := m ((c : Thread nD τ).loc main_arg4)

theorem V_w : V m c main_v0 = truncf .bf16 (inW m c) bitsLt_bf16_f32 := by
  show StableHlo.after hostOps0 _ (Proc.devRef .tc main_v0) = _
  after_reads_simp
  rfl

theorem V_scale : V m c main_v1 = broadcastInDim S4x1x2048 ![0, 2] bcast_S4x2048_S4x1x2048_0_2 (inScale m c) := by
  show StableHlo.after hostOps0 _ (Proc.devRef .tc main_v1) = _
  after_reads_simp
  rfl

theorem V_shift : V m c main_v2 = broadcastInDim S4x1x2048 ![0, 2] bcast_S4x2048_S4x1x2048_0_2 (inShift m c) := by
  show StableHlo.after hostOps0 _ (Proc.devRef .tc main_v2) = _
  after_reads_simp
  rfl

/-- The grid point of a block of rows. -/
def point (i : Fin 32) : Fin cfg0.N := ⟨i.val, i.isLt⟩

theorem starts (i : Fin 32) : win0_0.index (point i) 0 = i.val ∧ win0_0.index (point i) 1 = 0
    ∧ win0_1.index (point i) 0 = 0 ∧ win0_1.index (point i) 1 = 0 ∧ win0_1.index (point i) 2 = 0
    ∧ win0_2.index (point i) 0 = i.val ∧ win0_2.index (point i) 1 = 0
    ∧ win0_3.index (point i) 0 = 1 ∧ win0_3.index (point i) 1 = 0 ∧ win0_3.index (point i) 2 = 0
    ∧ win0_4.index (point i) 0 = 1 ∧ win0_4.index (point i) 1 = 0 ∧ win0_4.index (point i) 2 = 0
    ∧ win0_5.index (point i) 0 = i.val ∧ win0_5.index (point i) 1 = 0
    ∧ win0_6.index (point i) 0 = i.val ∧ win0_6.index (point i) 1 = 0 :=
  (by decide +kernel : ∀ i : Fin 32, win0_0.index (point i) 0 = i.val ∧ win0_0.index (point i) 1 = 0
    ∧ win0_1.index (point i) 0 = 0 ∧ win0_1.index (point i) 1 = 0 ∧ win0_1.index (point i) 2 = 0
    ∧ win0_2.index (point i) 0 = i.val ∧ win0_2.index (point i) 1 = 0
    ∧ win0_3.index (point i) 0 = 1 ∧ win0_3.index (point i) 1 = 0 ∧ win0_3.index (point i) 2 = 0
    ∧ win0_4.index (point i) 0 = 1 ∧ win0_4.index (point i) 1 = 0 ∧ win0_4.index (point i) 2 = 0
    ∧ win0_5.index (point i) 0 = i.val ∧ win0_5.index (point i) 1 = 0
    ∧ win0_6.index (point i) 0 = i.val ∧ win0_6.index (point i) 1 = 0) i

theorem iblk_o (i : Fin 32) (r : Fin 512) (k : Fin 2048) : iblk m c 0 (point i) (ix2 r k) = inO m c (ix2 (row i r) k) := by
  obtain ⟨s0, s1, -⟩ := starts i
  unfold iblk
  rw [View.read_apply, cast_eq]
  refine (congrArg (V m c main_arg0) (funext fun a => Fin.ext ?_)).trans (congrFun (V_main_arg0 m c) _)
  refine (Pipeline.Window.rect_emb_val win0_0 (point i) _ a).trans ?_
  match a with
  | ⟨0, _⟩ =>
    show win0_0.index (point i) 0 * 512 + r.val = 512 * i.val + r.val
    omega
  | ⟨1, _⟩ =>
    show win0_0.index (point i) 1 * 2048 + k.val = k.val
    omega

theorem iblk_w (i : Fin 32) (k d : Fin 2048) : iblk m c 1 (point i) (ix3 0 k d) = inW m c (ix3 0 k d) := by
  obtain ⟨-, -, s0, s1, s2, -⟩ := starts i
  unfold iblk
  rw [View.read_apply, cast_eq]
  refine (congrArg (V m c main_v0) (funext fun a => Fin.ext ?_)).trans (congrFun (V_w m c) _)
  refine (Pipeline.Window.rect_emb_val win0_1 (point i) _ a).trans ?_
  match a with
  | ⟨0, _⟩ =>
    show win0_1.index (point i) 0 * 1 + 0 = 0
    omega
  | ⟨1, _⟩ =>
    show win0_1.index (point i) 1 * 2048 + k.val = k.val
    omega
  | ⟨2, _⟩ =>
    show win0_1.index (point i) 2 * 2048 + d.val = d.val
    omega

theorem iblk_x (i : Fin 32) (r : Fin 512) (k : Fin 2048) : iblk m c 2 (point i) (ix2 r k) = inX m c (ix2 (row i r) k) := by
  obtain ⟨-, -, -, -, -, s0, s1, -⟩ := starts i
  unfold iblk
  rw [View.read_apply, cast_eq]
  refine (congrArg (V m c main_arg2) (funext fun a => Fin.ext ?_)).trans (congrFun (V_main_arg2 m c) _)
  refine (Pipeline.Window.rect_emb_val win0_2 (point i) _ a).trans ?_
  match a with
  | ⟨0, _⟩ =>
    show win0_2.index (point i) 0 * 512 + r.val = 512 * i.val + r.val
    omega
  | ⟨1, _⟩ =>
    show win0_2.index (point i) 1 * 2048 + k.val = k.val
    omega

theorem iblk_scale (i : Fin 32) (d : Fin 2048) : iblk m c 3 (point i) (ix3 0 0 d) = inScale m c (ix2 1 d) := by
  obtain ⟨-, -, -, -, -, -, -, s0, s1, s2, -⟩ := starts i
  unfold iblk
  rw [View.read_apply, cast_eq]
  refine ((congrArg (V m c main_v1) (a₂ := ix3 1 0 d) (funext fun a => Fin.ext ?_)).trans (congrFun (V_scale m c) _)).trans (by pointwise [])
  refine (Pipeline.Window.rect_emb_val win0_3 (point i) _ a).trans ?_
  match a with
  | ⟨0, _⟩ =>
    show win0_3.index (point i) 0 * 1 + 0 = 1
    omega
  | ⟨1, _⟩ =>
    show win0_3.index (point i) 1 * 1 + 0 = 0
    omega
  | ⟨2, _⟩ =>
    show win0_3.index (point i) 2 * 2048 + d.val = d.val
    omega

theorem iblk_shift (i : Fin 32) (d : Fin 2048) : iblk m c 4 (point i) (ix3 0 0 d) = inShift m c (ix2 1 d) := by
  obtain ⟨-, -, -, -, -, -, -, -, -, -, s0, s1, s2, -⟩ := starts i
  unfold iblk
  rw [View.read_apply, cast_eq]
  refine ((congrArg (V m c main_v2) (a₂ := ix3 1 0 d) (funext fun a => Fin.ext ?_)).trans (congrFun (V_shift m c) _)).trans (by pointwise [])
  refine (Pipeline.Window.rect_emb_val win0_4 (point i) _ a).trans ?_
  match a with
  | ⟨0, _⟩ =>
    show win0_4.index (point i) 0 * 1 + 0 = 1
    omega
  | ⟨1, _⟩ =>
    show win0_4.index (point i) 1 * 1 + 0 = 0
    omega
  | ⟨2, _⟩ =>
    show win0_4.index (point i) 2 * 2048 + d.val = d.val
    omega

/-- The value of the result at an index. -/
def resultAt (R : Fin 16384) (d : Fin 2048) : EReal :=
  norm (fun k => Ideal.ofBits .f32 1071072509#32 * inX m c (ix2 R k) + ∑ e : Fin 2048, inO m c (ix2 R e) * inW m c (ix3 0 e k))
    (inScale m c (ix2 1 d)) (inShift m c (ix2 1 d)) d

theorem pay_apply (x0 : Vec Ideal S512x2048 .bf16) (x1 : Vec Ideal S1x2048x2048 .bf16) (x2 : Vec Ideal S512x2048 .f32)
    (x3 x4 : Vec Ideal S1x1x2048 .f32) (r : Fin 512) (d : Fin 2048) : k0_pay1 (F := Ideal) x0 x1 x2 x3 x4 (ix2 r d)
      = norm (fun k => Ideal.ofBits .f32 1071072509#32 * x2 (ix2 r k) + ∑ e : Fin 2048, x0 (ix2 r e) * x1 (ix3 0 e k))
        (x3 (ix3 0 0 d)) (x4 (ix3 0 0 d)) d := by
  pointwise [k0_pay1]
  rfl

theorem narrow_apply (x0 : Vec Ideal S512x2048 .bf16) (x1 : Vec Ideal S1x2048x2048 .bf16) (x2 : Vec Ideal S512x2048 .f32)
    (x3 x4 : Vec Ideal S1x1x2048 .f32) (r : Fin 512) (d : Fin 2048) :
    k0_pay2 (F := Ideal) x0 x1 x2 x3 x4 (ix2 r d) = k0_pay1 (F := Ideal) x0 x1 x2 x3 x4 (ix2 r d) := by
  pointwise [k0_pay2]

theorem block_5 (x0 : Vec Ideal S512x2048 .bf16) (x1 : Vec Ideal S1x2048x2048 .bf16) (x2 : Vec Ideal S512x2048 .f32)
    (x3 x4 : Vec Ideal S1x1x2048 .f32) : out0_5 (F := Ideal) x0 x1 x2 x3 x4 = k0_pay1 x0 x1 x2 x3 x4 := by
  unfold out0_5
  rw [View.canon_cons_unit_lit' _ _ _ (by decide), View.ld_unit_lit' _ _ (by decide), View.ld_unit_lit' _ _ (by decide),
    View.ld_unit_lit' _ _ (by decide), View.ld_unit_lit' _ _ (by decide), View.ld_unit_lit' _ _ (by decide)]

theorem block_6 (x0 : Vec Ideal S512x2048 .bf16) (x1 : Vec Ideal S1x2048x2048 .bf16) (x2 : Vec Ideal S512x2048 .f32)
    (x3 x4 : Vec Ideal S1x1x2048 .f32) : out0_6 (F := Ideal) x0 x1 x2 x3 x4 = k0_pay2 x0 x1 x2 x3 x4 := by
  unfold out0_6
  rw [View.canon_cons_unit_lit' _ _ _ (by decide), View.ld_unit_lit' _ _ (by decide), View.ld_unit_lit' _ _ (by decide),
    View.ld_unit_lit' _ _ (by decide), View.ld_unit_lit' _ _ (by decide), View.ld_unit_lit' _ _ (by decide)]

theorem point_apply (i : Fin 32) (r : Fin 512) (d : Fin 2048) :
    k0_pay1 (F := Ideal) (iblk m c 0 (point i)) (iblk m c 1 (point i)) (iblk m c 2 (point i)) (iblk m c 3 (point i)) (iblk m c 4 (point i))
      (ix2 r d) = resultAt m c (row i r) d := by
  refine (pay_apply _ _ _ _ _ r d).trans ?_
  unfold resultAt
  rw [iblk_scale m c i d, iblk_shift m c i d]
  refine congrArg (fun f : Fin 2048 → EReal => norm f (inScale m c (ix2 1 d)) (inShift m c (ix2 1 d)) d) (funext fun k => ?_)
  exact congrArg₂ (fun a b : EReal => Ideal.ofBits .f32 1071072509#32 * a + b) (iblk_x m c i r k)
    (Finset.sum_congr rfl fun e _ => congrArg₂ (fun a b : EReal => a * b) (iblk_o m c i r e) (iblk_w m c i e k))

theorem out_5 (i : Fin 32) (r : Fin 512) (d : Fin 2048) :
    (dats m 0 c).arrAt 5 cfg0.N (ix2 (row i r) d) = resultAt m c (row i r) d := by
  obtain ⟨-, -, -, -, -, -, -, -, -, -, -, -, -, s0, s1, -⟩ := starts i
  have e := (dats m 0 c).arrAt_emb_eq_flushed 5 Value.disjoint5 (point i) (flush0_5 _) (ix2 r d)
  have hemb : ((cfg0.win 5).blk (point i)).view.emb (ix2 r d) = ix2 (row i r) d := by
    refine funext fun a => Fin.ext ?_
    refine (Pipeline.Window.rect_emb_val win0_5 (point i) _ a).trans ?_
    match a with
    | ⟨0, _⟩ =>
      show win0_5.index (point i) 0 * 512 + r.val = 512 * i.val + r.val
      omega
    | ⟨1, _⟩ =>
      show win0_5.index (point i) 1 * 2048 + d.val = d.val
      omega
  rw [hemb, cast_eq, Value.flushed5] at e
  exact e.trans ((congrFun (block_5 _ _ _ _ _) _).trans (point_apply m c i r d))

theorem out_6 (i : Fin 32) (r : Fin 512) (d : Fin 2048) :
    (dats m 0 c).arrAt 6 cfg0.N (ix2 (row i r) d) = resultAt m c (row i r) d := by
  obtain ⟨-, -, -, -, -, -, -, -, -, -, -, -, -, -, -, s0, s1⟩ := starts i
  have e := (dats m 0 c).arrAt_emb_eq_flushed 6 Value.disjoint6 (point i) (flush0_6 _) (ix2 r d)
  have hemb : ((cfg0.win 6).blk (point i)).view.emb (ix2 r d) = ix2 (row i r) d := by
    refine funext fun a => Fin.ext ?_
    refine (Pipeline.Window.rect_emb_val win0_6 (point i) _ a).trans ?_
    match a with
    | ⟨0, _⟩ =>
      show win0_6.index (point i) 0 * 512 + r.val = 512 * i.val + r.val
      omega
    | ⟨1, _⟩ =>
      show win0_6.index (point i) 1 * 2048 + d.val = d.val
      omega
  rw [hemb, cast_eq, Value.flushed6] at e
  exact e.trans ((congrFun (block_6 _ _ _ _ _) _).trans ((narrow_apply _ _ _ _ _ r d).trans (point_apply m c i r d)))

variable [hRef : Cert.AttnOutReferenceIdeal.Facts]

theorem layered_at (R : Fin 16384) (d : Fin 2048) :
    Cert.AttnOutRef.layered (Cert.AttnOutRef.summed (inO m c) (inW m c) (inX m c)) (inScale m c) (inShift m c) (ix2 R d) = resultAt m c R d :=
  (Cert.AttnOutRef.layered_apply _ _ _ R d).trans (congrArg (fun f : Fin 2048 → EReal => norm f (inScale m c (ix2 1 d)) (inShift m c (ix2 1 d)) d)
    (funext fun k => Cert.AttnOutRef.summed_apply _ _ _ R k))

/-- Every row lies in a block. -/
theorem split_row (R : Fin 16384) : ∃ (i : Fin 32) (r : Fin 512), row i r = R :=
  ⟨⟨R.val / 512, by omega⟩, ⟨R.val % 512, by omega⟩, Fin.ext (by show 512 * (R.val / 512) + R.val % 512 = R.val; omega)⟩

theorem wide_result : (dats m 0 c).arrAt 5 cfg0.N
    = Cert.AttnOutRef.layered (Cert.AttnOutRef.summed (inO m c) (inW m c) (inX m c)) (inScale m c) (inShift m c) := by
  funext y
  obtain ⟨i, r, hr⟩ := split_row (y 0)
  have hy : y = ix2 (row i r) (y 1) := (eq_ix2 y).trans (congrArg (fun z => ix2 z (y 1)) hr.symm)
  rw [hy]
  exact (out_5 m c i r (y 1)).trans (layered_at m c (row i r) (y 1)).symm

theorem narrow_result : (dats m 0 c).arrAt 6 cfg0.N = Cert.AttnOutRef.narrowed
    (Cert.AttnOutRef.layered (Cert.AttnOutRef.summed (inO m c) (inW m c) (inX m c)) (inScale m c) (inShift m c)) := by
  funext y
  obtain ⟨i, r, hr⟩ := split_row (y 0)
  have hy : y = ix2 (row i r) (y 1) := (eq_ix2 y).trans (congrArg (fun z => ix2 z (y 1)) hr.symm)
  rw [hy]
  exact (out_6 m c i r (y 1)).trans ((Cert.AttnOutRef.narrowed_apply _ (row i r) (y 1)).trans (layered_at m c (row i r) (y 1))).symm

end Cert.AttnOut

end
-- ==== Proof.Steps.lean ====
/- One head's step over one tile of keys, written once for a tile of 1024 keys and once for a tile of 512: the scores, the
   new running maximum, the new accumulator; and each of them read at an index over the extended reals. -/
module

public import proofs.«01_k».proof.Proof.Gen.KernelIdeal.Frame
public import Idealize.ShloMosaic.Lib.Pointwise

@[expose] public section

set_option maxRecDepth 16384

noncomputable section

namespace Cert.Attn

open Idealize.ShloMosaic Cert.KernelIdeal Cert.KernelIdeal.Facts Cert.KernelIdeal.Gen Pointwise

/-- The kernel's score scale, as the idealized program names it. -/
abbrev scale : EReal := Named.named (F := Ideal) κ "sm_scale_log2e" (φ := .f32) 0x3DD53B95#32

/-- The scores of 512 queries against 1024 keys. -/
def score1024 (q : FVec Ideal S512x256 .bf16) (k : FVec Ideal S1024x256 .bf16) : FVec Ideal S512x1024 .f32 :=
  matmul dot_S512x256_S1024x256_S512x1024_1_1_0_0_n_n none q k (constant S512x1024 .f32 0x00000000#32)

/-- The scores of 512 queries against 512 keys. -/
def score512 (q k : FVec Ideal S512x256 .bf16) : FVec Ideal S512x512 .f32 :=
  matmul dot_S512x256_S512x256_S512x512_1_1_0_0_n_n none q k (constant S512x512 .f32 0x00000000#32)

/-- The new running maximum after a tile of 1024 scores. -/
def max1024 (s : FVec Ideal S512x1024 .f32) (m : FVec Ideal S512x1 .f32) : FVec Ideal S512x1 .f32 :=
  maximumf m (shapeCast S512x1
    (multiReduction .maximumf [1] S512 s 0xFF800000#32 reduces_S512x1024_S512 (.inl rfl) rfl) shapeCasts_S512_S512x1)

/-- The new running maximum after a tile of 512 scores. -/
def max512 (s : FVec Ideal S512x512 .f32) (m : FVec Ideal S512x1 .f32) : FVec Ideal S512x1 .f32 :=
  maximumf m (shapeCast S512x1
    (multiReduction .maximumf [1] S512 s 0xFF800000#32 reduces_S512x512_S512 (.inl rfl) rfl) shapeCasts_S512_S512x1)

/-- How much the accumulator shrinks when the running maximum moves from `m` to `m'`. -/
def shrink (m m' : FVec Ideal S512x1 .f32) : FVec Ideal S512x256 .f32 :=
  broadcastTo S512x256 (exp2 (mulf (subf m m') (broadcast S512x1 scale))) broadcasts_S512x1_S512x256

/-- The new accumulator after a tile of 1024 keys. -/
def acc1024 (s : FVec Ideal S512x1024 .f32) (v : FVec Ideal S1024x256 .bf16) (m m' : FVec Ideal S512x1 .f32)
    (a : FVec Ideal S512x256 .f32) : FVec Ideal S512x256 .f32 :=
  addf (mulf (shrink m m') a)
    (matmul dot_S512x1024_S1024x256_S512x256_1_0_0_1_n_n none
      (truncf .bf16 (exp2 (mulf (subf s (broadcastTo S512x1024 m' broadcasts_S512x1_S512x1024))
        (broadcast S512x1024 scale))) bitsLt_bf16_f32) v (constant S512x256 .f32 0x00000000#32))

/-- The new accumulator after a tile of 512 keys. -/
def acc512 (s : FVec Ideal S512x512 .f32) (v : FVec Ideal S512x256 .bf16) (m m' : FVec Ideal S512x1 .f32)
    (a : FVec Ideal S512x256 .f32) : FVec Ideal S512x256 .f32 :=
  addf (mulf (shrink m m') a)
    (matmul dot_S512x512_S512x256_S512x256_1_0_0_1_n_n none
      (truncf .bf16 (exp2 (mulf (subf s (broadcastTo S512x512 m' broadcasts_S512x1_S512x512))
        (broadcast S512x512 scale))) bitsLt_bf16_f32) v (constant S512x256 .f32 0x00000000#32))

/-- The kernel's `-∞` pattern is the bottom of the extended reals. -/
theorem ofBits_neg_inf : Ideal.ofBits .f32 0xFF800000#32 = ⊥ := by
  simp [Ideal.ofBits, Ideal.ieee]

/-- A running maximum started at `⊥` is the supremum. -/
theorem fold_max_eq_sup {n : ℕ} (f : Fin n → EReal) :
    Finset.fold max (Ideal.ofBits .f32 0xFF800000#32) f Finset.univ = Finset.univ.sup f := by
  rw [ofBits_neg_inf]; rfl

theorem score1024_apply (q : FVec Ideal S512x256 .bf16) (k : FVec Ideal S1024x256 .bf16) (r : Fin 512) (j : Fin 1024) :
    score1024 q k (ix2 r j) = ∑ d : Fin 256, q (ix2 r d) * k (ix2 j d) := by
  pointwise [score1024]

theorem score512_apply (q k : FVec Ideal S512x256 .bf16) (r j : Fin 512) :
    score512 q k (ix2 r j) = ∑ d : Fin 256, q (ix2 r d) * k (ix2 j d) := by
  pointwise [score512]

theorem max1024_apply (s : FVec Ideal S512x1024 .f32) (m : FVec Ideal S512x1 .f32) (r : Fin 512) :
    max1024 s m (ix2 r 0) = max (m (ix2 r 0)) (Finset.univ.sup fun j : Fin 1024 => s (ix2 r j)) := by
  pointwise [max1024]
  exact congrArg _ (fold_max_eq_sup _)

theorem max512_apply (s : FVec Ideal S512x512 .f32) (m : FVec Ideal S512x1 .f32) (r : Fin 512) :
    max512 s m (ix2 r 0) = max (m (ix2 r 0)) (Finset.univ.sup fun j : Fin 512 => s (ix2 r j)) := by
  pointwise [max512]
  exact congrArg _ (fold_max_eq_sup _)

theorem acc1024_apply (s : FVec Ideal S512x1024 .f32) (v : FVec Ideal S1024x256 .bf16) (m m' : FVec Ideal S512x1 .f32)
    (a : FVec Ideal S512x256 .f32) (r : Fin 512) (d : Fin 256) :
    acc1024 s v m m' a (ix2 r d) = Ideal.exp2 ((m (ix2 r 0) - m' (ix2 r 0)) * scale) * a (ix2 r d)
      + ∑ j : Fin 1024, Ideal.exp2 ((s (ix2 r j) - m' (ix2 r 0)) * scale) * v (ix2 j d) := by
  pointwise [acc1024, shrink]
  try rfl

theorem acc512_apply (s : FVec Ideal S512x512 .f32) (v : FVec Ideal S512x256 .bf16) (m m' : FVec Ideal S512x1 .f32)
    (a : FVec Ideal S512x256 .f32) (r : Fin 512) (d : Fin 256) :
    acc512 s v m m' a (ix2 r d) = Ideal.exp2 ((m (ix2 r 0) - m' (ix2 r 0)) * scale) * a (ix2 r d)
      + ∑ j : Fin 512, Ideal.exp2 ((s (ix2 r j) - m' (ix2 r 0)) * scale) * v (ix2 j d) := by
  pointwise [acc512, shrink]
  try rfl

end Cert.Attn

end
-- ==== Proof.Mask.lean ====
/- The mask of the last tile, where query and key tile coincide: a key counts when its chunk of 64 is not after the
   query's. The kernel divides by 64 with a sign correction that never applies. -/
module

public import proofs.«01_k».proof.Proof.Steps

@[expose] public section

set_option maxRecDepth 16384

noncomputable section

namespace Cert.Attn

open Idealize.ShloMosaic Cert.KernelIdeal Cert.KernelIdeal.Facts Cert.KernelIdeal.Gen Pointwise

/-- Division by 64 rounding down, as the kernel spells it on signed words. -/
def chunk (x : IVec S512x512 32) : IVec S512x512 32 :=
  select
    (andi
      (cmpi .ne
        (subi (extui 32 (cmpi .sgt x (broadcast S512x512 0#32)) natLt_1_32)
          (extui 32 (cmpi .slt x (broadcast S512x512 0#32)) natLt_1_32))
        (broadcast S512x512 (Scalar.subi (Scalar.extui (Scalar.cmpi .sgt 64#32 0#32))
          (Scalar.extui (Scalar.cmpi .slt 64#32 0#32)))))
      (cmpi .ne (remsi x (broadcast S512x512 64#32)) (broadcast S512x512 0#32)))
    (subi (divsi x (broadcast S512x512 64#32)) (broadcast S512x512 1#32))
    (divsi x (broadcast S512x512 64#32))

/-- The scores of a tile on the diagonal, with `-∞` where the key's chunk is after the query's. -/
def maskScores (s : FVec Ideal S512x512 .f32) : FVec Ideal S512x512 .f32 :=
  select
    (cmpi .sle (chunk (iota .tc S512x512 32 [1] iota_S512x512_d1_w32))
      (chunk (iota .tc S512x512 32 [0] iota_S512x512_d0_w32)))
    s (broadcast S512x512 (Scalar.ofBits .f32 0xFF800000#32))

/-- The same division on one word. -/
def chunkWord (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 64#32 0#32)) (Scalar.extui (Scalar.cmpi .slt 64#32 0#32))))
      (Scalar.cmpi .ne (Scalar.remsi x 64#32) 0#32))
    (Scalar.subi (Scalar.divsi x 64#32) 1#32) (Scalar.divsi x 64#32)

theorem chunkWord_eq : ∀ n : Fin 512, chunkWord (BitVec.ofNat 32 n.val) = BitVec.ofNat 32 (n.val / 64) := by
  decide +kernel

theorem chunk_le : ∀ a b : Fin 8,
    (Scalar.cmpi .sle (BitVec.ofNat 32 a.val) (BitVec.ofNat 32 b.val) = 1#1) = (a.val ≤ b.val) := by
  intro a b; exact propext ((by decide +kernel : ∀ a b : Fin 8,
    Scalar.cmpi .sle (BitVec.ofNat 32 a.val) (BitVec.ofNat 32 b.val) = 1#1 ↔ a.val ≤ b.val) a b)

theorem maskScores_apply (s : FVec Ideal S512x512 .f32) (r j : Fin 512) :
    maskScores s (ix2 r j) = if j.val / 64 ≤ r.val / 64 then s (ix2 r j) else ⊥ := by
  have h : maskScores s (ix2 r j)
      = if Scalar.cmpi .sle (chunkWord (BitVec.ofNat 32 j.val)) (chunkWord (BitVec.ofNat 32 r.val)) = 1#1
        then s (ix2 r j) else Ideal.ofBits .f32 0xFF800000#32 := by
    pointwise [maskScores, chunk]
    rfl
  have hle := chunk_le ⟨j.val / 64, by omega⟩ ⟨r.val / 64, by omega⟩
  simp only [h, chunkWord_eq, hle, ofBits_neg_inf]

end Cert.Attn

end
-- ==== Proof.SguPay.lean ====
/- The gating unit's output kernel: the values it stores, at one index, in terms of what it read. -/
module

public import proofs.«01_k».proof.Proof.Gen.SguOutIdeal.Value
public import proofs.«01_k».proof.Proof.FfnTerms
public import proofs.«01_k».proof.Proof.Mask
public import Idealize.ShloMosaic.Lib.Pipeline.Value
public import Idealize.ShloMosaic.Lib.Pipeline.ValueKit.Acc
public import Idealize.ShloMosaic.Lib.Pipeline.ValueKit.Tiles
public import Idealize.ShloMosaic.Lib.Pointwise

@[expose] public section

set_option maxRecDepth 16384

noncomputable section

namespace Cert.SguOut

open Idealize.ShloMosaic Idealize.ShloMosaic.TcCoe Cert.SguOutIdeal.Gen Cert.SguOutIdeal Cert.Ffn Pointwise

/-- The row of a block of 512 that is row `j` of its block `b` of 128. -/
def inRow (b : Fin 4) (j : Fin 128) : Fin 512 := ⟨128 * b.val + j.val, by omega⟩

/-- The mask's weights: nothing where the key's chunk of 64 is after the query's. -/
theorem weights_apply (w : Vec Ideal S1x1x128x128 .f32) (i j : Fin 128) :
    k0_pay24 k0_pay10 (k0_pay13 (iota .tc S128x128 32 [1] iota_S128x128_d1_w32) 64#32 k0_pay11 k0_pay12 1#32) w (ix2 i j)
      = if j.val / 64 ≤ i.val / 64 then w (ix4 0 0 i j) else 0 := by
  have h : k0_pay24 k0_pay10 (k0_pay13 (iota .tc S128x128 32 [1] iota_S128x128_d1_w32) 64#32 k0_pay11 k0_pay12 1#32) w (ix2 i j)
      = if Scalar.cmpi .sle (Cert.Attn.chunkWord (BitVec.ofNat 32 j.val)) (Cert.Attn.chunkWord (BitVec.ofNat 32 i.val)) = 1#1
        then w (ix4 0 0 i j) else 0 := by
    pointwise [k0_pay24, k0_pay10, k0_pay13, k0_pay11, k0_pay12]
    rfl
  have hj := Cert.Attn.chunkWord_eq ⟨j.val, by omega⟩
  have hi := Cert.Attn.chunkWord_eq ⟨i.val, by omega⟩
  have hle := Cert.Attn.chunk_le ⟨j.val / 64, by omega⟩ ⟨i.val / 64, by omega⟩
  simp only [] at hj hi hle
  simp only [h, hj, hi, hle]

theorem normed_apply (v : Vec Ideal S512x768 .bf16) (mu rs : Vec Ideal S512x1 .f32) (g b : Vec Ideal S1x1x768 .f32) (r : Fin 512)
    (e : Fin 768) : k0_pay14 v mu rs g b (ix2 r e)
      = (v (ix2 r e) - mu (ix2 r 0)) * rs (ix2 r 0) * g (ix3 0 0 e) + b (ix3 0 0 e) := by
  pointwise [k0_pay14]

theorem gate0_apply (n : FVec Ideal S512x768 .bf16) (w : FVec Ideal S128x128 .bf16) (b : Vec Ideal S1x1x128x1 .f32)
    (u : Vec Ideal S128x768 .bf16) (i : Fin 128) (e : Fin 768) : k0_pay17 n w b u (ix2 i e)
      = u (ix2 i e) * ((∑ j : Fin 128, w (ix2 i j) * n (ix2 (inRow 0 j) e)) + b (ix4 0 0 i 0)) := by
  pointwise [k0_pay17, k0_pay16]
  rfl

theorem gate1_apply (n : FVec Ideal S512x768 .bf16) (w : FVec Ideal S128x128 .bf16) (b : Vec Ideal S1x1x128x1 .f32)
    (u : Vec Ideal S128x768 .bf16) (i : Fin 128) (e : Fin 768) : k0_pay18 n w b u (ix2 i e)
      = u (ix2 i e) * ((∑ j : Fin 128, w (ix2 i j) * n (ix2 (inRow 1 j) e)) + b (ix4 0 0 i 0)) := by
  pointwise [k0_pay18, k0_pay16]
  rfl

theorem gate2_apply (n : FVec Ideal S512x768 .bf16) (w : FVec Ideal S128x128 .bf16) (b : Vec Ideal S1x1x128x1 .f32)
    (u : Vec Ideal S128x768 .bf16) (i : Fin 128) (e : Fin 768) : k0_pay19 n w b u (ix2 i e)
      = u (ix2 i e) * ((∑ j : Fin 128, w (ix2 i j) * n (ix2 (inRow 2 j) e)) + b (ix4 0 0 i 0)) := by
  pointwise [k0_pay19, k0_pay16]
  rfl

theorem gate3_apply (n : FVec Ideal S512x768 .bf16) (w : FVec Ideal S128x128 .bf16) (b : Vec Ideal S1x1x128x1 .f32)
    (u : Vec Ideal S128x768 .bf16) (i : Fin 128) (e : Fin 768) : k0_pay22 (k0_pay20 n w) (k0_pay21 b) u (ix2 i e)
      = u (ix2 i e) * ((∑ j : Fin 128, w (ix2 i j) * n (ix2 (inRow 3 j) e)) + b (ix4 0 0 i 0)) := by
  pointwise [k0_pay22, k0_pay20, k0_pay21, k0_pay16]
  rfl

theorem gate3b_apply (n : FVec Ideal S512x768 .bf16) (w : FVec Ideal S128x128 .bf16) (b : Vec Ideal S1x1x128x1 .f32)
    (u : Vec Ideal S128x768 .bf16) (i : Fin 128) (e : Fin 768) : k0_pay1 (k0_pay25 b) (k0_pay29 n w) u (ix2 i e)
      = u (ix2 i e) * ((∑ j : Fin 128, w (ix2 i j) * n (ix2 (inRow 3 j) e)) + b (ix4 0 0 i 0)) := by
  pointwise [k0_pay1, k0_pay29, k0_pay25]
  rfl

theorem projected_apply (acc : Vec Ideal S512x2048 .f32) (p : Vec Ideal S512x1536 .bf16) (w : Vec Ideal S1x1536x2048 .bf16)
    (r : Fin 512) (d : Fin 2048) : k0_pay2 acc p w (ix2 r d) = acc (ix2 r d) + ∑ e : Fin 1536, p (ix2 r e) * w (ix3 0 e d) := by
  pointwise [k0_pay2]

theorem zeros_apply (r : Fin 512) (d : Fin 2048) : (k0_pay9 : FVec Ideal S512x2048 .f32) (ix2 r d) = 0 := by
  pointwise [k0_pay9]

theorem layered_apply (y x : Vec Ideal S512x2048 .f32) (g b : Vec Ideal S1x1x2048 .f32) (r : Fin 512) (d : Fin 2048) :
    k0_pay3 y x g b (ix2 r d)
      = norm (fun k => Ideal.ofBits .f32 1071072509#32 * x (ix2 r k) + y (ix2 r k)) (g (ix3 0 0 d)) (b (ix3 0 0 d)) d := by
  pointwise [k0_pay3]
  rfl

theorem narrowed_apply (y x : Vec Ideal S512x2048 .f32) (g b : Vec Ideal S1x1x2048 .f32) (r : Fin 512) (d : Fin 2048) :
    k0_pay4 y x g b (ix2 r d) = k0_pay3 y x g b (ix2 r d) := by
  pointwise [k0_pay4]

/-- The mean of a row of the gated half. -/
def mean (f : Fin 6144 → EReal) : EReal := Ideal.div (∑ k, f k) (Ideal.ofBits .f32 0x45C00000#32)

/-- The reciprocal of its deviation. -/
def scale (f : Fin 6144 → EReal) : EReal :=
  Ideal.rsqrt (Ideal.div (∑ k, (f k - mean f) * (f k - mean f)) (Ideal.ofBits .f32 0x45C00000#32) + Ideal.ofBits .f32 0x3727C5AC#32)

theorem mean_apply (v : Vec Ideal S512x6144 .bf16) (r : Fin 512) : k0_pay7 v (ix2 r 0) = mean fun k => v (ix2 r k) := by
  pointwise [k0_pay7, k0_pay6, k0_pay5]
  rfl

theorem scale_apply (v : Vec Ideal S512x6144 .bf16) (r : Fin 512) : k0_pay8 v (ix2 r 0) = scale fun k => v (ix2 r k) := by
  pointwise [k0_pay8, k0_pay6, k0_pay5]
  rfl

end Cert.SguOut

end
-- ==== Proof.SguTile.lean ====
/- The gating unit's output kernel: the gated columns of one step, stored as eight tiles and read back whole. -/
module

public import proofs.«01_k».proof.Proof.SguPay

@[expose] public section

set_option maxRecDepth 16384

noncomputable section

namespace Cert.SguOut

open Idealize.ShloMosaic Idealize.ShloMosaic.TcCoe Cert.SguOutIdeal.Gen Cert.SguOutIdeal Cert.Ffn Pointwise

/-- Column `e` of head `g` of a step. -/
def col (g : Fin 2) (e : Fin 768) : Fin 1536 := ⟨768 * g.val + e.val, by omega⟩

/-- The same column among all. -/
def full (q : Fin 4) (k : Fin 1536) : Fin 6144 := ⟨1536 * q.val + k.val, by omega⟩

/-- A gated number: its multiplier times the mixture of the rows before it. -/
def gate (u : EReal) (i : Fin 128) (w n : Fin 128 → EReal) (b : EReal) : EReal :=
  u * ((∑ j : Fin 128, (if j.val / 64 ≤ i.val / 64 then w j else 0) * n j) + b)

theorem off0 (q : grid0.Coords) : k0_off1 q 0#32 = ![0, 1536 * (q 1).val + 768 * (0 : Fin 2).val] := by
  have h : ∀ k : Fin 4, (![0, (Scalar.indexCast (Scalar.muli (Scalar.addi (Scalar.muli (BitVec.ofNat 32 k.val) 2#32) 0#32) 768#32) : Index).toNat] : Fin 2 → ℕ)
    = ![0, 1536 * k.val + 768 * (0 : Fin 2).val] := by decide +kernel
  exact h (q 1)

theorem off1 (q : grid0.Coords) : k0_off1 q 1#32 = ![0, 1536 * (q 1).val + 768 * (1 : Fin 2).val] := by
  have h : ∀ k : Fin 4, (![0, (Scalar.indexCast (Scalar.muli (Scalar.addi (Scalar.muli (BitVec.ofNat 32 k.val) 2#32) 1#32) 768#32) : Index).toNat] : Fin 2 → ℕ)
    = ![0, 1536 * k.val + 768 * (1 : Fin 2).val] := by decide +kernel
  exact h (q 1)

section Loads

theorem ld_v (X : Vec Ideal S512x6144 .bf16) (q : Fin 4) (g : Fin 2) (off : Fin 2 → ℕ) (ho : off = ![0, 1536 * q.val + 768 * g.val])
    (inb) (r : Fin 512) (e : Fin 768) :
    View.ld X (Rect.unit (s := S512x6144) off ![512, 768] inb) (ix2 r e) = X (ix2 r (full q (col g e))) := by
  subst ho
  refine View.ld_unit_apply_of X _ _ inb _ _ fun a => ?_
  match a with
  | ⟨0, _⟩ => show r.val = 0 + r.val; omega
  | ⟨1, _⟩ => show 1536 * q.val + (768 * g.val + e.val) = 1536 * q.val + 768 * g.val + e.val; omega

theorem ld_stat (X : Vec Ideal S512x1 .f32) (inb) (r : Fin 512) :
    View.ld X (Rect.unit (s := S512x1) ![0, 0] ![512, 1] inb) (ix2 r 0) = X (ix2 r 0) := by
  refine View.ld_unit_apply_of X _ _ inb _ _ fun a => ?_
  match a with
  | ⟨0, _⟩ => show r.val = 0 + r.val; omega
  | ⟨1, _⟩ => rfl

theorem ld_line (X : Vec Ideal S1x1x1536 .f32) (g : Fin 2) (o : ℕ) (ho : o = 768 * g.val) (inb) (e : Fin 768) :
    View.ld X (Rect.unit (s := S1x1x1536) ![0, 0, o] ![1, 1, 768] inb) (ix3 0 0 e) = X (ix3 0 0 (col g e)) := by
  refine View.ld_unit_apply_of X _ _ inb _ _ fun a => ?_
  match a with
  | ⟨0, _⟩ => rfl
  | ⟨1, _⟩ => rfl
  | ⟨2, _⟩ => show 768 * g.val + e.val = o + e.val; omega

theorem ld_w (X : Vec Ideal S1x2x128x128 .f32) (g : Fin 2) (o : ℕ) (ho : o = g.val) (inb) (i j : Fin 128) :
    View.ld X (Rect.unit (s := S1x2x128x128) ![0, o, 0, 0] ![1, 1, 128, 128] inb) (ix4 0 0 i j) = X (ix4 0 g i j) := by
  refine View.ld_unit_apply_of X _ _ inb _ _ fun a => ?_
  match a with
  | ⟨0, _⟩ => rfl
  | ⟨1, _⟩ => show g.val = o + 0; omega
  | ⟨2, _⟩ => show i.val = 0 + i.val; omega
  | ⟨3, _⟩ => show j.val = 0 + j.val; omega

theorem ld_b (X : Vec Ideal S1x2x128x1 .f32) (g : Fin 2) (o : ℕ) (ho : o = g.val) (inb) (i : Fin 128) :
    View.ld X (Rect.unit (s := S1x2x128x1) ![0, o, 0, 0] ![1, 1, 128, 1] inb) (ix4 0 0 i 0) = X (ix4 0 g i 0) := by
  refine View.ld_unit_apply_of X _ _ inb _ _ fun a => ?_
  match a with
  | ⟨0, _⟩ => rfl
  | ⟨1, _⟩ => show g.val = o + 0; omega
  | ⟨2, _⟩ => show i.val = 0 + i.val; omega
  | ⟨3, _⟩ => rfl

theorem ld_u (X : Vec Ideal S512x1536 .bf16) (n : Fin 4) (g : Fin 2) (o o' : ℕ) (ho : o = 128 * n.val) (ho' : o' = 768 * g.val) (inb)
    (i : Fin 128) (e : Fin 768) :
    View.ld X (Rect.unit (s := S512x1536) ![o, o'] ![128, 768] inb) (ix2 i e) = X (ix2 (inRow n i) (col g e)) := by
  refine View.ld_unit_apply_of X _ _ inb _ _ fun a => ?_
  match a with
  | ⟨0, _⟩ => show 128 * n.val + i.val = o + i.val; omega
  | ⟨1, _⟩ => show 768 * g.val + e.val = o' + e.val; omega

end Loads

/-- A tile has its value wherever it lies. -/
theorem tileAt_of (val : Fin 4 → Fin 128 → Fin 2 → Fin 768 → EReal) (n0 : Fin 4) (g0 : Fin 2) (o o' : ℕ) (ho : o = 128 * n0.val)
    (ho' : o' = 768 * g0.val) (w : (⟨2, ![128, 768]⟩ : Shape).Idx → EReal) (h : ∀ i e, w (ix2 i e) = val n0 i g0 e)
    (n : Fin 4) (i : Fin 128) (g : Fin 2) (e : Fin 768) :
    View.TileAt (S := S512x1536) (e := .bf16) (Val := Elt Ideal) (ix2 (inRow n i) (col g e)) ![o, o'] ![128, 768] w (val n i g e) := by
  intro x hx
  have h0 : 128 * n.val + i.val = o + (x 0).val := hx 0
  have h1 : 768 * g.val + e.val = o' + (x 1).val := hx 1
  have b0 : (x 0).val < 128 := (x 0).isLt
  have b1 : (x 1).val < 768 := (x 1).isLt
  obtain rfl : n = n0 := Fin.ext (by omega)
  obtain rfl : g = g0 := Fin.ext (by omega)
  have hxi : x = ix2 i e := funext fun a => Fin.ext (match a with
    | ⟨0, _⟩ => show (x 0).val = i.val by omega
    | ⟨1, _⟩ => show (x 1).val = e.val by omega)
  rw [hxi]
  exact h i e

section Tiles

variable (q : grid0.Coords) (x0 : Vec Ideal S512x1536 .bf16) (x1 : Vec Ideal S512x6144 .bf16) (x2 x3 : Vec Ideal S1x1x1536 .f32)
  (x4 : Vec Ideal S1x2x128x128 .f32) (x5 : Vec Ideal S1x2x128x1 .f32) (s1 s2 : Vec Ideal S512x1 .f32)

/-- The normalised columns of the first head. -/
def normed0 : FVec Ideal S512x768 .bf16 :=
  k0_pay14 (View.ld x1 (Rect.unit (k0_off1 q 0#32) ![512, 768] (k0_off1_inb q 0)))
    (View.ld s1 (Rect.unit ![0, 0] ![512, 1] inb_S512x1_S512x1_0_0)) (View.ld s2 (Rect.unit ![0, 0] ![512, 1] inb_S512x1_S512x1_0_0))
    (View.ld x2 (Rect.unit ![0, 0, 0] ![1, 1, 768] inb_S1x1x1536_S1x1x768_0_0_0))
    (View.ld x3 (Rect.unit ![0, 0, 0] ![1, 1, 768] inb_S1x1x1536_S1x1x768_0_0_0))

/-- The normalised columns of the second head. -/
def normed1 : FVec Ideal S512x768 .bf16 :=
  k0_pay23 (View.ld x1 (Rect.unit (k0_off1 q 1#32) ![512, 768] (k0_off1_inb q 1)))
    (View.ld s1 (Rect.unit ![0, 0] ![512, 1] inb_S512x1_S512x1_0_0)) (View.ld s2 (Rect.unit ![0, 0] ![512, 1] inb_S512x1_S512x1_0_0))
    (View.ld x2 (Rect.unit ![0, 0, 768] ![1, 1, 768] inb_S1x1x1536_S1x1x768_0_0_768))
    (View.ld x3 (Rect.unit ![0, 0, 768] ![1, 1, 768] inb_S1x1x1536_S1x1x768_0_0_768))

/-- The first head's weights under the mask. -/
def weights0 : FVec Ideal S128x128 .bf16 :=
  k0_pay15 k0_pay10 (iota .tc S128x128 32 [1] iota_S128x128_d1_w32) 64#32 k0_pay11 k0_pay12 1#32
    (View.ld x4 (Rect.unit ![0, 0, 0, 0] ![1, 1, 128, 128] inb_S1x2x128x128_S1x1x128x128_0_0_0_0))

/-- The second head's weights under the mask. -/
def weights1 : FVec Ideal S128x128 .bf16 :=
  k0_pay24 k0_pay10 (k0_pay13 (iota .tc S128x128 32 [1] iota_S128x128_d1_w32) 64#32 k0_pay11 k0_pay12 1#32)
    (View.ld x4 (Rect.unit ![0, 1, 0, 0] ![1, 1, 128, 128] inb_S1x2x128x128_S1x1x128x128_0_1_0_0))

/-- The gated columns of a step, tile by tile, the last stored first. -/
def tiles : Vec Ideal S512x1536 .bf16 :=
  View.canon (Val := Elt Ideal) (s := S512x1536) (e := .bf16) [
    ⟨Rect.unit ![384, 768] ![128, 768] inb_S512x1536_S128x768_384_768,
      k0_pay1 (k0_pay25 (View.ld x5 (Rect.unit ![0, 1, 0, 0] ![1, 1, 128, 1] inb_S1x2x128x1_S1x1x128x1_0_1_0_0)))
        (k0_pay29 (normed1 q x1 x2 x3 s1 s2) (weights1 x4))
        (View.ld x0 (Rect.unit ![384, 768] ![128, 768] inb_S512x1536_S128x768_384_768))⟩,
    ⟨Rect.unit ![256, 768] ![128, 768] inb_S512x1536_S128x768_256_768,
      k0_pay28 (normed1 q x1 x2 x3 s1 s2) (weights1 x4)
        (View.ld x5 (Rect.unit ![0, 1, 0, 0] ![1, 1, 128, 1] inb_S1x2x128x1_S1x1x128x1_0_1_0_0))
        (View.ld x0 (Rect.unit ![256, 768] ![128, 768] inb_S512x1536_S128x768_256_768))⟩,
    ⟨Rect.unit ![128, 768] ![128, 768] inb_S512x1536_S128x768_128_768,
      k0_pay27 (normed1 q x1 x2 x3 s1 s2) (weights1 x4)
        (View.ld x5 (Rect.unit ![0, 1, 0, 0] ![1, 1, 128, 1] inb_S1x2x128x1_S1x1x128x1_0_1_0_0))
        (View.ld x0 (Rect.unit ![128, 768] ![128, 768] inb_S512x1536_S128x768_128_768))⟩,
    ⟨Rect.unit ![0, 768] ![128, 768] inb_S512x1536_S128x768_0_768,
      k0_pay26 (normed1 q x1 x2 x3 s1 s2) (weights1 x4)
        (View.ld x5 (Rect.unit ![0, 1, 0, 0] ![1, 1, 128, 1] inb_S1x2x128x1_S1x1x128x1_0_1_0_0))
        (View.ld x0 (Rect.unit ![0, 768] ![128, 768] inb_S512x1536_S128x768_0_768))⟩,
    ⟨Rect.unit ![384, 0] ![128, 768] inb_S512x1536_S128x768_384_0,
      k0_pay22 (k0_pay20 (normed0 q x1 x2 x3 s1 s2) (weights0 x4))
        (k0_pay21 (View.ld x5 (Rect.unit ![0, 0, 0, 0] ![1, 1, 128, 1] inb_S1x2x128x1_S1x1x128x1_0_0_0_0)))
        (View.ld x0 (Rect.unit ![384, 0] ![128, 768] inb_S512x1536_S128x768_384_0))⟩,
    ⟨Rect.unit ![256, 0] ![128, 768] inb_S512x1536_S128x768_256_0,
      k0_pay19 (normed0 q x1 x2 x3 s1 s2) (weights0 x4)
        (View.ld x5 (Rect.unit ![0, 0, 0, 0] ![1, 1, 128, 1] inb_S1x2x128x1_S1x1x128x1_0_0_0_0))
        (View.ld x0 (Rect.unit ![256, 0] ![128, 768] inb_S512x1536_S128x768_256_0))⟩,
    ⟨Rect.unit ![128, 0] ![128, 768] inb_S512x1536_S128x768_128_0,
      k0_pay18 (normed0 q x1 x2 x3 s1 s2) (weights0 x4)
        (View.ld x5 (Rect.unit ![0, 0, 0, 0] ![1, 1, 128, 1] inb_S1x2x128x1_S1x1x128x1_0_0_0_0))
        (View.ld x0 (Rect.unit ![128, 0] ![128, 768] inb_S512x1536_S128x768_128_0))⟩,
    ⟨Rect.unit ![0, 0] ![128, 768] inb_S512x1536_S128x768_0_0,
      k0_pay17 (normed0 q x1 x2 x3 s1 s2) (weights0 x4)
        (View.ld x5 (Rect.unit ![0, 0, 0, 0] ![1, 1, 128, 1] inb_S1x2x128x1_S1x1x128x1_0_0_0_0))
        (View.ld x0 (Rect.unit ![0, 0] ![128, 768] inb_S512x1536_S128x768_0_0))⟩]

/-- The value of a gated number. -/
def tileVal (n : Fin 4) (i : Fin 128) (g : Fin 2) (e : Fin 768) : EReal :=
  gate (x0 (ix2 (inRow n i) (col g e))) i (fun j => x4 (ix4 0 g i j))
    (fun j => (x1 (ix2 (inRow n j) (full (q 1) (col g e))) - s1 (ix2 (inRow n j) 0)) * s2 (ix2 (inRow n j) 0) * x2 (ix3 0 0 (col g e))
      + x3 (ix3 0 0 (col g e)))
    (x5 (ix4 0 g i 0))

theorem normed0_apply (r : Fin 512) (e : Fin 768) : normed0 q x1 x2 x3 s1 s2 (ix2 r e)
    = (x1 (ix2 r (full (q 1) (col 0 e))) - s1 (ix2 r 0)) * s2 (ix2 r 0) * x2 (ix3 0 0 (col 0 e)) + x3 (ix3 0 0 (col 0 e)) := by
  refine (normed_apply _ _ _ _ _ r e).trans ?_
  rw [ld_v x1 (q 1) 0 _ (off0 q), ld_stat, ld_stat, ld_line x2 0 0 rfl, ld_line x3 0 0 rfl]

theorem weights0_apply (i j : Fin 128) : weights0 x4 (ix2 i j) = if j.val / 64 ≤ i.val / 64 then x4 (ix4 0 0 i j) else 0 := by
  refine (weights_apply _ i j).trans ?_
  rw [ld_w x4 0 0 rfl]

theorem normed1_apply (r : Fin 512) (e : Fin 768) : normed1 q x1 x2 x3 s1 s2 (ix2 r e)
    = (x1 (ix2 r (full (q 1) (col 1 e))) - s1 (ix2 r 0)) * s2 (ix2 r 0) * x2 (ix3 0 0 (col 1 e)) + x3 (ix3 0 0 (col 1 e)) := by
  refine (normed_apply _ _ _ _ _ r e).trans ?_
  rw [ld_v x1 (q 1) 1 _ (off1 q), ld_stat, ld_stat, ld_line x2 1 768 rfl, ld_line x3 1 768 rfl]

theorem weights1_apply (i j : Fin 128) : weights1 x4 (ix2 i j) = if j.val / 64 ≤ i.val / 64 then x4 (ix4 0 1 i j) else 0 := by
  refine (weights_apply _ i j).trans ?_
  rw [ld_w x4 1 1 rfl]

theorem tile31_apply (i : Fin 128) (e : Fin 768) :
    (k0_pay1 (k0_pay25 (View.ld x5 (Rect.unit ![0, 1, 0, 0] ![1, 1, 128, 1] inb_S1x2x128x1_S1x1x128x1_0_1_0_0)))
        (k0_pay29 (normed1 q x1 x2 x3 s1 s2) (weights1 x4))
        (View.ld x0 (Rect.unit ![384, 768] ![128, 768] inb_S512x1536_S128x768_384_768)) : FVec Ideal S128x768 .bf16) (ix2 i e)
      = tileVal q x0 x1 x2 x3 x4 x5 s1 s2 3 i 1 e := by
  refine (gate3b_apply _ _ _ _ i e).trans ?_
  rw [ld_u x0 3 1 384 768 rfl rfl, ld_b x5 1 1 rfl]
  simp only [normed1_apply, weights1_apply]
  rfl

theorem tile21_apply (i : Fin 128) (e : Fin 768) :
    (k0_pay28 (normed1 q x1 x2 x3 s1 s2) (weights1 x4)
        (View.ld x5 (Rect.unit ![0, 1, 0, 0] ![1, 1, 128, 1] inb_S1x2x128x1_S1x1x128x1_0_1_0_0))
        (View.ld x0 (Rect.unit ![256, 768] ![128, 768] inb_S512x1536_S128x768_256_768)) : FVec Ideal S128x768 .bf16) (ix2 i e)
      = tileVal q x0 x1 x2 x3 x4 x5 s1 s2 2 i 1 e := by
  refine (gate2_apply _ _ _ _ i e).trans ?_
  rw [ld_u x0 2 1 256 768 rfl rfl, ld_b x5 1 1 rfl]
  simp only [normed1_apply, weights1_apply]
  rfl

theorem tile11_apply (i : Fin 128) (e : Fin 768) :
    (k0_pay27 (normed1 q x1 x2 x3 s1 s2) (weights1 x4)
        (View.ld x5 (Rect.unit ![0, 1, 0, 0] ![1, 1, 128, 1] inb_S1x2x128x1_S1x1x128x1_0_1_0_0))
        (View.ld x0 (Rect.unit ![128, 768] ![128, 768] inb_S512x1536_S128x768_128_768)) : FVec Ideal S128x768 .bf16) (ix2 i e)
      = tileVal q x0 x1 x2 x3 x4 x5 s1 s2 1 i 1 e := by
  refine (gate1_apply _ _ _ _ i e).trans ?_
  rw [ld_u x0 1 1 128 768 rfl rfl, ld_b x5 1 1 rfl]
  simp only [normed1_apply, weights1_apply]
  rfl

theorem tile01_apply (i : Fin 128) (e : Fin 768) :
    (k0_pay26 (normed1 q x1 x2 x3 s1 s2) (weights1 x4)
        (View.ld x5 (Rect.unit ![0, 1, 0, 0] ![1, 1, 128, 1] inb_S1x2x128x1_S1x1x128x1_0_1_0_0))
        (View.ld x0 (Rect.unit ![0, 768] ![128, 768] inb_S512x1536_S128x768_0_768)) : FVec Ideal S128x768 .bf16) (ix2 i e)
      = tileVal q x0 x1 x2 x3 x4 x5 s1 s2 0 i 1 e := by
  refine (gate0_apply _ _ _ _ i e).trans ?_
  rw [ld_u x0 0 1 0 768 rfl rfl, ld_b x5 1 1 rfl]
  simp only [normed1_apply, weights1_apply]
  rfl

theorem tile30_apply (i : Fin 128) (e : Fin 768) :
    (k0_pay22 (k0_pay20 (normed0 q x1 x2 x3 s1 s2) (weights0 x4))
        (k0_pay21 (View.ld x5 (Rect.unit ![0, 0, 0, 0] ![1, 1, 128, 1] inb_S1x2x128x1_S1x1x128x1_0_0_0_0)))
        (View.ld x0 (Rect.unit ![384, 0] ![128, 768] inb_S512x1536_S128x768_384_0)) : FVec Ideal S128x768 .bf16) (ix2 i e)
      = tileVal q x0 x1 x2 x3 x4 x5 s1 s2 3 i 0 e := by
  refine (gate3_apply _ _ _ _ i e).trans ?_
  rw [ld_u x0 3 0 384 0 rfl rfl, ld_b x5 0 0 rfl]
  simp only [normed0_apply, weights0_apply]
  rfl

theorem tile20_apply (i : Fin 128) (e : Fin 768) :
    (k0_pay19 (normed0 q x1 x2 x3 s1 s2) (weights0 x4)
        (View.ld x5 (Rect.unit ![0, 0, 0, 0] ![1, 1, 128, 1] inb_S1x2x128x1_S1x1x128x1_0_0_0_0))
        (View.ld x0 (Rect.unit ![256, 0] ![128, 768] inb_S512x1536_S128x768_256_0)) : FVec Ideal S128x768 .bf16) (ix2 i e)
      = tileVal q x0 x1 x2 x3 x4 x5 s1 s2 2 i 0 e := by
  refine (gate2_apply _ _ _ _ i e).trans ?_
  rw [ld_u x0 2 0 256 0 rfl rfl, ld_b x5 0 0 rfl]
  simp only [normed0_apply, weights0_apply]
  rfl

theorem tile10_apply (i : Fin 128) (e : Fin 768) :
    (k0_pay18 (normed0 q x1 x2 x3 s1 s2) (weights0 x4)
        (View.ld x5 (Rect.unit ![0, 0, 0, 0] ![1, 1, 128, 1] inb_S1x2x128x1_S1x1x128x1_0_0_0_0))
        (View.ld x0 (Rect.unit ![128, 0] ![128, 768] inb_S512x1536_S128x768_128_0)) : FVec Ideal S128x768 .bf16) (ix2 i e)
      = tileVal q x0 x1 x2 x3 x4 x5 s1 s2 1 i 0 e := by
  refine (gate1_apply _ _ _ _ i e).trans ?_
  rw [ld_u x0 1 0 128 0 rfl rfl, ld_b x5 0 0 rfl]
  simp only [normed0_apply, weights0_apply]
  rfl

theorem tile00_apply (i : Fin 128) (e : Fin 768) :
    (k0_pay17 (normed0 q x1 x2 x3 s1 s2) (weights0 x4)
        (View.ld x5 (Rect.unit ![0, 0, 0, 0] ![1, 1, 128, 1] inb_S1x2x128x1_S1x1x128x1_0_0_0_0))
        (View.ld x0 (Rect.unit ![0, 0] ![128, 768] inb_S512x1536_S128x768_0_0)) : FVec Ideal S128x768 .bf16) (ix2 i e)
      = tileVal q x0 x1 x2 x3 x4 x5 s1 s2 0 i 0 e := by
  refine (gate0_apply _ _ _ _ i e).trans ?_
  rw [ld_u x0 0 0 0 0 rfl rfl, ld_b x5 0 0 rfl]
  simp only [normed0_apply, weights0_apply]
  rfl

theorem tiles_apply (n : Fin 4) (i : Fin 128) (g : Fin 2) (e : Fin 768) :
    tiles q x0 x1 x2 x3 x4 x5 s1 s2 (ix2 (inRow n i) (col g e)) = tileVal q x0 x1 x2 x3 x4 x5 s1 s2 n i g e := by
  unfold tiles
  refine View.canon_eq_of_allAt _ _ _ (View.cover_of_tiled_head _ _ _ (by rfl) _) ?_
  refine View.allAt_cons_unit _ _ _ _ _ (tileAt_of (tileVal q x0 x1 x2 x3 x4 x5 s1 s2) 3 1 384 768 rfl rfl _
    (tile31_apply q x0 x1 x2 x3 x4 x5 s1 s2) n i g e) ?_
  refine View.allAt_cons_unit _ _ _ _ _ (tileAt_of (tileVal q x0 x1 x2 x3 x4 x5 s1 s2) 2 1 256 768 rfl rfl _
    (tile21_apply q x0 x1 x2 x3 x4 x5 s1 s2) n i g e) ?_
  refine View.allAt_cons_unit _ _ _ _ _ (tileAt_of (tileVal q x0 x1 x2 x3 x4 x5 s1 s2) 1 1 128 768 rfl rfl _
    (tile11_apply q x0 x1 x2 x3 x4 x5 s1 s2) n i g e) ?_
  refine View.allAt_cons_unit _ _ _ _ _ (tileAt_of (tileVal q x0 x1 x2 x3 x4 x5 s1 s2) 0 1 0 768 rfl rfl _
    (tile01_apply q x0 x1 x2 x3 x4 x5 s1 s2) n i g e) ?_
  refine View.allAt_cons_unit _ _ _ _ _ (tileAt_of (tileVal q x0 x1 x2 x3 x4 x5 s1 s2) 3 0 384 0 rfl rfl _
    (tile30_apply q x0 x1 x2 x3 x4 x5 s1 s2) n i g e) ?_
  refine View.allAt_cons_unit _ _ _ _ _ (tileAt_of (tileVal q x0 x1 x2 x3 x4 x5 s1 s2) 2 0 256 0 rfl rfl _
    (tile20_apply q x0 x1 x2 x3 x4 x5 s1 s2) n i g e) ?_
  refine View.allAt_cons_unit _ _ _ _ _ (tileAt_of (tileVal q x0 x1 x2 x3 x4 x5 s1 s2) 1 0 128 0 rfl rfl _
    (tile10_apply q x0 x1 x2 x3 x4 x5 s1 s2) n i g e) ?_
  refine View.allAt_cons_unit _ _ _ _ _ (tileAt_of (tileVal q x0 x1 x2 x3 x4 x5 s1 s2) 0 0 0 0 rfl rfl _
    (tile00_apply q x0 x1 x2 x3 x4 x5 s1 s2) n i g e) ?_
  exact View.allAt_nil _ _

end Tiles

end Cert.SguOut

end
-- ==== Proof.SguHost.lean ====
/- The gating unit's output kernel: the blocks of its grid points, in terms of the arguments. -/
module

public import proofs.«01_k».proof.Proof.SguTile
public import Idealize.ShloMosaic.Lib.StableHlo.RunRead

@[expose] public section

set_option maxRecDepth 16384

noncomputable section

namespace Cert.SguOut

open Idealize.ShloMosaic Idealize.ShloMosaic.TcCoe Cert.SguOutIdeal.Gen Cert.SguOutIdeal Cert.Ffn Pointwise

variable (m : (ℓ : Loc nD τ sig) → Buf (Elt Ideal) ℓ) (c : Dev nD)

def inZ : FVec Ideal S16384x12288 .bf16 := m ((c : Thread nD τ).loc main_arg0)
def inLg : FVec Ideal S2x6144 .f32 := m ((c : Thread nD τ).loc main_arg1)
def inLb : FVec Ideal S2x6144 .f32 := m ((c : Thread nD τ).loc main_arg2)
def inWs : FVec Ideal S2x8x128x128 .f32 := m ((c : Thread nD τ).loc main_arg3)
def inBs : FVec Ideal S2x8x128 .f32 := m ((c : Thread nD τ).loc main_arg4)
def inWo : FVec Ideal S2x6144x2048 .f32 := m ((c : Thread nD τ).loc main_arg5)
def inX : FVec Ideal S16384x2048 .f32 := m ((c : Thread nD τ).loc main_arg6)
def inScale : FVec Ideal S4x2048 .f32 := m ((c : Thread nD τ).loc main_arg7)
def inShift : FVec Ideal S4x2048 .f32 := m ((c : Thread nD τ).loc main_arg8)

theorem V_lg : V m c main_v0 = broadcastInDim S2x1x6144 ![0, 2] bcast_S2x6144_S2x1x6144_0_2 (inLg m c) := by
  show StableHlo.after hostOps0 _ (Proc.devRef .tc main_v0) = _
  after_reads_simp
  rfl

theorem V_lb : V m c main_v1 = broadcastInDim S2x1x6144 ![0, 2] bcast_S2x6144_S2x1x6144_0_2 (inLb m c) := by
  show StableHlo.after hostOps0 _ (Proc.devRef .tc main_v1) = _
  after_reads_simp
  rfl

theorem V_bs : V m c main_v2 = broadcastInDim S2x8x128x1 ![0, 1, 2] bcast_S2x8x128_S2x8x128x1_0_1_2 (inBs m c) := by
  show StableHlo.after hostOps0 _ (Proc.devRef .tc main_v2) = _
  after_reads_simp
  rfl

theorem V_wo : V m c main_v3 = truncf .bf16 (inWo m c) bitsLt_bf16_f32 := by
  show StableHlo.after hostOps0 _ (Proc.devRef .tc main_v3) = _
  after_reads_simp
  rfl

theorem V_scale : V m c main_v4 = broadcastInDim S4x1x2048 ![0, 2] bcast_S4x2048_S4x1x2048_0_2 (inScale m c) := by
  show StableHlo.after hostOps0 _ (Proc.devRef .tc main_v4) = _
  after_reads_simp
  rfl

theorem V_shift : V m c main_v5 = broadcastInDim S4x1x2048 ![0, 2] bcast_S4x2048_S4x1x2048_0_2 (inShift m c) := by
  show StableHlo.after hostOps0 _ (Proc.devRef .tc main_v5) = _
  after_reads_simp
  rfl

/-- The grid point of a block of rows and a step. -/
def point (i : Fin 32) (q : Fin 4) : Fin cfg0.N := ⟨4 * i.val + q.val, show 4 * i.val + q.val < 128 by omega⟩

/-- A head of the step `q`. -/
def head (q : Fin 4) (g : Fin 2) : Fin 8 := ⟨2 * q.val + g.val, by omega⟩

/-- A column of either half of the input. -/
def lowCol (k : Fin 6144) : Fin 12288 := ⟨k.val, by omega⟩
def highCol (k : Fin 6144) : Fin 12288 := ⟨6144 + k.val, by omega⟩

theorem coord_val : ∀ (i : Fin 32) (q : Fin 4), (grid0.coords (point i q) 1).val = q.val := by decide +kernel

theorem coord_step (i : Fin 32) (q : Fin 4) : grid0.coords (point i q) 1 = q := Fin.ext (coord_val i q)

theorem starts0 : ∀ (i : Fin 32) (q : Fin 4), win0_0.index (point i q) 0 = i.val ∧ win0_0.index (point i q) 1 = q.val := by
  decide +kernel
theorem starts1 : ∀ (i : Fin 32) (q : Fin 4), win0_1.index (point i q) 0 = i.val ∧ win0_1.index (point i q) 1 = 1 := by
  decide +kernel
theorem starts2 : ∀ (i : Fin 32) (q : Fin 4), win0_2.index (point i q) 0 = 0 ∧ win0_2.index (point i q) 1 = 0 ∧ win0_2.index (point i q) 2 = q.val := by
  decide +kernel
theorem starts3 : ∀ (i : Fin 32) (q : Fin 4), win0_3.index (point i q) 0 = 0 ∧ win0_3.index (point i q) 1 = 0 ∧ win0_3.index (point i q) 2 = q.val := by
  decide +kernel
theorem starts4 : ∀ (i : Fin 32) (q : Fin 4), win0_4.index (point i q) 0 = 0 ∧ win0_4.index (point i q) 1 = q.val ∧ win0_4.index (point i q) 2 = 0 ∧ win0_4.index (point i q) 3 = 0 := by
  decide +kernel
theorem starts5 : ∀ (i : Fin 32) (q : Fin 4), win0_5.index (point i q) 0 = 0 ∧ win0_5.index (point i q) 1 = q.val ∧ win0_5.index (point i q) 2 = 0 ∧ win0_5.index (point i q) 3 = 0 := by
  decide +kernel
theorem starts6 : ∀ (i : Fin 32) (q : Fin 4), win0_6.index (point i q) 0 = 0 ∧ win0_6.index (point i q) 1 = q.val ∧ win0_6.index (point i q) 2 = 0 := by
  decide +kernel
theorem starts7 : ∀ (i : Fin 32) (q : Fin 4), win0_7.index (point i q) 0 = i.val ∧ win0_7.index (point i q) 1 = 0 := by
  decide +kernel
theorem starts8 : ∀ (i : Fin 32) (q : Fin 4), win0_8.index (point i q) 0 = 0 ∧ win0_8.index (point i q) 1 = 0 ∧ win0_8.index (point i q) 2 = 0 := by
  decide +kernel
theorem starts9 : ∀ (i : Fin 32) (q : Fin 4), win0_9.index (point i q) 0 = 0 ∧ win0_9.index (point i q) 1 = 0 ∧ win0_9.index (point i q) 2 = 0 := by
  decide +kernel
theorem starts10 : ∀ (i : Fin 32) (q : Fin 4), win0_10.index (point i q) 0 = i.val ∧ win0_10.index (point i q) 1 = 0 := by
  decide +kernel
theorem starts11 : ∀ (i : Fin 32) (q : Fin 4), win0_11.index (point i q) 0 = i.val ∧ win0_11.index (point i q) 1 = 0 := by
  decide +kernel

theorem iblk_z (i : Fin 32) (q : Fin 4) (r : Fin 512) (k : Fin 1536) : iblk m c 0 (point i q) (ix2 r k) = inZ m c (ix2 (row i r) (lowCol (full q k))) := by
  have hs := starts0 i q
  unfold iblk
  rw [View.read_apply, cast_eq]
  refine (congrArg (V m c main_arg0) (a₂ := ix2 (row i r) (lowCol (full q k))) (funext fun a => Fin.ext ?_)).trans (congrFun (V_main_arg0 m c) _)
  refine (Pipeline.Window.rect_emb_val win0_0 (point i q) _ a).trans ?_
  match a with
  | ⟨0, _⟩ =>
    show win0_0.index (point i q) 0 * 512 + r.val = 512 * i.val + r.val
    omega
  | ⟨1, _⟩ =>
    show win0_0.index (point i q) 1 * 1536 + k.val = 1536 * q.val + k.val
    omega

theorem iblk_v (i : Fin 32) (q : Fin 4) (r : Fin 512) (k : Fin 6144) : iblk m c 1 (point i q) (ix2 r k) = inZ m c (ix2 (row i r) (highCol k)) := by
  have hs := starts1 i q
  unfold iblk
  rw [View.read_apply, cast_eq]
  refine (congrArg (V m c main_arg0) (a₂ := ix2 (row i r) (highCol k)) (funext fun a => Fin.ext ?_)).trans (congrFun (V_main_arg0 m c) _)
  refine (Pipeline.Window.rect_emb_val win0_1 (point i q) _ a).trans ?_
  match a with
  | ⟨0, _⟩ =>
    show win0_1.index (point i q) 0 * 512 + r.val = 512 * i.val + r.val
    omega
  | ⟨1, _⟩ =>
    show win0_1.index (point i q) 1 * 6144 + k.val = 6144 + k.val
    omega

theorem iblk_lg (i : Fin 32) (q : Fin 4) (k : Fin 1536) : iblk m c 2 (point i q) (ix3 0 0 k) = inLg m c (ix2 0 (full q k)) := by
  have hs := starts2 i q
  unfold iblk
  rw [View.read_apply, cast_eq]
  refine ((congrArg (V m c main_v0) (a₂ := ix3 0 0 (full q k)) (funext fun a => Fin.ext ?_)).trans (congrFun (V_lg m c) _)).trans (by pointwise [])
  refine (Pipeline.Window.rect_emb_val win0_2 (point i q) _ a).trans ?_
  match a with
  | ⟨0, _⟩ =>
    show win0_2.index (point i q) 0 * 1 + 0 = 0
    omega
  | ⟨1, _⟩ =>
    show win0_2.index (point i q) 1 * 1 + 0 = 0
    omega
  | ⟨2, _⟩ =>
    show win0_2.index (point i q) 2 * 1536 + k.val = 1536 * q.val + k.val
    omega

theorem iblk_lb (i : Fin 32) (q : Fin 4) (k : Fin 1536) : iblk m c 3 (point i q) (ix3 0 0 k) = inLb m c (ix2 0 (full q k)) := by
  have hs := starts3 i q
  unfold iblk
  rw [View.read_apply, cast_eq]
  refine ((congrArg (V m c main_v1) (a₂ := ix3 0 0 (full q k)) (funext fun a => Fin.ext ?_)).trans (congrFun (V_lb m c) _)).trans (by pointwise [])
  refine (Pipeline.Window.rect_emb_val win0_3 (point i q) _ a).trans ?_
  match a with
  | ⟨0, _⟩ =>
    show win0_3.index (point i q) 0 * 1 + 0 = 0
    omega
  | ⟨1, _⟩ =>
    show win0_3.index (point i q) 1 * 1 + 0 = 0
    omega
  | ⟨2, _⟩ =>
    show win0_3.index (point i q) 2 * 1536 + k.val = 1536 * q.val + k.val
    omega

theorem iblk_ws (i : Fin 32) (q : Fin 4) (g : Fin 2) (l j : Fin 128) : iblk m c 4 (point i q) (ix4 0 g l j) = inWs m c (ix4 0 (head q g) l j) := by
  have hs := starts4 i q
  unfold iblk
  rw [View.read_apply, cast_eq]
  refine (congrArg (V m c main_arg3) (a₂ := ix4 0 (head q g) l j) (funext fun a => Fin.ext ?_)).trans (congrFun (V_main_arg3 m c) _)
  refine (Pipeline.Window.rect_emb_val win0_4 (point i q) _ a).trans ?_
  match a with
  | ⟨0, _⟩ =>
    show win0_4.index (point i q) 0 * 1 + 0 = 0
    omega
  | ⟨1, _⟩ =>
    show win0_4.index (point i q) 1 * 2 + g.val = 2 * q.val + g.val
    omega
  | ⟨2, _⟩ =>
    show win0_4.index (point i q) 2 * 128 + l.val = l.val
    omega
  | ⟨3, _⟩ =>
    show win0_4.index (point i q) 3 * 128 + j.val = j.val
    omega

theorem iblk_bs (i : Fin 32) (q : Fin 4) (g : Fin 2) (l : Fin 128) : iblk m c 5 (point i q) (ix4 0 g l 0) = inBs m c (ix3 0 (head q g) l) := by
  have hs := starts5 i q
  unfold iblk
  rw [View.read_apply, cast_eq]
  refine ((congrArg (V m c main_v2) (a₂ := ix4 0 (head q g) l 0) (funext fun a => Fin.ext ?_)).trans (congrFun (V_bs m c) _)).trans (by pointwise [])
  refine (Pipeline.Window.rect_emb_val win0_5 (point i q) _ a).trans ?_
  match a with
  | ⟨0, _⟩ =>
    show win0_5.index (point i q) 0 * 1 + 0 = 0
    omega
  | ⟨1, _⟩ =>
    show win0_5.index (point i q) 1 * 2 + g.val = 2 * q.val + g.val
    omega
  | ⟨2, _⟩ =>
    show win0_5.index (point i q) 2 * 128 + l.val = l.val
    omega
  | ⟨3, _⟩ =>
    show win0_5.index (point i q) 3 * 1 + 0 = 0
    omega

theorem iblk_wo (i : Fin 32) (q : Fin 4) (k : Fin 1536) (d : Fin 2048) : iblk m c 6 (point i q) (ix3 0 k d) = inWo m c (ix3 0 (full q k) d) := by
  have hs := starts6 i q
  unfold iblk
  rw [View.read_apply, cast_eq]
  refine ((congrArg (V m c main_v3) (a₂ := ix3 0 (full q k) d) (funext fun a => Fin.ext ?_)).trans (congrFun (V_wo m c) _)).trans (by pointwise [])
  refine (Pipeline.Window.rect_emb_val win0_6 (point i q) _ a).trans ?_
  match a with
  | ⟨0, _⟩ =>
    show win0_6.index (point i q) 0 * 1 + 0 = 0
    omega
  | ⟨1, _⟩ =>
    show win0_6.index (point i q) 1 * 1536 + k.val = 1536 * q.val + k.val
    omega
  | ⟨2, _⟩ =>
    show win0_6.index (point i q) 2 * 2048 + d.val = d.val
    omega

theorem iblk_x (i : Fin 32) (q : Fin 4) (r : Fin 512) (d : Fin 2048) : iblk m c 7 (point i q) (ix2 r d) = inX m c (ix2 (row i r) d) := by
  have hs := starts7 i q
  unfold iblk
  rw [View.read_apply, cast_eq]
  refine (congrArg (V m c main_arg6) (a₂ := ix2 (row i r) d) (funext fun a => Fin.ext ?_)).trans (congrFun (V_main_arg6 m c) _)
  refine (Pipeline.Window.rect_emb_val win0_7 (point i q) _ a).trans ?_
  match a with
  | ⟨0, _⟩ =>
    show win0_7.index (point i q) 0 * 512 + r.val = 512 * i.val + r.val
    omega
  | ⟨1, _⟩ =>
    show win0_7.index (point i q) 1 * 2048 + d.val = d.val
    omega

theorem iblk_scale (i : Fin 32) (q : Fin 4) (d : Fin 2048) : iblk m c 8 (point i q) (ix3 0 0 d) = inScale m c (ix2 0 d) := by
  have hs := starts8 i q
  unfold iblk
  rw [View.read_apply, cast_eq]
  refine ((congrArg (V m c main_v4) (a₂ := ix3 0 0 d) (funext fun a => Fin.ext ?_)).trans (congrFun (V_scale m c) _)).trans (by pointwise [])
  refine (Pipeline.Window.rect_emb_val win0_8 (point i q) _ a).trans ?_
  match a with
  | ⟨0, _⟩ =>
    show win0_8.index (point i q) 0 * 1 + 0 = 0
    omega
  | ⟨1, _⟩ =>
    show win0_8.index (point i q) 1 * 1 + 0 = 0
    omega
  | ⟨2, _⟩ =>
    show win0_8.index (point i q) 2 * 2048 + d.val = d.val
    omega

theorem iblk_shift (i : Fin 32) (q : Fin 4) (d : Fin 2048) : iblk m c 9 (point i q) (ix3 0 0 d) = inShift m c (ix2 0 d) := by
  have hs := starts9 i q
  unfold iblk
  rw [View.read_apply, cast_eq]
  refine ((congrArg (V m c main_v5) (a₂ := ix3 0 0 d) (funext fun a => Fin.ext ?_)).trans (congrFun (V_shift m c) _)).trans (by pointwise [])
  refine (Pipeline.Window.rect_emb_val win0_9 (point i q) _ a).trans ?_
  match a with
  | ⟨0, _⟩ =>
    show win0_9.index (point i q) 0 * 1 + 0 = 0
    omega
  | ⟨1, _⟩ =>
    show win0_9.index (point i q) 1 * 1 + 0 = 0
    omega
  | ⟨2, _⟩ =>
    show win0_9.index (point i q) 2 * 2048 + d.val = d.val
    omega

end Cert.SguOut

end
-- ==== Proof.SguBlocks.lean ====
/- The gating unit's output kernel: what a grid point leaves, case by case, in terms of its blocks and what it found. -/
module

public import proofs.«01_k».proof.Proof.SguTile

@[expose] public section

set_option maxRecDepth 16384

noncomputable section

namespace Cert.SguOut

open Idealize.ShloMosaic Idealize.ShloMosaic.TcCoe Cert.SguOutIdeal.Gen Cert.SguOutIdeal Cert.Ffn Pointwise

section Blocks

variable (c : Dev nD) (i : grid0.Coords) (a2 : Memref sig .tc .vmem S512x1536 .bf16) (h2 : a2.IsWhole) (a3 : Memref sig .tc .vmem S512x6144 .bf16) (h3 : a3.IsWhole) (a4 : Memref sig .tc .vmem S1x1x1536 .f32) (h4 : a4.IsWhole) (a5 : Memref sig .tc .vmem S1x1x1536 .f32) (h5 : a5.IsWhole) (a6 : Memref sig .tc .vmem S1x2x128x128 .f32) (h6 : a6.IsWhole) (a7 : Memref sig .tc .vmem S1x2x128x1 .f32) (h7 : a7.IsWhole) (a8 : Memref sig .tc .vmem S1x1536x2048 .bf16) (h8 : a8.IsWhole) (a9 : Memref sig .tc .vmem S512x2048 .f32) (h9 : a9.IsWhole) (a10 : Memref sig .tc .vmem S1x1x2048 .f32) (h10 : a10.IsWhole) (a11 : Memref sig .tc .vmem S1x1x2048 .f32) (h11 : a11.IsWhole) (a12 : Memref sig .tc .vmem S512x2048 .f32) (h12 : a12.IsWhole) (a13 : Memref sig .tc .vmem S512x2048 .bf16) (h13 : a13.IsWhole) (a14 : Memref sig .tc .vmem S512x1536 .bf16) (h14 : a14.IsWhole) (a15 : Memref sig .tc .vmem S512x1 .f32) (h15 : a15.IsWhole) (a16 : Memref sig .tc .vmem S512x1 .f32) (h16 : a16.IsWhole)
  (x0 : Vec Ideal S512x1536 .bf16) (x1 : Vec Ideal S512x6144 .bf16) (x2 : Vec Ideal S1x1x1536 .f32) (x3 : Vec Ideal S1x1x1536 .f32) (x4 : Vec Ideal S1x2x128x128 .f32) (x5 : Vec Ideal S1x2x128x1 .f32) (x6 : Vec Ideal S1x1536x2048 .bf16) (x7 : Vec Ideal S512x2048 .f32) (x8 : Vec Ideal S1x1x2048 .f32) (x9 : Vec Ideal S1x1x2048 .f32)

theorem v203_B (s1 s2 : Vec Ideal S512x1 .f32) : kernelRun0_B.sl.v203 (F := Ideal) c i a2 h2 a3 h3 a4 h4 a5 h5 a6 h6 a7 h7 a14 a15 h15 a16 h16 x0 x1 x2 x3 x4 x5 s1 s2 = tiles i x0 x1 x2 x3 x4 x5 s1 s2 := by
  unfold kernelRun0_B.sl.v203 kernelRun0_B.sl.HS0_8
  rw [View.readCov_eq_canon_ld _ _ _ (fun y => View.cover_of_tiled_head _ _ _ (by rfl) y), View.ld_unit_lit' _ _ (by decide)]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, h2.read_unread,
    h3.read_unread, h4.read_unread, h5.read_unread, h6.read_unread, h7.read_unread, h15.read_unread, h16.read_unread]
  rfl

theorem v203_C (s1 s2 : Vec Ideal S512x1 .f32) : kernelRun0_C.sl.v203 (F := Ideal) c i a2 h2 a3 h3 a4 h4 a5 h5 a6 h6 a7 h7 a14 a15 h15 a16 h16 x0 x1 x2 x3 x4 x5 s1 s2 = tiles i x0 x1 x2 x3 x4 x5 s1 s2 := by
  unfold kernelRun0_C.sl.v203 kernelRun0_C.sl.HS0_8
  rw [View.readCov_eq_canon_ld _ _ _ (fun y => View.cover_of_tiled_head _ _ _ (by rfl) y), View.ld_unit_lit' _ _ (by decide)]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, View.readAt_eq_ld, h2.read_unread,
    h3.read_unread, h4.read_unread, h5.read_unread, h6.read_unread, h7.read_unread, h15.read_unread, h16.read_unread]
  rfl

theorem out_B (hc0 : ¬cond0_0 i) (hc1 : ¬cond0_1 i) (xo : Vec Ideal S512x2048 .f32) (s1 s2 : Vec Ideal S512x1 .f32) :
    out0_B_10 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xo s1 s2 = k0_pay2 xo (tiles i x0 x1 x2 x3 x4 x5 s1 s2) x6 := by
  unfold out0_B_10 kernelRun0_B
  dsimp only
  rw [View.read_writes_junk_eq_canon, View.canon_cons_unit_lit' _ _ _ (by decide), View.readAt_full, View.readAt_full, h12.read_unread,
    h8.read_unread, v203_B]

theorem keep_B1 (hc0 : ¬cond0_0 i) (hc1 : ¬cond0_1 i) (xo : Vec Ideal S512x2048 .f32) (s1 s2 : Vec Ideal S512x1 .f32) :
    sout0_B_1 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xo s1 s2 = s1 := by
  unfold sout0_B_1
  rfl

theorem keep_B2 (hc0 : ¬cond0_0 i) (hc1 : ¬cond0_1 i) (xo : Vec Ideal S512x2048 .f32) (s1 s2 : Vec Ideal S512x1 .f32) :
    sout0_B_2 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xo s1 s2 = s2 := by
  unfold sout0_B_2
  rfl

theorem out_C (hc0 : ¬cond0_0 i) (hc1 : cond0_1 i) (xo : Vec Ideal S512x2048 .f32) (s1 s2 : Vec Ideal S512x1 .f32) :
    out0_C_10 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xo s1 s2 = k0_pay3 (k0_pay2 xo (tiles i x0 x1 x2 x3 x4 x5 s1 s2) x6) x7 x8 x9 := by
  unfold out0_C_10 kernelRun0_C
  dsimp only
  rw [View.read_writes_junk_eq_canon, View.canon_cons_unit_lit' _ _ _ (by decide), View.readAt_full, View.readAt_full, View.readAt_full,
    h9.read_unread, h10.read_unread, h11.read_unread]
  unfold kernelRun0_C.sl.v212 kernelRun0_C.sl.H10_1
  rw [View.readCov_unit_lit' _ _ _ (by decide), View.readAt_full, View.readAt_full, h12.read_unread, h8.read_unread, v203_C]

theorem narrow_C (hc0 : ¬cond0_0 i) (hc1 : cond0_1 i) (xo : Vec Ideal S512x2048 .f32) (s1 s2 : Vec Ideal S512x1 .f32) :
    out0_C_11 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xo s1 s2 = k0_pay4 (k0_pay2 xo (tiles i x0 x1 x2 x3 x4 x5 s1 s2) x6) x7 x8 x9 := by
  unfold out0_C_11 kernelRun0_C
  dsimp only
  rw [View.read_writes_junk_eq_canon, View.canon_cons_unit_lit' _ _ _ (by decide), View.readAt_full, View.readAt_full, View.readAt_full,
    h9.read_unread, h10.read_unread, h11.read_unread]
  unfold kernelRun0_C.sl.v212 kernelRun0_C.sl.H10_1
  rw [View.readCov_unit_lit' _ _ _ (by decide), View.readAt_full, View.readAt_full, h12.read_unread, h8.read_unread, v203_C]

theorem v60_A : kernelRun0_A.sl.v60 (F := Ideal) c a3 h3 a15 x1 = View.ld (Val := Elt Ideal) (S := S512x1) (e' := .f32) (k0_pay7 x1)
    (Rect.unit ![0, 0] ![512, 1] inb_S512x1_S512x1_0_0) := by
  rw [View.ld_unit_lit' _ _ (by decide)]
  unfold kernelRun0_A.sl.v60 kernelRun0_A.sl.HS1_1
  rw [View.readCov_unit_lit' _ _ _ (by decide), View.readAt_full, h3.read_unread]

theorem v63_A : kernelRun0_A.sl.v63 (F := Ideal) c a3 h3 a16 x1 = View.ld (Val := Elt Ideal) (S := S512x1) (e' := .f32) (k0_pay8 x1)
    (Rect.unit ![0, 0] ![512, 1] inb_S512x1_S512x1_0_0) := by
  rw [View.ld_unit_lit' _ _ (by decide)]
  unfold kernelRun0_A.sl.v63 kernelRun0_A.sl.HS2_1
  rw [View.readCov_unit_lit' _ _ _ (by decide), View.readAt_full, h3.read_unread]

theorem v203_A : kernelRun0_A.sl.v203 (F := Ideal) c i a2 h2 a3 h3 a4 h4 a5 h5 a6 h6 a7 h7 a14 a15 a16 x0 x1 x2 x3 x4 x5
    = tiles i x0 x1 x2 x3 x4 x5 (k0_pay7 x1) (k0_pay8 x1) := by
  unfold kernelRun0_A.sl.v203 kernelRun0_A.sl.HS0_8
  rw [View.readCov_eq_canon_ld _ _ _ (fun y => View.cover_of_tiled_head _ _ _ (by rfl) y), View.ld_unit_lit' _ _ (by decide)]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, v60_A, v63_A,
    View.readAt_eq_ld, h2.read_unread, h3.read_unread, h4.read_unread, h5.read_unread, h6.read_unread, h7.read_unread]
  rfl

theorem out_A (hc0 : cond0_0 i) (hc1 : ¬cond0_1 i) :
    out0_A_10 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 = k0_pay2 k0_pay9 (tiles i x0 x1 x2 x3 x4 x5 (k0_pay7 x1) (k0_pay8 x1)) x6 := by
  unfold out0_A_10 kernelRun0_A
  dsimp only
  rw [View.read_writes_junk_eq_canon, View.canon_cons_unit_lit' _ _ _ (by decide), View.readAt_full, h8.read_unread, v203_A]
  unfold kernelRun0_A.sl.v201 kernelRun0_A.sl.H10_1
  rw [View.readCov_unit_lit' _ _ _ (by decide)]

theorem keep_A1 (hc0 : cond0_0 i) (hc1 : ¬cond0_1 i) :
    sout0_A_1 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 = k0_pay7 x1 := by
  unfold sout0_A_1 kernelRun0_A
  dsimp only
  unfold kernelRun0_A.sl.HS1_1
  rw [View.read_writes_junk_eq_canon, View.canon_cons_unit_lit' _ _ _ (by decide), View.readAt_full, h3.read_unread]

theorem keep_A2 (hc0 : cond0_0 i) (hc1 : ¬cond0_1 i) :
    sout0_A_2 (F := Ideal) c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 = k0_pay8 x1 := by
  unfold sout0_A_2 kernelRun0_A
  dsimp only
  unfold kernelRun0_A.sl.HS2_1
  rw [View.read_writes_junk_eq_canon, View.canon_cons_unit_lit' _ _ _ (by decide), View.readAt_full, h3.read_unread]

end Blocks

end Cert.SguOut

end
-- ==== Proof.Ref.lean ====
/- What the reference computes, read at an index: at each row of the result the softmax of the masked, scaled scores
   times the values. -/
module

public import proofs.«01_k».proof.Proof.Gen.ReferenceIdeal.Run
public import proofs.«01_k».proof.Proof.Steps

@[expose] public section

set_option maxRecDepth 16384

noncomputable section

namespace Cert.AttnRef

open Idealize.ShloMosaic Idealize.ShloMosaic.TcCoe Cert.ReferenceIdeal Cert.ReferenceIdeal.Facts Cert.ReferenceIdeal.Facts₀ Pointwise

/-- The quotient by 64, rounded down, as the reference's integer operations spell it. -/
def floorChunk (s : Shape) (hb : S_.BroadcastsInDim s (![] : Fin 0 → Fin s.rank)) (x : IVec s 32) : IVec s 32 :=
  select (andi (cmpi .ne (signi x) (broadcastInDim s ![] hb (signi (id (constantI S_ 32 64#32)))))
      (cmpi .ne (Host.remsi x (broadcastInDim s ![] hb (id (constantI S_ 32 64#32))))
        (broadcastInDim s ![] hb (constantI S_ 32 0#32))))
    (subi (Host.divsi x (broadcastInDim s ![] hb (id (constantI S_ 32 64#32))))
      (broadcastInDim s ![] hb (constantI S_ 32 1#32)))
    (Host.divsi x (broadcastInDim s ![] hb (id (constantI S_ 32 64#32))))

section

variable [hReferenceIdeal : Cert.ReferenceIdeal.Facts]

/-- Which keys a query may see. -/
def allowed : IVec S4096x4096 1 :=
  cmpi .sle
    (broadcastInDim S4096x4096 ![0, 1] bcast_S1x4096_S4096x4096_0_1
      (floorChunk S1x4096 bcast_S_S1x4096 (broadcastInDim S1x4096 ![1] bcast_S4096_S1x4096_1 (iotaInDim S4096 32 0))))
    (broadcastInDim S4096x4096 ![0, 1] bcast_S4096x1_S4096x4096_0_1
      (floorChunk S4096x1 bcast_S_S4096x1 (broadcastInDim S4096x1 ![0] bcast_S4096_S4096x1_0 (iotaInDim S4096 32 0))))

/-- The scores, scaled, before the mask. -/
def scores (a0 : FVec Ideal S4x4096x16x128 .f32) (a1 : FVec Ideal S4x4096x16x64 .f32) (a2 : FVec Ideal S4x4096x16x128 .f32)
    (a3 : FVec Ideal S4x4096x64 .f32) : FVec Ideal S4x16x4096x4096 .f32 :=
  Host.divf (addf (Host.dotGeneral dot_S4x4096x16x128_S4x4096x16x128_S4x16x4096x4096_3_3_1_1_02_02 none a0 a2)
      (transpose S4x16x4096x4096 [0, 3, 2, 1] (Host.dotGeneral dot_S4x4096x64_S4x4096x16x64_S4x4096x4096x16_2_3_1_12_0_0 none a3 a1)
        transposes_S4x4096x4096x16_S4x16x4096x4096_0_3_2_1))
    (broadcastInDim S4x16x4096x4096 ![] bcast_S_S4x16x4096x4096 (Host.sqrt (constant S_ .f32 0x43400000#32)))

/-- The scores of the keys that the query may not see are replaced by minus infinity. -/
def masked (s : FVec Ideal S4x16x4096x4096 .f32) : FVec Ideal S4x16x4096x4096 .f32 :=
  select (broadcastInDim S4x16x4096x4096 ![0, 1, 2, 3] bcast_S1x1x4096x4096_S4x16x4096x4096_0_1_2_3
      (broadcastInDim S1x1x4096x4096 ![2, 3] bcast_S4096x4096_S1x1x4096x4096_2_3 allowed)) s
    (broadcastInDim S4x16x4096x4096 ![] bcast_S_S4x16x4096x4096 (id (constant S_ .f32 0xFF800000#32)))

/-- Each row's greatest score. -/
def top (s : FVec Ideal S4x16x4096x4096 .f32) : FVec Ideal S4x16x4096 .f32 :=
  maximumf (broadcastInDim S4x16x4096 ![] bcast_S_S4x16x4096 (constant S_ .f32 0xFF800000#32))
    (Host.reduce FloatOps.maximumf s (constant S_ .f32 0xFF800000#32) reducesTo_S4x16x4096x4096_S4x16x4096_d3 h_S_)

/-- The exponentials of the scores less the row's greatest. -/
def weights (s : FVec Ideal S4x16x4096x4096 .f32) : FVec Ideal S4x16x4096x4096 .f32 :=
  Host.exp (subf s (broadcastInDim S4x16x4096x4096 ![0, 1, 2, 3] bcast_S4x16x4096x1_S4x16x4096x4096_0_1_2_3
    (broadcastInDim S4x16x4096x1 ![0, 1, 2] bcast_S4x16x4096_S4x16x4096x1_0_1_2 (top s))))

/-- The weights divided by their sum over the row. -/
def shares (w : FVec Ideal S4x16x4096x4096 .f32) : FVec Ideal S4x16x4096x4096 .f32 :=
  Host.divf w (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd w (constant S_ .f32 0x00000000#32) reducesTo_S4x16x4096x4096_S4x16x4096_d3 h_S_)))

/-- The shares times the values, in the result's layout. -/
def mix (p : FVec Ideal S4x16x4096x4096 .f32) (a4 : FVec Ideal S4x4096x16x128 .f32) : FVec Ideal S16384x2048 .bf16 :=
  truncf .bf16 (shapeCast _ (transpose S4x4096x16x128 [0, 3, 1, 2]
    (Host.dotGeneral dot_S4x4096x16x128_S4x16x4096x4096_S4x16x128x4096_1_3_3_2_02_01 none a4 p)
    transposes_S4x16x128x4096_S4x4096x16x128_0_3_1_2) shapeCasts_S4x4096x16x128_S16384x2048) bitsLt_bf16_f32

/-- The whole reference. -/
def attention (a0 : FVec Ideal S4x4096x16x128 .f32) (a1 : FVec Ideal S4x4096x16x64 .f32) (a2 : FVec Ideal S4x4096x16x128 .f32)
    (a3 : FVec Ideal S4x4096x64 .f32) (a4 : FVec Ideal S4x4096x16x128 .f32) : FVec Ideal S16384x2048 .bf16 :=
  mix (shares (weights (masked (scores a0 a1 a2 a3)))) a4

set_option maxHeartbeats 1000000 in
/-- The generated term is this one. -/
theorem res_eq (m : (ℓ : Loc nD τ sig) → Buf (Elt Ideal) ℓ) (c : Dev nD) :
    Value.res_main_v31 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
  rfl

/-- A number's quotient by 64 in the reference's spelling. -/
theorem floor_word (j : Fin 4096) :
    Scalar.select
        (IntOp.andi
          (IntOp.cmpi CmpIPredicate.ne
            (if BitVec.ofNat 32 j.val = 0 then 0 else if (BitVec.ofNat 32 j.val).msb = true then -1 else 1)
            (if (64#32) = 0 then 0 else if (64#32).msb = true then -1 else (1 : BitVec 32)))
          (IntOp.cmpi CmpIPredicate.ne (IntOp.remsi ArithUnit.host (BitVec.ofNat 32 j.val) 64#32) 0#32))
        (IntOp.subi (IntOp.divsi ArithUnit.host (BitVec.ofNat 32 j.val) 64#32) 1#32)
        (IntOp.divsi ArithUnit.host (BitVec.ofNat 32 j.val) 64#32) = BitVec.ofNat 32 (j.val / 64) := by
  revert j
  decide +kernel

/-- Of two small numbers the order of the words is the order of the numbers. -/
theorem le_word (a b : Fin 64) :
    IntOp.cmpi CmpIPredicate.sle (BitVec.ofNat 32 a.val) (BitVec.ofNat 32 b.val) = if a.val ≤ b.val then 1#1 else 0#1 := by
  revert a b
  decide +kernel

theorem allowed_apply (r j : Fin 4096) :
    allowed (ix2 r j) = if j.val / 64 ≤ r.val / 64 then 1#1 else 0#1 := by
  have h := le_word ⟨j.val / 64, by omega⟩ ⟨r.val / 64, by omega⟩
  rw [← floor_word, ← floor_word] at h
  pointwise [allowed, floorChunk]
  exact h

theorem sqrt_192 : Ideal.sqrt (Ideal.ofBits FTy.f32 1128267776#32) = (Real.sqrt 192 : ℝ) := by
  have h : Ideal.ofBits FTy.f32 1128267776#32 = ((192 : ℝ) : EReal) := by
    simp only [Ideal.ofBits, Ideal.ieee]
    simp
    rw [← EReal.coe_mul]
    norm_num
  rw [h]
  show (if (192 : ℝ) < 0 then ⊥ else ((Real.sqrt 192 : ℝ) : EReal)) = _
  exact if_neg (by norm_num)

theorem scores_apply (a0 : FVec Ideal S4x4096x16x128 .f32) (a1 : FVec Ideal S4x4096x16x64 .f32)
    (a2 : FVec Ideal S4x4096x16x128 .f32) (a3 : FVec Ideal S4x4096x64 .f32) (b : Fin 4) (h : Fin 16) (r j : Fin 4096) :
    scores a0 a1 a2 a3 (ix4 b h r j) = Ideal.div ((∑ d : Fin 128, a0 (ix4 b r h d) * a2 (ix4 b j h d))
      + ∑ d : Fin 64, a1 (ix4 b r h d) * a3 (ix3 b j d)) (Real.sqrt 192 : ℝ) := by
  pointwise [scores]
  rw [sqrt_192]
  simp only [mul_comm]

theorem masked_apply (s : FVec Ideal S4x16x4096x4096 .f32) (b : Fin 4) (h : Fin 16) (r j : Fin 4096) :
    masked s (ix4 b h r j) = if j.val / 64 ≤ r.val / 64 then s (ix4 b h r j) else ⊥ := by
  pointwise [masked, allowed_apply]
  have e : id (constant (F := Ideal) S_ FTy.f32 4286578688#32) ix0 = ⊥ := Cert.Attn.ofBits_neg_inf
  rw [e]
  split <;> rfl

/-- The greatest entry along the last of four axes, at any extents. -/
theorem host_max_apply {n0 n1 n2 n3 : ℕ} (hr : (⟨4, ![n0, n1, n2, n3]⟩ : Shape).ReducesTo [3] ⟨3, ![n0, n1, n2]⟩)
    (s : FVec Ideal ⟨4, ![n0, n1, n2, n3]⟩ .f32) {u : Shape} (init : FVec Ideal u .f32) (hu : 0 < u.numel)
    (b : Fin n0) (h : Fin n1) (r : Fin n2) :
    Host.reduce FloatOps.maximumf s init hr hu (ix3 b h r)
      = Finset.fold max (init (Shape.Idx.first hu)) (fun k => s (ix4 b h r k)) Finset.univ := by
  pointwise

/-- The maximum with minus infinity changes nothing. -/
theorem max_bottom (v : FVec Ideal S4x16x4096 .f32) (b : Fin 4) (h : Fin 16) (r : Fin 4096) :
    maximumf (broadcastInDim S4x16x4096 ![] bcast_S_S4x16x4096 (constant S_ .f32 0xFF800000#32)) v (ix3 b h r) = v (ix3 b h r) := by
  pointwise
  rw [Cert.Attn.ofBits_neg_inf]
  exact max_eq_right bot_le

theorem top_apply (s : FVec Ideal S4x16x4096x4096 .f32) (b : Fin 4) (h : Fin 16) (r : Fin 4096) :
    top s (ix3 b h r) = Finset.univ.sup fun j : Fin 4096 => s (ix4 b h r j) := by
  have e := host_max_apply reducesTo_S4x16x4096x4096_S4x16x4096_d3 s (constant S_ .f32 0xFF800000#32) h_S_ b h r
  rw [show (constant (F := Ideal) S_ .f32 0xFF800000#32 (Shape.Idx.first h_S_)) = Ideal.ofBits .f32 0xFF800000#32 from rfl,
    Cert.Attn.fold_max_eq_sup] at e
  unfold top
  refine (max_bottom _ b h r).trans ?_
  exact e

theorem weights_apply (s : FVec Ideal S4x16x4096x4096 .f32) (b : Fin 4) (h : Fin 16) (r j : Fin 4096) :
    weights s (ix4 b h r j) = Ideal.exp (s (ix4 b h r j) - top s (ix3 b h r)) := by
  pointwise [weights]

theorem shares_apply (w : FVec Ideal S4x16x4096x4096 .f32) (b : Fin 4) (h : Fin 16) (r j : Fin 4096) :
    shares w (ix4 b h r j) = Ideal.div (w (ix4 b h r j)) (∑ j : Fin 4096, w (ix4 b h r j)) := by
  pointwise [shares]

theorem mix_apply (p : FVec Ideal S4x16x4096x4096 .f32) (a4 : FVec Ideal S4x4096x16x128 .f32) (b : Fin 4) (h : Fin 16)
    (r : Fin 4096) (d : Fin 128) :
    mix p a4 (ix2 ⟨4096 * b.val + r.val, by omega⟩ ⟨128 * h.val + d.val, by omega⟩)
      = ∑ j : Fin 4096, p (ix4 b h r j) * a4 (ix4 b j h d) := by
  pointwise [mix]
  simp only [mul_comm]

end

end Cert.AttnRef

end
-- ==== Proof.SguRef.lean ====
/- The gating unit's output projection: the reference, step by step, and its values at one index. -/
module

public import proofs.«01_k».proof.Proof.Gen.SguOutReferenceIdeal.Run
public import proofs.«01_k».proof.Proof.SguTile
public import proofs.«01_k».proof.Proof.Ref
public import Idealize.ShloMosaic.Lib.StableHlo.RunRead
public import Idealize.ShloMosaic.Lib.Pointwise

@[expose] public section

set_option maxRecDepth 16384

noncomputable section

namespace Cert.SguOutRef

open Idealize.ShloMosaic Idealize.ShloMosaic.TcCoe Cert.SguOutReferenceIdeal Cert.SguOutReferenceIdeal.Facts
  Cert.SguOutReferenceIdeal.Facts₀ Cert.Ffn Pointwise

variable [hRef : Cert.SguOutReferenceIdeal.Facts]

/-- The multiplying half. -/
def lower (a0 : FVec Ideal S16384x12288 .bf16) : FVec Ideal S16384x6144 .f32 :=
  extractStridedSlice S16384x6144 ![0, 0] (extf .f32 a0 bitsLt_bf16_f32) slices_S16384x12288_S16384x6144_0_0

/-- The half that is normalised and mixed. -/
def upper (a0 : FVec Ideal S16384x12288 .bf16) : FVec Ideal S16384x6144 .f32 :=
  extractStridedSlice S16384x6144 ![0, 6144] (extf .f32 a0 bitsLt_bf16_f32) slices_S16384x12288_S16384x6144_0_6144

/-- Its layer normalisation. -/
def normed (v : FVec Ideal S16384x6144 .f32) (a1 a2 : FVec Ideal S2x6144 .f32) : FVec Ideal S16384x6144 .f32 :=
  addf (mulf (mulf (subf v (broadcastInDim S16384x6144 ![0, 1] bcast_S16384x1_S16384x6144_0_1 (Host.divf (broadcastInDim S16384x1
    ![0] bcast_S16384_S16384x1_0 (Host.reduceAdd v (constant S_ .f32 0x00000000#32) reducesTo_S16384x6144_S16384_d1 h_S_))
    (broadcastInDim S16384x1 ![] bcast_S_S16384x1 (constant S_ .f32 0x45C00000#32))))) (broadcastInDim S16384x6144 ![0, 1]
    bcast_S16384x1_S16384x6144_0_1 (Host.rsqrt (addf (Host.divf (broadcastInDim S16384x1 ![0] bcast_S16384_S16384x1_0
    (Host.reduceAdd (mulf (subf v (broadcastInDim S16384x6144 ![0, 1] bcast_S16384x1_S16384x6144_0_1 (Host.divf (broadcastInDim
    S16384x1 ![0] bcast_S16384_S16384x1_0 (Host.reduceAdd v (constant S_ .f32 0x00000000#32) reducesTo_S16384x6144_S16384_d1 h_S_))
    (broadcastInDim S16384x1 ![] bcast_S_S16384x1 (constant S_ .f32 0x45C00000#32))))) (subf v (broadcastInDim S16384x6144 ![0, 1]
    bcast_S16384x1_S16384x6144_0_1 (Host.divf (broadcastInDim S16384x1 ![0] bcast_S16384_S16384x1_0 (Host.reduceAdd v (constant S_
    .f32 0x00000000#32) reducesTo_S16384x6144_S16384_d1 h_S_)) (broadcastInDim S16384x1 ![] bcast_S_S16384x1 (constant S_ .f32
    0x45C00000#32)))))) (constant S_ .f32 0x00000000#32) reducesTo_S16384x6144_S16384_d1 h_S_)) (broadcastInDim S16384x1 ![]
    bcast_S_S16384x1 (constant S_ .f32 0x45C00000#32))) (broadcastInDim S16384x1 ![] bcast_S_S16384x1 (constant S_ .f32
    0x3727C5AC#32)))))) (broadcastInDim S16384x6144 ![0, 1] bcast_S1x6144_S16384x6144_0_1 (broadcastInDim S1x6144 ![1]
    bcast_S6144_S1x6144_1 (shapeCast _ (extractStridedSlice S1x6144 ![0, 0] a1 slices_S2x6144_S1x6144_0_0)
    shapeCasts_S1x6144_S6144)))) (broadcastInDim S16384x6144 ![0, 1] bcast_S1x6144_S16384x6144_0_1 (broadcastInDim S1x6144 ![1]
    bcast_S6144_S1x6144_1 (shapeCast _ (extractStridedSlice S1x6144 ![0, 0] a2 slices_S2x6144_S1x6144_0_0)
    shapeCasts_S1x6144_S6144)))

/-- The chunks of 64 of the positions of a block. -/
def chunks : IVec S128 32 :=
  select (andi (cmpi .ne (signi (iotaInDim S128 32 0)) (broadcastInDim S128 ![] bcast_S_S128 (signi (id (constantI S_ 32 64#32)))))
    (cmpi .ne (Host.remsi (iotaInDim S128 32 0) (broadcastInDim S128 ![] bcast_S_S128 (id (constantI S_ 32 64#32)))) (broadcastInDim
    S128 ![] bcast_S_S128 (constantI S_ 32 0#32)))) (subi (Host.divsi (iotaInDim S128 32 0) (broadcastInDim S128 ![] bcast_S_S128
    (id (constantI S_ 32 64#32)))) (broadcastInDim S128 ![] bcast_S_S128 (constantI S_ 32 1#32))) (Host.divsi (iotaInDim S128 32 0)
    (broadcastInDim S128 ![] bcast_S_S128 (id (constantI S_ 32 64#32))))

/-- Which positions another may see. -/
def earlier : IVec S128x128 1 :=
  cmpi .sle (broadcastInDim S128x128 ![0, 1] bcast_S1x128_S128x128_0_1 (broadcastInDim S1x128 ![1] bcast_S128_S1x128_1 chunks))
    (broadcastInDim S128x128 ![0, 1] bcast_S128x1_S128x128_0_1 (broadcastInDim S128x1 ![0] bcast_S128_S128x1_0 chunks))

/-- The mixing weights under the mask. -/
def weights (a3 : FVec Ideal S2x8x128x128 .f32) : FVec Ideal S8x128x128 .f32 :=
  mulf (shapeCast _ (extractStridedSlice S1x8x128x128 ![0, 0, 0, 0] a3 slices_S2x8x128x128_S1x8x128x128_0_0_0_0)
    shapeCasts_S1x8x128x128_S8x128x128) (broadcastInDim S8x128x128 ![0, 1, 2] bcast_S1x128x128_S8x128x128_0_1_2 (broadcastInDim
    S1x128x128 ![1, 2] bcast_S128x128_S1x128x128_1_2 (uitofp .f32 earlier)))

/-- The mixtures of each block and head, with their bias. -/
def mixed (v : FVec Ideal S16384x6144 .f32) (w : FVec Ideal S8x128x128 .f32) (a4 : FVec Ideal S2x8x128 .f32) :
    FVec Ideal S128x128x8x768 .f32 :=
  addf (transpose S128x128x8x768 [1, 3, 0, 2] (Host.dotGeneral dot_S128x128x8x768_S8x128x128_S8x128x768x128_1_2_03_1_2_0 none
    (shapeCast _ v shapeCasts_S16384x6144_S128x128x8x768) w) transposes_S8x128x768x128_S128x128x8x768_1_3_0_2) (broadcastInDim
    S128x128x8x768 ![0, 1, 2, 3] bcast_S1x128x8x1_S128x128x8x768_0_1_2_3 (broadcastInDim S1x128x8x1 ![1, 2]
    bcast_S128x8_S1x128x8x1_1_2 (transpose S128x8 [1, 0] (shapeCast _ (extractStridedSlice S1x8x128 ![0, 0, 0] a4
    slices_S2x8x128_S1x8x128_0_0_0) shapeCasts_S1x8x128_S8x128) transposes_S8x128_S128x8_1_0)))

/-- The residual sum. -/
def summed (u : FVec Ideal S16384x6144 .f32) (f : FVec Ideal S128x128x8x768 .f32) (a5 : FVec Ideal S2x6144x2048 .f32)
    (a6 : FVec Ideal S16384x2048 .f32) : FVec Ideal S16384x2048 .f32 :=
  addf (mulf (broadcastInDim S16384x2048 ![] bcast_S_S16384x2048 (constant S_ .f32 0x3FD744FD#32)) a6) (Host.dotGeneral
    dot_S16384x6144_S6144x2048_S16384x2048_1_0_0_1_n_n none (mulf u (shapeCast _ f shapeCasts_S128x128x8x768_S16384x6144))
    (shapeCast _ (extractStridedSlice S1x6144x2048 ![0, 0, 0] a5 slices_S2x6144x2048_S1x6144x2048_0_0_0)
    shapeCasts_S1x6144x2048_S6144x2048))

/-- The layer normalisation of the rows. -/
def layered (y : FVec Ideal S16384x2048 .f32) (a7 a8 : FVec Ideal S4x2048 .f32) : FVec Ideal S16384x2048 .f32 :=
  addf (mulf (mulf (subf y (broadcastInDim S16384x2048 ![0, 1] bcast_S16384x1_S16384x2048_0_1 (Host.divf (broadcastInDim S16384x1
    ![0] bcast_S16384_S16384x1_0 (Host.reduceAdd y (constant S_ .f32 0x00000000#32) reducesTo_S16384x2048_S16384_d1 h_S_))
    (broadcastInDim S16384x1 ![] bcast_S_S16384x1 (constant S_ .f32 0x45000000#32))))) (broadcastInDim S16384x2048 ![0, 1]
    bcast_S16384x1_S16384x2048_0_1 (Host.rsqrt (addf (Host.divf (broadcastInDim S16384x1 ![0] bcast_S16384_S16384x1_0
    (Host.reduceAdd (mulf (subf y (broadcastInDim S16384x2048 ![0, 1] bcast_S16384x1_S16384x2048_0_1 (Host.divf (broadcastInDim
    S16384x1 ![0] bcast_S16384_S16384x1_0 (Host.reduceAdd y (constant S_ .f32 0x00000000#32) reducesTo_S16384x2048_S16384_d1 h_S_))
    (broadcastInDim S16384x1 ![] bcast_S_S16384x1 (constant S_ .f32 0x45000000#32))))) (subf y (broadcastInDim S16384x2048 ![0, 1]
    bcast_S16384x1_S16384x2048_0_1 (Host.divf (broadcastInDim S16384x1 ![0] bcast_S16384_S16384x1_0 (Host.reduceAdd y (constant S_
    .f32 0x00000000#32) reducesTo_S16384x2048_S16384_d1 h_S_)) (broadcastInDim S16384x1 ![] bcast_S_S16384x1 (constant S_ .f32
    0x45000000#32)))))) (constant S_ .f32 0x00000000#32) reducesTo_S16384x2048_S16384_d1 h_S_)) (broadcastInDim S16384x1 ![]
    bcast_S_S16384x1 (constant S_ .f32 0x45000000#32))) (broadcastInDim S16384x1 ![] bcast_S_S16384x1 (constant S_ .f32
    0x3727C5AC#32)))))) (broadcastInDim S16384x2048 ![0, 1] bcast_S1x2048_S16384x2048_0_1 (broadcastInDim S1x2048 ![1]
    bcast_S2048_S1x2048_1 (shapeCast _ (extractStridedSlice S1x2048 ![0, 0] a7 slices_S4x2048_S1x2048_0_0)
    shapeCasts_S1x2048_S2048)))) (broadcastInDim S16384x2048 ![0, 1] bcast_S1x2048_S16384x2048_0_1 (broadcastInDim S1x2048 ![1]
    bcast_S2048_S1x2048_1 (shapeCast _ (extractStridedSlice S1x2048 ![0, 0] a8 slices_S4x2048_S1x2048_0_0)
    shapeCasts_S1x2048_S2048)))

/-- The narrow copy of the result. -/
def narrowed (y : FVec Ideal S16384x2048 .f32) : FVec Ideal S16384x2048 .bf16 := truncf .bf16 y bitsLt_bf16_f32

/-- Row `i` of block `n`, and column `e` of head `g`. -/
def place (n i : Fin 128) : Fin 16384 := ⟨n.val * 128 + i.val, by omega⟩
def wide (g : Fin 8) (e : Fin 768) : Fin 6144 := ⟨g.val * 768 + e.val, by omega⟩

theorem lower_apply (a0 : FVec Ideal S16384x12288 .bf16) (R : Fin 16384) (k : Fin 6144) :
    lower a0 (ix2 R k) = a0 (ix2 R ⟨k.val, by omega⟩) := by
  pointwise [lower]

theorem upper_apply (a0 : FVec Ideal S16384x12288 .bf16) (R : Fin 16384) (k : Fin 6144) :
    upper a0 (ix2 R k) = a0 (ix2 R ⟨6144 + k.val, by omega⟩) := by
  pointwise [upper]

theorem normed_apply (v : FVec Ideal S16384x6144 .f32) (a1 a2 : FVec Ideal S2x6144 .f32) (R : Fin 16384) (k : Fin 6144) :
    normed v a1 a2 (ix2 R k) = (v (ix2 R k) - Cert.SguOut.mean fun x => v (ix2 R x)) * Cert.SguOut.scale (fun x => v (ix2 R x))
      * a1 (ix2 0 k) + a2 (ix2 0 k) := by
  pointwise [normed]
  rfl

theorem earlier_apply (i j : Fin 128) : earlier (ix2 i j) = if j.val / 64 ≤ i.val / 64 then 1#1 else 0#1 := by
  have h := Cert.AttnRef.le_word ⟨j.val / 64, by omega⟩ ⟨i.val / 64, by omega⟩
  have hj := Cert.AttnRef.floor_word ⟨j.val, by omega⟩
  have hi := Cert.AttnRef.floor_word ⟨i.val, by omega⟩
  simp only [] at h hi hj
  rw [← hi, ← hj] at h
  pointwise [earlier, chunks]
  exact h

theorem word_one : (FloatOps.uitofp (F := Ideal) .f32 1#1 : EReal) = 1 := by
  show (((1#1).toNat : ℝ) : EReal) = 1
  simp

theorem word_zero : (FloatOps.uitofp (F := Ideal) .f32 0#1 : EReal) = 0 := by
  show (((0#1).toNat : ℝ) : EReal) = 0
  simp

theorem weights_apply (a3 : FVec Ideal S2x8x128x128 .f32) (g : Fin 8) (i j : Fin 128) :
    weights a3 (ix3 g i j) = if j.val / 64 ≤ i.val / 64 then a3 (ix4 0 g i j) else 0 := by
  pointwise [weights]
  rw [earlier_apply]
  split
  · exact (congrArg (a3 (ix4 0 g i j) * ·) word_one).trans (mul_one _)
  · exact (congrArg (a3 (ix4 0 g i j) * ·) word_zero).trans (mul_zero _)

theorem mixed_apply (v : FVec Ideal S16384x6144 .f32) (w : FVec Ideal S8x128x128 .f32) (a4 : FVec Ideal S2x8x128 .f32)
    (n i : Fin 128) (g : Fin 8) (e : Fin 768) : mixed v w a4 (ix4 n i g e)
      = (∑ j : Fin 128, v (ix2 (place n j) (wide g e)) * w (ix3 g i j)) + a4 (ix3 0 g i) := by
  pointwise [mixed]
  rfl

theorem summed_apply (u : FVec Ideal S16384x6144 .f32) (f : FVec Ideal S128x128x8x768 .f32) (a5 : FVec Ideal S2x6144x2048 .f32)
    (a6 : FVec Ideal S16384x2048 .f32) (R : Fin 16384) (d : Fin 2048) : summed u f a5 a6 (ix2 R d)
      = Ideal.ofBits .f32 1071072509#32 * a6 (ix2 R d) + ∑ k : Fin 6144, u (ix2 R k)
        * f (ix4 ⟨R.val / 128, by omega⟩ ⟨R.val % 128, by omega⟩ ⟨k.val / 768, by omega⟩ ⟨k.val % 768, by omega⟩) * a5 (ix3 0 k d) := by
  pointwise [summed]

theorem layered_apply (y : FVec Ideal S16384x2048 .f32) (a7 a8 : FVec Ideal S4x2048 .f32) (R : Fin 16384) (n : Fin 2048) :
    layered y a7 a8 (ix2 R n) = norm (fun k => y (ix2 R k)) (a7 (ix2 0 n)) (a8 (ix2 0 n)) n := by
  pointwise [layered]
  rfl

theorem narrowed_apply (y : FVec Ideal S16384x2048 .f32) (R : Fin 16384) (n : Fin 2048) : narrowed y (ix2 R n) = y (ix2 R n) := by
  pointwise [narrowed]

variable (m : (ℓ : Loc nD τ sig) → Buf (Elt Ideal) ℓ) (c : Dev nD)

theorem res_eq : Value.res_main_v88 m c = layered (summed (lower (m ((c.tc : Thread nD τ).loc main_arg0))) (mixed (normed (upper (m ((c.tc : Thread nD τ).loc main_arg0))) (m ((c.tc : Thread nD τ).loc main_arg1)) (m ((c.tc : Thread nD τ).loc main_arg2))) (weights (m ((c.tc : Thread nD τ).loc main_arg3))) (m ((c.tc : Thread nD τ).loc main_arg4))) (m ((c.tc : Thread nD τ).loc main_arg5)) (m ((c.tc : Thread nD τ).loc main_arg6)))
      (m ((c.tc : Thread nD τ).loc main_arg7)) (m ((c.tc : Thread nD τ).loc main_arg8)) := rfl

theorem res_narrow : Value.res_main_v89 m c = narrowed (layered (summed (lower (m ((c.tc : Thread nD τ).loc main_arg0))) (mixed (normed (upper (m ((c.tc : Thread nD τ).loc main_arg0))) (m ((c.tc : Thread nD τ).loc main_arg1)) (m ((c.tc : Thread nD τ).loc main_arg2))) (weights (m ((c.tc : Thread nD τ).loc main_arg3))) (m ((c.tc : Thread nD τ).loc main_arg4))) (m ((c.tc : Thread nD τ).loc main_arg5)) (m ((c.tc : Thread nD τ).loc main_arg6)))
      (m ((c.tc : Thread nD τ).loc main_arg7)) (m ((c.tc : Thread nD τ).loc main_arg8))) := rfl

end Cert.SguOutRef

end
-- ==== Proof.SguOut.lean ====
/- The gating unit's output kernel: what its grid points leave, its two results, and their equality with the reference's. -/
module

public import proofs.«01_k».proof.Proof.SguHost
public import proofs.«01_k».proof.Proof.SguBlocks
public import proofs.«01_k».proof.Proof.SguRef
public import proofs.«01_k».proof.Proof.Gen.SguOutIdeal.Value
public import proofs.«01_k».proof.Proof.Gen.SguOutReferenceIdeal.Run
public import Idealize.ShloMosaic.Lib.Pipeline.Value

@[expose] public section

set_option maxRecDepth 16384
set_option maxHeartbeats 400000

noncomputable section

namespace Cert.SguOut

open Idealize.ShloMosaic Idealize.ShloMosaic.TcCoe Cert.SguOutIdeal.Gen Cert.SguOutIdeal Cert.Ffn Pointwise

variable (m : (ℓ : Loc nD τ sig) → Buf (Elt Ideal) ℓ) (c : Dev nD)

/-- A row's place in its block of 128, the rows of that block, and the head of a column. -/
def pos (R : Fin 16384) : Fin 128 := ⟨R.val % 128, by omega⟩
def mate (R : Fin 16384) (j : Fin 128) : Fin 16384 := ⟨R.val / 128 * 128 + j.val, by omega⟩
def headOf (K : Fin 6144) : Fin 8 := ⟨K.val / 768, by omega⟩

/-- The statistics of a row's upper half. -/
def mu (R : Fin 16384) : EReal := mean fun k => inZ m c (ix2 R (highCol k))
def rs (R : Fin 16384) : EReal := scale fun k => inZ m c (ix2 R (highCol k))

/-- The gated number of a row and a column. -/
def gated (R : Fin 16384) (K : Fin 6144) : EReal :=
  gate (inZ m c (ix2 R (lowCol K))) (pos R) (fun j => inWs m c (ix4 0 (headOf K) (pos R) j))
    (fun j => (inZ m c (ix2 (mate R j) (highCol K)) - mu m c (mate R j)) * rs m c (mate R j) * inLg m c (ix2 0 K) + inLb m c (ix2 0 K))
    (inBs m c (ix3 0 (headOf K) (pos R)))

/-- A step's share of the projection, the projection, and the result. -/
def part (q : Fin 4) (R : Fin 16384) (d : Fin 2048) : EReal := ∑ k : Fin 1536, gated m c R (full q k) * inWo m c (ix3 0 (full q k) d)
def total (R : Fin 16384) (d : Fin 2048) : EReal := part m c 0 R d + part m c 1 R d + part m c 2 R d + part m c 3 R d
def resultAt (R : Fin 16384) (d : Fin 2048) : EReal :=
  norm (fun k => Ideal.ofBits .f32 1071072509#32 * inX m c (ix2 R k) + total m c R k) (inScale m c (ix2 0 d)) (inShift m c (ix2 0 d)) d

theorem pos_row (i : Fin 32) (n : Fin 4) (l : Fin 128) : pos (row i (inRow n l)) = l :=
  Fin.ext (by show (512 * i.val + (128 * n.val + l.val)) % 128 = l.val; omega)
theorem mate_row (i : Fin 32) (n : Fin 4) (l j : Fin 128) : mate (row i (inRow n l)) j = row i (inRow n j) :=
  Fin.ext (by show (512 * i.val + (128 * n.val + l.val)) / 128 * 128 + j.val = 512 * i.val + (128 * n.val + j.val); omega)
theorem headOf_full (q : Fin 4) (g : Fin 2) (e : Fin 768) : headOf (full q (col g e)) = head q g :=
  Fin.ext (by show (1536 * q.val + (768 * g.val + e.val)) / 768 = 2 * q.val + g.val; omega)

theorem split_inRow (r : Fin 512) : ∃ (n : Fin 4) (l : Fin 128), inRow n l = r :=
  ⟨⟨r.val / 128, by omega⟩, ⟨r.val % 128, by omega⟩, Fin.ext (by show 128 * (r.val / 128) + r.val % 128 = r.val; omega)⟩
theorem split_col (k : Fin 1536) : ∃ (g : Fin 2) (e : Fin 768), col g e = k :=
  ⟨⟨k.val / 768, by omega⟩, ⟨k.val % 768, by omega⟩, Fin.ext (by show 768 * (k.val / 768) + k.val % 768 = k.val; omega)⟩
theorem split_row (R : Fin 16384) : ∃ (i : Fin 32) (r : Fin 512), row i r = R :=
  ⟨⟨R.val / 512, by omega⟩, ⟨R.val % 512, by omega⟩, Fin.ext (by show 512 * (R.val / 512) + R.val % 512 = R.val; omega)⟩

/-- The tiles of a step, from blocks that hold the arguments' rows and columns. -/
theorem tiles_gated (i : Fin 32) (q : Fin 4) (x0 : Vec Ideal S512x1536 .bf16) (x1 : Vec Ideal S512x6144 .bf16)
    (x2 x3 : Vec Ideal S1x1x1536 .f32) (x4 : Vec Ideal S1x2x128x128 .f32) (x5 : Vec Ideal S1x2x128x1 .f32) (s1 s2 : Vec Ideal S512x1 .f32)
    (h0 : ∀ r k, x0 (ix2 r k) = inZ m c (ix2 (row i r) (lowCol (full q k))))
    (h1 : ∀ r k, x1 (ix2 r k) = inZ m c (ix2 (row i r) (highCol k)))
    (h2 : ∀ k, x2 (ix3 0 0 k) = inLg m c (ix2 0 (full q k))) (h3 : ∀ k, x3 (ix3 0 0 k) = inLb m c (ix2 0 (full q k)))
    (h4 : ∀ g l j, x4 (ix4 0 g l j) = inWs m c (ix4 0 (head q g) l j)) (h5 : ∀ g l, x5 (ix4 0 g l 0) = inBs m c (ix3 0 (head q g) l))
    (k1 : ∀ r, s1 (ix2 r 0) = mu m c (row i r)) (k2 : ∀ r, s2 (ix2 r 0) = rs m c (row i r)) (r : Fin 512) (k : Fin 1536) :
    tiles (grid0.coords (point i q)) x0 x1 x2 x3 x4 x5 s1 s2 (ix2 r k) = gated m c (row i r) (full q k) := by
  obtain ⟨n, l, rfl⟩ := split_inRow r
  obtain ⟨g, e, rfl⟩ := split_col k
  have hq : (grid0.coords (point i q) 1 : Fin 4) = q := coord_step i q
  rw [tiles_apply]
  unfold tileVal gated
  rw [h0, h5, pos_row, headOf_full]
  refine congrArg₂ (fun w n => gate _ l w n _) (funext fun j => h4 g l j) (funext fun j => ?_)
  rw [mate_row, k1, k2, h2, h3, h1]
  exact congrArg (fun z : Fin 4 => (inZ m c (ix2 (row i (inRow n j)) (highCol (full z (col g e)))) - mu m c (row i (inRow n j)))
    * rs m c (row i (inRow n j)) * inLg m c (ix2 0 (full q (col g e))) + inLb m c (ix2 0 (full q (col g e)))) hq

theorem step_apply (i : Fin 32) (q : Fin 4) (a : Vec Ideal S512x2048 .f32) (s1 s2 : Vec Ideal S512x1 .f32)
    (k1 : ∀ r, s1 (ix2 r 0) = mu m c (row i r)) (k2 : ∀ r, s2 (ix2 r 0) = rs m c (row i r)) (r : Fin 512) (d : Fin 2048) :
    k0_pay2 a (tiles (grid0.coords (point i q)) (iblk m c 0 (point i q)) (iblk m c 1 (point i q)) (iblk m c 2 (point i q)) (iblk m c 3 (point i q)) (iblk m c 4 (point i q)) (iblk m c 5 (point i q)) s1 s2) (iblk m c 6 (point i q)) (ix2 r d)
      = a (ix2 r d) + part m c q (row i r) d := by
  refine (projected_apply _ _ _ r d).trans (congrArg (a (ix2 r d) + ·) (Finset.sum_congr rfl fun k _ => congrArg₂ (· * ·) ?_ (iblk_wo m c i q k d)))
  exact tiles_gated m c i q _ _ _ _ _ _ s1 s2 (iblk_z m c i q) (iblk_v m c i q) (iblk_lg m c i q) (iblk_lb m c i q) (iblk_ws m c i q)
    (iblk_bs m c i q) k1 k2 r k

theorem kept_mu (i : Fin 32) (q : Fin 4) (r : Fin 512) : k0_pay7 (iblk m c 1 (point i q)) (ix2 r 0) = mu m c (row i r) :=
  (mean_apply _ r).trans (congrArg mean (funext fun k => iblk_v m c i q r k))
theorem kept_rs (i : Fin 32) (q : Fin 4) (r : Fin 512) : k0_pay8 (iblk m c 1 (point i q)) (ix2 r 0) = rs m c (row i r) :=
  (scale_apply _ r).trans (congrArg scale (funext fun k => iblk_v m c i q r k))

/-- What the step `q` of a block of rows leaves: the sum so far, and the statistics of the rows. -/
def Left (i : Fin 32) (q : Fin 4) (f : Fin 16384 → Fin 2048 → EReal) : Prop :=
  (∀ r d, (outsAt0 m c (point i q).val (point i q).isLt).1 (ix2 r d) = f (row i r) d)
  ∧ (∀ r, (outsAt0 m c (point i q).val (point i q).isLt).2.2.1 (ix2 r 0) = mu m c (row i r))
  ∧ (∀ r, (outsAt0 m c (point i q).val (point i q).isLt).2.2.2 (ix2 r 0) = rs m c (row i r))

theorem outs_congr {a b : ℕ} (h : a = b) (ha : a < cfg0.N) (hb : b < cfg0.N) : outsAt0 m c a ha = outsAt0 m c b hb := by
  subst h
  rfl

theorem before (i : Fin 32) (q q' : Fin 4) (h : q'.val + 1 = q.val) (hlt : (point i q).val - 1 < cfg0.N) :
    outsAt0 m c ((point i q).val - 1) hlt = outsAt0 m c (point i q').val (point i q').isLt :=
  outs_congr m c (by show 4 * i.val + q.val - 1 = 4 * i.val + q'.val; omega) _ _

attribute [local irreducible] outsAt0 out0_A_10 out0_B_10 out0_C_10 out0_C_11 sout0_A_1 sout0_A_2 k0_pay2 k0_pay3 k0_pay4 k0_pay7 k0_pay8 tiles iblk

theorem sum_A (t : Fin cfg0.N) (h0 : t.val % 4 = 0) (h1 : ¬t.val % 4 = 3) : (outsAt0 m c t.val t.isLt).1
    = k0_pay2 k0_pay9 (tiles (grid0.coords t) (iblk m c 0 t) (iblk m c 1 t) (iblk m c 2 t) (iblk m c 3 t) (iblk m c 4 t) (iblk m c 5 t) (k0_pay7 (iblk m c 1 t)) (k0_pay8 (iblk m c 1 t))) (iblk m c 6 t) := by
  rw [outsAt0_A m c t h0 h1]
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    ((hcond0_0 t).mpr h0) (fun h => h1 ((hcond0_1 t).mp h))

theorem mean_A (t : Fin cfg0.N) (h0 : t.val % 4 = 0) (h1 : ¬t.val % 4 = 3) : (outsAt0 m c t.val t.isLt).2.2.1
    = k0_pay7 (iblk m c 1 t) := by
  rw [outsAt0_A m c t h0 h1]
  exact keep_A1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    ((hcond0_0 t).mpr h0) (fun h => h1 ((hcond0_1 t).mp h))

theorem scale_A (t : Fin cfg0.N) (h0 : t.val % 4 = 0) (h1 : ¬t.val % 4 = 3) : (outsAt0 m c t.val t.isLt).2.2.2
    = k0_pay8 (iblk m c 1 t) := by
  rw [outsAt0_A m c t h0 h1]
  exact keep_A2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    ((hcond0_0 t).mpr h0) (fun h => h1 ((hcond0_1 t).mp h))

theorem sum_B (t : Fin cfg0.N) (h0 : ¬t.val % 4 = 0) (h1 : ¬t.val % 4 = 3) : (outsAt0 m c t.val t.isLt).1
    = k0_pay2 (outsAt0 m c (t.val - 1) (Nat.lt_of_le_of_lt (Nat.sub_le _ _) t.isLt)).1 (tiles (grid0.coords t) (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.1
      (outsAt0 m c (t.val - 1) (Nat.lt_of_le_of_lt (Nat.sub_le _ _) t.isLt)).2.2.2) (iblk m c 6 t) := by
  rw [outsAt0_B m c t h0 h1]
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    (fun h => h0 ((hcond0_0 t).mp h)) (fun h => h1 ((hcond0_1 t).mp h))
    (outsAt0 m c (t.val - 1) (Nat.lt_of_le_of_lt (Nat.sub_le _ _) t.isLt)).1
    (outsAt0 m c (t.val - 1) (Nat.lt_of_le_of_lt (Nat.sub_le _ _) t.isLt)).2.2.1
    (outsAt0 m c (t.val - 1) (Nat.lt_of_le_of_lt (Nat.sub_le _ _) t.isLt)).2.2.2

theorem mean_B (t : Fin cfg0.N) (h0 : ¬t.val % 4 = 0) (h1 : ¬t.val % 4 = 3) : (outsAt0 m c t.val t.isLt).2.2.1
    = (outsAt0 m c (t.val - 1) (Nat.lt_of_le_of_lt (Nat.sub_le _ _) t.isLt)).2.2.1 := by
  rw [outsAt0_B m c t h0 h1]
  rfl

theorem scale_B (t : Fin cfg0.N) (h0 : ¬t.val % 4 = 0) (h1 : ¬t.val % 4 = 3) : (outsAt0 m c t.val t.isLt).2.2.2
    = (outsAt0 m c (t.val - 1) (Nat.lt_of_le_of_lt (Nat.sub_le _ _) t.isLt)).2.2.2 := by
  rw [outsAt0_B m c t h0 h1]
  rfl

theorem wide_C (t : Fin cfg0.N) (h0 : ¬t.val % 4 = 0) (h1 : t.val % 4 = 3) : (outsAt0 m c t.val t.isLt).1
    = k0_pay3 (k0_pay2 (outsAt0 m c (t.val - 1) (Nat.lt_of_le_of_lt (Nat.sub_le _ _) t.isLt)).1 (tiles (grid0.coords t) (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.1
      (outsAt0 m c (t.val - 1) (Nat.lt_of_le_of_lt (Nat.sub_le _ _) t.isLt)).2.2.2) (iblk m c 6 t)) (iblk m c 7 t) (iblk m c 8 t) (iblk m c 9 t) := by
  rw [outsAt0_C m c t h0 h1]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    (fun h => h0 ((hcond0_0 t).mp h)) ((hcond0_1 t).mpr h1)
    (outsAt0 m c (t.val - 1) (Nat.lt_of_le_of_lt (Nat.sub_le _ _) t.isLt)).1
    (outsAt0 m c (t.val - 1) (Nat.lt_of_le_of_lt (Nat.sub_le _ _) t.isLt)).2.2.1
    (outsAt0 m c (t.val - 1) (Nat.lt_of_le_of_lt (Nat.sub_le _ _) t.isLt)).2.2.2

theorem narrow_C2 (t : Fin cfg0.N) (h0 : ¬t.val % 4 = 0) (h1 : t.val % 4 = 3) : (outsAt0 m c t.val t.isLt).2.1
    = k0_pay4 (k0_pay2 (outsAt0 m c (t.val - 1) (Nat.lt_of_le_of_lt (Nat.sub_le _ _) t.isLt)).1 (tiles (grid0.coords t) (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.1
      (outsAt0 m c (t.val - 1) (Nat.lt_of_le_of_lt (Nat.sub_le _ _) t.isLt)).2.2.2) (iblk m c 6 t)) (iblk m c 7 t) (iblk m c 8 t) (iblk m c 9 t) := by
  rw [outsAt0_C m c t h0 h1]
  exact narrow_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    (fun h => h0 ((hcond0_0 t).mp h)) ((hcond0_1 t).mpr h1)
    (outsAt0 m c (t.val - 1) (Nat.lt_of_le_of_lt (Nat.sub_le _ _) t.isLt)).1
    (outsAt0 m c (t.val - 1) (Nat.lt_of_le_of_lt (Nat.sub_le _ _) t.isLt)).2.2.1
    (outsAt0 m c (t.val - 1) (Nat.lt_of_le_of_lt (Nat.sub_le _ _) t.isLt)).2.2.2

theorem first (i : Fin 32) : Left m c i 0 (part m c 0) := by
  have h0 : (point i 0).val % 4 = 0 := by show (4 * i.val + 0) % 4 = 0; omega
  have h1 : ¬(point i 0).val % 4 = 3 := by omega
  refine ⟨fun r d => ?_, fun r => ?_, fun r => ?_⟩
  · rw [sum_A m c _ h0 h1, step_apply m c i 0 _ _ _ (kept_mu m c i 0) (kept_rs m c i 0) r d, zeros_apply, zero_add]
  · rw [mean_A m c _ h0 h1]
    exact kept_mu m c i 0 r
  · rw [scale_A m c _ h0 h1]
    exact kept_rs m c i 0 r

theorem next (i : Fin 32) (q q' : Fin 4) (h : q'.val + 1 = q.val) (h3 : q.val < 3) (f : Fin 16384 → Fin 2048 → EReal)
    (L : Left m c i q' f) : Left m c i q (fun R d => f R d + part m c q R d) := by
  have h0 : ¬(point i q).val % 4 = 0 := by show ¬(4 * i.val + q.val) % 4 = 0; omega
  have h1 : ¬(point i q).val % 4 = 3 := by show ¬(4 * i.val + q.val) % 4 = 3; omega
  obtain ⟨l0, l1, l2⟩ := L
  refine ⟨fun r d => ?_, fun r => ?_, fun r => ?_⟩
  · rw [sum_B m c _ h0 h1, before m c i q q' h, step_apply m c i q _ _ _ l1 l2 r d, l0]
  · rw [mean_B m c _ h0 h1, before m c i q q' h]
    exact l1 r
  · rw [scale_B m c _ h0 h1, before m c i q q' h]
    exact l2 r

theorem third (i : Fin 32) : Left m c i 2 (fun R d => part m c 0 R d + part m c 1 R d + part m c 2 R d) :=
  next m c i 2 1 rfl (by decide) _ (next m c i 1 0 rfl (by decide) _ (first m c i))

theorem ended (i : Fin 32) (a : Vec Ideal S512x2048 .f32) (ha : ∀ r d, a (ix2 r d) = total m c (row i r) d) (r : Fin 512) (d : Fin 2048) :
    k0_pay3 a (iblk m c 7 (point i 3)) (iblk m c 8 (point i 3)) (iblk m c 9 (point i 3)) (ix2 r d) = resultAt m c (row i r) d := by
  refine (layered_apply _ _ _ _ r d).trans ?_
  unfold resultAt
  rw [iblk_scale, iblk_shift]
  exact congrArg (fun f : Fin 2048 → EReal => norm f (inScale m c (ix2 0 d)) (inShift m c (ix2 0 d)) d)
    (funext fun k => congrArg₂ (fun x y : EReal => Ideal.ofBits .f32 1071072509#32 * x + y) (iblk_x m c i 3 r k) (ha r k))

theorem wide_at (i : Fin 32) (r : Fin 512) (d : Fin 2048) :
    (outsAt0 m c (point i 3).val (point i 3).isLt).1 (ix2 r d) = resultAt m c (row i r) d := by
  have h0 : ¬(point i 3).val % 4 = 0 := by show ¬(4 * i.val + 3) % 4 = 0; omega
  have h1 : (point i 3).val % 4 = 3 := by show (4 * i.val + 3) % 4 = 3; omega
  obtain ⟨l0, l1, l2⟩ := third m c i
  rw [wide_C m c _ h0 h1, before m c i 3 2 rfl]
  refine ended m c i _ (fun r d => ?_) r d
  rw [step_apply m c i 3 _ _ _ l1 l2 r d, l0]
  rfl

theorem narrow_at (i : Fin 32) (r : Fin 512) (d : Fin 2048) :
    (outsAt0 m c (point i 3).val (point i 3).isLt).2.1 (ix2 r d) = resultAt m c (row i r) d := by
  have h0 : ¬(point i 3).val % 4 = 0 := by show ¬(4 * i.val + 3) % 4 = 0; omega
  have h1 : (point i 3).val % 4 = 3 := by show (4 * i.val + 3) % 4 = 3; omega
  obtain ⟨l0, l1, l2⟩ := third m c i
  rw [narrow_C2 m c _ h0 h1, before m c i 3 2 rfl, narrowed_apply]
  refine ended m c i _ (fun r d => ?_) r d
  rw [step_apply m c i 3 _ _ _ l1 l2 r d, l0]
  rfl

theorem same_point (t t' : Fin cfg0.N) (h : t.val % 4 = 3) (h' : t'.val % 4 = 3) (e : t.val / 4 = t'.val / 4) : t = t' :=
  Fin.ext (by omega)

theorem start_10 : ∀ t : Fin cfg0.N, win0_10.index t 0 = t.val / 4 :=
  (by decide +kernel : ∀ t : Fin grid0.N, win0_10.index t 0 = t.val / 4)

theorem apart_10 (t t' : Fin cfg0.N) (h : (cfg0.win 10).flush t = true) (h' : (cfg0.win 10).flush t' = true) (hne : t ≠ t') :
    Disjoint ((cfg0.win 10).blk t).view.set ((cfg0.win 10).blk t').view.set :=
  (cfg0.win 10).disjoint_blk fun e => hne (same_point t t' ((flush0_10 t).mp h) ((flush0_10 t').mp h') (by
    rw [← start_10 t, ← start_10 t']
    exact congrFun e 0))

theorem out_10 (i : Fin 32) (r : Fin 512) (d : Fin 2048) :
    (dats m 0 c).arrAt 10 cfg0.N (ix2 (row i r) d) = resultAt m c (row i r) d := by
  obtain ⟨s0, s1⟩ := starts10 i 3
  have hp : (point i 3).val % 4 = 3 := by show (4 * i.val + 3) % 4 = 3; omega
  have e := (dats m 0 c).arrAt_emb_eq_flushed 10 apart_10 (point i 3) ((flush0_10 _).mpr hp) (ix2 r d)
  have hemb : ((cfg0.win 10).blk (point i 3)).view.emb (ix2 r d) = ix2 (row i r) d := by
    refine funext fun a => Fin.ext ?_
    refine (Pipeline.Window.rect_emb_val win0_10 (point i 3) _ a).trans ?_
    match a with
    | ⟨0, _⟩ =>
      show win0_10.index (point i 3) 0 * 512 + r.val = 512 * i.val + r.val
      omega
    | ⟨1, _⟩ =>
      show win0_10.index (point i 3) 1 * 2048 + d.val = d.val
      omega
  rw [hemb, cast_eq, Value.flushed10] at e
  exact e.trans (wide_at m c i r d)

theorem start_11 : ∀ t : Fin cfg0.N, win0_11.index t 0 = t.val / 4 :=
  (by decide +kernel : ∀ t : Fin grid0.N, win0_11.index t 0 = t.val / 4)

theorem apart_11 (t t' : Fin cfg0.N) (h : (cfg0.win 11).flush t = true) (h' : (cfg0.win 11).flush t' = true) (hne : t ≠ t') :
    Disjoint ((cfg0.win 11).blk t).view.set ((cfg0.win 11).blk t').view.set :=
  (cfg0.win 11).disjoint_blk fun e => hne (same_point t t' ((flush0_11 t).mp h) ((flush0_11 t').mp h') (by
    rw [← start_11 t, ← start_11 t']
    exact congrFun e 0))

theorem out_11 (i : Fin 32) (r : Fin 512) (d : Fin 2048) :
    (dats m 0 c).arrAt 11 cfg0.N (ix2 (row i r) d) = resultAt m c (row i r) d := by
  obtain ⟨s0, s1⟩ := starts11 i 3
  have hp : (point i 3).val % 4 = 3 := by show (4 * i.val + 3) % 4 = 3; omega
  have e := (dats m 0 c).arrAt_emb_eq_flushed 11 apart_11 (point i 3) ((flush0_11 _).mpr hp) (ix2 r d)
  have hemb : ((cfg0.win 11).blk (point i 3)).view.emb (ix2 r d) = ix2 (row i r) d := by
    refine funext fun a => Fin.ext ?_
    refine (Pipeline.Window.rect_emb_val win0_11 (point i 3) _ a).trans ?_
    match a with
    | ⟨0, _⟩ =>
      show win0_11.index (point i 3) 0 * 512 + r.val = 512 * i.val + r.val
      omega
    | ⟨1, _⟩ =>
      show win0_11.index (point i 3) 1 * 2048 + d.val = d.val
      omega
  rw [hemb, cast_eq, Value.flushed11] at e
  exact e.trans (narrow_at m c i r d)

/-- A sum over the columns, step by step. -/
theorem sum_full (f : Fin 6144 → EReal) : ∑ K, f K = ∑ q : Fin 4, ∑ k : Fin 1536, f (full q k) := by
  rw [← Fintype.sum_prod_type' (f := fun q k => f (full q k))]
  refine (Fintype.sum_equiv (finProdFinEquiv (m := 4) (n := 1536)) _ _ fun x => congrArg f (Fin.ext ?_)).symm
  show 1536 * x.1.val + x.2.val = x.2.val + 1536 * x.1.val
  omega

theorem total_eq (R : Fin 16384) (d : Fin 2048) : ∑ K : Fin 6144, gated m c R K * inWo m c (ix3 0 K d) = total m c R d :=
  (sum_full _).trans (Fin.sum_univ_four _)

variable [hRef : Cert.SguOutReferenceIdeal.Facts]

theorem gated_ref (R : Fin 16384) (K : Fin 6144) : Cert.SguOutRef.lower (inZ m c) (ix2 R K) * Cert.SguOutRef.mixed (Cert.SguOutRef.normed
    (Cert.SguOutRef.upper (inZ m c)) (inLg m c) (inLb m c)) (Cert.SguOutRef.weights (inWs m c)) (inBs m c)
    (ix4 ⟨R.val / 128, by omega⟩ ⟨R.val % 128, by omega⟩ ⟨K.val / 768, by omega⟩ ⟨K.val % 768, by omega⟩) = gated m c R K := by
  have hK : Cert.SguOutRef.wide ⟨K.val / 768, by omega⟩ ⟨K.val % 768, by omega⟩ = K :=
    Fin.ext (by show K.val / 768 * 768 + K.val % 768 = K.val; omega)
  unfold gated gate
  refine congrArg₂ (· * ·) (Cert.SguOutRef.lower_apply _ R K) ((Cert.SguOutRef.mixed_apply _ _ _ _ _ _ _).trans
    (congrArg (· + inBs m c (ix3 0 (headOf K) (pos R))) (Finset.sum_congr rfl fun j _ => ?_)))
  rw [hK, mul_comm]
  refine congrArg₂ (· * ·) (Cert.SguOutRef.weights_apply _ _ _ j) ((Cert.SguOutRef.normed_apply _ _ _ _ K).trans ?_)
  have hu : ∀ k, Cert.SguOutRef.upper (inZ m c) (ix2 (mate R j) k) = inZ m c (ix2 (mate R j) (highCol k)) :=
    fun k => Cert.SguOutRef.upper_apply _ _ k
  show (Cert.SguOutRef.upper (inZ m c) (ix2 (mate R j) K) - mean fun x => Cert.SguOutRef.upper (inZ m c) (ix2 (mate R j) x))
    * scale (fun x => Cert.SguOutRef.upper (inZ m c) (ix2 (mate R j) x)) * _ + _ = _
  simp only [hu]
  rfl

theorem layered_at (R : Fin 16384) (d : Fin 2048) :
    Cert.SguOutRef.layered (Cert.SguOutRef.summed (Cert.SguOutRef.lower (inZ m c)) (Cert.SguOutRef.mixed (Cert.SguOutRef.normed
    (Cert.SguOutRef.upper (inZ m c)) (inLg m c) (inLb m c)) (Cert.SguOutRef.weights (inWs m c)) (inBs m c)) (inWo m c) (inX m c))
    (inScale m c) (inShift m c) (ix2 R d) = resultAt m c R d := by
  refine (Cert.SguOutRef.layered_apply _ _ _ R d).trans (congrArg (fun f : Fin 2048 → EReal => norm f (inScale m c (ix2 0 d))
    (inShift m c (ix2 0 d)) d) (funext fun k => (Cert.SguOutRef.summed_apply _ _ _ _ R k).trans (congrArg
      (Ideal.ofBits .f32 1071072509#32 * inX m c (ix2 R k) + ·) ?_)))
  exact (Finset.sum_congr rfl fun K _ => congrArg (· * inWo m c (ix3 0 K k)) (gated_ref m c R K)).trans (total_eq m c R k)

theorem wide_result : (dats m 0 c).arrAt 10 cfg0.N = Cert.SguOutRef.layered (Cert.SguOutRef.summed (Cert.SguOutRef.lower (inZ m c)) (Cert.SguOutRef.mixed (Cert.SguOutRef.normed
    (Cert.SguOutRef.upper (inZ m c)) (inLg m c) (inLb m c)) (Cert.SguOutRef.weights (inWs m c)) (inBs m c)) (inWo m c) (inX m c))
    (inScale m c) (inShift m c) := by
  funext y
  obtain ⟨i, r, hr⟩ := split_row (y 0)
  have hy : y = ix2 (row i r) (y 1) := (eq_ix2 y).trans (congrArg (fun z => ix2 z (y 1)) hr.symm)
  rw [hy]
  exact (out_10 m c i r (y 1)).trans (layered_at m c (row i r) (y 1)).symm

theorem narrow_result : (dats m 0 c).arrAt 11 cfg0.N = Cert.SguOutRef.narrowed (Cert.SguOutRef.layered (Cert.SguOutRef.summed (Cert.SguOutRef.lower (inZ m c)) (Cert.SguOutRef.mixed (Cert.SguOutRef.normed
    (Cert.SguOutRef.upper (inZ m c)) (inLg m c) (inLb m c)) (Cert.SguOutRef.weights (inWs m c)) (inBs m c)) (inWo m c) (inX m c))
    (inScale m c) (inShift m c)) := by
  funext y
  obtain ⟨i, r, hr⟩ := split_row (y 0)
  have hy : y = ix2 (row i r) (y 1) := (eq_ix2 y).trans (congrArg (fun z => ix2 z (y 1)) hr.symm)
  rw [hy]
  exact (out_11 m c i r (y 1)).trans ((Cert.SguOutRef.narrowed_apply _ (row i r) (y 1)).trans (layered_at m c (row i r) (y 1))).symm

end Cert.SguOut

end
-- ==== Proof.Finite.lean ====
/- Arrays that a finiteness precondition passes have real entries. -/
module

public import Idealize.ShloMosaic.PureOps.Ideal
public import Idealize.ShloMosaic.Lib.ValueIdx

@[expose] public section

noncomputable section

namespace Cert.Attn

open Idealize.ShloMosaic

/-- An extended real of absolute value below infinity is a real. -/
theorem real_of_abs_lt {x : EReal} (h : max x (-x) < ⊤) : ∃ r : ℝ, x = r := by
  induction x with
  | bot => simp at h
  | top => simp at h
  | coe r => exact ⟨r, rfl⟩

theorem ofBits_inf : Ideal.ofBits .f32 0x7F800000#32 = ⊤ := by simp [Ideal.ofBits, Ideal.ieee]

/-- An array the precondition passes has real entries. -/
theorem real_of_finite {s₀ s : Shape} {dims : Fin s₀.rank → Fin s.rank} (hb : s₀.BroadcastsInDim s dims)
    (x : FVec Ideal s .f32)
    (h : cmpf .olt (Host.absf x) (broadcastInDim s dims hb (constant s₀ .f32 0x7F800000#32))
      = fun _ => 1#1) : ∃ r : s.Idx → ℝ, ∀ i, x i = r i := by
  refine ⟨_, fun i => (real_of_abs_lt ?_).choose_spec⟩
  have e : Ideal.cmp .olt (max (x i) (-x i)) (Ideal.ofBits .f32 0x7F800000#32) = 1#1 := congrFun h i
  rw [ofBits_inf] at e
  by_contra hn
  simp [Ideal.cmp, hn] at e

/-- A finite sum of reals is the same sum among the extended reals. -/
theorem sum_coe {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

end Cert.Attn

end
-- ==== Proof.Online.lean ====
/- The online softmax over the extended reals: a running maximum and an accumulator rescaled whenever the maximum moves
   equal, after `n` keys, the supremum of the first `n` scores and the weighted sum taken against that supremum. -/
module

public import Idealize.ShloMosaic.PureOps.Ideal

@[expose] public section

noncomputable section

namespace Cert.Attn

open Idealize.ShloMosaic

/-- The weight of a score `s` against a maximum `m`, at the score scale `c`. -/
def weight (c : ℝ) (s m : EReal) : EReal := Ideal.exp2 ((s - m) * (c : EReal))

/-- The weight of a finite difference. -/
theorem weight_coe (c s m : ℝ) : weight c s m = ((Real.rpow 2 ((s - m) * c) : ℝ) : EReal) := by
  unfold weight
  rw [← EReal.coe_sub, ← EReal.coe_mul]; rfl

/-- A score of `-∞` has weight zero. -/
theorem weight_bot {c : ℝ} (hc : 0 < c) (m : EReal) : weight c ⊥ m = 0 := by
  unfold weight
  rw [EReal.bot_sub, EReal.bot_mul_coe_of_pos hc]; rfl

/-- A weight against a finite maximum of a score that is not `+∞` is a nonnegative real. -/
theorem weight_real {c : ℝ} (hc : 0 < c) {s : EReal} (hs : s ≠ ⊤) (m : ℝ) :
    ∃ w : ℝ, 0 ≤ w ∧ weight c s m = (w : EReal) := by
  induction s with
  | bot => exact ⟨0, le_rfl, weight_bot hc _⟩
  | coe s => exact ⟨_, Real.rpow_nonneg (by norm_num) _, weight_coe c s m⟩
  | top => exact absurd rfl hs

/-- Moving the maximum from `m` to `m'` rescales every weight by `weight m m'`. -/
theorem weight_mul_weight {c : ℝ} (hc : 0 < c) {s m : EReal} (hsm : s ≤ m) (hm : m ≠ ⊤) (m' : ℝ) :
    weight c m m' * weight c s m = weight c s m' := by
  induction m with
  | top => exact absurd rfl hm
  | bot => rw [le_bot_iff.mp hsm, weight_bot hc, weight_bot hc, zero_mul]
  | coe m =>
    induction s with
    | bot => rw [weight_bot hc, weight_bot hc, mul_zero]
    | top => exact absurd (top_le_iff.mp hsm) (EReal.coe_ne_top m)
    | coe s =>
      rw [weight_coe, weight_coe, weight_coe, ← EReal.coe_mul]
      congr 1
      show (2 : ℝ) ^ ((m - m') * c) * (2 : ℝ) ^ ((s - m) * c) = (2 : ℝ) ^ ((s - m') * c)
      rw [← Real.rpow_add (by norm_num)]
      congr 1; ring

/-- A nonnegative real distributes over a sum of extended reals. -/
theorem coe_mul_sum {ι : Type} (t : Finset ι) (f : ι → EReal) {a : ℝ} (ha : 0 ≤ a) :
    (a : EReal) * ∑ i ∈ t, f i = ∑ i ∈ t, (a : EReal) * f i := by
  classical
  induction t using Finset.induction_on with
  | empty => simp
  | insert i t hi ih =>
    rw [Finset.sum_insert hi, Finset.sum_insert hi, ← ih]
    exact EReal.left_distrib_of_nonneg_of_ne_top (EReal.coe_nonneg.mpr ha) (EReal.coe_ne_top a) _ _

/-- The supremum of the first `n` scores. -/
def runMax (s : ℕ → EReal) (n : ℕ) : EReal := (Finset.range n).sup s

/-- The weighted sum of the first `n` values, against the supremum of the first `n` scores. -/
def runAcc (c : ℝ) (s v : ℕ → EReal) (n : ℕ) : EReal :=
  ∑ j ∈ Finset.range n, weight c (s j) (runMax s n) * v j

/-- One tile of `t` further keys moves the running maximum. -/
theorem runMax_add (s : ℕ → EReal) (n t : ℕ) :
    max (runMax s n) (Finset.univ.sup fun j : Fin t => s (n + j)) = runMax s (n + t) := by
  unfold runMax
  apply le_antisymm
  · refine max_le (Finset.sup_mono (by simp)) (Finset.sup_le fun j _ => ?_)
    exact Finset.le_sup (f := s) (Finset.mem_range.mpr (by omega))
  · refine Finset.sup_le fun j hj => ?_
    by_cases h : j < n
    · exact le_max_of_le_left (Finset.le_sup (f := s) (Finset.mem_range.mpr h))
    · have hj' := Finset.mem_range.mp hj
      refine le_max_of_le_right ?_
      have := Finset.le_sup (f := fun j : Fin t => s (n + j)) (Finset.mem_univ (⟨j - n, by omega⟩ : Fin t))
      simpa [show n + (j - n) = j by omega] using this

theorem runMax_ne_top {s : ℕ → EReal} (hs : ∀ j, s j ≠ ⊤) (n : ℕ) : runMax s n ≠ ⊤ := by
  unfold runMax
  rw [← lt_top_iff_ne_top, Finset.sup_lt_iff bot_lt_top]
  exact fun j _ => lt_top_iff_ne_top.mpr (hs j)

/-- One tile of `t` further keys: the old accumulator rescaled, plus the tile's own weighted sum. -/
theorem runAcc_add {c : ℝ} (hc : 0 < c) {s : ℕ → EReal} (hs : ∀ j, s j ≠ ⊤) (v : ℕ → EReal) (n t : ℕ) :
    weight c (runMax s n) (runMax s (n + t)) * runAcc c s v n
      + ∑ j : Fin t, weight c (s (n + j)) (runMax s (n + t)) * v (n + j) = runAcc c s v (n + t) := by
  have hle : runMax s n ≤ runMax s (n + t) := Finset.sup_mono (by simp)
  have key : weight c (runMax s n) (runMax s (n + t)) * runAcc c s v n
      = ∑ j ∈ Finset.range n, weight c (s j) (runMax s (n + t)) * v j := by
    unfold runAcc
    generalize hM : runMax s (n + t) = M at *
    have hMt : M ≠ ⊤ := hM ▸ runMax_ne_top hs _
    induction M with
    | top => exact absurd rfl hMt
    | bot =>
      rw [le_bot_iff.mp hle, weight_bot hc, zero_mul]
      refine (Finset.sum_eq_zero fun j hj => ?_).symm
      have : s j ≤ runMax s n := Finset.le_sup (f := s) hj
      rw [le_bot_iff.mp (this.trans hle), weight_bot hc, zero_mul]
    | coe M =>
      obtain ⟨w, hw, hwe⟩ := weight_real hc (runMax_ne_top hs n) M
      rw [hwe, coe_mul_sum _ _ hw]
      refine Finset.sum_congr rfl fun j hj => ?_
      rw [← mul_assoc, ← hwe, weight_mul_weight (m := runMax s n) hc (Finset.le_sup (f := s) hj) (runMax_ne_top hs n)]
  rw [key]
  unfold runAcc
  rw [Finset.sum_range_add, ← Fin.sum_univ_eq_sum_range (fun j => weight c (s (n + j)) (runMax s (n + t)) * v (n + j)) t]

end Cert.Attn

end
-- ==== Proof.Trip.lean ====
/- One trip of the kernel's two loops over earlier keys: each of the four heads takes the step of `Steps` on the tile the
   trip loads. -/
module

public import proofs.«01_k».proof.Proof.Steps

@[expose] public section

set_option maxRecDepth 16384

noncomputable section

namespace Cert.Attn

open Idealize.ShloMosaic Cert.KernelIdeal Cert.KernelIdeal.Facts Cert.KernelIdeal.Gen

/-- What the loops carry: a running maximum and an accumulator for each of four heads. -/
abbrev Carried : Type :=
  FVec Ideal S512x1 .f32 × FVec Ideal S512x256 .f32 × FVec Ideal S512x1 .f32 × FVec Ideal S512x256 .f32 ×
  FVec Ideal S512x1 .f32 × FVec Ideal S512x256 .f32 × FVec Ideal S512x1 .f32 × FVec Ideal S512x256 .f32

/-- One head's pair after a tile of 1024 scores. -/
def head1024 (s : FVec Ideal S512x1024 .f32) (v : FVec Ideal S1024x256 .bf16) (m : FVec Ideal S512x1 .f32)
    (a : FVec Ideal S512x256 .f32) : FVec Ideal S512x1 .f32 × FVec Ideal S512x256 .f32 :=
  (max1024 s m, acc1024 s v m (max1024 s m) a)

/-- One head's pair after a tile of 512 scores. -/
def head512 (s : FVec Ideal S512x512 .f32) (v : FVec Ideal S512x256 .bf16) (m : FVec Ideal S512x1 .f32)
    (a : FVec Ideal S512x256 .f32) : FVec Ideal S512x1 .f32 × FVec Ideal S512x256 .f32 :=
  (max512 s m, acc512 s v m (max512 s m) a)

/-- Four pairs as one carried value. -/
def pack (x y z w : FVec Ideal S512x1 .f32 × FVec Ideal S512x256 .f32) : Carried :=
  (x.1, x.2, y.1, y.2, z.1, z.2, w.1, w.2)

section
variable (𝒱 : Variants) (c : Dev nD) (bd : Option 𝒱.V) (i : grid0.Coords)
  (arg3 : Memref sig .tc .vmem S512x1024 .bf16) (harg3 : arg3.IsWhole)
  (arg4 : Memref sig .tc .vmem S4096x1024 .bf16) (harg4 : arg4.IsWhole)
  (arg5 : Memref sig .tc .vmem S4096x1024 .bf16) (harg5 : arg5.IsWhole)
  (arg6 : Memref sig .tc .vmem S512x512 .bf16) (harg6 : arg6.IsWhole)
  (arg2 : BitVec 32) (v1 v3 v5 v7 : FVec Ideal S512x256 .bf16)
  (v8 : FVec Ideal S512x1 .f32) (v9 : FVec Ideal S512x256 .f32) (v10 : FVec Ideal S512x1 .f32)
  (v11 : FVec Ideal S512x256 .f32) (v12 : FVec Ideal S512x1 .f32) (v13 : FVec Ideal S512x256 .f32)
  (v14 : FVec Ideal S512x1 .f32) (v15 : FVec Ideal S512x256 .f32) (v32 z37 : BitVec 32)
  (x1 x2 : Vec Ideal S4096x1024 .bf16)

theorem trip_wide (k : Fin (k0_t1_loop i).trips) (acc : Carried) :
    tripR_k0_t1 (F := Ideal) 𝒱 c bd i arg3 harg3 arg4 harg4 arg5 harg5 arg6 harg6 arg2 v1 v3 v5 v7 v8 v9 v10 v11 v12
      v13 v14 v15 v32 z37 (harg4.unread x1) (harg5.unread x2) k acc
    = pack
      (head1024 (score1024 v1 (View.ld x1 (Rect.unit (k0_off1 i k) S1024x256.size (k0_off1_inb i k))))
        (View.ld x2 (Rect.unit (k0_off1 i k) S1024x256.size (k0_off1_inb i k))) acc.1 acc.2.1)
      (head1024 (score1024 v3 (View.ld x1 (Rect.unit (k0_off2 i k) S1024x256.size (k0_off2_inb i k))))
        (View.ld x2 (Rect.unit (k0_off2 i k) S1024x256.size (k0_off2_inb i k))) acc.2.2.1 acc.2.2.2.1)
      (head1024 (score1024 v5 (View.ld x1 (Rect.unit (k0_off3 i k) S1024x256.size (k0_off3_inb i k))))
        (View.ld x2 (Rect.unit (k0_off3 i k) S1024x256.size (k0_off3_inb i k))) acc.2.2.2.2.1 acc.2.2.2.2.2.1)
      (head1024 (score1024 v7 (View.ld x1 (Rect.unit (k0_off4 i k) S1024x256.size (k0_off4_inb i k))))
        (View.ld x2 (Rect.unit (k0_off4 i k) S1024x256.size (k0_off4_inb i k))) acc.2.2.2.2.2.2.1
          acc.2.2.2.2.2.2.2) := by
  unfold tripR_k0_t1 trip_k0_t1
  dsimp only
  simp only [trip_k0_t1.sl.r, trip_k0_t1.sl.r_1, trip_k0_t1.sl.r_2, trip_k0_t1.sl.r_3, trip_k0_t1.sl.r_4,
    trip_k0_t1.sl.r_5, trip_k0_t1.sl.r_6, trip_k0_t1.sl.r_7, trip_k0_t1.sl.r_8, trip_k0_t1.sl.r_9,
    trip_k0_t1.sl.r_10, trip_k0_t1.sl.r_11, trip_k0_t1.sl.r_12,
    View.readAt_eq_ld, Memref.IsWhole.read_unread]
  simp only [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay85, shapeCast_self]
  rfl

theorem trip_narrow (k : Fin (k0_t3_loop i).trips) (acc : Carried) :
    tripR_k0_t3 (F := Ideal) 𝒱 c bd i arg3 harg3 arg4 harg4 arg5 harg5 arg6 harg6 arg2 v1 v3 v5 v7 v8 v9 v10 v11 v12
      v13 v14 v15 v32 z37 (harg4.unread x1) (harg5.unread x2) k acc
    = pack
      (head512 (score512 v1 (View.ld x1 (Rect.unit (k0_off9 i) S512x256.size (k0_off9_inb i k))))
        (View.ld x2 (Rect.unit (k0_off9 i) S512x256.size (k0_off9_inb i k))) acc.1 acc.2.1)
      (head512 (score512 v3 (View.ld x1 (Rect.unit (k0_off10 i) S512x256.size (k0_off10_inb i k))))
        (View.ld x2 (Rect.unit (k0_off10 i) S512x256.size (k0_off10_inb i k))) acc.2.2.1 acc.2.2.2.1)
      (head512 (score512 v5 (View.ld x1 (Rect.unit (k0_off11 i) S512x256.size (k0_off11_inb i k))))
        (View.ld x2 (Rect.unit (k0_off11 i) S512x256.size (k0_off11_inb i k))) acc.2.2.2.2.1 acc.2.2.2.2.2.1)
      (head512 (score512 v7 (View.ld x1 (Rect.unit (k0_off12 i) S512x256.size (k0_off12_inb i k))))
        (View.ld x2 (Rect.unit (k0_off12 i) S512x256.size (k0_off12_inb i k))) acc.2.2.2.2.2.2.1
          acc.2.2.2.2.2.2.2) := by
  unfold tripR_k0_t3 trip_k0_t3
  dsimp only
  simp only [trip_k0_t3.sl.r, trip_k0_t3.sl.r_1, trip_k0_t3.sl.r_2, trip_k0_t3.sl.r_3, trip_k0_t3.sl.r_4,
    trip_k0_t3.sl.r_5, trip_k0_t3.sl.r_6, trip_k0_t3.sl.r_7, trip_k0_t3.sl.r_8, trip_k0_t3.sl.r_9,
    trip_k0_t3.sl.r_10, trip_k0_t3.sl.r_11, trip_k0_t3.sl.r_12,
    View.readAt_eq_ld, Memref.IsWhole.read_unread]
  simp only [k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54,
    k0_pay87, shapeCast_self]
  rfl

end

end Cert.Attn

end
-- ==== Proof.Tracks.lean ====
/- What a running maximum and its accumulator hold after the first keys of a row, for each of the four heads of a step,
   and that the two kinds of tile step keep it. -/
module

public import proofs.«01_k».proof.Proof.Online
public import proofs.«01_k».proof.Proof.Trip
public import Idealize.ShloMosaic.Lib.Pipeline.ValueKit.Tiles

@[expose] public section

set_option maxRecDepth 16384

noncomputable section

namespace Cert.Attn

open Idealize.ShloMosaic Cert.KernelIdeal Cert.KernelIdeal.Facts Cert.KernelIdeal.Gen Pointwise

/-- The real the kernel's scale stands for. -/
def scaleR : ℝ := (Real.sqrt 192)⁻¹ * (Real.log 2)⁻¹

theorem scale_eq : scale = ((scaleR : ℝ) : EReal) := by
  simp [scale, scaleR, Named.named, κ]

theorem scaleR_pos : 0 < scaleR :=
  mul_pos (inv_pos.2 (Real.sqrt_pos.2 (by norm_num))) (inv_pos.2 (Real.log_pos (by norm_num)))

/-- After `n` keys of scores `s` (by row) and values `v` (by column), the pair holds the row's maximum and its weighted
    sums. -/
def Tracks (s : Fin 512 → ℕ → EReal) (v : Fin 256 → ℕ → EReal) (n : ℕ) (m : FVec Ideal S512x1 .f32)
    (a : FVec Ideal S512x256 .f32) : Prop :=
  (∀ r : Fin 512, m (ix2 r 0) = runMax (s r) n) ∧
  ∀ (r : Fin 512) (d : Fin 256), a (ix2 r d) = runAcc scaleR (s r) (v d) n

theorem Tracks.wide {s : Fin 512 → ℕ → EReal} {v : Fin 256 → ℕ → EReal} {n : ℕ} {m : FVec Ideal S512x1 .f32}
    {a : FVec Ideal S512x256 .f32} (h : Tracks s v n m a) (hs : ∀ r j, s r j ≠ ⊤)
    (sc : FVec Ideal S512x1024 .f32) (w : FVec Ideal S1024x256 .bf16)
    (hsc : ∀ (r : Fin 512) (j : Fin 1024), sc (ix2 r j) = s r (n + j))
    (hw : ∀ (j : Fin 1024) (d : Fin 256), w (ix2 j d) = v d (n + j)) :
    Tracks s v (n + 1024) (head1024 sc w m a).1 (head1024 sc w m a).2 := by
  have h1 : ∀ r : Fin 512, max1024 sc m (ix2 r 0) = runMax (s r) (n + 1024) := fun r => by
    rw [max1024_apply, h.1 r, ← runMax_add (s r) n 1024]; simp only [hsc]
  refine ⟨h1, fun r d => ?_⟩
  show acc1024 sc w m (max1024 sc m) a (ix2 r d) = _
  rw [acc1024_apply, ← runAcc_add scaleR_pos (hs r) (v d) n 1024, h1, h.1, h.2, scale_eq]
  simp only [hsc, hw, weight]

theorem Tracks.narrow {s : Fin 512 → ℕ → EReal} {v : Fin 256 → ℕ → EReal} {n : ℕ} {m : FVec Ideal S512x1 .f32}
    {a : FVec Ideal S512x256 .f32} (h : Tracks s v n m a) (hs : ∀ r j, s r j ≠ ⊤)
    (sc : FVec Ideal S512x512 .f32) (w : FVec Ideal S512x256 .bf16)
    (hsc : ∀ (r : Fin 512) (j : Fin 512), sc (ix2 r j) = s r (n + j))
    (hw : ∀ (j : Fin 512) (d : Fin 256), w (ix2 j d) = v d (n + j)) :
    Tracks s v (n + 512) (head512 sc w m a).1 (head512 sc w m a).2 := by
  have h1 : ∀ r : Fin 512, max512 sc m (ix2 r 0) = runMax (s r) (n + 512) := fun r => by
    rw [max512_apply, h.1 r, ← runMax_add (s r) n 512]; simp only [hsc]
  refine ⟨h1, fun r d => ?_⟩
  show acc512 sc w m (max512 sc m) a (ix2 r d) = _
  rw [acc512_apply, ← runAcc_add scaleR_pos (hs r) (v d) n 512, h1, h.1, h.2, scale_eq]
  simp only [hsc, hw, weight]

/-- Where head `h` of a step keeps its column `d`. -/
def col (h : Fin 4) (d : Fin 256) : Fin 1024 := ⟨256 * h.val + d.val, by omega⟩

/-- The masked score of key `n` for row `r` of query tile `q` and head `h`: only keys of the row's own chunk of 64 and
    of earlier chunks count. -/
def blockScore (x0 : Vec Ideal S512x1024 .bf16) (x1 : Vec Ideal S4096x1024 .bf16) (q : ℕ) (h : Fin 4) (r : Fin 512)
    (n : ℕ) : EReal :=
  if hn : n < 4096 then
    if n / 64 ≤ (512 * q + r.val) / 64 then
      ∑ d : Fin 256, x0 (ix2 r (col h d)) * x1 (ix2 ⟨n, hn⟩ (col h d))
    else ⊥
  else ⊥

/-- The value of key `n` in column `d` of head `h`. -/
def blockValue (x2 : Vec Ideal S4096x1024 .bf16) (h : Fin 4) (d : Fin 256) (n : ℕ) : EReal :=
  if hn : n < 4096 then x2 (ix2 ⟨n, hn⟩ (col h d)) else 0

/-- The four pairs of a carried value, each after `n` keys. -/
def TracksAll (x0 : Vec Ideal S512x1024 .bf16) (x1 x2 : Vec Ideal S4096x1024 .bf16) (q n : ℕ) (acc : Carried) : Prop :=
  Tracks (blockScore x0 x1 q 0) (blockValue x2 0) n acc.1 acc.2.1 ∧
  Tracks (blockScore x0 x1 q 1) (blockValue x2 1) n acc.2.2.1 acc.2.2.2.1 ∧
  Tracks (blockScore x0 x1 q 2) (blockValue x2 2) n acc.2.2.2.2.1 acc.2.2.2.2.2.1 ∧
  Tracks (blockScore x0 x1 q 3) (blockValue x2 3) n acc.2.2.2.2.2.2.1 acc.2.2.2.2.2.2.2

/-- Before any key, the maximum is `⊥` and every sum is zero. -/
theorem Tracks.start (s : Fin 512 → ℕ → EReal) (v : Fin 256 → ℕ → EReal) :
    Tracks s v 0 (k0_pay77 (F := Ideal)) (k0_pay78 (F := Ideal)) := by
  refine ⟨fun r => ?_, fun r d => ?_⟩
  · show Ideal.ofBits .f32 0xFF800000#32 = _
    rw [ofBits_neg_inf]; simp [runMax]
  · show Ideal.ofBits .f32 0x00000000#32 = _
    simp [runAcc, Ideal.ofBits, Ideal.ieee]

/-- A tile of 1024 rows of an array, read at an index. -/
theorem ld_wide (x : Vec Ideal S4096x1024 .bf16) {off : Fin 2 → ℕ} (inb) (n : ℕ) (h : Fin 4)
    (ho : off = ![n, 256 * h.val]) (hn : n + 1024 ≤ 4096) (j : Fin 1024) (d : Fin 256) :
    View.ld x (Rect.unit (s := S4096x1024) off S1024x256.size inb) (ix2 j d)
      = x (ix2 ⟨n + j.val, by omega⟩ (col h d)) := by
  subst ho
  refine View.ld_unit_apply_of x _ _ inb _ _ (Fin.forall_fin_two.2 ⟨rfl, rfl⟩)

/-- A tile of 512 rows of an array, read at an index. -/
theorem ld_narrow (x : Vec Ideal S4096x1024 .bf16) {off : Fin 2 → ℕ} (inb) (n : ℕ) (h : Fin 4)
    (ho : off = ![n, 256 * h.val]) (hn : n + 512 ≤ 4096) (j : Fin 512) (d : Fin 256) :
    View.ld x (Rect.unit (s := S4096x1024) off S512x256.size inb) (ix2 j d)
      = x (ix2 ⟨n + j.val, by omega⟩ (col h d)) := by
  subst ho
  refine View.ld_unit_apply_of x _ _ inb _ _ (Fin.forall_fin_two.2 ⟨rfl, rfl⟩)

/-- A head's columns of the query tile, read at an index. -/
theorem ld_query (x : Vec Ideal S512x1024 .bf16) {off : Fin 2 → ℕ} (inb) (h : Fin 4)
    (ho : off = ![0, 256 * h.val]) (r : Fin 512) (d : Fin 256) :
    View.ld x (Rect.unit (s := S512x1024) off S512x256.size inb) (ix2 r d) = x (ix2 r (col h d)) := by
  subst ho
  refine View.ld_unit_apply_of x _ _ inb _ _ (Fin.forall_fin_two.2 ⟨(Nat.zero_add _).symm, rfl⟩)

end Cert.Attn

end
-- ==== Proof.Arrays.lean ====
/- The three arrays the call reads, read at an index from the arguments, and the blocks of them that a grid point reads. -/
module

public import proofs.«01_k».proof.Proof.Gen.KernelIdeal.Value
public import proofs.«01_k».proof.Proof.Tracks
public import Idealize.ShloMosaic.Lib.Pipeline.Value
public import Idealize.ShloMosaic.Lib.StableHlo.RunRead

@[expose] public section

set_option maxRecDepth 16384

noncomputable section

namespace Cert.Attn

open Idealize.ShloMosaic Idealize.ShloMosaic.TcCoe Cert.KernelIdeal Cert.KernelIdeal.Gen Cert.KernelIdeal Pointwise

section

/-- The queries' array: the two parts of each head and zeros up to 256 columns. -/
def queries (a0 : FVec Ideal S4x4096x16x128 .f32) (a1 : FVec Ideal S4x4096x16x64 .f32) : FVec Ideal S16384x4096 .bf16 :=
  truncf .bf16 (shapeCast S16384x4096 (concatenate S4x4096x16x256 3 [⟨S4x4096x16x128, a0⟩, ⟨S4x4096x16x64, a1⟩,
    ⟨S4x4096x16x64, broadcastInDim S4x4096x16x64 ![] bcast_S_S4x4096x16x64 (constant S_ .f32 0x00000000#32)⟩]
      Gen.concatenates_S4x4096x16x128_S4x4096x16x64_S4x4096x16x64_S4x4096x16x256_d3)
    shapeCasts_S4x4096x16x256_S16384x4096) bitsLt_bf16_f32

/-- The keys' array: the shared part of the keys is repeated for every head. -/
def keys (a2 : FVec Ideal S4x4096x16x128 .f32) (a3 : FVec Ideal S4x4096x64 .f32) : FVec Ideal S16384x4096 .bf16 :=
  queries a2 (broadcastInDim S4x4096x16x64 ![0, 1, 2, 3] bcast_S4x4096x1x64_S4x4096x16x64_0_1_2_3
    (broadcastInDim S4x4096x1x64 ![0, 1, 3] bcast_S4x4096x64_S4x4096x1x64_0_1_3 a3))

/-- The values' array: each head's values, a column of ones, zeros. -/
def values (a4 : FVec Ideal S4x4096x16x128 .f32) : FVec Ideal S16384x4096 .bf16 :=
  truncf .bf16 (shapeCast S16384x4096 (concatenate S4x4096x16x256 3 [⟨S4x4096x16x128, a4⟩,
    ⟨S4x4096x16x1, broadcastInDim S4x4096x16x1 ![] bcast_S_S4x4096x16x1 (constant S_ .f32 0x3F800000#32)⟩,
    ⟨S4x4096x16x127, broadcastInDim S4x4096x16x127 ![] bcast_S_S4x4096x16x127 (constant S_ .f32 0x00000000#32)⟩]
      Gen.concatenates_S4x4096x16x128_S4x4096x16x1_S4x4096x16x127_S4x4096x16x256_d3)
    shapeCasts_S4x4096x16x256_S16384x4096) bitsLt_bf16_f32

variable (m : (ℓ : Loc nD τ sig) → Buf (Elt Ideal) ℓ) (c : Dev nD)

theorem V_queries : V m c main_v3 = queries (m ((c : Thread nD τ).loc main_arg0)) (m ((c : Thread nD τ).loc main_arg1)) := by
  show StableHlo.after hostOps0 _ (Proc.devRef .tc main_v3) = _
  after_reads_simp
  rfl

theorem V_keys : V m c main_v8 = keys (m ((c : Thread nD τ).loc main_arg2)) (m ((c : Thread nD τ).loc main_arg3)) := by
  show StableHlo.after hostOps0 _ (Proc.devRef .tc main_v8) = _
  after_reads_simp
  rfl

theorem V_values : V m c main_v13 = values (m ((c : Thread nD τ).loc main_arg4)) := by
  show StableHlo.after hostOps0 _ (Proc.devRef .tc main_v13) = _
  after_reads_simp
  rfl

/-- A row of the arrays. -/
def row (b : Fin 4) (s : Fin 4096) : Fin 16384 := ⟨4096 * b.val + s.val, by omega⟩

/-- A column of the arrays. -/
def column (h : Fin 16) (d : Fin 256) : Fin 4096 := ⟨256 * h.val + d.val, by omega⟩

theorem queries_apply (a0 : FVec Ideal S4x4096x16x128 .f32) (a1 : FVec Ideal S4x4096x16x64 .f32) (b : Fin 4) (s : Fin 4096)
    (h : Fin 16) (d : Fin 256) :
    queries a0 a1 (ix2 (row b s) (column h d)) = if hd : d.val < 128 then a0 (ix4 b s h ⟨d.val, hd⟩)
      else if hd' : d.val < 192 then a1 (ix4 b s h ⟨d.val - 128, by omega⟩) else 0 := by
  have e : (d.val < 192) = (d.val - 128 < 64) := by apply propext; omega
  pointwise [queries, row, column]
  simp only [e]

theorem keys_apply (a2 : FVec Ideal S4x4096x16x128 .f32) (a3 : FVec Ideal S4x4096x64 .f32) (b : Fin 4) (s : Fin 4096)
    (h : Fin 16) (d : Fin 256) :
    keys a2 a3 (ix2 (row b s) (column h d)) = if hd : d.val < 128 then a2 (ix4 b s h ⟨d.val, hd⟩)
      else if hd' : d.val < 192 then a3 (ix3 b s ⟨d.val - 128, by omega⟩) else 0 := by
  rw [keys, queries_apply]
  pointwise

theorem values_apply (a4 : FVec Ideal S4x4096x16x128 .f32) (b : Fin 4) (s : Fin 4096) (h : Fin 16) (d : Fin 256) :
    values a4 (ix2 (row b s) (column h d)) = if hd : d.val < 128 then a4 (ix4 b s h ⟨d.val, hd⟩)
      else if d.val < 129 then 1 else 0 := by
  have e : (d.val < 129) = (d.val - 128 < 1) := by apply propext; omega
  pointwise [values, row, column]
  simp only [e]
  rfl

/-- Where each window's block begins, over the grid. -/
theorem starts : ∀ t : Fin cfg0.N, win0_0.index t 0 = 8 * (grid0.coords t 0).val + (grid0.coords t 2).val
    ∧ win0_0.index t 1 = (grid0.coords t 1).val ∧ win0_1.index t 0 = (grid0.coords t 0).val
    ∧ win0_1.index t 1 = (grid0.coords t 1).val ∧ win0_2.index t 0 = (grid0.coords t 0).val
    ∧ win0_2.index t 1 = (grid0.coords t 1).val
    ∧ win0_3.index t 0 = 8 * (grid0.coords t 0).val + (grid0.coords t 2).val ∧ win0_3.index t 1 = (grid0.coords t 1).val :=
  (by decide +kernel : ∀ t : Fin grid0.N, win0_0.index t 0 = 8 * (grid0.coords t 0).val + (grid0.coords t 2).val
    ∧ win0_0.index t 1 = (grid0.coords t 1).val ∧ win0_1.index t 0 = (grid0.coords t 0).val
    ∧ win0_1.index t 1 = (grid0.coords t 1).val ∧ win0_2.index t 0 = (grid0.coords t 0).val
    ∧ win0_2.index t 1 = (grid0.coords t 1).val
    ∧ win0_3.index t 0 = 8 * (grid0.coords t 0).val + (grid0.coords t 2).val ∧ win0_3.index t 1 = (grid0.coords t 1).val)

/-- The grid point of a batch, a group of heads and a query tile. -/
def point (b g : Fin 4) (q : Fin 8) : Fin cfg0.N := ⟨32 * b.val + 8 * g.val + q.val, by
  show _ < 128
  omega⟩

theorem coords_point (b g : Fin 4) (q : Fin 8) : (grid0.coords (point b g q) 0).val = b.val
    ∧ (grid0.coords (point b g q) 1).val = g.val ∧ (grid0.coords (point b g q) 2).val = q.val :=
  (by decide +kernel : ∀ (b g : Fin 4) (q : Fin 8), (grid0.coords (point b g q) 0).val = b.val
    ∧ (grid0.coords (point b g q) 1).val = g.val ∧ (grid0.coords (point b g q) 2).val = q.val) b g q

/-- A head of a group. -/
def head (g h : Fin 4) : Fin 16 := ⟨4 * g.val + h.val, by omega⟩

/-- A row of a query tile. -/
def tileRow (q : Fin 8) (r : Fin 512) : Fin 4096 := ⟨512 * q.val + r.val, by omega⟩

theorem iblk_queries (b g : Fin 4) (q : Fin 8) (r : Fin 512) (h : Fin 4) (d : Fin 256) :
    iblk m c 0 (point b g q) (ix2 r (col h d)) = V m c main_v3 (ix2 (row b (tileRow q r)) (column (head g h) d)) := by
  obtain ⟨e0, e1, e2⟩ := coords_point b g q
  obtain ⟨s0, s1, -⟩ := starts (point b g q)
  unfold iblk
  rw [View.read_apply, cast_eq]
  refine congrArg (V m c main_v3) (funext fun a => Fin.ext ?_)
  refine (Pipeline.Window.rect_emb_val win0_0 (point b g q) _ a).trans ?_
  match a with
  | ⟨0, _⟩ =>
    show win0_0.index (point b g q) 0 * 512 + r.val = 4096 * b.val + (512 * q.val + r.val)
    omega
  | ⟨1, _⟩ =>
    show win0_0.index (point b g q) 1 * 1024 + (256 * h.val + d.val) = 256 * (4 * g.val + h.val) + d.val
    omega

theorem iblk_keys (b g : Fin 4) (q : Fin 8) (n : Fin 4096) (h : Fin 4) (d : Fin 256) :
    iblk m c 1 (point b g q) (ix2 n (col h d)) = V m c main_v8 (ix2 (row b n) (column (head g h) d)) := by
  obtain ⟨e0, e1, e2⟩ := coords_point b g q
  obtain ⟨-, -, s0, s1, -⟩ := starts (point b g q)
  unfold iblk
  rw [View.read_apply, cast_eq]
  refine congrArg (V m c main_v8) (funext fun a => Fin.ext ?_)
  refine (Pipeline.Window.rect_emb_val win0_1 (point b g q) _ a).trans ?_
  match a with
  | ⟨0, _⟩ =>
    show win0_1.index (point b g q) 0 * 4096 + n.val = 4096 * b.val + n.val
    omega
  | ⟨1, _⟩ =>
    show win0_1.index (point b g q) 1 * 1024 + (256 * h.val + d.val) = 256 * (4 * g.val + h.val) + d.val
    omega

theorem iblk_values (b g : Fin 4) (q : Fin 8) (n : Fin 4096) (h : Fin 4) (d : Fin 256) :
    iblk m c 2 (point b g q) (ix2 n (col h d)) = V m c main_v13 (ix2 (row b n) (column (head g h) d)) := by
  obtain ⟨e0, e1, e2⟩ := coords_point b g q
  obtain ⟨-, -, -, -, s0, s1, -⟩ := starts (point b g q)
  unfold iblk
  rw [View.read_apply, cast_eq]
  refine congrArg (V m c main_v13) (funext fun a => Fin.ext ?_)
  refine (Pipeline.Window.rect_emb_val win0_2 (point b g q) _ a).trans ?_
  match a with
  | ⟨0, _⟩ =>
    show win0_2.index (point b g q) 0 * 4096 + n.val = 4096 * b.val + n.val
    omega
  | ⟨1, _⟩ =>
    show win0_2.index (point b g q) 1 * 1024 + (256 * h.val + d.val) = 256 * (4 * g.val + h.val) + d.val
    omega

end

end Cert.Attn

end
-- ==== Proof.Earlier.lean ====
/- The loops over earlier keys: from tracking no key, the four heads come to track every key before the query tile. -/
module

public import proofs.«01_k».proof.Proof.Tracks

@[expose] public section

set_option maxRecDepth 16384

noncomputable section

namespace Cert.Attn

open Idealize.ShloMosaic Cert.KernelIdeal Cert.KernelIdeal.Facts Cert.KernelIdeal.Gen Pointwise

/-- A grid point of query tile `q`. The loops' extents and offsets depend on nothing else of the point. -/
def atTile (q : Fin 8) : grid0.Coords := fun a => match a with
  | ⟨0, _⟩ => (⟨0, by decide⟩ : Fin 4)
  | ⟨1, _⟩ => (⟨0, by decide⟩ : Fin 4)
  | ⟨2, _⟩ => q

theorem wide_trips (i : grid0.Coords) : (k0_t1_loop i).trips = (i 2).val / 2 :=
  (by decide +kernel : ∀ q : Fin 8, (k0_t1_loop (atTile q)).trips = q.val / 2) (i 2)

theorem rest2_trips (i : grid0.Coords) : (k0_t2_loop i).trips = 0 :=
  (by decide +kernel : ∀ q : Fin 8, (k0_t2_loop (atTile q)).trips = 0) (i 2)

theorem narrow_trips (i : grid0.Coords) : (k0_t3_loop i).trips = (i 2).val % 2 :=
  (by decide +kernel : ∀ q : Fin 8, (k0_t3_loop (atTile q)).trips = q.val % 2) (i 2)

theorem rest4_trips (i : grid0.Coords) : (k0_t4_loop i).trips = 0 :=
  (by decide +kernel : ∀ q : Fin 8, (k0_t4_loop (atTile q)).trips = 0) (i 2)

theorem wide_off (i : grid0.Coords) (k : Fin (k0_t1_loop i).trips) :
    k0_off1 i k = ![1024 * k.val, 0] ∧ k0_off2 i k = ![1024 * k.val, 256] ∧
    k0_off3 i k = ![1024 * k.val, 512] ∧ k0_off4 i k = ![1024 * k.val, 768] :=
  (by decide +kernel : ∀ (q : Fin 8) (k : Fin (k0_t1_loop (atTile q)).trips),
    k0_off1 (atTile q) k = ![1024 * k.val, 0] ∧ k0_off2 (atTile q) k = ![1024 * k.val, 256] ∧
    k0_off3 (atTile q) k = ![1024 * k.val, 512] ∧ k0_off4 (atTile q) k = ![1024 * k.val, 768]) (i 2) k

theorem narrow_off (i : grid0.Coords) (h : (i 2).val ≠ 0) :
    k0_off9 i = ![512 * ((i 2).val - 1), 0] ∧ k0_off10 i = ![512 * ((i 2).val - 1), 256] ∧
    k0_off11 i = ![512 * ((i 2).val - 1), 512] ∧ k0_off12 i = ![512 * ((i 2).val - 1), 768] :=
  (by decide +kernel : ∀ q : Fin 8, q.val ≠ 0 →
    k0_off9 (atTile q) = ![512 * (q.val - 1), 0] ∧ k0_off10 (atTile q) = ![512 * (q.val - 1), 256] ∧
    k0_off11 (atTile q) = ![512 * (q.val - 1), 512] ∧ k0_off12 (atTile q) = ![512 * (q.val - 1), 768]) (i 2) h

theorem last_off (i : grid0.Coords) :
    k0_off17 i = ![512 * (i 2).val, 0] ∧ k0_off18 i = ![512 * (i 2).val, 256] ∧
    k0_off19 i = ![512 * (i 2).val, 512] ∧ k0_off20 i = ![512 * (i 2).val, 768] :=
  (by decide +kernel : ∀ q : Fin 8,
    k0_off17 (atTile q) = ![512 * q.val, 0] ∧ k0_off18 (atTile q) = ![512 * q.val, 256] ∧
    k0_off19 (atTile q) = ![512 * q.val, 512] ∧ k0_off20 (atTile q) = ![512 * q.val, 768]) (i 2)

/-- A score of a key before the query tile is not masked. -/
theorem blockScore_earlier (x0 : Vec Ideal S512x1024 .bf16) (x1 : Vec Ideal S4096x1024 .bf16) {q : ℕ} (h : Fin 4)
    (r : Fin 512) {n : ℕ} (hn : n < 4096) (hq : n < 512 * q) :
    blockScore x0 x1 q h r n = ∑ d : Fin 256, x0 (ix2 r (col h d)) * x1 (ix2 ⟨n, hn⟩ (col h d)) := by
  rw [blockScore, dif_pos hn, if_pos (by omega)]

/-- A head's tile of scores before the query tile. -/
theorem score_wide {x0 : Vec Ideal S512x1024 .bf16} {x1 : Vec Ideal S4096x1024 .bf16} {q n : ℕ} {h : Fin 4}
    {qv : FVec Ideal S512x256 .bf16} (hqv : ∀ (r : Fin 512) (d : Fin 256), qv (ix2 r d) = x0 (ix2 r (col h d)))
    {off : Fin 2 → ℕ} (inb) (ho : off = ![n, 256 * h.val]) (hn : n + 1024 ≤ 4096) (hq : n + 1024 ≤ 512 * q)
    (r : Fin 512) (j : Fin 1024) :
    score1024 qv (View.ld x1 (Rect.unit (s := S4096x1024) off S1024x256.size inb)) (ix2 r j)
      = blockScore x0 x1 q h r (n + j) := by
  rw [score1024_apply, blockScore_earlier x0 x1 h r (n := n + j) (by omega) (by omega)]
  refine Finset.sum_congr rfl fun d _ => ?_
  rw [hqv, ld_wide x1 inb n h ho hn]

theorem score_narrow {x0 : Vec Ideal S512x1024 .bf16} {x1 : Vec Ideal S4096x1024 .bf16} {q n : ℕ} {h : Fin 4}
    {qv : FVec Ideal S512x256 .bf16} (hqv : ∀ (r : Fin 512) (d : Fin 256), qv (ix2 r d) = x0 (ix2 r (col h d)))
    {off : Fin 2 → ℕ} (inb) (ho : off = ![n, 256 * h.val]) (hn : n + 512 ≤ 4096) (hq : n + 512 ≤ 512 * q)
    (r j : Fin 512) :
    score512 qv (View.ld x1 (Rect.unit (s := S4096x1024) off S512x256.size inb)) (ix2 r j)
      = blockScore x0 x1 q h r (n + j) := by
  rw [score512_apply, blockScore_earlier x0 x1 h r (n := n + j) (by omega) (by omega)]
  refine Finset.sum_congr rfl fun d _ => ?_
  rw [hqv, ld_narrow x1 inb n h ho hn]

theorem value_wide (x2 : Vec Ideal S4096x1024 .bf16) {n : ℕ} {h : Fin 4}
    {off : Fin 2 → ℕ} (inb) (ho : off = ![n, 256 * h.val]) (hn : n + 1024 ≤ 4096) (j : Fin 1024) (d : Fin 256) :
    View.ld x2 (Rect.unit (s := S4096x1024) off S1024x256.size inb) (ix2 j d) = blockValue x2 h d (n + j) := by
  rw [ld_wide x2 inb n h ho hn, blockValue, dif_pos]

theorem value_narrow (x2 : Vec Ideal S4096x1024 .bf16) {n : ℕ} {h : Fin 4}
    {off : Fin 2 → ℕ} (inb) (ho : off = ![n, 256 * h.val]) (hn : n + 512 ≤ 4096) (j : Fin 512) (d : Fin 256) :
    View.ld x2 (Rect.unit (s := S4096x1024) off S512x256.size inb) (ix2 j d) = blockValue x2 h d (n + j) := by
  rw [ld_narrow x2 inb n h ho hn, blockValue, dif_pos]

section
variable (𝒱 : Variants) (c : Dev nD) (bd : Option 𝒱.V) (i : grid0.Coords)
  (arg3 : Memref sig .tc .vmem S512x1024 .bf16) (harg3 : arg3.IsWhole)
  (arg4 : Memref sig .tc .vmem S4096x1024 .bf16) (harg4 : arg4.IsWhole)
  (arg5 : Memref sig .tc .vmem S4096x1024 .bf16) (harg5 : arg5.IsWhole)
  (arg6 : Memref sig .tc .vmem S512x512 .bf16) (harg6 : arg6.IsWhole)
  (arg2 : BitVec 32) {v1 v3 v5 v7 : FVec Ideal S512x256 .bf16}
  (v8 : FVec Ideal S512x1 .f32) (v9 : FVec Ideal S512x256 .f32) (v10 : FVec Ideal S512x1 .f32)
  (v11 : FVec Ideal S512x256 .f32) (v12 : FVec Ideal S512x1 .f32) (v13 : FVec Ideal S512x256 .f32)
  (v14 : FVec Ideal S512x1 .f32) (v15 : FVec Ideal S512x256 .f32) (v32 z37 w37 : BitVec 32)
  (x0 : Vec Ideal S512x1024 .bf16) (x1 x2 : Vec Ideal S4096x1024 .bf16)
  (h1 : ∀ (r : Fin 512) (d : Fin 256), v1 (ix2 r d) = x0 (ix2 r (col 0 d)))
  (h3 : ∀ (r : Fin 512) (d : Fin 256), v3 (ix2 r d) = x0 (ix2 r (col 1 d)))
  (h5 : ∀ (r : Fin 512) (d : Fin 256), v5 (ix2 r d) = x0 (ix2 r (col 2 d)))
  (h7 : ∀ (r : Fin 512) (d : Fin 256), v7 (ix2 r d) = x0 (ix2 r (col 3 d)))
  (hs : ∀ h r n, blockScore x0 x1 (i 2).val h r n ≠ ⊤)
include h1 h3 h5 h7 hs

theorem wide_loop (init : Carried) (h0 : TracksAll x0 x1 x2 (i 2).val 0 init) (k : ℕ)
    (hk : k ≤ (k0_t1_loop i).trips) :
    TracksAll x0 x1 x2 (i 2).val (1024 * k)
      (st_k0_t1 (F := Ideal) 𝒱 c bd i arg3 harg3 arg4 harg4 arg5 harg5 arg6 harg6 arg2 v1 v3 v5 v7 v8 v9 v10 v11 v12
        v13 v14 v15 v32 z37 (harg4.unread x1) (harg5.unread x2) init k) := by
  induction k with
  | zero => exact h0
  | succ k ih =>
    have hq : (i 2).val < 8 := (i 2).isLt
    have hk' := hk
    rw [wide_trips] at hk'
    obtain ⟨o1, o2, o3, o4⟩ := wide_off i ⟨k, hk⟩
    obtain ⟨t1, t2, t3, t4⟩ := ih (by omega)
    have := st_k0_t1_succ (F := Ideal) 𝒱 c bd i arg3 harg3 arg4 harg4 arg5 harg5 arg6 harg6 arg2 v1 v3 v5 v7 v8 v9
      v10 v11 v12 v13 v14 v15 v32 z37 (harg4.unread x1) (harg5.unread x2) init ⟨k, hk⟩
    rw [this, trip_wide]
    rw [Nat.mul_succ]
    exact ⟨t1.wide (hs 0) _ _ (score_wide h1 _ o1 (by omega) (by omega)) (value_wide x2 _ o1 (by omega)),
      t2.wide (hs 1) _ _ (score_wide h3 _ o2 (by omega) (by omega)) (value_wide x2 _ o2 (by omega)),
      t3.wide (hs 2) _ _ (score_wide h5 _ o3 (by omega) (by omega)) (value_wide x2 _ o3 (by omega)),
      t4.wide (hs 3) _ _ (score_wide h7 _ o4 (by omega) (by omega)) (value_wide x2 _ o4 (by omega))⟩

theorem narrow_loop (init : Carried) (h0 : TracksAll x0 x1 x2 (i 2).val (1024 * ((i 2).val / 2)) init) :
    TracksAll x0 x1 x2 (i 2).val (512 * (i 2).val)
      (st_k0_t3 (F := Ideal) 𝒱 c bd i arg3 harg3 arg4 harg4 arg5 harg5 arg6 harg6 arg2 v1 v3 v5 v7 v8 v9 v10 v11 v12
        v13 v14 v15 v32 z37 (harg4.unread x1) (harg5.unread x2) init (k0_t3_loop i).trips) := by
  have hq : (i 2).val < 8 := (i 2).isLt
  rcases Nat.mod_two_eq_zero_or_one (i 2).val with he | ho
  · rw [narrow_trips, he]
    have e : 512 * (i 2).val = 1024 * ((i 2).val / 2) := by omega
    rw [e]; exact h0
  · have hk : 0 < (k0_t3_loop i).trips := by rw [narrow_trips]; omega
    have := st_k0_t3_succ (F := Ideal) 𝒱 c bd i arg3 harg3 arg4 harg4 arg5 harg5 arg6 harg6 arg2 v1 v3 v5 v7 v8 v9
      v10 v11 v12 v13 v14 v15 v32 z37 (harg4.unread x1) (harg5.unread x2) init ⟨0, hk⟩
    rw [narrow_trips, ho]
    refine (congrArg (TracksAll x0 x1 x2 (i 2).val (512 * (i 2).val)) this).mpr ?_
    rw [trip_narrow]
    obtain ⟨o1, o2, o3, o4⟩ := narrow_off i (by omega)
    obtain ⟨t1, t2, t3, t4⟩ := h0
    have e : 512 * ((i 2).val - 1) = 1024 * ((i 2).val / 2) := by omega
    have e' : 512 * (i 2).val = 1024 * ((i 2).val / 2) + 512 := by omega
    rw [e] at o1 o2 o3 o4
    rw [e']
    exact ⟨t1.narrow (hs 0) _ _ (score_narrow h1 _ o1 (by omega) (by omega)) (value_narrow x2 _ o1 (by omega)),
      t2.narrow (hs 1) _ _ (score_narrow h3 _ o2 (by omega) (by omega)) (value_narrow x2 _ o2 (by omega)),
      t3.narrow (hs 2) _ _ (score_narrow h5 _ o3 (by omega) (by omega)) (value_narrow x2 _ o3 (by omega)),
      t4.narrow (hs 3) _ _ (score_narrow h7 _ o4 (by omega) (by omega)) (value_narrow x2 _ o4 (by omega))⟩

end

end Cert.Attn

end
-- ==== Proof.Last.lean ====
/- The tile on the diagonal and the division: what the body stores for each of its four heads. -/
module

public import proofs.«01_k».proof.Proof.Earlier
public import proofs.«01_k».proof.Proof.Mask

@[expose] public section

set_option maxRecDepth 16384

noncomputable section

namespace Cert.Attn

open Idealize.ShloMosaic Cert.KernelIdeal Cert.KernelIdeal.Facts Cert.KernelIdeal.Gen Pointwise

/-- A head's accumulator after the tile on the diagonal. -/
def lastHead (qv kv vv : FVec Ideal S512x256 .bf16) (m : FVec Ideal S512x1 .f32) (a : FVec Ideal S512x256 .f32) :
    FVec Ideal S512x256 .f32 :=
  (head512 (maskScores (score512 qv kv)) vv m a).2

/-- A 512-row tile of an array, as a load of the body gives it. -/
def tile {arg : Memref sig .tc .vmem S4096x1024 .bf16} (harg : arg.IsWhole) (x : Vec Ideal S4096x1024 .bf16)
    (off : Fin 2 → ℕ) (inb : ∀ a : Fin 2, off a + S512x256.size a ≤ S4096x1024.size a) : FVec Ideal S512x256 .bf16 :=
  shapeCast S512x256 (View.readAt (Elt Ideal) arg.view (Rect.unit (s := S4096x1024) off S512x256.size inb).toLoadRect
    (harg.unread x)) shapeCasts_S512x256_S512x256

/-- A head's columns of the query tile, as a load of the body gives them. -/
def query {arg : Memref sig .tc .vmem S512x1024 .bf16} (harg : arg.IsWhole) (x : Vec Ideal S512x1024 .bf16)
    (off : Fin 2 → ℕ) (inb : ∀ a : Fin 2, off a + S512x256.size a ≤ S512x1024.size a) : FVec Ideal S512x256 .bf16 :=
  shapeCast S512x256 (View.readAt (Elt Ideal) arg.view (Rect.unit (s := S512x1024) off S512x256.size inb).toLoadRect
    (harg.unread x)) shapeCasts_S512x256_S512x256

theorem tile_apply {arg : Memref sig .tc .vmem S4096x1024 .bf16} (harg : arg.IsWhole) (x : Vec Ideal S4096x1024 .bf16)
    {off : Fin 2 → ℕ} (inb) (n : ℕ) (h : Fin 4) (ho : off = ![n, 256 * h.val]) (hn : n + 512 ≤ 4096) (j : Fin 512)
    (d : Fin 256) : tile harg x off inb (ix2 j d) = x (ix2 ⟨n + j.val, by omega⟩ (col h d)) := by
  refine (congrFun (shapeCast_self (s := S512x256) _ _) _).trans ?_
  rw [View.readAt_eq_ld, harg.read_unread]
  exact ld_narrow x inb n h ho hn j d

theorem query_apply {arg : Memref sig .tc .vmem S512x1024 .bf16} (harg : arg.IsWhole) (x : Vec Ideal S512x1024 .bf16)
    {off : Fin 2 → ℕ} (inb) (h : Fin 4) (ho : off = ![0, 256 * h.val]) (r : Fin 512) (d : Fin 256) :
    query harg x off inb (ix2 r d) = x (ix2 r (col h d)) := by
  refine (congrFun (shapeCast_self (s := S512x256) _ _) _).trans ?_
  rw [View.readAt_eq_ld, harg.read_unread]
  exact ld_query x inb h ho r d

section
variable (c : Dev nD) (i : grid0.Coords)
  (arg3 : Memref sig .tc .vmem S512x1024 .bf16) (harg3 : arg3.IsWhole)
  (arg4 : Memref sig .tc .vmem S4096x1024 .bf16) (harg4 : arg4.IsWhole)
  (arg5 : Memref sig .tc .vmem S4096x1024 .bf16) (harg5 : arg5.IsWhole)
  (arg6 : Memref sig .tc .vmem S512x512 .bf16) (harg6 : arg6.IsWhole)
  (x0 : Vec Ideal S512x1024 .bf16) (x1 x2 : Vec Ideal S4096x1024 .bf16)

/-- What the loops leave: the carried value the tile on the diagonal starts from. -/
def earlier : Carried :=
  (kernelRun0_A.sl.r c i arg3 harg3 arg4 harg4 arg5 harg5 arg6 harg6 x0 x1 x2,
    kernelRun0_A.sl.r_1 c i arg3 harg3 arg4 harg4 arg5 harg5 arg6 harg6 x0 x1 x2,
    kernelRun0_A.sl.r_2 c i arg3 harg3 arg4 harg4 arg5 harg5 arg6 harg6 x0 x1 x2,
    kernelRun0_A.sl.r_3 c i arg3 harg3 arg4 harg4 arg5 harg5 arg6 harg6 x0 x1 x2,
    kernelRun0_A.sl.r_4 c i arg3 harg3 arg4 harg4 arg5 harg5 arg6 harg6 x0 x1 x2,
    kernelRun0_A.sl.r_5 c i arg3 harg3 arg4 harg4 arg5 harg5 arg6 harg6 x0 x1 x2,
    kernelRun0_A.sl.r_6 c i arg3 harg3 arg4 harg4 arg5 harg5 arg6 harg6 x0 x1 x2,
    kernelRun0_A.sl.r_7 c i arg3 harg3 arg4 harg4 arg5 harg5 arg6 harg6 x0 x1 x2)

/-- The block the body leaves: four heads, each its accumulator divided by the accumulator's column of ones. -/
theorem run_pieces :
    (kernelRun0_A (F := Ideal) c i arg3 harg3 arg4 harg4 arg5 harg5 arg6 harg6 x0 x1 x2).1 =
    [⟨Rect.unit ![0, 384] S512x128.size inb_S512x512_S512x128_0_384,
      k0_pay116 (lastHead (query harg3 x0 ![0, 768] inb_S512x1024_S512x256_0_768) (tile harg4 x1 (k0_off20 i) (k0_off20_inb i))
        (tile harg5 x2 (k0_off20 i) (k0_off20_inb i))
        (earlier c i arg3 harg3 arg4 harg4 arg5 harg5 arg6 harg6 x0 x1 x2).2.2.2.2.2.2.1
        (earlier c i arg3 harg3 arg4 harg4 arg5 harg5 arg6 harg6 x0 x1 x2).2.2.2.2.2.2.2)⟩,
     ⟨Rect.unit ![0, 256] S512x128.size inb_S512x512_S512x128_0_256,
      k0_pay116 (lastHead (query harg3 x0 ![0, 512] inb_S512x1024_S512x256_0_512) (tile harg4 x1 (k0_off19 i) (k0_off19_inb i))
        (tile harg5 x2 (k0_off19 i) (k0_off19_inb i))
        (earlier c i arg3 harg3 arg4 harg4 arg5 harg5 arg6 harg6 x0 x1 x2).2.2.2.2.1
        (earlier c i arg3 harg3 arg4 harg4 arg5 harg5 arg6 harg6 x0 x1 x2).2.2.2.2.2.1)⟩,
     ⟨Rect.unit ![0, 128] S512x128.size inb_S512x512_S512x128_0_128,
      k0_pay116 (lastHead (query harg3 x0 ![0, 256] inb_S512x1024_S512x256_0_256) (tile harg4 x1 (k0_off18 i) (k0_off18_inb i))
        (tile harg5 x2 (k0_off18 i) (k0_off18_inb i))
        (earlier c i arg3 harg3 arg4 harg4 arg5 harg5 arg6 harg6 x0 x1 x2).2.2.1
        (earlier c i arg3 harg3 arg4 harg4 arg5 harg5 arg6 harg6 x0 x1 x2).2.2.2.1)⟩,
     ⟨Rect.unit ![0, 0] S512x128.size inb_S512x512_S512x128_0_0,
      k0_pay116 (lastHead (query harg3 x0 ![0, 0] inb_S512x1024_S512x256_0_0) (tile harg4 x1 (k0_off17 i) (k0_off17_inb i))
        (tile harg5 x2 (k0_off17 i) (k0_off17_inb i))
        (earlier c i arg3 harg3 arg4 harg4 arg5 harg5 arg6 harg6 x0 x1 x2).1
        (earlier c i arg3 harg3 arg4 harg4 arg5 harg5 arg6 harg6 x0 x1 x2).2.1)⟩] := by
  unfold kernelRun0_A
  dsimp only
  rfl

end

end Cert.Attn

end
-- ==== Proof.Block.lean ====
/- What the body leaves in its output block, read at an index: the weighted sum of the values divided by the sum of the
   weights, over the keys up to the end of the query tile. -/
module

public import proofs.«01_k».proof.Proof.Last

@[expose] public section

set_option maxRecDepth 16384

noncomputable section

namespace Cert.Attn

open Idealize.ShloMosaic Cert.KernelIdeal Cert.KernelIdeal.Facts Cert.KernelIdeal.Gen Pointwise

/-- A head's columns among the 512 a block has. -/
def outCol (h : Fin 4) (d : Fin 128) : Fin 512 := ⟨128 * h.val + d.val, by omega⟩

/-- The value lanes among an accumulator's 256. -/
def lane (d : Fin 128) : Fin 256 := ⟨d.val, by omega⟩

/-- The block's entry for row `r`, head `h`, lane `d`. -/
def blockOut (x0 : Vec Ideal S512x1024 .bf16) (x1 x2 : Vec Ideal S4096x1024 .bf16) (q : ℕ) (h : Fin 4) (r : Fin 512)
    (d : Fin 128) : EReal :=
  Ideal.div (runAcc scaleR (blockScore x0 x1 q h r) (blockValue x2 h (lane d)) (512 * (q + 1)))
    (runAcc scaleR (blockScore x0 x1 q h r) (blockValue x2 h 128) (512 * (q + 1)))

theorem divide_apply (a : FVec Ideal S512x256 .f32) (r : Fin 512) (d : Fin 128) :
    k0_pay116 (F := Ideal) a (ix2 r d) = Ideal.div (a (ix2 r (lane d))) (a (ix2 r 128)) := by
  pointwise [k0_pay116]
  rfl

/-- The tile on the diagonal, with the mask, holds the row's scores from the query tile's first key on. -/
theorem score_last {x0 : Vec Ideal S512x1024 .bf16} {x1 : Vec Ideal S4096x1024 .bf16} {q : ℕ} (hq : q < 8) {h : Fin 4}
    {qv kv : FVec Ideal S512x256 .bf16} (hqv : ∀ (r : Fin 512) (d : Fin 256), qv (ix2 r d) = x0 (ix2 r (col h d)))
    (hkv : ∀ (j : Fin 512) (d : Fin 256), kv (ix2 j d) = x1 (ix2 ⟨512 * q + j.val, by omega⟩ (col h d)))
    (r j : Fin 512) : maskScores (score512 qv kv) (ix2 r j) = blockScore x0 x1 q h r (512 * q + j) := by
  rw [maskScores_apply, score512_apply, blockScore, dif_pos (by omega)]
  refine (if_congr (by omega) ?_ rfl)
  exact Finset.sum_congr rfl fun d _ => by rw [hqv, hkv]

section
variable (c : Dev nD) (i : grid0.Coords)
  (arg3 : Memref sig .tc .vmem S512x1024 .bf16) (harg3 : arg3.IsWhole)
  (arg4 : Memref sig .tc .vmem S4096x1024 .bf16) (harg4 : arg4.IsWhole)
  (arg5 : Memref sig .tc .vmem S4096x1024 .bf16) (harg5 : arg5.IsWhole)
  (arg6 : Memref sig .tc .vmem S512x512 .bf16) (harg6 : arg6.IsWhole)
  (x0 : Vec Ideal S512x1024 .bf16) (x1 x2 : Vec Ideal S4096x1024 .bf16)
  (hs : ∀ h r n, blockScore x0 x1 (i 2).val h r n ≠ ⊤)

theorem st2_none (𝒱 : Variants) (bd : Option 𝒱.V) (arg2 : BitVec 32) (v1 v3 v5 v7 : FVec Ideal S512x256 .bf16)
    (v8 : FVec Ideal S512x1 .f32) (v9 : FVec Ideal S512x256 .f32) (v10 : FVec Ideal S512x1 .f32)
    (v11 : FVec Ideal S512x256 .f32) (v12 : FVec Ideal S512x1 .f32) (v13 : FVec Ideal S512x256 .f32)
    (v14 : FVec Ideal S512x1 .f32) (v15 : FVec Ideal S512x256 .f32) (a b w : BitVec 32) (X Y) (init : Carried) (n : ℕ) (hn : n = 0) :
    st_k0_t2 (F := Ideal) 𝒱 c bd i arg3 harg3 arg4 harg4 arg5 harg5 arg6 harg6 arg2 v1 v3 v5 v7 v8 v9 v10 v11 v12
      v13 v14 v15 a b w X Y init n = init := by
  subst hn; rfl

theorem st4_none (𝒱 : Variants) (bd : Option 𝒱.V) (arg2 : BitVec 32) (v1 v3 v5 v7 : FVec Ideal S512x256 .bf16)
    (v8 : FVec Ideal S512x1 .f32) (v9 : FVec Ideal S512x256 .f32) (v10 : FVec Ideal S512x1 .f32)
    (v11 : FVec Ideal S512x256 .f32) (v12 : FVec Ideal S512x1 .f32) (v13 : FVec Ideal S512x256 .f32)
    (v14 : FVec Ideal S512x1 .f32) (v15 : FVec Ideal S512x256 .f32) (a b w : BitVec 32) (X Y) (init : Carried) (n : ℕ) (hn : n = 0) :
    st_k0_t4 (F := Ideal) 𝒱 c bd i arg3 harg3 arg4 harg4 arg5 harg5 arg6 harg6 arg2 v1 v3 v5 v7 v8 v9 v10 v11 v12
      v13 v14 v15 a b w X Y init n = init := by
  subst hn; rfl

include hs in
/-- Before the tile on the diagonal the four heads track every key before the query tile. -/
theorem earlier_tracks : TracksAll x0 x1 x2 (i 2).val (512 * (i 2).val)
    (earlier c i arg3 harg3 arg4 harg4 arg5 harg5 arg6 harg6 x0 x1 x2) := by
  have h1 := query_apply harg3 x0 inb_S512x1024_S512x256_0_0 0 rfl
  have h3 := query_apply harg3 x0 inb_S512x1024_S512x256_0_256 1 rfl
  have h5 := query_apply harg3 x0 inb_S512x1024_S512x256_0_512 2 rfl
  have h7 := query_apply harg3 x0 inb_S512x1024_S512x256_0_768 3 rfl
  have z : TracksAll x0 x1 x2 (i 2).val 0
      (k0_pay77 (F := Ideal), k0_pay78 (F := Ideal), k0_pay77 (F := Ideal), k0_pay78 (F := Ideal),
        k0_pay77 (F := Ideal), k0_pay78 (F := Ideal), k0_pay77 (F := Ideal), k0_pay78 (F := Ideal)) :=
    ⟨Tracks.start _ _, Tracks.start _ _, Tracks.start _ _, Tracks.start _ _⟩
  have w := wide_loop Variants.none c none i arg3 harg3 arg4 harg4 arg5 harg5 arg6 harg6 (BitVec.ofNat 32 (i 2).val)
    (k0_pay77 (F := Ideal)) (k0_pay78 (F := Ideal)) (k0_pay77 (F := Ideal)) (k0_pay78 (F := Ideal))
    (k0_pay77 (F := Ideal)) (k0_pay78 (F := Ideal)) (k0_pay77 (F := Ideal)) (k0_pay78 (F := Ideal))
    (kernelRun0_A.sl.v32 i) 0#32 x0 x1 x2 h1 h3 h5 h7 hs _ z _ le_rfl
  rw [show 1024 * (k0_t1_loop i).trips = 1024 * ((i 2).val / 2) by rw [wide_trips]] at w
  have w2 := narrow_loop Variants.none c none i arg3 harg3 arg4 harg4 arg5 harg5 arg6 harg6
    (BitVec.ofNat 32 (i 2).val)
    (k0_pay77 (F := Ideal)) (k0_pay78 (F := Ideal)) (k0_pay77 (F := Ideal)) (k0_pay78 (F := Ideal))
    (k0_pay77 (F := Ideal)) (k0_pay78 (F := Ideal)) (k0_pay77 (F := Ideal)) (k0_pay78 (F := Ideal))
    (kernelRun0_A.sl.v32 i) 0#32 x0 x1 x2 h1 h3 h5 h7 hs _ w
  unfold earlier
  simp only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, Prod.mk.eta]
  rw [st4_none (hn := rest4_trips i), st2_none (hn := rest2_trips i)]
  exact w2

include hs in
/-- The block's entry for a row, head and lane. -/
theorem run_apply (h : Fin 4) (r : Fin 512) (d : Fin 128) :
    View.canon (kernelRun0_A (F := Ideal) c i arg3 harg3 arg4 harg4 arg5 harg5 arg6 harg6 x0 x1 x2).1
      (ix2 r (outCol h d)) = blockOut x0 x1 x2 (i 2).val h r d := by
  have hq : (i 2).val < 8 := (i 2).isLt
  obtain ⟨t0, t1, t2, t3⟩ := earlier_tracks c i arg3 harg3 arg4 harg4 arg5 harg5 arg6 harg6 x0 x1 x2 hs
  obtain ⟨o0, o1, o2, o3⟩ := last_off i
  have value : ∀ {off : Fin 2 → ℕ} (inb) (h : Fin 4), off = ![512 * (i 2).val, 256 * h.val] → ∀ (j : Fin 512) (d : Fin 256),
      tile harg5 x2 off inb (ix2 j d) = blockValue x2 h d (512 * (i 2).val + j) := fun inb h ho j d => by
    rw [tile_apply harg5 x2 inb (512 * (i 2).val) h ho (by omega), blockValue, dif_pos]
  have k0 := t0.narrow (hs 0) _ _ (score_last hq (query_apply harg3 x0 inb_S512x1024_S512x256_0_0 0 rfl)
    (tile_apply harg4 x1 (k0_off17_inb i) (512 * (i 2).val) 0 o0 (by omega))) (value (k0_off17_inb i) 0 o0)
  have k1 := t1.narrow (hs 1) _ _ (score_last hq (query_apply harg3 x0 inb_S512x1024_S512x256_0_256 1 rfl)
    (tile_apply harg4 x1 (k0_off18_inb i) (512 * (i 2).val) 1 o1 (by omega))) (value (k0_off18_inb i) 1 o1)
  have k2 := t2.narrow (hs 2) _ _ (score_last hq (query_apply harg3 x0 inb_S512x1024_S512x256_0_512 2 rfl)
    (tile_apply harg4 x1 (k0_off19_inb i) (512 * (i 2).val) 2 o2 (by omega))) (value (k0_off19_inb i) 2 o2)
  have k3 := t3.narrow (hs 3) _ _ (score_last hq (query_apply harg3 x0 inb_S512x1024_S512x256_0_768 3 rfl)
    (tile_apply harg4 x1 (k0_off20_inb i) (512 * (i 2).val) 3 o3 (by omega))) (value (k0_off20_inb i) 3 o3)
  have piece : ∀ (h' : Fin 4) (off : Fin 2 → ℕ) (_ : off = ![0, 128 * h'.val]) (m : FVec Ideal S512x1 .f32)
      (a : FVec Ideal S512x256 .f32),
      Tracks (blockScore x0 x1 (i 2).val h') (blockValue x2 h') (512 * (i 2).val + 512) m a →
      View.TileAt (S := S512x512) (Val := Elt Ideal) (e := .bf16) (ix2 r (outCol h d)) off S512x128.size
        (k0_pay116 (F := Ideal) a) (blockOut x0 x1 x2 (i 2).val h r d) := by
    intro h' off ho m a ht x hx
    subst ho
    have x0e : (x 0).val = r.val := by have := hx 0; simpa using this.symm
    have x1e : 128 * h.val + d.val = 128 * h'.val + (x 1).val := hx 1
    have hx1 : (x 1).val < 128 := (x 1).isLt
    obtain rfl : h' = h := Fin.ext (by omega)
    have ex : x = ix2 r d := by
      funext a
      match a with
      | ⟨0, _⟩ => exact Fin.ext x0e
      | ⟨1, _⟩ => exact Fin.ext (by show (x 1).val = d.val; omega)
    rw [ex]
    refine (divide_apply a r d).trans ?_
    rw [ht.2, ht.2]; rfl
  refine View.canon_eq_of_allAt _ _ _
    (View.cover_of_tiledL (kernelRun0_A (F := Ideal) c i arg3 harg3 arg4 harg4 arg5 harg5 arg6 harg6 x0 x1 x2).1
      S512x128.size (by sl_kernel_rfl) _) ?_
  rw [run_pieces]
  refine View.allAt_cons_unit _ _ _ _ _ (piece 3 ![0, 384] rfl _ _ k3) ?_
  refine View.allAt_cons_unit _ _ _ _ _ (piece 2 ![0, 256] rfl _ _ k2) ?_
  refine View.allAt_cons_unit _ _ _ _ _ (piece 1 ![0, 128] rfl _ _ k1) ?_
  exact View.allAt_cons_unit _ _ _ _ _ (piece 0 ![0, 0] rfl _ _ k0) (View.allAt_nil _ _)

end

end Cert.Attn

end
-- ==== Proof.Out.lean ====
/- The result array after the run, read at an index: the block that covers the index, in terms of the three arrays the
   call reads. -/
module

public import proofs.«01_k».proof.Proof.Arrays
public import proofs.«01_k».proof.Proof.Block

@[expose] public section

set_option maxRecDepth 16384

noncomputable section

namespace Cert.Attn

open Idealize.ShloMosaic Idealize.ShloMosaic.TcCoe Cert.KernelIdeal.Gen Cert.KernelIdeal Pointwise

section

variable (m : (ℓ : Loc nD τ sig) → Buf (Elt Ideal) ℓ) (c : Dev nD)

/-- A column of the result. -/
def outColumn (h : Fin 16) (d : Fin 128) : Fin 2048 := ⟨128 * h.val + d.val, by omega⟩

theorem out_apply (b g : Fin 4) (q : Fin 8) (r : Fin 512) (h : Fin 4) (d : Fin 128)
    (hs : ∀ h r n, blockScore (iblk m c 0 (point b g q)) (iblk m c 1 (point b g q)) q.val h r n ≠ ⊤) :
    (dats m 0 c).arrAt 3 cfg0.N (ix2 (row b (tileRow q r)) (outColumn (head g h) d))
      = blockOut (iblk m c 0 (point b g q)) (iblk m c 1 (point b g q)) (iblk m c 2 (point b g q)) q.val h r d := by
  obtain ⟨e0, e1, e2⟩ := coords_point b g q
  obtain ⟨-, -, -, -, -, -, s0, s1⟩ := starts (point b g q)
  have e := (dats m 0 c).arrAt_emb_eq_flushed 3 Value.disjoint3 (point b g q) (flush0_3 _) (ix2 r (outCol h d))
  have hemb : ((cfg0.win 3).blk (point b g q)).view.emb (ix2 r (outCol h d))
      = ix2 (row b (tileRow q r)) (outColumn (head g h) d) := by
    refine funext fun a => Fin.ext ?_
    refine (Pipeline.Window.rect_emb_val win0_3 (point b g q) _ a).trans ?_
    match a with
    | ⟨0, _⟩ =>
      show win0_3.index (point b g q) 0 * 512 + r.val = 4096 * b.val + (512 * q.val + r.val)
      omega
    | ⟨1, _⟩ =>
      show win0_3.index (point b g q) 1 * 512 + (128 * h.val + d.val) = 128 * (4 * g.val + h.val) + d.val
      omega
  rw [hemb, cast_eq, Value.flushed3_A] at e
  refine e.trans ?_
  refine (View.read_writes_apply_eq_canon _ _ _ _ (cover0_A_3 c _ _ _ _ _ _ _ _ _ _ _ _ _)).trans ?_
  rw [← e2] at hs ⊢
  exact run_apply c _ _ _ _ _ _ _ _ _ _ _ _ hs h r d

end

end Cert.Attn

end
-- ==== Proof.Softmax.lean ====
/- The equation between the kernel's quotient of two running sums, in powers of two, over the keys up to the query tile's
   end, and the reference's softmax over all the keys. -/
module

public import proofs.«01_k».proof.Proof.Finite
public import proofs.«01_k».proof.Proof.Tracks

@[expose] public section

noncomputable section

namespace Cert.Attn

open Idealize.ShloMosaic

theorem runAcc_congr {c : ℝ} {s s' v v' : ℕ → EReal} {n : ℕ} (hs : ∀ j < n, s j = s' j) (hv : ∀ j < n, v j = v' j) :
    runAcc c s v n = runAcc c s' v' n := by
  have hm : runMax s n = runMax s' n := Finset.sup_congr rfl fun j hj => hs j (Finset.mem_range.mp hj)
  refine Finset.sum_congr rfl fun j hj => ?_
  rw [hm, hs j (Finset.mem_range.mp hj), hv j (Finset.mem_range.mp hj)]

/-- Further keys of score minus infinity change nothing. -/
theorem runAcc_extend {c : ℝ} (hc : 0 < c) {s : ℕ → EReal} (v : ℕ → EReal) {k n : ℕ} (hkn : k ≤ n)
    (hs : ∀ j, k ≤ j → s j = ⊥) : runAcc c s v k = runAcc c s v n := by
  have hm : runMax s k = runMax s n := by
    refine le_antisymm (Finset.sup_mono (by simpa using hkn)) (Finset.sup_le fun j _ => ?_)
    by_cases h : j < k
    · exact Finset.le_sup (f := s) (Finset.mem_range.mpr h)
    · rw [hs j (by omega)]; exact bot_le
  unfold runAcc
  rw [hm]
  refine Finset.sum_subset (by simpa using hkn) fun j _ hj => ?_
  rw [hs j (by simpa using hj), weight_bot hc, zero_mul]

/-- A score, scaled by the root of 192, with its mask. -/
def scaled (ok : ℕ → Prop) [DecidablePred ok] (S : ℕ → ℝ) (j : ℕ) : EReal :=
  if ok j then Ideal.div (S j) (Real.sqrt 192 : ℝ) else ⊥

/-- A score before the scale, with its mask. -/
def unscaled (ok : ℕ → Prop) [DecidablePred ok] (S : ℕ → ℝ) (j : ℕ) : EReal := if ok j then (S j : EReal) else ⊥

theorem root_pos : 0 < Real.sqrt 192 := Real.sqrt_pos.2 (by norm_num)

theorem div_root (x : ℝ) : Ideal.div (x : EReal) (Real.sqrt 192 : ℝ) = ((x / Real.sqrt 192 : ℝ) : EReal) := by
  unfold Ideal.div
  rw [if_neg (by simpa using root_pos.ne'), ← EReal.coe_inv, ← EReal.coe_mul, div_eq_mul_inv]

section

variable (ok : ℕ → Prop) [DecidablePred ok] (S : ℕ → ℝ) {n R : ℕ}

/-- The greatest unscaled score is some real, and the greatest scaled score is that real scaled. -/
theorem tops (hR : R < n) (hok : ok R) : ∃ M : ℝ, runMax (unscaled ok S) n = M
    ∧ runMax (scaled ok S) n = ((M / Real.sqrt 192 : ℝ) : EReal) := by
  obtain ⟨j, hj, hmax⟩ := Finset.exists_max_image (Finset.range n) (unscaled ok S) ⟨R, Finset.mem_range.mpr hR⟩
  have hokj : ok j := by
    by_contra h
    have h' := hmax R (Finset.mem_range.mpr hR)
    simp only [unscaled, if_pos hok, if_neg h] at h'
    exact absurd (le_bot_iff.mp h') (EReal.coe_ne_bot _)
  refine ⟨S j, le_antisymm (Finset.sup_le fun i hi => ?_) ?_, le_antisymm (Finset.sup_le fun i hi => ?_) ?_⟩
  · exact (hmax i hi).trans (le_of_eq (if_pos hokj))
  · exact (le_of_eq (if_pos hokj).symm).trans (Finset.le_sup (f := unscaled ok S) hj)
  · by_cases h : ok i
    · have h' := hmax i hi
      simp only [unscaled, if_pos h, if_pos hokj, EReal.coe_le_coe_iff] at h'
      rw [scaled, if_pos h, div_root, EReal.coe_le_coe_iff]
      exact div_le_div_of_nonneg_right h' root_pos.le
    · rw [scaled, if_neg h]; exact bot_le
  · refine le_trans (le_of_eq ?_) (Finset.le_sup (f := scaled ok S) hj)
    rw [scaled, if_pos hokj, div_root]

/-- A power of two against the unscaled maximum is the exponential against the scaled one. -/
theorem weight_eq_exp (j : ℕ) (M : ℝ) : weight scaleR (unscaled ok S j) M
    = Ideal.exp (scaled ok S j - ((M / Real.sqrt 192 : ℝ) : EReal)) := by
  unfold unscaled scaled
  by_cases h : ok j
  · rw [if_pos h, if_pos h, weight_coe, div_root, ← EReal.coe_sub]
    show _ = ((Real.exp _ : ℝ) : EReal)
    congr 1
    show (2 : ℝ) ^ ((S j - M) * scaleR) = _
    rw [Real.rpow_def_of_pos (by norm_num), scaleR]
    congr 1
    have h2 : Real.log 2 ≠ 0 := (Real.log_pos (by norm_num)).ne'
    have := root_pos.ne'
    field_simp
  · rw [if_neg h, if_neg h, weight_bot scaleR_pos, EReal.bot_sub]; rfl

/-- The kernel's quotient is the reference's softmax times the values. -/
theorem quotient_eq_softmax {k : ℕ} (hkn : k ≤ n) (hok : ok R) (hk : ∀ j, ok j → j < k) (v : ℕ → EReal) :
    Ideal.div (runAcc scaleR (unscaled ok S) v k) (runAcc scaleR (unscaled ok S) (fun _ => 1) k)
      = ∑ j : Fin n, Ideal.div (Ideal.exp (scaled ok S j - Finset.univ.sup fun j : Fin n => scaled ok S j))
          (∑ j : Fin n, Ideal.exp (scaled ok S j - Finset.univ.sup fun j : Fin n => scaled ok S j)) * v j := by
  have hR : R < n := (hk R hok).trans_le hkn
  have hbot : ∀ j, k ≤ j → unscaled ok S j = ⊥ := fun j hj => if_neg fun h => absurd (hk j h) (by omega)
  obtain ⟨M, hM, hM'⟩ := tops ok S hR hok
  have hsup : (Finset.univ.sup fun j : Fin n => scaled ok S j) = ((M / Real.sqrt 192 : ℝ) : EReal) := by
    rw [← hM']
    refine le_antisymm (Finset.sup_le fun j _ => Finset.le_sup (f := scaled ok S) (Finset.mem_range.mpr j.isLt))
      (Finset.sup_le fun j hj => ?_)
    exact Finset.le_sup (f := fun j : Fin n => scaled ok S j) (Finset.mem_univ (⟨j, Finset.mem_range.mp hj⟩ : Fin n))
  simp only [hsup, ← weight_eq_exp]
  rw [runAcc_extend scaleR_pos v hkn hbot, runAcc_extend scaleR_pos (fun _ => 1) hkn hbot]
  unfold runAcc
  rw [hM]
  simp only [mul_one]
  rw [← Fin.sum_univ_eq_sum_range (fun j => weight scaleR (unscaled ok S j) M * v j),
    ← Fin.sum_univ_eq_sum_range (fun j => weight scaleR (unscaled ok S j) M)]
  have hw : ∀ j, ∃ w : ℝ, 0 ≤ w ∧ weight scaleR (unscaled ok S j) M = (w : EReal) := fun j =>
    weight_real scaleR_pos (by unfold unscaled; split <;> simp) M
  choose w hw0 hwe using hw
  have hpos : 0 < ∑ j : Fin n, w j := by
    refine Finset.sum_pos' (fun j _ => hw0 j) ⟨⟨R, hR⟩, Finset.mem_univ _, ?_⟩
    have h := hwe R
    rw [unscaled, if_pos hok, weight_coe, EReal.coe_eq_coe_iff] at h
    show 0 < w R
    rw [← h]
    exact Real.rpow_pos_of_pos (by norm_num) _
  have hl : (∑ j : Fin n, weight scaleR (unscaled ok S j) M) = ((∑ j : Fin n, w j : ℝ) : EReal) := by
    rw [sum_coe]
    exact Finset.sum_congr rfl fun j _ => hwe j
  rw [hl]
  generalize hL : (∑ j : Fin n, w j) = L at *
  have hdiv : ∀ x : EReal, Ideal.div x (L : EReal) = ((L⁻¹ : ℝ) : EReal) * x := fun x => by
    unfold Ideal.div
    rw [if_neg (by simpa using hpos.ne'), ← EReal.coe_inv, mul_comm]
  simp only [hdiv]
  rw [coe_mul_sum _ _ (inv_nonneg.mpr hpos.le)]
  exact Finset.sum_congr rfl fun j _ => (mul_assoc _ _ _).symm

end

end Cert.Attn

end
-- ==== Proof.Equation.lean ====
/- The kernel's result is the reference's attention, where the queries and keys are finite. -/
module

public import proofs.«01_k».proof.Proof.Finite
public import proofs.«01_k».proof.Proof.Out
public import proofs.«01_k».proof.Proof.Ref
public import proofs.«01_k».proof.Proof.Softmax

@[expose] public section

set_option maxRecDepth 16384

noncomputable section

namespace Cert.Attn

open Idealize.ShloMosaic Idealize.ShloMosaic.TcCoe Cert.KernelIdeal.Gen Cert.KernelIdeal Pointwise

section

variable (a0 a2 : FVec Ideal S4x4096x16x128 .f32) (a1 : FVec Ideal S4x4096x16x64 .f32) (a3 : FVec Ideal S4x4096x64 .f32)

/-- The product of a query row and a key row over the 256 padded lanes: the two parts' products. -/
theorem padded_product (b : Fin 4) (s n : Fin 4096) (h : Fin 16) :
    (∑ d : Fin 256, queries a0 a1 (ix2 (row b s) (column h d)) * keys a2 a3 (ix2 (row b n) (column h d)))
      = (∑ d : Fin 128, a0 (ix4 b s h d) * a2 (ix4 b n h d)) + ∑ d : Fin 64, a1 (ix4 b s h d) * a3 (ix3 b n d) := by
  simp only [queries_apply, keys_apply]
  refine (Fin.sum_univ_add (a := 192) (b := 64) _).trans ?_
  have z : ∀ d : Fin 64, ¬ 192 + d.val < 128 := fun d => by omega
  have z' : ∀ d : Fin 64, ¬ 192 + d.val < 192 := fun d => by omega
  simp only [Fin.natAdd, z, z', dif_neg, not_false_eq_true, mul_zero, Finset.sum_const_zero, add_zero]
  refine (Fin.sum_univ_add (a := 128) (b := 64) _).trans ?_
  have y : ∀ d : Fin 64, ¬ 128 + d.val < 128 := fun d => by omega
  have y' : ∀ d : Fin 64, 128 + d.val < 192 := fun d => by omega
  have w : ∀ d : Fin 128, d.val < 128 := fun d => d.isLt
  simp [w, y, y']

end

section

variable (m : (ℓ : Loc nD τ sig) → Buf (Elt Ideal) ℓ) (c : Dev nD)

/-- The queries without positions. -/
def argument0 : FVec Ideal S4x4096x16x128 .f32 := m ((c : Thread nD τ).loc main_arg0)

/-- The queries with positions. -/
def argument1 : FVec Ideal S4x4096x16x64 .f32 := m ((c : Thread nD τ).loc main_arg1)

/-- The keys without positions. -/
def argument2 : FVec Ideal S4x4096x16x128 .f32 := m ((c : Thread nD τ).loc main_arg2)

/-- The keys with positions. -/
def argument3 : FVec Ideal S4x4096x64 .f32 := m ((c : Thread nD τ).loc main_arg3)

/-- The values. -/
def argument4 : FVec Ideal S4x4096x16x128 .f32 := m ((c : Thread nD τ).loc main_arg4)

/-- A query's row and head: the real products with the keys, by key. -/
def product (A0 : S4x4096x16x128.Idx → ℝ) (A1 : S4x4096x16x64.Idx → ℝ) (A2 : S4x4096x16x128.Idx → ℝ)
    (A3 : S4x4096x64.Idx → ℝ) (b : Fin 4) (s : Fin 4096) (h : Fin 16) (n : ℕ) : ℝ :=
  if hn : n < 4096 then (∑ d : Fin 128, A0 (ix4 b s h d) * A2 (ix4 b ⟨n, hn⟩ h d))
    + ∑ d : Fin 64, A1 (ix4 b s h d) * A3 (ix3 b ⟨n, hn⟩ d) else 0

/-- Which keys the query in row `s` sees. -/
def Sees (s : Fin 4096) (n : ℕ) : Prop := n < 4096 ∧ n / 64 ≤ s.val / 64

instance (s : Fin 4096) : DecidablePred (Sees s) := fun _ => inferInstanceAs (Decidable (_ ∧ _))

variable {m c} {A0 : S4x4096x16x128.Idx → ℝ} {A1 : S4x4096x16x64.Idx → ℝ} {A2 : S4x4096x16x128.Idx → ℝ}
  {A3 : S4x4096x64.Idx → ℝ}
  (h0 : ∀ i, argument0 m c i = A0 i)
  (h1 : ∀ i, argument1 m c i = A1 i)
  (h2 : ∀ i, argument2 m c i = A2 i)
  (h3 : ∀ i, argument3 m c i = A3 i)

include h0 h1 h2 h3

/-- The reference's product of a query and a key is a real. -/
theorem product_eq (b : Fin 4) (s n : Fin 4096) (h : Fin 16) :
    (∑ d : Fin 128, argument0 m c (ix4 b s h d)
        * argument2 m c (ix4 b n h d))
      + (∑ d : Fin 64, argument1 m c (ix4 b s h d)
        * argument3 m c (ix3 b n d))
      = (product A0 A1 A2 A3 b s h n.val : EReal) := by
  rw [product, dif_pos n.isLt, EReal.coe_add, sum_coe, sum_coe]
  simp only [h0, h1, h2, h3, EReal.coe_mul]

/-- The kernel's masked score. -/
theorem blockScore_eq (b g : Fin 4) (q : Fin 8) (h : Fin 4) (r : Fin 512) (n : ℕ) :
    blockScore (iblk m c 0 (point b g q)) (iblk m c 1 (point b g q)) q.val h r n
      = unscaled (Sees (tileRow q r)) (product A0 A1 A2 A3 b (tileRow q r) (head g h)) n := by
  unfold blockScore unscaled
  by_cases hn : n < 4096
  · rw [dif_pos hn]
    by_cases hc : n / 64 ≤ (512 * q.val + r.val) / 64
    · rw [if_pos hc, if_pos ⟨hn, hc⟩]
      exact (Finset.sum_congr rfl fun d _ => congrArg₂ (fun x y : EReal => x * y)
          ((iblk_queries m c b g q r h d).trans (congrFun (V_queries m c) _))
          ((iblk_keys m c b g q ⟨n, hn⟩ h d).trans (congrFun (V_keys m c) _))).trans
        ((padded_product _ _ _ _ _ _ _ _).trans (product_eq h0 h1 h2 h3 b (tileRow q r) ⟨n, hn⟩ (head g h)))
    · rw [if_neg hc, if_neg fun h => hc h.2]
  · rw [dif_neg hn, if_neg fun h => hn h.1]

/-- The reference's masked, scaled score. -/
theorem masked_eq (b : Fin 4) (s n : Fin 4096) (h : Fin 16) :
    AttnRef.masked (AttnRef.scores (argument0 m c) (argument1 m c)
        (argument2 m c) (argument3 m c)) (ix4 b h s n)
      = scaled (Sees s) (product A0 A1 A2 A3 b s h) n.val := by
  rw [AttnRef.masked_apply, AttnRef.scores_apply, scaled]
  refine (congrArg (fun x => if n.val / 64 ≤ s.val / 64 then Ideal.div x (Real.sqrt 192 : ℝ) else ⊥)
    (product_eq h0 h1 h2 h3 b s n h)).trans ?_
  simp only [Sees, n.isLt, true_and]

/-- The result, entry by entry. -/
theorem entry_eq (b g : Fin 4) (q : Fin 8) (r : Fin 512) (h : Fin 4) (d : Fin 128) :
    (dats m 0 c).arrAt 3 cfg0.N (ix2 (row b (tileRow q r)) (outColumn (head g h) d))
      = AttnRef.attention (argument0 m c) (argument1 m c)
        (argument2 m c) (argument3 m c)
        (argument4 m c) (ix2 (row b (tileRow q r)) (outColumn (head g h) d)) := by
  have hscore := blockScore_eq h0 h1 h2 h3
  refine (out_apply m c b g q r h d fun h r n => ?_).trans ?_
  · rw [hscore, unscaled]
    split
    · exact EReal.coe_ne_top _
    · exact bot_ne_top
  let v : ℕ → EReal := fun n => if hn : n < 4096 then
    argument4 m c (ix4 b ⟨n, hn⟩ (head g h) d) else 0
  have hv : ∀ n : ℕ, n < 4096 → blockValue (iblk m c 2 (point b g q)) h (lane d) n = v n := fun n hn => by
    simp only [blockValue, v, dif_pos hn]
    rw [iblk_values, V_values, values_apply]
    exact dif_pos d.isLt
  have hone : ∀ n : ℕ, n < 4096 → blockValue (iblk m c 2 (point b g q)) h 128 n = 1 := fun n hn => by
    simp only [blockValue, dif_pos hn]
    rw [iblk_values, V_values, values_apply]
    rfl
  have hk : 512 * (q.val + 1) ≤ 4096 := by omega
  have hR : (tileRow q r).val = 512 * q.val + r.val := rfl
  rw [blockOut, runAcc_congr (s' := unscaled (Sees (tileRow q r)) (product A0 A1 A2 A3 b (tileRow q r) (head g h)))
      (v' := v) (fun n _ => hscore b g q h r n) (fun n hn => hv n (by omega)),
    runAcc_congr (s' := unscaled (Sees (tileRow q r)) (product A0 A1 A2 A3 b (tileRow q r) (head g h)))
      (v' := fun _ => 1) (fun n _ => hscore b g q h r n) (fun n hn => hone n (by omega))]
  refine Eq.trans (α := EReal) (quotient_eq_softmax (Sees (tileRow q r)) _ (n := 4096) (R := (tileRow q r).val) hk
    ⟨(tileRow q r).isLt, le_refl _⟩ (fun n hn => by have := hn.2; omega) v) ?_
  refine Eq.trans (α := EReal) ?_ (AttnRef.mix_apply _ _ b (head g h) (tileRow q r) d).symm
  refine Finset.sum_congr rfl fun n _ => ?_
  rw [AttnRef.shares_apply]
  simp only [AttnRef.weights_apply, AttnRef.top_apply, masked_eq h0 h1 h2 h3]
  exact congrArg _ (dif_pos n.isLt)

/-- The whole result. -/
theorem result_eq : (dats m 0 c).arrAt 3 cfg0.N
    = AttnRef.attention (argument0 m c) (argument1 m c)
        (argument2 m c) (argument3 m c)
        (argument4 m c) := by
  funext i
  rw [show i = ix2 (i 0) (i 1) from eq_ix2 i]
  obtain ⟨x, hx'⟩ : ∃ x : Fin 16384, x = i 0 := ⟨_, rfl⟩
  obtain ⟨y, hy'⟩ : ∃ y : Fin 2048, y = i 1 := ⟨_, rfl⟩
  rw [← hx', ← hy']
  have hx : x = row ⟨x.val / 4096, by omega⟩ (tileRow ⟨x.val % 4096 / 512, by omega⟩ ⟨x.val % 512, by omega⟩) :=
    Fin.ext (by simp only [row, tileRow]; omega)
  have hy : y = outColumn (head ⟨y.val / 512, by omega⟩ ⟨y.val / 128 % 4, by omega⟩) ⟨y.val % 128, by omega⟩ :=
    Fin.ext (by simp only [outColumn, head]; omega)
  rw [hx, hy]
  exact entry_eq h0 h1 h2 h3 _ _ _ _ _ _

end

end Cert.Attn

end
-- ==== Proof.Gmlp.lean ====
/- The first product of the gated unit: the tanh-gelu of a product of the activations with the weights, block by block. -/
module

public import proofs.«01_k».proof.Proof.Gen.GmlpInIdeal.Value
public import proofs.«01_k».proof.Proof.Gen.GmlpInReferenceIdeal.Run
public import proofs.«01_k».proof.Proof.Finite
public import Idealize.ShloMosaic.Lib.Pipeline.Value
public import Idealize.ShloMosaic.Lib.Pipeline.ValueKit.Acc
public import Idealize.ShloMosaic.Lib.StableHlo.RunRead
public import Idealize.ShloMosaic.Lib.Pointwise

@[expose] public section

set_option maxRecDepth 16384

noncomputable section

namespace Cert.Gmlp

open Idealize.ShloMosaic Idealize.ShloMosaic.TcCoe Cert.GmlpInIdeal.Gen Cert.GmlpInIdeal Pointwise

/-- The kernel's gelu. -/
def kernelGelu (h : EReal) : EReal :=
  (1/2 : ℝ) * h + (1/2 : ℝ) * h * Ideal.tanh (h * (Ideal.ofBits .f32 0x3F4C422A#32
    + ((80338380498831 / 2251799813685248 : ℝ) : EReal) * (h * h)))

/-- The reference's gelu. -/
def gelu (h : EReal) : EReal :=
  h * ((1/2 : ℝ) * (1 + Ideal.tanh (Ideal.ofBits .f32 0x3F4C422A#32
    * (h + Ideal.ofBits .f32 0x3D372713#32 * (h * h * h)))))

theorem ofBits_root : Ideal.ofBits .f32 0x3F4C422A#32 = ((13386282 / 2 ^ 24 : ℝ) : EReal) := by
  simp [Ideal.ofBits, Ideal.ieee, -EReal.coe_mul]; norm_num

theorem ofBits_cubic : Ideal.ofBits .f32 0x3D372713#32 = ((12003091 / 2 ^ 28 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The two spellings agree at a real. -/
theorem gelu_real (x : ℝ) : kernelGelu x = gelu x := by
  have tanh_coe : ∀ y : ℝ, Ideal.tanh (y : EReal) = ((Real.tanh y : ℝ) : EReal) := fun _ => rfl
  have one : (1 : EReal) = ((1 : ℝ) : EReal) := rfl
  unfold kernelGelu gelu
  rw [ofBits_root, ofBits_cubic, one]
  simp only [← EReal.coe_mul, ← EReal.coe_add, tanh_coe]
  have e : x * (13386282 / 2 ^ 24 + 80338380498831 / 2251799813685248 * (x * x))
      = 13386282 / 2 ^ 24 * (x + 12003091 / 2 ^ 28 * (x * x * x)) := by ring
  rw [e]
  congr 1
  ring

theorem pay_apply (x : Vec Ideal S1024x2048 .f32) (w : Vec Ideal S1x2048x2048 .bf16) (r : Fin 1024) (d : Fin 2048) :
    k0_pay1 (F := Ideal) x w (ix2 r d) = kernelGelu (∑ k : Fin 2048, x (ix2 r k) * w (ix3 0 k d)) := by
  pointwise [k0_pay1]
  rw [ofBits_half]
  rfl

section

variable (m : (ℓ : Loc nD τ sig) → Buf (Elt Ideal) ℓ) (c : Dev nD)

/-- The activations. -/
def activations : FVec Ideal S16384x2048 .f32 := m ((c : Thread nD τ).loc main_arg0)

/-- The weights of both layers. -/
def weights : FVec Ideal S2x2048x12288 .f32 := m ((c : Thread nD τ).loc main_arg1)

theorem V_weights : V m c main_v0 = truncf .bf16 (weights m c) bitsLt_bf16_f32 := by
  show StableHlo.after hostOps0 _ (Proc.devRef .tc main_v0) = _
  after_reads_simp
  rfl

/-- Where each window's block begins, over the grid. -/
theorem starts : ∀ t : Fin cfg0.N, win0_0.index t 0 = (grid0.coords t 0).val ∧ win0_0.index t 1 = 0
    ∧ win0_1.index t 0 = 0 ∧ win0_1.index t 1 = 0 ∧ win0_1.index t 2 = (grid0.coords t 1).val
    ∧ win0_2.index t 0 = (grid0.coords t 0).val ∧ win0_2.index t 1 = (grid0.coords t 1).val :=
  (by decide +kernel : ∀ t : Fin grid0.N, win0_0.index t 0 = (grid0.coords t 0).val ∧ win0_0.index t 1 = 0
    ∧ win0_1.index t 0 = 0 ∧ win0_1.index t 1 = 0 ∧ win0_1.index t 2 = (grid0.coords t 1).val
    ∧ win0_2.index t 0 = (grid0.coords t 0).val ∧ win0_2.index t 1 = (grid0.coords t 1).val)

/-- The grid point of a block of rows and a block of columns. -/
def point (i : Fin 16) (j : Fin 6) : Fin cfg0.N := ⟨6 * i.val + j.val, by
  show _ < 96
  omega⟩

theorem coords_point (i : Fin 16) (j : Fin 6) :
    (grid0.coords (point i j) 0).val = i.val ∧ (grid0.coords (point i j) 1).val = j.val :=
  (by decide +kernel : ∀ (i : Fin 16) (j : Fin 6),
    (grid0.coords (point i j) 0).val = i.val ∧ (grid0.coords (point i j) 1).val = j.val) i j

/-- A row of a block of rows. -/
def row (i : Fin 16) (r : Fin 1024) : Fin 16384 := ⟨1024 * i.val + r.val, by omega⟩

/-- A column of a block of columns. -/
def column (j : Fin 6) (d : Fin 2048) : Fin 12288 := ⟨2048 * j.val + d.val, by omega⟩

theorem iblk_activations (i : Fin 16) (j : Fin 6) (r : Fin 1024) (k : Fin 2048) :
    iblk m c 0 (point i j) (ix2 r k) = activations m c (ix2 (row i r) k) := by
  obtain ⟨e0, e1⟩ := coords_point i j
  obtain ⟨s0, s1, -⟩ := starts (point i j)
  unfold iblk
  rw [View.read_apply, cast_eq]
  refine (congrArg (V m c main_arg0) (funext fun a => Fin.ext ?_)).trans (congrFun (V_main_arg0 m c) _)
  refine (Pipeline.Window.rect_emb_val win0_0 (point i j) _ a).trans ?_
  match a with
  | ⟨0, _⟩ =>
    show win0_0.index (point i j) 0 * 1024 + r.val = 1024 * i.val + r.val
    omega
  | ⟨1, _⟩ =>
    show win0_0.index (point i j) 1 * 2048 + k.val = k.val
    omega

theorem iblk_weights (i : Fin 16) (j : Fin 6) (k d : Fin 2048) :
    iblk m c 1 (point i j) (ix3 0 k d) = weights m c (ix3 0 k (column j d)) := by
  obtain ⟨e0, e1⟩ := coords_point i j
  obtain ⟨-, -, s0, s1, s2, -⟩ := starts (point i j)
  unfold iblk
  rw [View.read_apply, cast_eq]
  refine (congrArg (V m c main_v0) (funext fun a => Fin.ext ?_)).trans (congrFun (V_weights m c) _)
  refine (Pipeline.Window.rect_emb_val win0_1 (point i j) _ a).trans ?_
  match a with
  | ⟨0, _⟩ =>
    show win0_1.index (point i j) 0 * 1 + 0 = 0
    omega
  | ⟨1, _⟩ =>
    show win0_1.index (point i j) 1 * 2048 + k.val = k.val
    omega
  | ⟨2, _⟩ =>
    show win0_1.index (point i j) 2 * 2048 + d.val = 2048 * j.val + d.val
    omega

theorem block_apply (x0 : Vec Ideal S1024x2048 .f32) (x1 : Vec Ideal S1x2048x2048 .bf16) (r : Fin 1024) (d : Fin 2048) :
    out0_2 (F := Ideal) x0 x1 (ix2 r d) = kernelGelu (∑ k : Fin 2048, x0 (ix2 r k) * x1 (ix3 0 k d)) := by
  unfold out0_2
  rw [View.canon_cons_unit_lit' _ _ _ (by decide), View.ld_unit_lit' _ _ (by decide), View.ld_unit_lit' _ _ (by decide)]
  exact pay_apply x0 x1 r d

/-- The result at an index. -/
theorem out_apply (i : Fin 16) (j : Fin 6) (r : Fin 1024) (d : Fin 2048) :
    (dats m 0 c).arrAt 2 cfg0.N (ix2 (row i r) (column j d))
      = kernelGelu (∑ k : Fin 2048, activations m c (ix2 (row i r) k) * weights m c (ix3 0 k (column j d))) := by
  obtain ⟨e0, e1⟩ := coords_point i j
  obtain ⟨-, -, -, -, -, s0, s1⟩ := starts (point i j)
  have e := (dats m 0 c).arrAt_emb_eq_flushed 2 Value.disjoint2 (point i j) (flush0_2 _) (ix2 r d)
  have hemb : ((cfg0.win 2).blk (point i j)).view.emb (ix2 r d) = ix2 (row i r) (column j d) := by
    refine funext fun a => Fin.ext ?_
    refine (Pipeline.Window.rect_emb_val win0_2 (point i j) _ a).trans ?_
    match a with
    | ⟨0, _⟩ =>
      show win0_2.index (point i j) 0 * 1024 + r.val = 1024 * i.val + r.val
      omega
    | ⟨1, _⟩ =>
      show win0_2.index (point i j) 1 * 2048 + d.val = 2048 * j.val + d.val
      omega
  rw [hemb, cast_eq, Value.flushed2] at e
  refine e.trans ((block_apply _ _ r d).trans (congrArg kernelGelu (Finset.sum_congr rfl fun k _ =>
    congrArg₂ (fun x y : EReal => x * y) (iblk_activations m c i j r k) (iblk_weights m c i j k d))))

end

end Cert.Gmlp

/-! ## The reference -/

namespace Cert.GmlpRef

open Idealize.ShloMosaic Idealize.ShloMosaic.TcCoe Cert.GmlpInReferenceIdeal Cert.GmlpInReferenceIdeal.Facts
  Cert.GmlpInReferenceIdeal.Facts₀ Cert.Gmlp Pointwise

variable [hRef : Cert.GmlpInReferenceIdeal.Facts]

/-- The product with the first layer's weights. -/
def product (a0 : FVec Ideal S16384x2048 .f32) (a1 : FVec Ideal S2x2048x12288 .f32) : FVec Ideal S16384x12288 .f32 :=
  Host.dotGeneral dot_S16384x2048_S2048x12288_S16384x12288_1_0_0_1_n_n none a0
    (shapeCast _ (extractStridedSlice S1x2048x12288 ![0, 0, 0] a1 slices_S2x2048x12288_S1x2048x12288_0_0_0)
      shapeCasts_S1x2048x12288_S2048x12288)

/-- The gelu of an array. -/
def gelus (h : FVec Ideal S16384x12288 .f32) : FVec Ideal S16384x12288 .bf16 :=
  truncf .bf16 (mulf h (mulf (broadcastInDim S16384x12288 ![] bcast_S_S16384x12288 (constant S_ .f32 0x3F000000#32))
    (addf (broadcastInDim S16384x12288 ![] bcast_S_S16384x12288 (constant S_ .f32 0x3F800000#32))
      (Host.tanh (mulf (broadcastInDim S16384x12288 ![] bcast_S_S16384x12288 (constant S_ .f32 0x3F4C422A#32))
        (addf h (mulf (broadcastInDim S16384x12288 ![] bcast_S_S16384x12288 (constant S_ .f32 0x3D372713#32))
          (mulf (mulf h h) h)))))))) bitsLt_bf16_f32

theorem product_apply (a0 : FVec Ideal S16384x2048 .f32) (a1 : FVec Ideal S2x2048x12288 .f32) (r : Fin 16384)
    (d : Fin 12288) : product a0 a1 (ix2 r d) = ∑ k : Fin 2048, a0 (ix2 r k) * a1 (ix3 0 k d) := by
  pointwise [product]

theorem gelus_apply (h : FVec Ideal S16384x12288 .f32) (r : Fin 16384) (d : Fin 12288) :
    gelus h (ix2 r d) = Cert.Gmlp.gelu (h (ix2 r d)) := by
  pointwise [gelus]
  rw [ofBits_half]
  rfl

end Cert.GmlpRef

namespace Cert.Gmlp

open Idealize.ShloMosaic Idealize.ShloMosaic.TcCoe Cert.GmlpInIdeal.Gen Cert.GmlpInIdeal Pointwise

variable {m : (ℓ : Loc nD τ sig) → Buf (Elt Ideal) ℓ} {c : Dev nD} {A0 : S16384x2048.Idx → ℝ}
  {A1 : S2x2048x12288.Idx → ℝ} (h0 : ∀ i, activations m c i = A0 i) (h1 : ∀ i, weights m c i = A1 i)

include h0 h1

/-- The whole result. -/
theorem result_eq : (dats m 0 c).arrAt 2 cfg0.N
    = Cert.GmlpRef.gelus (Cert.GmlpRef.product (activations m c) (weights m c)) := by
  funext i
  rw [show i = ix2 (i 0) (i 1) from eq_ix2 i]
  obtain ⟨x, hx'⟩ : ∃ x : Fin 16384, x = i 0 := ⟨_, rfl⟩
  obtain ⟨y, hy'⟩ : ∃ y : Fin 12288, y = i 1 := ⟨_, rfl⟩
  rw [← hx', ← hy']
  have hx : x = row ⟨x.val / 1024, by omega⟩ ⟨x.val % 1024, by omega⟩ := Fin.ext (by simp only [row]; omega)
  have hy : y = column ⟨y.val / 2048, by omega⟩ ⟨y.val % 2048, by omega⟩ := Fin.ext (by simp only [column]; omega)
  refine Eq.trans (α := EReal) ?_ (Cert.GmlpRef.gelus_apply _ x y).symm
  rw [Cert.GmlpRef.product_apply]
  have e : (∑ k : Fin 2048, activations m c (ix2 x k) * weights m c (ix3 0 k y))
      = ((∑ k : Fin 2048, A0 (ix2 x k) * A1 (ix3 0 k y) : ℝ) : EReal) := by
    rw [Cert.Attn.sum_coe]
    exact Finset.sum_congr rfl fun k _ => by rw [h0, h1, EReal.coe_mul]
  have e' := out_apply m c ⟨x.val / 1024, by omega⟩ ⟨y.val / 2048, by omega⟩ ⟨x.val % 1024, by omega⟩ ⟨y.val % 2048, by omega⟩
  rw [← hx, ← hy] at e'
  refine Eq.trans (α := EReal) e' ?_
  rw [e]
  exact gelu_real _

end Cert.Gmlp

end
-- ==== Proof.lean ====
/- The claims of each call: the programs' frames, the named constant, and the equation with the reference. -/
module

public import proofs.«01_k».proof.Proof.Ffn
public import proofs.«01_k».proof.Proof.FfnFrame
public import proofs.«01_k».proof.Proof.FfnFrameBits
public import proofs.«01_k».proof.Proof.AttnOut
public import proofs.«01_k».proof.Proof.Gen.AttnOut.Frame
public import proofs.«01_k».proof.Proof.SguOut
public import proofs.«01_k».proof.Proof.Gen.SguOut.Frame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_scores
public import proofs.«01_k».proof.Proof.Equation
public import proofs.«01_k».proof.Proof.Gmlp
public import proofs.«01_k».proof.Proof.Gen.GmlpIn.Frame
public import proofs.«01_k».proof.Proof.Gen.GmlpInIdeal.Frame
public import proofs.«01_k».proof.Proof.Gen.GmlpInIdeal.Value
public import proofs.«01_k».proof.Proof.Gen.GmlpInReferenceIdeal.Run
public import proofs.«01_k».proof.Proof.Gen.Pre_finite_inputs
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and uses no counters. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The kernel's scale is the named constant. -/
theorem preserves : Cert.preserves_Kernel_KernelIdeal :=
  IdealRules.named_const.statement Cert.KernelIdeal.κ "sm_scale_log2e" .f32 0x3DD53B95#32
    (((Real.sqrt 192)⁻¹ * (Real.log 2)⁻¹ : ℝ) : EReal) rfl

/-- On finite queries and keys, the kernel and the reference end with the same attention. -/
theorem algebraic : Cert.algebraic_KernelIdeal_ReferenceIdeal_pre_finite_scores := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨p0, p1, p2, p3⟩ := hpre c
  obtain ⟨A0, h0⟩ := Cert.Attn.real_of_finite _ _ p0
  obtain ⟨A1, h1⟩ := Cert.Attn.real_of_finite _ _ p1
  obtain ⟨A2, h2⟩ := Cert.Attn.real_of_finite _ _ p2
  obtain ⟨A3, h3⟩ := Cert.Attn.real_of_finite _ _ p3
  obtain ⟨e0, e1, e2, e3, e4⟩ := hagree c
  rw [Cert.AttnRef.res_eq, e0, e1, e2, e3, e4]
  exact (Cert.Attn.result_eq (m := m) (c := c) h0 h1 h2 h3).symm

/-! ## The gated unit's first product -/

theorem frame_gmlp_reference : Cert.quiescent_GmlpInReferenceIdeal := fun m g _ =>
  (θ_run Cert.GmlpInReferenceIdeal.defs _ _).mono
    (fun r h => ⟨fun c => (h c).2, sem_eq_zero_of_no_sems (by decide) r.2⟩)
    (Cert.GmlpInReferenceIdeal.Value.run (F := Ideal) m g)

/-- The cubic coefficient of the kernel's gelu is the named constant. -/
theorem preserves_gmlp : Cert.preserves_GmlpIn_GmlpInIdeal :=
  IdealRules.named_const.statement Cert.GmlpInIdeal.κ "gelu_cubic" .f32 0x3D122279#32
    ((80338380498831 / 2251799813685248 : ℝ) : EReal) rfl

/-- On finite activations and weights, the kernel and the reference end with the same array. -/
theorem algebraic_gmlp : Cert.algebraic_GmlpInIdeal_GmlpInReferenceIdeal_pre_finite_inputs := by
  intro m g m' g' hpre hagree
  refine ⟨_, Cert.GmlpInIdeal.Value.run_blocks (F := Ideal) m g, ?_⟩
  refine (θ_run Cert.GmlpInReferenceIdeal.defs _ _).mono (fun _ h c => ⟨(h c).1.trans ?_, (h c).2⟩)
    (Cert.GmlpInReferenceIdeal.Value.run (F := Ideal) m' g')
  obtain ⟨p0, p1⟩ := hpre c
  obtain ⟨A0, h0⟩ := Cert.Attn.real_of_finite _ _ p0
  obtain ⟨A1, h1⟩ := Cert.Attn.real_of_finite _ _ p1
  obtain ⟨e0, e1⟩ := hagree c
  rw [e0, e1]
  exact (Cert.Gmlp.result_eq (m := m) (c := c) h0 h1).symm

/-! ## The convolutional feed-forward block -/

theorem frame_ffn_reference : Cert.quiescent_ConvFfnReferenceIdeal := fun m g _ =>
  (θ_run Cert.ConvFfnReferenceIdeal.defs _ _).mono
    (fun r h => ⟨fun c => (h c).2.2, sem_eq_zero_of_no_sems (by decide) r.2⟩)
    (Cert.ConvFfnReferenceIdeal.Value.run (F := Ideal) m g)

/-- The factor in the exponent of the kernel's logistic function is the named constant. -/
theorem preserves_ffn : Cert.preserves_ConvFfn_ConvFfnIdeal :=
  IdealRules.named_const.statement Cert.ConvFfnIdeal.κ "neg_log2e" .f32 0xBFB8AA3B#32
    ((-((Real.log 2)⁻¹) : ℝ) : EReal) rfl

/-- On every input, the kernel and the reference end with the same two arrays. -/
theorem algebraic_ffn : Cert.algebraic_ConvFfnIdeal_ConvFfnReferenceIdeal := by
  intro m g m' g' _ hagree
  refine ⟨_, _, (θ_run Cert.ConvFfnIdeal.defs _ _).mono (fun _ h c => ⟨(h.1 c).1 8, (h.1 c).1 9, h.2.1 c⟩)
    (θ_run_and (Cert.ConvFfnIdeal.Ffn.run_post (F := Ideal) m g) (Cert.ConvFfnIdeal.Ffn.whole (F := Ideal) m g)), ?_⟩
  refine (θ_run Cert.ConvFfnReferenceIdeal.defs _ _).mono (fun _ h c => ⟨(h c).1.trans ?_, (h c).2.1.trans ?_, (h c).2.2⟩)
    (Cert.ConvFfnReferenceIdeal.Value.run (F := Ideal) m' g')
  · obtain ⟨e0, e1, e2, e3, e4, e5, e6⟩ := hagree c
    rw [Cert.FfnRef.res_eq, e0, e1, e2, e3, e4, e5, e6]
    exact (Cert.Ffn.wide_result m c).symm
  · obtain ⟨e0, e1, e2, e3, e4, e5, e6⟩ := hagree c
    rw [Cert.FfnRef.res_narrow, e0, e1, e2, e3, e4, e5, e6]
    exact (Cert.Ffn.narrow_result m c).symm

/-! ## The attention's output projection -/

theorem frame_attn_out_reference : Cert.quiescent_AttnOutReferenceIdeal := fun m g _ =>
  (θ_run Cert.AttnOutReferenceIdeal.defs _ _).mono
    (fun r h => ⟨fun c => (h c).2.2, sem_eq_zero_of_no_sems (by decide) r.2⟩)
    (Cert.AttnOutReferenceIdeal.Value.run (F := Ideal) m g)

/-- On every input, the kernel and the reference end with the same two arrays. -/
theorem algebraic_attn_out : Cert.algebraic_AttnOutIdeal_AttnOutReferenceIdeal := by
  intro m g m' g' _ hagree
  refine ⟨_, _, Cert.AttnOutIdeal.Value.run_blocks (F := Ideal) m g, ?_⟩
  refine (θ_run Cert.AttnOutReferenceIdeal.defs _ _).mono (fun _ h c => ⟨(h c).1.trans ?_, (h c).2.1.trans ?_, (h c).2.2⟩)
    (Cert.AttnOutReferenceIdeal.Value.run (F := Ideal) m' g')
  · obtain ⟨e0, e1, e2, e3, e4⟩ := hagree c
    rw [Cert.AttnOutRef.res_eq, e0, e1, e2, e3, e4]
    exact (Cert.AttnOut.wide_result m c).symm
  · obtain ⟨e0, e1, e2, e3, e4⟩ := hagree c
    rw [Cert.AttnOutRef.res_narrow, e0, e1, e2, e3, e4]
    exact (Cert.AttnOut.narrow_result m c).symm

/-! ## The spatial gating unit -/

theorem frame_sgu_out_reference : Cert.quiescent_SguOutReferenceIdeal := fun m g _ =>
  (θ_run Cert.SguOutReferenceIdeal.defs _ _).mono
    (fun r h => ⟨fun c => (h c).2.2, sem_eq_zero_of_no_sems (by decide) r.2⟩)
    (Cert.SguOutReferenceIdeal.Value.run (F := Ideal) m g)

/-- On every input, the kernel and the reference end with the same two arrays. -/
theorem algebraic_sgu_out : Cert.algebraic_SguOutIdeal_SguOutReferenceIdeal := by
  intro m g m' g' _ hagree
  refine ⟨_, _, Cert.SguOutIdeal.Value.run_blocks (F := Ideal) m g, ?_⟩
  refine (θ_run Cert.SguOutReferenceIdeal.defs _ _).mono (fun _ h c => ⟨(h c).1.trans ?_, (h c).2.1.trans ?_, (h c).2.2⟩)
    (Cert.SguOutReferenceIdeal.Value.run (F := Ideal) m' g')
  · obtain ⟨e0, e1, e2, e3, e4, e5, e6, e7, e8⟩ := hagree c
    rw [Cert.SguOutRef.res_eq, e0, e1, e2, e3, e4, e5, e6, e7, e8]
    exact (Cert.SguOut.wide_result m c).symm
  · obtain ⟨e0, e1, e2, e3, e4, e5, e6, e7, e8⟩ := hagree c
    rw [Cert.SguOutRef.res_narrow, e0, e1, e2, e3, e4, e5, e6, e7, e8]
    exact (Cert.SguOut.narrow_result m c).symm

theorem claim : Cert.Claim :=
  ⟨Cert.Kernel.Gen.facts, Cert.KernelIdeal.Gen.facts, Cert.ReferenceIdeal.Gen.facts, Cert.GmlpIn.Gen.facts,
    Cert.GmlpInIdeal.Gen.facts, Cert.GmlpInReferenceIdeal.Gen.facts, Cert.ConvFfn.Gen.facts, Cert.ConvFfnIdeal.Gen.facts,
    Cert.ConvFfnReferenceIdeal.Gen.facts,
    Cert.AttnOut.Gen.facts, Cert.AttnOutIdeal.Gen.facts, Cert.AttnOutReferenceIdeal.Gen.facts,
    Cert.SguOut.Gen.facts, Cert.SguOutIdeal.Gen.facts, Cert.SguOutReferenceIdeal.Gen.facts,
    Cert.Pre_finite_scores.Gen.facts, Cert.Pre_finite_inputs.Gen.facts,
    fun m g _ => Cert.Kernel.Gen.frame m g, fun m g _ => Cert.KernelIdeal.Gen.frame m g,
    fun m g _ => Cert.KernelIdeal.Gen.frame m g, frame_reference,
    fun m g _ => frame_reference m g trivial,
    fun m g _ => Cert.GmlpIn.Gen.frame m g, fun m g _ => Cert.GmlpInIdeal.Gen.frame m g,
    fun m g _ => Cert.GmlpInIdeal.Gen.frame m g, frame_gmlp_reference,
    fun m g _ => frame_gmlp_reference m g trivial,
    fun m g _ => Cert.ConvFfn.Ffn.whole m g, fun m g _ => Cert.ConvFfnIdeal.Ffn.whole m g, frame_ffn_reference,
    fun m g _ => Cert.AttnOut.Gen.frame m g, fun m g _ => Cert.AttnOutIdeal.Gen.frame m g, frame_attn_out_reference,
    fun m g _ => Cert.SguOut.Gen.frame m g, fun m g _ => Cert.SguOutIdeal.Gen.frame m g, frame_sgu_out_reference,
    preserves, algebraic, preserves_gmlp, algebraic_gmlp, preserves_ffn, algebraic_ffn,
    trivial, algebraic_attn_out, trivial, algebraic_sgu_out⟩

end Cert.Proof

end
